-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38_0) = v0 c
          ∧ r.2.mem ((c.tc : Thread Cert.ReferenceIdeal.nD Cert.ReferenceIdeal.τ).loc Cert.ReferenceIdeal.main_v38_1) = v1 c
          ∧ r.2.mem ((c.tc : Thread Cert.ReferenceIdeal.nD Cert.ReferenceIdeal.τ).loc Cert.ReferenceIdeal.main_v38_2) = v2 c
          ∧ r.2.mem ((c.tc : Thread Cert.ReferenceIdeal.nD Cert.ReferenceIdeal.τ).loc Cert.ReferenceIdeal.main_v38_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x4x1024x256 : Shape := ⟨4, ![2, 4, 1024, 256]⟩
abbrev S2x4x1024x512 : Shape := ⟨4, ![2, 4, 1024, 512]⟩
abbrev S2x4x16 : Shape := ⟨3, ![2, 4, 16]⟩
abbrev S2x4x16x256 : Shape := ⟨4, ![2, 4, 16, 256]⟩
abbrev S2x4x1024 : Shape := ⟨3, ![2, 4, 1024]⟩
abbrev S_ : Shape := ⟨0, ![]⟩

class Facts : Prop where
  bcast_S_S2x4x1024x256 : S_.BroadcastsInDim S2x4x1024x256 (![] : Fin 0 → Fin S2x4x1024x256.rank)
  reducesTo_S2x4x1024x256_S_d0_1_2_3 : S2x4x1024x256.ReducesTo [0, 1, 2, 3] S_
  h_S_ : 0 < S_.numel
  bcast_S_S2x4x1024x512 : S_.BroadcastsInDim S2x4x1024x512 (![] : Fin 0 → Fin S2x4x1024x512.rank)
  reducesTo_S2x4x1024x512_S_d0_1_2_3 : S2x4x1024x512.ReducesTo [0, 1, 2, 3] S_
  bcast_S_S2x4x16 : S_.BroadcastsInDim S2x4x16 (![] : Fin 0 → Fin S2x4x16.rank)
  reducesTo_S2x4x16_S_d0_1_2 : S2x4x16.ReducesTo [0, 1, 2] S_
  bcast_S_S2x4x16x256 : S_.BroadcastsInDim S2x4x16x256 (![] : Fin 0 → Fin S2x4x16x256.rank)
  reducesTo_S2x4x16x256_S_d0_1_2_3 : S2x4x16x256.ReducesTo [0, 1, 2, 3] S_
  bcast_S_S2x4x1024 : S_.BroadcastsInDim S2x4x1024 (![] : Fin 0 → Fin S2x4x1024.rank)
  reducesTo_S2x4x1024_S_d0_1_2 : S2x4x1024.ReducesTo [0, 1, 2] S_

variable [Facts]

def fn_part2 {F : FTy → Type} [FloatOps F] (main_arg3 : FVec F S2x4x16 .f32) (main_arg7 : FVec F S2x4x1024 .f32) (main_v33 : IVec S_ 1) : IVec S_ 1 :=
  let main_v34 : FVec F S2x4x1024 .f32 := Host.absf main_arg7
  let main_cst_12 : FVec F S_ .f32 := constant S_ .f32 0x7F800000#32
  let main_v35 : FVec F S2x4x1024 .f32 := broadcastInDim S2x4x1024 ![] bcast_S_S2x4x1024 main_cst_12
  let main_v36 : IVec S2x4x1024 1 := cmpf .olt main_v34 main_v35
  let main_c_13 : IVec S_ 1 := constantI S_ 1 1#1
  let main_v37 : IVec S_ 1 := (fun x v => Host.reduce IntOp.andi x v reducesTo_S2x4x1024_S_d0_1_2 h_S_) main_v36 main_c_13
  let main_v38 : IVec S_ 1 := andi main_v33 main_v37
  let main_cst_14 : FVec F S_ .f32 := constant S_ .f32 0x00000000#32
  let main_v39 : FVec F S2x4x16 .f32 := broadcastInDim S2x4x16 ![] bcast_S_S2x4x16 main_cst_14
  let main_v40 : IVec S2x4x16 1 := cmpf .oge main_arg3 main_v39
  let main_c_15 : IVec S_ 1 := constantI S_ 1 1#1
  let main_v41 : IVec S_ 1 := (fun x v => Host.reduce IntOp.andi x v reducesTo_S2x4x16_S_d0_1_2 h_S_) main_v40 main_c_15
  let main_v42 : IVec S_ 1 := andi main_v38 main_v41
  main_v42

def fn_part1 {F : FTy → Type} [FloatOps F] (main_arg3 : FVec F S2x4x16 .f32) (main_arg4 : FVec F S2x4x16x256 .f32) (main_arg5 : FVec F S2x4x16 .f32) (main_arg6 : FVec F S2x4x1024 .f32) (main_arg7 : FVec F S2x4x1024 .f32) (main_v13 : IVec S_ 1) (main_v16 : IVec S2x4x16 1) : IVec S_ 1 :=
  let main_c_5 : IVec S_ 1 := constantI S_ 1 1#1
  let main_v17 : IVec S_ 1 := (fun x v => Host.reduce IntOp.andi x v reducesTo_S2x4x16_S_d0_1_2 h_S_) main_v16 main_c_5
  let main_v18 : IVec S_ 1 := andi main_v13 main_v17
  let main_v19 : FVec F S2x4x16x256 .f32 := Host.absf main_arg4
  let main_cst_6 : FVec F S_ .f32 := constant S_ .f32 0x7F800000#32
  let main_v20 : FVec F S2x4x16x256 .f32 := broadcastInDim S2x4x16x256 ![] bcast_S_S2x4x16x256 main_cst_6
  let main_v21 : IVec S2x4x16x256 1 := cmpf .olt main_v19 main_v20
  let main_c_7 : IVec S_ 1 := constantI S_ 1 1#1
  let main_v22 : IVec S_ 1 := (fun x v => Host.reduce IntOp.andi x v reducesTo_S2x4x16x256_S_d0_1_2_3 h_S_) main_v21 main_c_7
  let main_v23 : IVec S_ 1 := andi main_v18 main_v22
  let main_v24 : FVec F S2x4x16 .f32 := Host.absf main_arg5
  let main_cst_8 : FVec F S_ .f32 := constant S_ .f32 0x7F800000#32
  let main_v25 : FVec F S2x4x16 .f32 := broadcastInDim S2x4x16 ![] bcast_S_S2x4x16 main_cst_8
  let main_v26 : IVec S2x4x16 1 := cmpf .olt main_v24 main_v25
  let main_c_9 : IVec S_ 1 := constantI S_ 1 1#1
  let main_v27 : IVec S_ 1 := (fun x v => Host.reduce IntOp.andi x v reducesTo_S2x4x16_S_d0_1_2 h_S_) main_v26 main_c_9
  let main_v28 : IVec S_ 1 := andi main_v23 main_v27
  let main_v29 : FVec F S2x4x1024 .f32 := Host.absf main_arg6
  let main_cst_10 : FVec F S_ .f32 := constant S_ .f32 0x7F800000#32
  let main_v30 : FVec F S2x4x1024 .f32 := broadcastInDim S2x4x1024 ![] bcast_S_S2x4x1024 main_cst_10
  let main_v31 : IVec S2x4x1024 1 := cmpf .olt main_v29 main_v30
  let main_c_11 : IVec S_ 1 := constantI S_ 1 1#1
  let main_v32 : IVec S_ 1 := (fun x v => Host.reduce IntOp.andi x v reducesTo_S2x4x1024_S_d0_1_2 h_S_) main_v31 main_c_11
  let main_v33 : IVec S_ 1 := andi main_v28 main_v32
  fn_part2 (F := F) main_arg3 main_arg7 main_v33

def fn {F : FTy → Type} [FloatOps F] (main_arg0 : FVec F S2x4x1024x256 .f32) (main_arg1 : FVec F S2x4x1024x256 .f32) (main_arg2 : FVec F S2x4x1024x512 .f32) (main_arg3 : FVec F S2x4x16 .f32) (main_arg4 : FVec F S2x4x16x256 .f32) (main_arg5 : FVec F S2x4x16 .f32) (main_arg6 : FVec F S2x4x1024 .f32) (main_arg7 : FVec F S2x4x1024 .f32) : IVec S_ 1 :=
  let main_v0 : FVec F S2x4x1024x256 .f32 := Host.absf main_arg0
  let main_cst : FVec F S_ .f32 := constant S_ .f32 0x7F800000#32
  let main_v1 : FVec F S2x4x1024x256 .f32 := broadcastInDim S2x4x1024x256 ![] bcast_S_S2x4x1024x256 main_cst
  let main_v2 : IVec S2x4x1024x256 1 := cmpf .olt main_v0 main_v1
  let main_c : IVec S_ 1 := constantI S_ 1 1#1
  let main_v3 : IVec S_ 1 := (fun x v => Host.reduce IntOp.andi x v reducesTo_S2x4x1024x256_S_d0_1_2_3 h_S_) main_v2 main_c
  let main_v4 : FVec F S2x4x1024x256 .f32 := Host.absf main_arg1
  let main_cst_0 : FVec F S_ .f32 := constant S_ .f32 0x7F800000#32
  let main_v5 : FVec F S2x4x1024x256 .f32 := broadcastInDim S2x4x1024x256 ![] bcast_S_S2x4x1024x256 main_cst_0
  let main_v6 : IVec S2x4x1024x256 1 := cmpf .olt main_v4 main_v5
  let main_c_1 : IVec S_ 1 := constantI S_ 1 1#1
  let main_v7 : IVec S_ 1 := (fun x v => Host.reduce IntOp.andi x v reducesTo_S2x4x1024x256_S_d0_1_2_3 h_S_) main_v6 main_c_1
  let main_v8 : IVec S_ 1 := andi main_v3 main_v7
  let main_v9 : FVec F S2x4x1024x512 .f32 := Host.absf main_arg2
  let main_cst_2 : FVec F S_ .f32 := constant S_ .f32 0x7F800000#32
  let main_v10 : FVec F S2x4x1024x512 .f32 := broadcastInDim S2x4x1024x512 ![] bcast_S_S2x4x1024x512 main_cst_2
  let main_v11 : IVec S2x4x1024x512 1 := cmpf .olt main_v9 main_v10
  let main_c_3 : IVec S_ 1 := constantI S_ 1 1#1
  let main_v12 : IVec S_ 1 := (fun x v => Host.reduce IntOp.andi x v reducesTo_S2x4x1024x512_S_d0_1_2_3 h_S_) main_v11 main_c_3
  let main_v13 : IVec S_ 1 := andi main_v8 main_v12
  let main_v14 : FVec F S2x4x16 .f32 := Host.absf main_arg3
  let main_cst_4 : FVec F S_ .f32 := constant S_ .f32 0x7F800000#32
  let main_v15 : FVec F S2x4x16 .f32 := broadcastInDim S2x4x16 ![] bcast_S_S2x4x16 main_cst_4
  let main_v16 : IVec S2x4x16 1 := cmpf .olt main_v14 main_v15
  fn_part1 (F := F) main_arg3 main_arg4 main_arg5 main_arg6 main_arg7 main_v13 main_v16
-- ==== Kernel.lean ====
abbrev S2x4x1024x256 : Shape := ⟨4, ![2, 4, 1024, 256]⟩
abbrev S2x4x1024x512 : Shape := ⟨4, ![2, 4, 1024, 512]⟩
abbrev S2x4x16 : Shape := ⟨3, ![2, 4, 16]⟩
abbrev S2x4x16x256 : Shape := ⟨4, ![2, 4, 16, 256]⟩
abbrev S2x4x1024 : Shape := ⟨3, ![2, 4, 1024]⟩
abbrev S2x4x256x512 : Shape := ⟨4, ![2, 4, 256, 512]⟩
abbrev S2x4x256 : Shape := ⟨3, ![2, 4, 256]⟩
abbrev S2x4 : Shape := ⟨2, ![2, 4]⟩
abbrev S1x1x1024x256 : Shape := ⟨4, ![1, 1, 1024, 256]⟩
abbrev S1x1x1024x512 : Shape := ⟨4, ![1, 1, 1024, 512]⟩
abbrev S1x1x16x256 : Shape := ⟨4, ![1, 1, 16, 256]⟩
abbrev S1x1x256x512 : Shape := ⟨4, ![1, 1, 256, 512]⟩
abbrev S6x8x1024 : Shape := ⟨3, ![6, 8, 1024]⟩
abbrev S768x512 : Shape := ⟨2, ![768, 512]⟩
abbrev S8x128 : Shape := ⟨2, ![8, 128]⟩
abbrev S1x4x1024 : Shape := ⟨3, ![1, 4, 1024]⟩
abbrev S4x1024 : Shape := ⟨2, ![4, 1024]⟩
abbrev S8x1024 : Shape := ⟨2, ![8, 1024]⟩
abbrev S64x128 : Shape := ⟨2, ![64, 128]⟩
abbrev S128x128 : Shape := ⟨2, ![128, 128]⟩
abbrev S8x1 : Shape := ⟨2, ![8, 1]⟩
abbrev S1x4x16 : Shape := ⟨3, ![1, 4, 16]⟩
abbrev S4x16 : Shape := ⟨2, ![4, 16]⟩
abbrev S8x16 : Shape := ⟨2, ![8, 16]⟩
abbrev S1x8x128 : Shape := ⟨3, ![1, 8, 128]⟩
abbrev S1x1x256x256 : Shape := ⟨4, ![1, 1, 256, 256]⟩
abbrev S256x256 : Shape := ⟨2, ![256, 256]⟩
abbrev S1x1x1x256 : Shape := ⟨4, ![1, 1, 1, 256]⟩
abbrev S1x256 : Shape := ⟨2, ![1, 256]⟩
abbrev S64x256 : Shape := ⟨2, ![64, 256]⟩
abbrev S1x1x256 : Shape := ⟨3, ![1, 1, 256]⟩
abbrev S256x128 : Shape := ⟨2, ![256, 128]⟩
abbrev S1x128 : Shape := ⟨2, ![1, 128]⟩
abbrev S128x256 : Shape := ⟨2, ![128, 256]⟩
abbrev S256x512 : Shape := ⟨2, ![256, 512]⟩
abbrev S256 : Shape := ⟨1, ![256]⟩
abbrev S256x1 : Shape := ⟨2, ![256, 1]⟩
abbrev S1x1x512x512 : Shape := ⟨4, ![1, 1, 512, 512]⟩
abbrev S512x512 : Shape := ⟨2, ![512, 512]⟩
abbrev S256x768 : Shape := ⟨2, ![256, 768]⟩
abbrev S1x1 : Shape := ⟨2, ![1, 1]⟩
abbrev S4x128 : Shape := ⟨2, ![4, 128]⟩
abbrev S128x4 : Shape := ⟨2, ![128, 4]⟩
abbrev S1x4 : Shape := ⟨2, ![1, 4]⟩

abbrev nBuf : Space → Nat
  | .hbm => 15
  | .vmem => 21
  | .smem => 0
  | _ => 0

abbrev bufTy : (tb : Table) → Fin (tcTables nBuf tb) → BufTy
  | .hbm, ⟨0, _⟩ => ⟨S2x4x1024x256, .f32⟩
  | .hbm, ⟨1, _⟩ => ⟨S2x4x1024x256, .f32⟩
  | .hbm, ⟨2, _⟩ => ⟨S2x4x1024x512, .f32⟩
  | .hbm, ⟨3, _⟩ => ⟨S2x4x16, .f32⟩
  | .hbm, ⟨4, _⟩ => ⟨S2x4x16x256, .f32⟩
  | .hbm, ⟨5, _⟩ => ⟨S2x4x16, .f32⟩
  | .hbm, ⟨6, _⟩ => ⟨S2x4x1024, .f32⟩
  | .hbm, ⟨7, _⟩ => ⟨S2x4x1024, .f32⟩
  | .hbm, ⟨8, _⟩ => ⟨S2x4x1024x256, .fp8e4m3⟩
  | .hbm, ⟨9, _⟩ => ⟨S2x4x1024x256, .fp8e4m3⟩
  | .hbm, ⟨10, _⟩ => ⟨S2x4x1024x512, .fp8e4m3⟩
  | .hbm, ⟨11, _⟩ => ⟨S2x4x1024x512, .bf16⟩
  | .hbm, ⟨12, _⟩ => ⟨S2x4x256x512, .f32⟩
  | .hbm, ⟨13, _⟩ => ⟨S2x4x256, .f32⟩
  | .hbm, ⟨14, _⟩ => ⟨S2x4, .f32⟩
  | .local _ .vmem, ⟨0, _⟩ => ⟨S1x1x1024x256, .fp8e4m3⟩
  | .local _ .vmem, ⟨1, _⟩ => ⟨S1x1x1024x256, .fp8e4m3⟩
  | .local _ .vmem, ⟨2, _⟩ => ⟨S1x1x1024x256, .fp8e4m3⟩
  | .local _ .vmem, ⟨3, _⟩ => ⟨S1x1x1024x256, .fp8e4m3⟩
  | .local _ .vmem, ⟨4, _⟩ => ⟨S1x1x1024x512, .fp8e4m3⟩
  | .local _ .vmem, ⟨5, _⟩ => ⟨S1x1x1024x512, .fp8e4m3⟩
  | .local _ .vmem, ⟨6, _⟩ => ⟨S1x1x16x256, .f32⟩
  | .local _ .vmem, ⟨7, _⟩ => ⟨S1x1x16x256, .f32⟩
  | .local _ .vmem, ⟨8, _⟩ => ⟨S2x4x16, .f32⟩
  | .local _ .vmem, ⟨9, _⟩ => ⟨S2x4x16, .f32⟩
  | .local _ .vmem, ⟨10, _⟩ => ⟨S2x4x1024, .f32⟩
  | .local _ .vmem, ⟨11, _⟩ => ⟨S2x4x1024, .f32⟩
  | .local _ .vmem, ⟨12, _⟩ => ⟨S1x1x1024x512, .bf16⟩
  | .local _ .vmem, ⟨13, _⟩ => ⟨S1x1x1024x512, .bf16⟩
  | .local _ .vmem, ⟨14, _⟩ => ⟨S1x1x256x512, .f32⟩
  | .local _ .vmem, ⟨15, _⟩ => ⟨S1x1x256x512, .f32⟩
  | .local _ .vmem, ⟨16, _⟩ => ⟨S2x4x256, .f32⟩
  | .local _ .vmem, ⟨17, _⟩ => ⟨S2x4, .f32⟩
  | .local _ .vmem, ⟨18, _⟩ => ⟨S6x8x1024, .f32⟩
  | .local _ .vmem, ⟨19, _⟩ => ⟨S768x512, .bf16⟩
  | .local _ .vmem, ⟨20, _⟩ => ⟨S8x128, .f32⟩
  | _, _ => ⟨S2x4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c4 : Index := 4#32
  let arg0 : BitVec 32 := BitVec.ofNat 32 (i 0).val
  let v33 : Index := Scalar.indexCast arg0
  let c0_17 : Index := 0#32
  ![4, v33.toNat, 0]
def k0_off2 (i : grid0.Coords) : Fin 3 → Nat :=
  let c5 : Index := 5#32
  let arg0 : BitVec 32 := BitVec.ofNat 32 (i 0).val
  let v41 : Index := Scalar.indexCast arg0
  let c0_18 : Index := 0#32
  ![5, v41.toNat, 0]
def k0_off3 (i : grid0.Coords) : Fin 3 → Nat :=
  let c4_36 : Index := 4#32
  let arg0 : BitVec 32 := BitVec.ofNat 32 (i 0).val
  let v74 : Index := Scalar.indexCast arg0
  let c256_37 : Index := 256#32
  ![4, v74.toNat, 256]
def k0_off4 (i : grid0.Coords) : Fin 3 → Nat :=
  let c5_38 : Index := 5#32
  let arg0 : BitVec 32 := BitVec.ofNat 32 (i 0).val
  let v83 : Index := Scalar.indexCast arg0
  let c256_39 : Index := 256#32
  ![5, v83.toNat, 256]
def k0_off5 (i : grid0.Coords) : Fin 3 → Nat :=
  let c1_44 : Index := 1#32
  let arg0 : BitVec 32 := BitVec.ofNat 32 (i 0).val
  let v92 : Index := Scalar.indexCast arg0
  let c0_45 : Index := 0#32
  ![1, v92.toNat, 0]
def k0_off6 (i : grid0.Coords) : Fin 3 → Nat :=
  let c0_46 : Index := 0#32
  let arg0 : BitVec 32 := BitVec.ofNat 32 (i 0).val
  let v105 : Index := Scalar.indexCast arg0
  let c0_47 : Index := 0#32
  ![0, v105.toNat, 0]
def k0_off7 (i : grid0.Coords) : Fin 3 → Nat :=
  let c2_59 : Index := 2#32
  let arg0 : BitVec 32 := BitVec.ofNat 32 (i 0).val
  let v160 : Index := Scalar.indexCast arg0
  let c0_60 : Index := 0#32
  ![2, v160.toNat, 0]
def k0_off8 (i : grid0.Coords) : Fin 3 → Nat :=
  let c1_70 : Index := 1#32
  let arg0 : BitVec 32 := BitVec.ofNat 32 (i 0).val
  let v185 : Index := Scalar.indexCast arg0
  let c256_71 : Index := 256#32
  ![1, v185.toNat, 256]
def k0_off9 (i : grid0.Coords) : Fin 3 → Nat :=
  let c0_78 : Index := 0#32
  let arg0 : BitVec 32 := BitVec.ofNat 32 (i 0).val
  let v254 : Index := Scalar.indexCast arg0
  let c256_79 : Index := 256#32
  ![0, v254.toNat, 256]
def k0_off10 (i : grid0.Coords) : Fin 3 → Nat :=
  let c2_91 : Index := 2#32
  let arg0 : BitVec 32 := BitVec.ofNat 32 (i 0).val
  let v312 : Index := Scalar.indexCast arg0
  let c256_92 : Index := 256#32
  ![2, v312.toNat, 256]
def k0_off11 (i : grid0.Coords) : Fin 3 → Nat :=
  let c4_125 : Index := 4#32
  let arg0 : BitVec 32 := BitVec.ofNat 32 (i 0).val
  let v392 : Index := Scalar.indexCast arg0
  let c512_126 : Index := 512#32
  ![4, v392.toNat, 512]
def k0_off12 (i : grid0.Coords) : Fin 3 → Nat :=
  let c5_127 : Index := 5#32
  let arg0 : BitVec 32 := BitVec.ofNat 32 (i 0).val
  let v400 : Index := Scalar.indexCast arg0
  let c512_128 : Index := 512#32
  ![5, v400.toNat, 512]
def k0_off13 (i : grid0.Coords) : Fin 3 → Nat :=
  let c1_133 : Index := 1#32
  let arg0 : BitVec 32 := BitVec.ofNat 32 (i 0).val
  let v409 : Index := Scalar.indexCast arg0
  let c512_134 : Index := 512#32
  ![1, v409.toNat, 512]
def k0_off14 (i : grid0.Coords) : Fin 3 → Nat :=
  let c0_136 : Index := 0#32
  let arg0 : BitVec 32 := BitVec.ofNat 32 (i 0).val
  let v422 : Index := Scalar.indexCast arg0
  let c512_137 : Index := 512#32
  ![0, v422.toNat, 512]
def k0_off15 (i : grid0.Coords) : Fin 3 → Nat :=
  let c3_148 : Index := 3#32
  let arg0 : BitVec 32 := BitVec.ofNat 32 (i 0).val
  let v474 : Index := Scalar.indexCast arg0
  let c512_149 : Index := 512#32
  ![3, v474.toNat, 512]
def k0_off16 (i : grid0.Coords) : Fin 3 → Nat :=
  let c2_154 : Index := 2#32
  let arg0 : BitVec 32 := BitVec.ofNat 32 (i 0).val
  let v503 : Index := Scalar.indexCast arg0
  let c512_155 : Index := 512#32
  ![2, v503.toNat, 512]
def k0_off17 (i : grid0.Coords) : Fin 3 → Nat :=
  let c4_190 : Index := 4#32
  let arg0 : BitVec 32 := BitVec.ofNat 32 (i 0).val
  let v592 : Index := Scalar.indexCast arg0
  let c768_191 : Index := 768#32
  ![4, v592.toNat, 768]
def k0_off18 (i : grid0.Coords) : Fin 3 → Nat :=
  let c5_192 : Index := 5#32
  let arg0 : BitVec 32 := BitVec.ofNat 32 (i 0).val
  let v600 : Index := Scalar.indexCast arg0
  let c768_193 : Index := 768#32
  ![5, v600.toNat, 768]
def k0_off19 (i : grid0.Coords) : Fin 3 → Nat :=
  let c1_198 : Index := 1#32
  let arg0 : BitVec 32 := BitVec.ofNat 32 (i 0).val
  let v609 : Index := Scalar.indexCast arg0
  let c768_199 : Index := 768#32
  ![1, v609.toNat, 768]
def k0_off20 (i : grid0.Coords) : Fin 3 → Nat :=
  let c0_201 : Index := 0#32
  let arg0 : BitVec 32 := BitVec.ofNat 32 (i 0).val
  let v622 : Index := Scalar.indexCast arg0
  let c768_202 : Index := 768#32
  ![0, v622.toNat, 768]
def k0_off21 (i : grid0.Coords) : Fin 3 → Nat :=
  let c3_213 : Index := 3#32
  let arg0 : BitVec 32 := BitVec.ofNat 32 (i 0).val
  let v674 : Index := Scalar.indexCast arg0
  let c768_214 : Index := 768#32
  ![3, v674.toNat, 768]
def k0_off22 (i : grid0.Coords) : Fin 3 → Nat :=
  let c2_219 : Index := 2#32
  let arg0 : BitVec 32 := BitVec.ofNat 32 (i 0).val
  let v703 : Index := Scalar.indexCast arg0
  let c768_220 : Index := 768#32
  ![2, v703.toNat, 768]
def k0_off23 (i : grid0.Coords) : Fin 3 → Nat :=
  let arg0 : BitVec 32 := BitVec.ofNat 32 (i 0).val
  let c0_i32_238 : BitVec 32 := 0#32
  let v753 : BitVec 1 := Scalar.cmpi .sgt arg0 c0_i32_238
  let v754 : BitVec 32 := Scalar.extui v753
  let c0_i32_239 : BitVec 32 := 0#32
  let v755 : BitVec 1 := Scalar.cmpi .slt arg0 c0_i32_239
  let v756 : BitVec 32 := Scalar.extui v755
  let v757 : BitVec 32 := Scalar.subi v754 v756
  let c4_i32 : BitVec 32 := 4#32
  let c0_i32_240 : BitVec 32 := 0#32
  let v758 : BitVec 1 := Scalar.cmpi .sgt c4_i32 c0_i32_240
  let v759 : BitVec 32 := Scalar.extui v758
  let c0_i32_241 : BitVec 32 := 0#32
  let v760 : BitVec 1 := Scalar.cmpi .slt c4_i32 c0_i32_241
  let v761 : BitVec 32 := Scalar.extui v760
  let v762 : BitVec 32 := Scalar.subi v759 v761
  let v763 : BitVec 1 := Scalar.cmpi .ne v757 v762
  let v764 : BitVec 32 := Scalar.remsi arg0 c4_i32
  let c0_i32_242 : BitVec 32 := 0#32
  let v765 : BitVec 1 := Scalar.cmpi .ne v764 c0_i32_242
  let v766 : BitVec 1 := Scalar.andi v763 v765
  let v752 : BitVec 32 := Scalar.divsi arg0 c4_i32
  let c1_i32 : BitVec 32 := 1#32
  let v767 : BitVec 32 := Scalar.subi v752 c1_i32
  let v768 : BitVec 32 := Scalar.select v766 v767 v752
  let v779 : Index := Scalar.indexCast v768
  let c4_i32_243 : BitVec 32 := 4#32
  let c0_i32_244 : BitVec 32 := 0#32
  let v769 : BitVec 1 := Scalar.cmpi .eq c4_i32_243 c0_i32_244
  let c1_i32_245 : BitVec 32 := 1#32
  let v770 : BitVec 32 := Scalar.select v769 c1_i32_245 c4_i32_243
  let v771 : BitVec 32 := Scalar.remsi arg0 v770
  let c0_i32_247 : BitVec 32 := 0#32
  let v773 : BitVec 1 := Scalar.cmpi .slt v771 c0_i32_247
  let c0_i32_248 : BitVec 32 := 0#32
  let v774 : BitVec 1 := Scalar.cmpi .slt v770 c0_i32_248
  let v775 : BitVec 1 := Scalar.xori v773 v774
  let c0_i32_246 : BitVec 32 := 0#32
  let v772 : BitVec 1 := Scalar.cmpi .ne v771 c0_i32_246
  let v776 : BitVec 1 := Scalar.andi v775 v772
  let v777 : BitVec 32 := Scalar.addi v771 v770
  let v778 : BitVec 32 := Scalar.select v776 v777 v771
  let v780 : Index := Scalar.indexCast v778
  let c0_249 : Index := 0#32
  ![v779.toNat, v780.toNat, 0]
def k0_cond2 (i : grid0.Coords) : BitVec 1 :=
  let arg0 : BitVec 32 := BitVec.ofNat 32 (i 0).val
  let c0_i32_250 : BitVec 32 := 0#32
  let v784 : BitVec 1 := Scalar.cmpi .eq arg0 c0_i32_250
  let v785 : BitVec 32 := Scalar.extui v784
  let c0_i32_251 : BitVec 32 := 0#32
  let v786 : BitVec 1 := Scalar.cmpi .ne v785 c0_i32_251
  v786

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x4x1024x256 : Shape := ⟨4, ![2, 4, 1024, 256]⟩
abbrev S2x4x1024x512 : Shape := ⟨4, ![2, 4, 1024, 512]⟩
abbrev S2x4x16 : Shape := ⟨3, ![2, 4, 16]⟩
abbrev S2x4x16x256 : Shape := ⟨4, ![2, 4, 16, 256]⟩
abbrev S2x4x1024 : Shape := ⟨3, ![2, 4, 1024]⟩
abbrev S_ : Shape := ⟨0, ![]⟩
abbrev S8x16x64 : Shape := ⟨3, ![8, 16, 64]⟩
abbrev S8x16x1 : Shape := ⟨3, ![8, 16, 1]⟩
abbrev S8x16 : Shape := ⟨2, ![8, 16]⟩
abbrev S64x64 : Shape := ⟨2, ![64, 64]⟩
abbrev S8x16x64x1 : Shape := ⟨4, ![8, 16, 64, 1]⟩
abbrev S8x16x1x64 : Shape := ⟨4, ![8, 16, 1, 64]⟩
abbrev S8x16x64x64 : Shape := ⟨4, ![8, 16, 64, 64]⟩
abbrev S8x16x64x256 : Shape := ⟨4, ![8, 16, 64, 256]⟩
abbrev S8x16x64x512 : Shape := ⟨4, ![8, 16, 64, 512]⟩
abbrev S8x16x1x1 : Shape := ⟨4, ![8, 16, 1, 1]⟩
abbrev S8x16x1x256 : Shape := ⟨4, ![8, 16, 1, 256]⟩
abbrev S8x16x256x1 : Shape := ⟨4, ![8, 16, 256, 1]⟩
abbrev S2x4x256x512 : Shape := ⟨4, ![2, 4, 256, 512]⟩
abbrev S2x4x256 : Shape := ⟨3, ![2, 4, 256]⟩
abbrev S2x4 : Shape := ⟨2, ![2, 4]⟩
abbrev S8x256x512 : Shape := ⟨3, ![8, 256, 512]⟩
abbrev S8x1x256 : Shape := ⟨3, ![8, 1, 256]⟩
abbrev S8x1x1 : Shape := ⟨3, ![8, 1, 1]⟩
abbrev S8x1x64x512 : Shape := ⟨4, ![8, 1, 64, 512]⟩
abbrev S8x64x512 : Shape := ⟨3, ![8, 64, 512]⟩
abbrev S8x1x64x256 : Shape := ⟨4, ![8, 1, 64, 256]⟩
abbrev S8x64x256 : Shape := ⟨3, ![8, 64, 256]⟩
abbrev S8x1x1x1 : Shape := ⟨4, ![8, 1, 1, 1]⟩
abbrev S8x1x1x256 : Shape := ⟨4, ![8, 1, 1, 256]⟩
abbrev S8x1x64x1 : Shape := ⟨4, ![8, 1, 64, 1]⟩
abbrev S8x64x1 : Shape := ⟨3, ![8, 64, 1]⟩
abbrev S8x1x64x64 : Shape := ⟨4, ![8, 1, 64, 64]⟩
abbrev S8x64x64 : Shape := ⟨3, ![8, 64, 64]⟩
abbrev S8x1x256x1 : Shape := ⟨4, ![8, 1, 256, 1]⟩
abbrev S8x256x1 : Shape := ⟨3, ![8, 256, 1]⟩
abbrev S8x256 : Shape := ⟨2, ![8, 256]⟩
abbrev S8x64 : Shape := ⟨2, ![8, 64]⟩
abbrev S2x4x64x512 : Shape := ⟨4, ![2, 4, 64, 512]⟩

abbrev nBuf : Space → Nat
  | .hbm => 81
  | .vmem => 16
  | .smem => 0
  | _ => 0

abbrev bufTy : (tb : Table) → Fin (tcTables nBuf tb) → BufTy
  | .hbm, ⟨0, _⟩ => ⟨S2x4x1024x256, .f32⟩
  | .hbm, ⟨1, _⟩ => ⟨S2x4x1024x256, .f32⟩
  | .hbm, ⟨2, _⟩ => ⟨S2x4x1024x512, .f32⟩
  | .hbm, ⟨3, _⟩ => ⟨S2x4x16, .f32⟩
  | .hbm, ⟨4, _⟩ => ⟨S2x4x16x256, .f32⟩
  | .hbm, ⟨5, _⟩ => ⟨S2x4x16, .f32⟩
  | .hbm, ⟨6, _⟩ => ⟨S2x4x1024, .f32⟩
  | .hbm, ⟨7, _⟩ => ⟨S2x4x1024, .f32⟩
  | .hbm, ⟨8, _⟩ => ⟨S2x4x1024x256, .fp8e4m3⟩
  | .hbm, ⟨9, _⟩ => ⟨S2x4x1024x256, .fp8e4m3⟩
  | .hbm, ⟨10, _⟩ => ⟨S2x4x1024x512, .fp8e4m3⟩
  | .hbm, ⟨11, _⟩ => ⟨S2x4x1024, .f32⟩
  | .hbm, ⟨12, _⟩ => ⟨S_, .f32⟩
  | .hbm, ⟨13, _⟩ => ⟨S2x4x1024, .f32⟩
  | .hbm, ⟨14, _⟩ => ⟨S2x4x1024, .f32⟩
  | .hbm, ⟨15, _⟩ => ⟨S2x4x1024, .f32⟩
  | .hbm, ⟨16, _⟩ => ⟨S2x4x1024, .f32⟩
  | .hbm, ⟨17, _⟩ => ⟨S2x4x1024, .i1⟩
  | .hbm, ⟨18, _⟩ => ⟨S2x4x1024, .f32⟩
  | .hbm, ⟨19, _⟩ => ⟨S2x4x1024, .f32⟩
  | .hbm, ⟨20, _⟩ => ⟨S2x4x1024, .f32⟩
  | .hbm, ⟨21, _⟩ => ⟨S2x4x1024, .f32⟩
  | .hbm, ⟨22, _⟩ => ⟨S2x4x1024, .f32⟩
  | .hbm, ⟨23, _⟩ => ⟨S2x4x1024, .f32⟩
  | .hbm, ⟨24, _⟩ => ⟨S2x4x1024, .f32⟩
  | .hbm, ⟨25, _⟩ => ⟨S2x4x1024, .f32⟩
  | .hbm, ⟨26, _⟩ => ⟨S2x4x1024, .f32⟩
  | .hbm, ⟨27, _⟩ => ⟨S8x16x64, .f32⟩
  | .hbm, ⟨28, _⟩ => ⟨S8x16x64, .f32⟩
  | .hbm, ⟨29, _⟩ => ⟨S_, .f32⟩
  | .hbm, ⟨30, _⟩ => ⟨S_, .f32⟩
  | .hbm, ⟨31, _⟩ => ⟨S8x16x64, .f32⟩
  | .hbm, ⟨32, _⟩ => ⟨S8x16x1, .f32⟩
  | .hbm, ⟨33, _⟩ => ⟨S8x16x64, .f32⟩
  | .hbm, ⟨34, _⟩ => ⟨S8x16x64, .f32⟩
  | .hbm, ⟨35, _⟩ => ⟨S8x16x64, .f32⟩
  | .hbm, ⟨36, _⟩ => ⟨S_, .f32⟩
  | .hbm, ⟨37, _⟩ => ⟨S8x16, .f32⟩
  | .hbm, ⟨38, _⟩ => ⟨S8x16x1, .f32⟩
  | .hbm, ⟨39, _⟩ => ⟨S8x16x64, .f32⟩
  | .hbm, ⟨40, _⟩ => ⟨S8x16x64, .f32⟩
  | .hbm, ⟨41, _⟩ => ⟨S8x16x64, .f32⟩
  | .hbm, ⟨42, _⟩ => ⟨S_, .i1⟩
  | .hbm, ⟨43, _⟩ => ⟨S64x64, .i1⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i32⟩
  | .hbm, ⟨49, _⟩ => ⟨S64x64, .i1⟩
  | .hbm, ⟨50, _⟩ => ⟨S_, .i1⟩
  | .hbm, ⟨51, _⟩ => ⟨S64x64, .i1⟩
  | .hbm, ⟨52, _⟩ => ⟨S64x64, .i1⟩
  | .hbm, ⟨53, _⟩ => ⟨S8x16x64x1, .f32⟩
  | .hbm, ⟨54, _⟩ => ⟨S8x16x1x64, .f32⟩
  | .hbm, ⟨55, _⟩ => ⟨S8x16x64x64, .f32⟩
  | .hbm, ⟨56, _⟩ => ⟨S8x16x64x64, .f32⟩
  | .hbm, ⟨57, _⟩ => ⟨S8x16x64x64, .f32⟩
  | .hbm, ⟨58, _⟩ => ⟨S8x16x1x64, .f32⟩
  | .hbm, ⟨59, _⟩ => ⟨S8x16x64x64, .f32⟩
  | .hbm, ⟨60, _⟩ => ⟨S8x16x64x64, .f32⟩
  | .hbm, ⟨61, _⟩ => ⟨S_, .f32⟩
  | .hbm, ⟨62, _⟩ => ⟨S_, .f32⟩
  | .hbm, ⟨63, _⟩ => ⟨S8x16x64x64, .i1⟩
  | .hbm, ⟨64, _⟩ => ⟨S8x16x64x64, .f32⟩
  | .hbm, ⟨65, _⟩ => ⟨S8x16x64x64, .f32⟩
  | .hbm, ⟨66, _⟩ => ⟨S8x16x64x256, .fp8e4m3⟩
  | .hbm, ⟨67, _⟩ => ⟨S8x16x64x256, .fp8e4m3⟩
  | .hbm, ⟨68, _⟩ => ⟨S8x16x64x512, .fp8e4m3⟩
  | .hbm, ⟨69, _⟩ => ⟨S8x16x1x1, .f32⟩
  | .hbm, ⟨70, _⟩ => ⟨S8x16x1x256, .f32⟩
  | .hbm, ⟨71, _⟩ => ⟨S8x16x256x1, .f32⟩
  | .hbm, ⟨72, _⟩ => ⟨S8x16x1x1, .f32⟩
  | .hbm, ⟨73, _⟩ => ⟨S8x16x64x1, .f32⟩
  | .hbm, ⟨74, _⟩ => ⟨S8x16x1x1, .f32⟩
  | .hbm, ⟨75, _⟩ => ⟨S8x16x1x1, .f32⟩
  | .hbm, ⟨76, _⟩ => ⟨S8x16x64x1, .f32⟩
  | .hbm, ⟨77, _⟩ => ⟨S2x4x1024x512, .bf16⟩
  | .hbm, ⟨78, _⟩ => ⟨S2x4x256x512, .f32⟩
  | .hbm, ⟨79, _⟩ => ⟨S2x4x256, .f32⟩
  | .hbm, ⟨80, _⟩ => ⟨S2x4, .f32⟩
  | .local _ .vmem, ⟨0, _⟩ => ⟨S8x16x64x256, .fp8e4m3⟩
  | .local _ .vmem, ⟨1, _⟩ => ⟨S8x16x64x256, .fp8e4m3⟩
  | .local _ .vmem, ⟨2, _⟩ => ⟨S8x16x64x512, .fp8e4m3⟩
  | .local _ .vmem, ⟨3, _⟩ => ⟨S8x16x1x1, .f32⟩
  | .local _ .vmem, ⟨4, _⟩ => ⟨S8x16x1x256, .f32⟩
  | .local _ .vmem, ⟨5, _⟩ => ⟨S8x16x256x1, .f32⟩
  | .local _ .vmem, ⟨6, _⟩ => ⟨S8x16x1x1, .f32⟩
  | .local _ .vmem, ⟨7, _⟩ => ⟨S8x16x64x1, .f32⟩
  | .local _ .vmem, ⟨8, _⟩ => ⟨S8x16x1x1, .f32⟩
  | .local _ .vmem, ⟨9, _⟩ => ⟨S8x16x1x1, .f32⟩
  | .local _ .vmem, ⟨10, _⟩ => ⟨S8x16x64x1, .f32⟩
  | .local _ .vmem, ⟨11, _⟩ => ⟨S8x16x64x64, .f32⟩
  | .local _ .vmem, ⟨12, _⟩ => ⟨S2x4x1024x512, .bf16⟩
  | .local _ .vmem, ⟨13, _⟩ => ⟨S2x4x256x512, .f32⟩
  | .local _ .vmem, ⟨14, _⟩ => ⟨S2x4x256, .f32⟩
  | .local _ .vmem, ⟨15, _⟩ => ⟨S2x4, .f32⟩
  | _, _ => ⟨S2x4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call1_call0_cst : Ref sig .tc := ⟨.hbm, 29, rfl⟩
abbrev main_call1_call0_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_0 : Ref sig .tc := ⟨.hbm, 50, rfl⟩
abbrev main_call2_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_0 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38_0 : Ref sig .tc := ⟨.hbm, 77, rfl⟩
abbrev main_v38_1 : Ref sig .tc := ⟨.hbm, 78, rfl⟩
abbrev main_v38_2 : Ref sig .tc := ⟨.hbm, 79, rfl⟩
abbrev main_v38_3 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_off1 (k0_t1 : Fin k0_t1_loop.trips) : Fin 4 → Nat :=
  let c0_11 : Index := 0#32
  let c0_i32 : BitVec 32 := 0#32
  let c1_i32 : BitVec 32 := 1#32
  let arg16 : BitVec 32 := Scf.iv c0_i32 c1_i32 k0_t1
  let v11 : Index := Scalar.indexCast arg16
  let c0_12 : Index := 0#32
  let c0_13 : Index := 0#32
  ![0, v11.toNat, 0, 0]
def k0_off2 (k0_t1 : Fin k0_t1_loop.trips) : Fin 4 → Nat :=
  let c0_14 : Index := 0#32
  let c0_i32 : BitVec 32 := 0#32
  let c1_i32 : BitVec 32 := 1#32
  let arg16 : BitVec 32 := Scf.iv c0_i32 c1_i32 k0_t1
  let v15 : Index := Scalar.indexCast arg16
  let c0_15 : Index := 0#32
  let c0_16 : Index := 0#32
  ![0, v15.toNat, 0, 0]
def k0_off3 (k0_t1 : Fin k0_t1_loop.trips) : Fin 4 → Nat :=
  let c0_20 : Index := 0#32
  let c0_i32 : BitVec 32 := 0#32
  let c1_i32 : BitVec 32 := 1#32
  let arg16 : BitVec 32 := Scf.iv c0_i32 c1_i32 k0_t1
  let v23 : Index := Scalar.indexCast arg16
  let c0_21 : Index := 0#32
  let c0_22 : Index := 0#32
  ![0, v23.toNat, 0, 0]
def k0_off4 (k0_t1 : Fin k0_t1_loop.trips) : Fin 4 → Nat :=
  let c0_24 : Index := 0#32
  let c0_i32 : BitVec 32 := 0#32
  let c1_i32 : BitVec 32 := 1#32
  let arg16 : BitVec 32 := Scf.iv c0_i32 c1_i32 k0_t1
  let v28 : Index := Scalar.indexCast arg16
  let c0_25 : Index := 0#32
  let c0_26 : Index := 0#32
  ![0, v28.toNat, 0, 0]
def k0_off5 (k0_t1 : Fin k0_t1_loop.trips) : Fin 4 → Nat :=
  let c0_30 : Index := 0#32
  let c0_i32 : BitVec 32 := 0#32
  let c1_i32 : BitVec 32 := 1#32
  let arg16 : BitVec 32 := Scf.iv c0_i32 c1_i32 k0_t1
  let v34 : Index := Scalar.indexCast arg16
  let c0_31 : Index := 0#32
  let c0_32 : Index := 0#32
  ![0, v34.toNat, 0, 0]
def k0_off6 (k0_t1 : Fin k0_t1_loop.trips) : Fin 4 → Nat :=
  let c0_42 : Index := 0#32
  let c0_i32 : BitVec 32 := 0#32
  let c1_i32 : BitVec 32 := 1#32
  let arg16 : BitVec 32 := Scf.iv c0_i32 c1_i32 k0_t1
  let v46 : Index := Scalar.indexCast arg16
  let c0_43 : Index := 0#32
  let c0_44 : Index := 0#32
  ![0, v46.toNat, 0, 0]
def k0_off7 (k0_t1 : Fin k0_t1_loop.trips) : Fin 4 → Nat :=
  let c0_53 : Index := 0#32
  let c0_i32 : BitVec 32 := 0#32
  let c1_i32 : BitVec 32 := 1#32
  let arg16 : BitVec 32 := Scf.iv c0_i32 c1_i32 k0_t1
  let v67 : Index := Scalar.indexCast arg16
  let c0_54 : Index := 0#32
  let c0_55 : Index := 0#32
  ![0, v67.toNat, 0, 0]
def k0_off8 (k0_t1 : Fin k0_t1_loop.trips) : Fin 4 → Nat :=
  let c0_63 : Index := 0#32
  let c0_64 : Index := 0#32
  let c0_i32 : BitVec 32 := 0#32
  let c1_i32 : BitVec 32 := 1#32
  let arg16 : BitVec 32 := Scf.iv c0_i32 c1_i32 k0_t1
  let c64_i32 : BitVec 32 := 64#32
  let v117 : BitVec 32 := Scalar.muli arg16 c64_i32
  let v118 : Index := Scalar.indexCast v117
  let c0_65 : Index := 0#32
  ![0, 0, v118.toNat, 0]
abbrev stage0_0 : Fin 1 → Memref sig .tc .vmem S8x16x64x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x64x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x64x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x16x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x16x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x16x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x16x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x16x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x16x64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x16x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4x1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x4x256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.KI.Def.lean ====
module

public import proofs.«01_k».proof.Proof.Gen.KernelIdeal.Frame
public import proofs.«01_k».proof.Proof.Gen.KernelIdeal.Skeleton

/-!
# The kernel body, run in three stretches

The body of the kernel is three stretches: the gates (a region the first head alone runs), the head's own
work, and the results of the running maxima (a region the first head alone runs).  Each stretch is a program
with the rest of the body as a variable, and each is run once: what it stores is found by the run.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first region of the body (the gates, at the first head only), followed by the rest `κ` of the program. -/
def gatesK (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) {α : Type} (κ : Prog (TpuEff nD τ sig (Elt F) Λ₀ .tc) α) :
    Prog (TpuEff nD τ sig (Elt F) Λ₀ .tc) α := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let ⟨v796, v820, v824, v827, v828, cst_269⟩ : Σ' (v796 : FVec F S8x1024 .f32) (v820 : FVec F S128x128 .bf16) (v824 : FVec F S64x128 .bf16) (v827 : FVec F S64x128 .bf16) (v828 : FVec F S64x128 .f32), FVec F S64x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15
    let ⟨v833, v837, v841, v845, v846, v850, v851, v855, v861, v867, v873, v879⟩ : Σ' (v833 : FVec F S8x128 .f32) (v837 : FVec F S8x128 .f32) (v841 : FVec F S8x128 .f32) (v845 : FVec F S8x128 .f32) (v846 : FVec F S8x128 .f32) (v850 : FVec F S8x128 .f32) (v851 : FVec F S8x128 .f32) (v855 : FVec F S8x128 .f32) (v861 : FVec F S8x128 .f32) (v867 : FVec F S8x128 .f32) (v873 : FVec F S8x128 .f32), FVec F S8x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v796 v820 v824 v827 v828 cst_269
    let ⟨v885, v891, v897, v903, v905, v920, v922, v923⟩ : Σ' (v885 : FVec F S8x128 .f32) (v891 : FVec F S8x128 .f32) (v897 : FVec F S8x128 .f32) (v903 : FVec F S8x128 .f32) (v905 : IVec S64x128 32) (v920 : FVec F S64x128 .f32) (v922 : IVec S64x128 1), FVec F S64x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v796 v846 v850 v851 v855 v861 v867 v873 v879
    let ⟨v940, v941, v943, v946, v948, v965⟩ : Σ' (v940 : FVec F S64x128 .f32) (v941 : FVec F S8x128 .f32) (v943 : FVec F S8x128 .f32) (v946 : FVec F S8x128 .f32) (v948 : FVec F S8x128 .f32), FVec F S8x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v833 v905 v920 v922 v923
    let ⟨v999, v1000⟩ : Σ' (v999 : FVec F S8x128 .f32), Vec F S1x8x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v861 v941 v943 v948 v965
    let ⟨v1004, v1007, v1037, v1038⟩ : Σ' (v1004 : FVec F S8x128 .f32) (v1007 : FVec F S8x128 .f32) (v1037 : FVec F S8x128 .f32), Vec F S1x8x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v837 v867 v940 v946 v999 v1000
    let ⟨v1065, v1068, v1070, v1075⟩ : Σ' (v1065 : FVec F S8x128 .f32) (v1068 : FVec F S8x128 .f32) (v1070 : FVec F S8x128 .f32), FVec F S8x16 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 v841 v940 v941 v1004 v1007 v1037 v1038
    let ⟨v1108, v1110⟩ : Σ' (v1108 : FVec F S4x16 .f32), FVec F S4x16 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v873 v941 v1065 v1070 v1075
    let ⟨v1126, v1129, v1131, v1148⟩ : Σ' (v1126 : FVec F S8x128 .f32) (v1129 : FVec F S8x128 .f32) (v1131 : FVec F S8x128 .f32), FVec F S8x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v845 v879 v940 v1068 v1108 v1110
    let v1187 : FVec F S8x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 v861 v941 v1126 v1129 v1131 v1148
    let ⟨v1211, v1213, v1216, v1218, v1223, v1224⟩ : Σ' (v1211 : FVec F S8x128 .f32) (v1213 : FVec F S8x128 .f32) (v1216 : FVec F S8x128 .f32) (v1218 : FVec F S8x128 .f32) (v1223 : FVec F S8x16 .f32), IVec S8x128 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v845 v846 v867 v873 v879 v940 v1129 v1187
    let v1259 : FVec F S8x16 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 v885 v1211 v1213 v1218 v1223 v1224
    let ⟨v1274, v1277, v1279, v1296⟩ : Σ' (v1274 : FVec F S8x128 .f32) (v1277 : FVec F S8x128 .f32) (v1279 : FVec F S8x128 .f32), FVec F S8x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 v850 v891 v940 v1216 v1259
    let v1335 : FVec F S8x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 v885 v1211 v1274 v1277 v1279 v1296
    let ⟨v1349, v1351, v1354, v1356, v1373, v1376⟩ : Σ' (v1349 : FVec F S8x128 .f32) (v1351 : FVec F S8x128 .f32) (v1354 : FVec F S8x128 .f32) (v1356 : FVec F S8x128 .f32) (v1373 : FVec F S8x128 .f32), FVec F S1x8x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 v850 v851 v891 v897 v940 v1277 v1335
    let v1411 : FVec F S8x128 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 v940 v1349 v1351 v1356 v1373 v1376
    let ⟨v1415, v1449⟩ : Σ' (v1415 : FVec F S8x128 .f32), FVec F S8x128 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 v855 v903 v1349 v1354 v1411
    let v1485 : FVec F S8x1 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 v855 v897 v903 v1415 v1449
    let v1490 : Vec F S8x128 .f32 ← Prog.lift (.load arg15 (Rect.unit (s := S8x128) ![0, 0] S8x128.size inb_S8x128_S8x128_0_0).toLoadRect (View.loadsAt_vmem h_S8x128))
    Prog.lift (.store arg15 (Rect.unit (s := S8x128) ![0, 0] S8x128.size inb_S8x128_S8x128_0_0) (k0_pay122 v1415 v1485) Finset.univ (View.stores_vmem_bits_univ h_S8x128 rfl) (.inl rfl))
    pure ⟨⟩
  else do
    pure ⟨⟩
  κ

/-- The loads between the gates and the first part of the head's own work. -/
def tail19 (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    Prog (TpuEff nD τ sig (Elt F) Λ₀ .tc) (Σ' (arg0 : BitVec 32) (v5 : IVec S128x128 1) (v31 : FVec F S256x256 .bf16), FVec F S256x256 .f32) := do
  let arg0 : BitVec 32 := BitVec.ofNat 32 (i 0).val
  let v6 : Vec F S1x1x256x256 .fp8e4m3 ← Prog.lift (.load arg2 (Rect.unit (s := S1x1x1024x256) ![0, 0, 0, 0] S1x1x256x256.size inb_S1x1x1024x256_S1x1x256x256_0_0_0_0).toLoadRect (View.loadsAt_vmem h_S1x1x256x256))
  let v9 : Vec F S1x1x1x256 .f32 ← Prog.lift (.load arg4 (Rect.unit (s := S1x1x16x256) ![0, 0, 0, 0] S1x1x1x256.size inb_S1x1x16x256_S1x1x1x256_0_0_0_0).toLoadRect (View.loadsAt_vmem h_S1x1x1x256))
  let v14 : Vec F S1x1x1x256 .f32 ← Prog.lift (.load arg4 (Rect.unit (s := S1x1x16x256) ![0, 0, 1, 0] S1x1x1x256.size inb_S1x1x16x256_S1x1x1x256_0_0_1_0).toLoadRect (View.loadsAt_vmem h_S1x1x1x256))
  let v19 : Vec F S1x1x1x256 .f32 ← Prog.lift (.load arg4 (Rect.unit (s := S1x1x16x256) ![0, 0, 2, 0] S1x1x1x256.size inb_S1x1x16x256_S1x1x1x256_0_0_2_0).toLoadRect (View.loadsAt_vmem h_S1x1x1x256))
  let v24 : Vec F S1x1x1x256 .f32 ← Prog.lift (.load arg4 (Rect.unit (s := S1x1x16x256) ![0, 0, 3, 0] S1x1x1x256.size inb_S1x1x16x256_S1x1x1x256_0_0_3_0).toLoadRect (View.loadsAt_vmem h_S1x1x1x256))
  pure ⟨arg0, k0_pay123, k0_pay124 v6 v9 v14 v19 v24, k0_pay125 v6 v9 v14 v19 v24⟩

/-- The head's own work up to the rows of the normaliser, the gates left out. -/
def rest36 (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    Prog (TpuEff nD τ sig (Elt F) Λ₀ .tc) (Σ' (arg0 : BitVec 32) (v748 : FVec F S1x256 .f32) (v768 : BitVec 32) (v771 : BitVec 32) (v776 : BitVec 1), BitVec 32) := do
  let ⟨arg0, v5, v31, v32⟩ : Σ' (arg0 : BitVec 32) (v5 : IVec S128x128 1) (v31 : FVec F S256x256 .bf16), FVec F S256x256 .f32 ← tail19 i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v40, v46, v71⟩ : Σ' (v40 : FVec F S256x128 .f32) (v46 : FVec F S256x256 .bf16), FVec F S256x256 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v32
  let ⟨v72, v82, v88, v103, v104, v107, v110, v111, v116⟩ : Σ' (v72 : FVec F S256x256 .bf16) (v82 : FVec F S256x128 .f32) (v88 : FVec F S256x256 .bf16) (v103 : FVec F S256x128 .f32) (v104 : FVec F S256x256 .f32) (v107 : FVec F S1x256 .f32) (v110 : FVec F S1x256 .f32) (v111 : FVec F S128x128 .f32), FVec F S128x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v31 v40 v71
  let ⟨v156, v159, v162, v165⟩ : Σ' (v156 : FVec F S256x512 .f32) (v159 : FVec F S256x1 .f32) (v162 : FVec F S1x256 .f32), FVec F S128x128 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v103 v104 v107 v110 v111 v116
  let ⟨v184, v196, v197, v200, v203, v204, v208⟩ : Σ' (v184 : FVec F S256x256 .bf16) (v196 : FVec F S256x128 .f32) (v197 : FVec F S256x256 .f32) (v200 : FVec F S1x256 .f32) (v203 : FVec F S1x256 .f32) (v204 : FVec F S128x128 .f32), FVec F S128x128 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v31 v156 v159 v162 v165
  let ⟨v222, v246, v252, v253, v256, v259, v260, v262, v263⟩ : Σ' (v222 : FVec F S128x128 .f32) (v246 : FVec F S128x128 .f32) (v252 : FVec F S256x256 .bf16) (v253 : FVec F S256x256 .f32) (v256 : FVec F S1x256 .f32) (v259 : FVec F S1x256 .f32) (v260 : FVec F S128x128 .f32) (v262 : FVec F S128x128 .f32), FVec F S128x128 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v72 v184 v196 v197 v200 v203 v204 v208
  let ⟨v308, v311⟩ : Σ' (v308 : FVec F S256x512 .f32), FVec F S256x1 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v196 v222 v246 v252 v253 v256 v259 v260 v262 v263
  let ⟨v337, v348, v352, v355, v358⟩ : Σ' (v337 : FVec F S256x512 .f32) (v348 : FVec F S1x256 .f32) (v352 : FVec F S256x512 .bf16) (v355 : FVec F S256x512 .bf16), FVec F S256x512 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 v46 v82 v88 v308 v311
  let ⟨v390, v391⟩ : Σ' (v390 : FVec F S256x256 .bf16), FVec F S256x256 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 v352 v355 v358
  let ⟨v399, v405, v408, v420, v421, v424, v427, v434, v435⟩ : Σ' (v399 : FVec F S256x128 .f32) (v405 : FVec F S256x256 .bf16) (v408 : FVec F S256x256 .bf16) (v420 : FVec F S256x128 .f32) (v421 : FVec F S256x256 .f32) (v424 : FVec F S1x256 .f32) (v427 : FVec F S1x256 .f32) (v434 : FVec F S128x128 .f32), FVec F S128x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v390 v391
  let ⟨v470, v473, v485, v486⟩ : Σ' (v470 : FVec F S256x128 .f32) (v473 : FVec F S256x512 .f32) (v485 : FVec F S256x128 .f32), FVec F S256x768 .bf16 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v408 v420 v421 v424 v427 v434 v435
  let ⟨v527, v528⟩ : Σ' (v527 : FVec F S256x512 .f32), FVec F S256 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v348 v399 v405 v408 v470 v473 v485 v486
  let ⟨v545, v548, v567, v569⟩ : Σ' (v545 : FVec F S256x512 .f32) (v548 : FVec F S1x256 .f32) (v567 : FVec F S256x256 .bf16), FVec F S1x256 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v337 v348 v527 v528
  let ⟨v590, v599, v605, v608⟩ : Σ' (v590 : FVec F S256x256 .bf16) (v599 : FVec F S256x128 .f32) (v605 : FVec F S256x256 .bf16), FVec F S256x256 .bf16 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v567 v569
  let ⟨v627, v636, v642, v649, v653, v660⟩ : Σ' (v627 : FVec F S1x256 .f32) (v636 : FVec F S128x128 .f32) (v642 : FVec F S128x256 .bf16) (v649 : FVec F S128x128 .f32) (v653 : FVec F S128x128 .bf16), FVec F S128x128 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v590 v608
  let ⟨v691, v702, v705, v706⟩ : Σ' (v691 : FVec F S256x512 .f32) (v702 : FVec F S256x1 .f32) (v705 : FVec F S1x256 .f32), FVec F S1x128 .f32 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v548 v608 v627 v636 v642 v649 v653 v660
  let ⟨v745, v748⟩ : Σ' (v745 : FVec F S256x512 .f32), FVec F S1x256 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v545 v548 v599 v605 v691 v702 v705 v706
  let v749 : Vec F S1x1x256x512 .f32 ← Prog.lift (.load arg10 (Rect.unit (s := S1x1x256x512) ![0, 0, 0, 0] S1x1x256x512.size inb_S1x1x256x512_S1x1x256x512_0_0_0_0).toLoadRect (View.loadsAt_vmem h_S1x1x256x512))
  Prog.lift (.store arg10 (Rect.unit (s := S1x1x256x512) ![0, 0, 0, 0] S1x1x256x512.size inb_S1x1x256x512_S1x1x256x512_0_0_0_0) (k0_pay240 v745) Finset.univ (View.stores_vmem_bits_univ h_S1x1x256x512 rfl) (.inl rfl))
  let v752 : BitVec 32 := Scalar.divsi arg0 4#32
  let v753 : BitVec 1 := Scalar.cmpi .sgt arg0 0#32
  let v754 : BitVec 32 := Scalar.extui v753
  let v755 : BitVec 1 := Scalar.cmpi .slt arg0 0#32
  let v756 : BitVec 32 := Scalar.extui v755
  let v757 : BitVec 32 := Scalar.subi v754 v756
  let v758 : BitVec 1 := Scalar.cmpi .sgt 4#32 0#32
  let v759 : BitVec 32 := Scalar.extui v758
  let v760 : BitVec 1 := Scalar.cmpi .slt 4#32 0#32
  let v761 : BitVec 32 := Scalar.extui v760
  let v762 : BitVec 32 := Scalar.subi v759 v761
  let v763 : BitVec 1 := Scalar.cmpi .ne v757 v762
  let v764 : BitVec 32 := Scalar.remsi arg0 4#32
  let v765 : BitVec 1 := Scalar.cmpi .ne v764 0#32
  let v766 : BitVec 1 := Scalar.andi v763 v765
  let v767 : BitVec 32 := Scalar.subi v752 1#32
  let v768 : BitVec 32 := Scalar.select v766 v767 v752
  let v769 : BitVec 1 := Scalar.cmpi .eq 4#32 0#32
  let v770 : BitVec 32 := Scalar.select v769 1#32 4#32
  let v771 : BitVec 32 := Scalar.remsi arg0 v770
  let v772 : BitVec 1 := Scalar.cmpi .ne v771 0#32
  let v773 : BitVec 1 := Scalar.cmpi .slt v771 0#32
  let v774 : BitVec 1 := Scalar.cmpi .slt v770 0#32
  let v775 : BitVec 1 := Scalar.xori v773 v774
  let v776 : BitVec 1 := Scalar.andi v775 v772
  let v777 : BitVec 32 := Scalar.addi v771 v770
  pure ⟨arg0, v748, v768, v771, v776, v777⟩

/-- The last region of the body (the running maxima's results, at the first head only). -/
def mEnd (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    Prog (TpuEff nD τ sig (Elt F) Λ₀ .tc) PUnit := do
  if k0_h2 : k0_cond2 i = 1#1 then do
    let v787 : Vec F S4x128 .f32 ← Prog.lift (.load arg15 (Rect.unit (s := S8x128) ![0, 0] S4x128.size inb_S8x128_S4x128_0_0).toLoadRect (View.loadsAt_vmem h_S4x128))
    let v790 : Vec F S1x4 .f32 ← Prog.lift (.load arg12 (Rect.unit (s := S2x4) ![0, 0] S1x4.size inb_S2x4_S1x4_0_0).toLoadRect (View.loadsAt_vmem h_S1x4))
    Prog.lift (.store arg12 (Rect.unit (s := S2x4) ![0, 0] S1x4.size inb_S2x4_S1x4_0_0) (k0_pay2 v787) Finset.univ (View.stores_vmem_bits_univ h_S1x4 rfl) (.inl rfl))
    let v791 : Vec F S4x128 .f32 ← Prog.lift (.load arg15 (Rect.unit (s := S8x128) ![4, 0] S4x128.size inb_S8x128_S4x128_4_0).toLoadRect (View.loadsAt_vmem h_S4x128))
    let v794 : Vec F S1x4 .f32 ← Prog.lift (.load arg12 (Rect.unit (s := S2x4) ![1, 0] S1x4.size inb_S2x4_S1x4_1_0).toLoadRect (View.loadsAt_vmem h_S1x4))
    Prog.lift (.store arg12 (Rect.unit (s := S2x4) ![1, 0] S1x4.size inb_S2x4_S1x4_1_0) (k0_pay3 v791) Finset.univ (View.stores_vmem_bits_univ h_S1x4 rfl) (.inl rfl))
    pure ⟨⟩
  else do
    pure ⟨⟩
  pure ⟨⟩

/-- The body between its two guarded regions, followed by the rest `κ` of the program. -/
def restK (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) {α : Type} (κ : Prog (TpuEff nD τ sig (Elt F) Λ₀ .tc) α) :
    Prog (TpuEff nD τ sig (Elt F) Λ₀ .tc) α := do
  let ⟨arg0, v748, v768, v771, v776, v777⟩ : Σ' (arg0 : BitVec 32) (v748 : FVec F S1x256 .f32) (v768 : BitVec 32) (v771 : BitVec 32) (v776 : BitVec 1), BitVec 32 ← rest36 i arg1 harg1 arg2 harg2 arg3 harg3 arg4 harg4 arg5 harg5 arg6 harg6 arg7 harg7 arg8 harg8 arg9 harg9 arg10 harg10 arg11 harg11 arg12 harg12 arg13 harg13 arg14 harg14 arg15 harg15
  let v781 : Vec F S1x1x256 .f32 ← Prog.lift (.load arg11 (Rect.unit (s := S2x4x256) (k0_off23 i) S1x1x256.size (k0_off23_inb i)).toLoadRect (View.loadsAt_vmem h_S1x1x256))
  Prog.lift (.store arg11 (Rect.unit (s := S2x4x256) (k0_off23 i) S1x1x256.size (k0_off23_inb i)) (k0_pay1 v748) Finset.univ (View.stores_vmem_bits_univ h_S1x1x256 rfl) (.inl rfl))
  κ

/-- The gates' stretch at a later head: nothing is run. -/
theorem gatesSkip (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : ¬ (Scalar.cmpi .ne (Scalar.extui (Scalar.cmpi .eq (BitVec.ofNat 32 (i 0).val) 0#32)) 0#32) = 1#1)
    {α : Type} (κ : Prog (TpuEff nD τ sig (Elt F) Λ₀ .tc) α) :
    gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 κ = κ := by
  unfold gatesK
  simp only []
  rw [dif_neg hc]

/-- The last stretch at a later head: nothing is run. -/
theorem mSkip (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : ¬ k0_cond2 i = 1#1) :
    mEnd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = pure ⟨⟩ := by
  unfold mEnd
  rw [dif_neg hc]

end Cert.KernelIdeal.Run
-- ==== Proof.KI.RunG.lean ====
module

public import proofs.«01_k».proof.Proof.KI.Def

/-!
# The kernel body, run in three stretches

The body of the kernel is three stretches: the gates (a region the first head alone runs), the head's own
work, and the results of the running maxima (a region the first head alone runs).  Each stretch is a program
with the rest of the body as a variable, and each is run once: what it stores is found by the run.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
set_option sl_exec.resultNames true in
/-- The gates' stretch at the first head: the two rows of gate inputs are read, the scratch rows and the final
maxima are stored, as the pieces found by the run. -/
def gatesRun (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : (Scalar.cmpi .ne (Scalar.extui (Scalar.cmpi .eq (BitVec.ofNat 32 (i 0).val) 0#32)) 0#32) = 1#1)
    (x4 : Vec F S2x4x16 .f32) (x5 : Vec F S2x4x16 .f32) (x6 : Vec F S2x4x1024 .f32) (x7 : Vec F S2x4x1024 .f32) :
    Σ' (LS0 : List (View.Piece (Elt F) S6x8x1024 .f32)), { LS2 : List (View.Piece (Elt F) S8x128 .f32) //
      ∀ (E : Set ℕ) {α : Type} (κ : Prog (TpuEff nD τ sig (Elt F) Λ₀ .tc) α) (Q : α → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg13 fullShare d) ∗ (∃ d, owns (c : Thread nD τ) arg15 fullShare d)
            ∗ (iprop(owns (c : Thread nD τ) arg5 fullShare x4 ∗ owns (c : Thread nD τ) arg6 fullShare x5 ∗ owns (c : Thread nD τ) arg7 fullShare x6 ∗ owns (c : Thread nD τ) arg8 fullShare x7 ∗ (∃ f, arg13.view.loc (c : Thread nD τ) ↦[arg13.view.set]{fullShare} arg13.view.writes (Elt F) f LS0) ∗ (∃ f, arg15.view.loc (c : Thread nD τ) ↦[arg15.view.set]{fullShare} arg15.view.writes (Elt F) f LS2)) -∗ wp frame (wpE (defs₀ (F := F)) Variants.none c none) E κ Q))
          ⊢ wp frame (wpE (defs₀ (F := F)) Variants.none c none) E (gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q } := by
  refine ⟨?_, ?_, fun E α κ Q => ?run⟩
  case run =>
    unfold gatesK

    unfold owns
    iintro ⟨⟨%f4, %hf4, H4⟩, ⟨%f5, %hf5, H5⟩, ⟨%f6, %hf6, H6⟩, ⟨%f7, %hf7, H7⟩, ⟨%ds0, %fs0, -, HS0⟩, ⟨%ds2, %fs2, -, HS2⟩, Hk⟩
    obtain rfl := harg5.eq_unread hf4; obtain rfl := harg6.eq_unread hf5; obtain rfl := harg7.eq_unread hf6; obtain rfl := harg8.eq_unread hf7
    sl_exec (disch := first | sl_exact hc)
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexists _; iexact HS2

set_option maxHeartbeats 1000000 in
set_option sl_exec.resultNames true in
/-- The last stretch at the first head: the two rows of the result of the running maxima are stored. -/
def mRun (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : k0_cond2 i = 1#1) (y : Vec F S8x128 .f32) :
    { L11 : List (View.Piece (Elt F) S2x4 .f32) //
      ∀ (E : Set ℕ) (Q : PUnit → sProp 𝕄),
        iprop((∃ d, owns (c : Thread nD τ) arg12 fullShare d) ∗ owns (c : Thread nD τ) arg15 fullShare y
            ∗ (iprop((∃ f, arg12.view.loc (c : Thread nD τ) ↦[arg12.view.set]{fullShare} arg12.view.writes (Elt F) f L11) ∗ owns (c : Thread nD τ) arg15 fullShare y) -∗ Q ⟨⟩))
          ⊢ wp frame (wpE (defs₀ (F := F)) Variants.none c none) E (mEnd i arg1 harg1 arg2 harg2 arg3 harg3 arg4 harg4 arg5 harg5 arg6 harg6 arg7 harg7 arg8 harg8 arg9 harg9 arg10 harg10 arg11 harg11 arg12 harg12 arg13 harg13 arg14 harg14 arg15 harg15) Q } := by
  refine ⟨?_, fun E Q => ?run⟩
  case run =>
    unfold mEnd
    unfold owns
    iintro ⟨⟨%d11, %f11, -, H11⟩, ⟨%fs2, %hfs2, HS2⟩, Hk⟩
    obtain rfl := harg15.eq_unread hfs2
    sl_exec (disch := first | sl_exact hc)
    sl_step
    iapply Hk
    isplitl [H11]
    · iexists _; iexact H11
    iexists _; isplitr; · ipureintro; exact harg15.read_unread _
    iexact HS2

end Cert.KernelIdeal.Run
-- ==== Proof.KI.RunR.lean ====
module

public import proofs.«01_k».proof.Proof.KI.Def

/-!
# The kernel body, run in three stretches

The body of the kernel is three stretches: the gates (a region the first head alone runs), the head's own
work, and the results of the running maxima (a region the first head alone runs).  Each stretch is a program
with the rest of the body as a variable, and each is run once: what it stores is found by the run.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
set_option sl_exec.resultNames true in
/-- The head's own work: from the head's blocks, the scales and the gate rows held in the scratch, the rows of
the output, of the matrix state and of the normaliser are stored, as the pieces found by the run. -/
def restRun (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (x0 : Vec F S1x1x1024x256 .fp8e4m3) (x1 : Vec F S1x1x1024x256 .fp8e4m3) (x2 : Vec F S1x1x1024x512 .fp8e4m3) (x3 : Vec F S1x1x16x256 .f32)
    (xs0 : Vec F S6x8x1024 .f32) :
    Σ' (L8 : List (View.Piece (Elt F) S1x1x1024x512 .bf16)), Σ' (L9 : List (View.Piece (Elt F) S1x1x256x512 .f32)),
      Σ' (L10 : List (View.Piece (Elt F) S2x4x256 .f32)), { LT1 : List (View.Piece (Elt F) S768x512 .bf16) //
      ∀ (x10 : Vec F S2x4x256 .f32) (E : Set ℕ) {α : Type} (κ : Prog (TpuEff nD τ sig (Elt F) Λ₀ .tc) α) (Q : α → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ owns (c : Thread nD τ) arg11 fullShare x10 ∗ owns (c : Thread nD τ) arg13 fullShare xs0 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)
                ∗ (arg11.view.loc (c : Thread nD τ) ↦[arg11.view.set]{fullShare} arg11.view.writes (Elt F) (harg11.unread x10) L10)
                ∗ owns (c : Thread nD τ) arg13 fullShare xs0 ∗ (∃ f, arg14.view.loc (c : Thread nD τ) ↦[arg14.view.set]{fullShare} arg14.view.writes (Elt F) f LT1)) -∗ wp frame (wpE (defs₀ (F := F)) Variants.none c none) E κ Q))
          ⊢ wp frame (wpE (defs₀ (F := F)) Variants.none c none) E (restK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q } := by
  refine ⟨?_, ?_, ?_, ?_, fun x10 E α κ Q => ?run⟩
  case run =>
    unfold restK rest36 tail19

    unfold owns
    iintro ⟨⟨%f0, %hf0, H0⟩, ⟨%f1, %hf1, H1⟩, ⟨%f2, %hf2, H2⟩, ⟨%f3, %hf3, H3⟩, ⟨%d8, %f8, -, H8⟩, ⟨%d9, %f9, -, H9⟩, ⟨%f10, %hf10, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg11.eq_unread hf10; obtain rfl := harg13.eq_unread hfs0
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H8]
    · iexists _; iexact H8
    isplitl [H9]
    · iexists _; iexact H9
    isplitl [H10]
    · iexact H10
    isplitl [HS0]
    · iexists _; isplitr; · ipureintro; exact harg13.read_unread _
      iexact HS0
    iexists _; iexact HS1

end Cert.KernelIdeal.Run
-- ==== Proof.KI.Body.lean ====
module

public import proofs.«01_k».proof.Proof.KI.RunG
public import proofs.«01_k».proof.Proof.KI.RunR

/-!
# The three stretches put together

The body is the gates' stretch followed by the head's own work and the last stretch.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxRecDepth 65536 in
/-- The part that holds the gates' region, as the region followed by the loads after it. -/
theorem part19_eq (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 (tail19 i arg1 harg1 arg2 harg2 arg3 harg3 arg4 harg4 arg5 harg5 arg6 harg6 arg7 harg7 arg8 harg8 arg9 harg9 arg10 harg10 arg11 harg11 arg12 harg12 arg13 harg13 arg14 harg14 arg15 harg15) := rfl

set_option maxRecDepth 65536 in
set_option maxHeartbeats 1000000 in
/-- The body is the gates' stretch followed by the rest: what is asked after the first stretch is the same on both sides. -/
theorem body_split (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (E : Set ℕ) (Q : PUnit → sProp 𝕄) :
    ∃ Q', wp frame (wpE (defs₀ (F := F)) Variants.none c none) E (cc0_mlstm_chunkwise i arg1 harg1 arg2 harg2 arg3 harg3 arg4 harg4 arg5 harg5 arg6 harg6 arg7 harg7 arg8 harg8 arg9 harg9 arg10 harg10 arg11 harg11 arg12 harg12 arg13 harg13 arg14 harg14 arg15 harg15) Q = wp frame (wpE (defs₀ (F := F)) Variants.none c none) E (gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 (tail19 i arg1 harg1 arg2 harg2 arg3 harg3 arg4 harg4 arg5 harg5 arg6 harg6 arg7 harg7 arg8 harg8 arg9 harg9 arg10 harg10 arg11 harg11 arg12 harg12 arg13 harg13 arg14 harg14 arg15 harg15)) Q'
      ∧ wp frame (wpE (defs₀ (F := F)) Variants.none c none) E (restK i arg1 harg1 arg2 harg2 arg3 harg3 arg4 harg4 arg5 harg5 arg6 harg6 arg7 harg7 arg8 harg8 arg9 harg9 arg10 harg10 arg11 harg11 arg12 harg12 arg13 harg13 arg14 harg14 arg15 harg15 (mEnd i arg1 harg1 arg2 harg2 arg3 harg3 arg4 harg4 arg5 harg5 arg6 harg6 arg7 harg7 arg8 harg8 arg9 harg9 arg10 harg10 arg11 harg11 arg12 harg12 arg13 harg13 arg14 harg14 arg15 harg15)) Q = wp frame (wpE (defs₀ (F := F)) Variants.none c none) E (tail19 i arg1 harg1 arg2 harg2 arg3 harg3 arg4 harg4 arg5 harg5 arg6 harg6 arg7 harg7 arg8 harg8 arg9 harg9 arg10 harg10 arg11 harg11 arg12 harg12 arg13 harg13 arg14 harg14 arg15 harg15) Q' := by
  refine ⟨?w, ?a, ?b⟩
  case a =>
    rw [cc0_mlstm_chunkwise_eq_skeleton]; unfold cc0_mlstm_chunkwise_skel
    rw [wp_bind, k0_part36_eq_skeleton]; unfold k0_part36_skel
    rw [wp_bind, part19_eq]
  case b =>
    unfold restK rest36
    rw [wp_bind, wp_bind]
    rfl

end Cert.KernelIdeal.Run
-- ==== Proof.KI.Spec.lean ====
module

public import proofs.«01_k».proof.Proof.KI.Body

/-!
# The three stretches over the contents they leave

The pieces each stretch stores cover its buffers, so what a buffer holds afterwards is those pieces read back.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the gates' region: the head is the first. -/
abbrev cond0 (i : grid0.Coords) : Prop := (Scalar.cmpi .ne (Scalar.extui (Scalar.cmpi .eq (BitVec.ofNat 32 (i 0).val) 0#32)) 0#32) = 1#1

/-- The first coordinate of a point is its number. -/
theorem coords0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

/-- It holds at the first point only. -/
theorem hcond0 : ∀ t : Fin cfg0.N, cond0 (grid0.coords t) ↔ t.val = 0 :=
  (fun t => by
    have ht : t.val < 8 := Nat.lt_of_lt_of_eq t.isLt N_0
    simp only [cond0, coords0]
    word_cmp
   : ∀ t : Fin grid0.N, cond0 (grid0.coords t) ↔ t.val = 0)

/-- The condition of the last region is the same. -/
theorem hcond2 (t : Fin cfg0.N) : k0_cond2 (grid0.coords t) = 1#1 ↔ t.val = 0 := hcond0 t

/-- Staging buffers and scratch through which contents are stated (the choice does not matter). -/
abbrev VO8 : View sig .tc .vmem S1x1x1024x512 .bf16 := (Memref.whole cc0_stg8_0 : Memref sig .tc .vmem S1x1x1024x512 .bf16).view
abbrev VO9 : View sig .tc .vmem S1x1x256x512 .f32 := (Memref.whole cc0_stg9_0 : Memref sig .tc .vmem S1x1x256x512 .f32).view
abbrev VO11 : View sig .tc .vmem S2x4 .f32 := (Memref.whole cc0_stg11_0 : Memref sig .tc .vmem S2x4 .f32).view
abbrev scM0 : Memref sig .tc .vmem S6x8x1024 .f32 := Memref.whole cc0_scratch0
abbrev scM1 : Memref sig .tc .vmem S768x512 .bf16 := Memref.whole cc0_scratch1
abbrev scM2 : Memref sig .tc .vmem S8x128 .f32 := Memref.whole cc0_scratch2
abbrev VS0 : View sig .tc .vmem S6x8x1024 .f32 := scM0.view
abbrev VS2 : View sig .tc .vmem S8x128 .f32 := scM2.view

/-! Each list of pieces covers its buffer. -/

theorem coverR (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) (y : S6x8x1024.Idx) :
    ∃ pc ∈ (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).1, y ∈ pc.1.set :=
  View.cover_of_tiledL (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).1 S1x8x128.size (by sl_kernel_rfl) y

theorem coverM (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) (y : S8x128.Idx) :
    ∃ pc ∈ (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.1, y ∈ pc.1.set :=
  View.cover_of_tiledL (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.1 S8x128.size (by sl_kernel_rfl) y

theorem cover8 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) (y : S1x1x1024x512.Idx) :
    ∃ pc ∈ (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).1, y ∈ pc.1.set :=
  View.cover_of_tiledL (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).1 S1x1x256x512.size (by sl_kernel_rfl) y

theorem cover9 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) (y : S1x1x256x512.Idx) :
    ∃ pc ∈ (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.1, y ∈ pc.1.set :=
  View.cover_of_tiledL (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.1 S1x1x256x512.size (by sl_kernel_rfl) y

theorem cover11 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec F S8x128 .f32) (y : S2x4.Idx) :
    ∃ pc ∈ (mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).1, y ∈ pc.1.set :=
  View.cover_of_tiledL (mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).1 S1x4.size (by sl_kernel_rfl) y

/-- The gate rows the first head leaves in the scratch. -/
def gRows (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) : Vec F S6x8x1024 .f32 :=
  VS0.read (Elt F) (VS0.writes (Elt F) VS0.junk (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).1)

/-- The final running maxima the first head leaves in the scratch. -/
def gMfin (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) : Vec F S8x128 .f32 :=
  VS2.read (Elt F) (VS2.writes (Elt F) VS2.junk (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.1)

/-- What a head leaves as its rows of the output. -/
def hOut (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) : Vec F S1x1x1024x512 .bf16 :=
  VO8.read (Elt F) (VO8.writes (Elt F) VO8.junk (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).1)

/-- What a head leaves as its matrix state. -/
def cOut (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) : Vec F S1x1x256x512 .f32 :=
  VO9.read (Elt F) (VO9.writes (Elt F) VO9.junk (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.1)

/-- What the first head leaves as the result of the running maxima. -/
def mOut (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec F S8x128 .f32) : Vec F S2x4 .f32 :=
  VO11.read (Elt F) (VO11.writes (Elt F) VO11.junk (mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).1)

/-- What a head leaves as its row of the normaliser. -/
def nPay (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) : Vec F S1x1x256 .f32 :=
  k0_pay1 (restRun.sl.v748 c i arg2 harg2 arg4 harg4 arg13 harg13 x1 x3 xs0)

theorem restRun_L10 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) :
    (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.2.1 = [⟨Rect.unit (s := S2x4x256) (k0_off23 i) S1x1x256.size (k0_off23_inb i), nPay c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0⟩] := rfl

/-- The gates' stretch at the first head, over the contents it leaves. -/
theorem gates_spec (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) (E : Set ℕ) {α : Type} (κ : Prog (TpuEff nD τ sig (Elt F) Λ₀ .tc) α) (Q : α → sProp 𝕄) :
    iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg13 fullShare d) ∗ (∃ d, owns (c : Thread nD τ) arg15 fullShare d) ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg13 fullShare (gRows c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7) ∗ owns (c : Thread nD τ) arg15 fullShare (gMfin c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7)) -∗ wp frame (wpE (defs₀ (F := F)) Variants.none c none) E κ Q))
      ⊢ wp frame (wpE (defs₀ (F := F)) Variants.none c none) E (gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q := by
  unfold gRows gMfin
  iintro ⟨H4, H5, H6, H7, HS0, HS2, Hk⟩
  iapply ((gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.2 E κ Q)
  isplitl [H4]; · iexact H4
  isplitl [H5]; · iexact H5
  isplitl [H6]; · iexact H6
  isplitl [H7]; · iexact H7
  isplitl [HS0]; · iexact HS0
  isplitl [HS2]; · iexact HS2
  iintro ⟨H4, H5, H6, H7, ⟨%e0, HS0⟩, ⟨%e2, HS2⟩⟩
  iapply Hk
  isplitl [H4]; · iexact H4
  isplitl [H5]; · iexact H5
  isplitl [H6]; · iexact H6
  isplitl [H7]; · iexact H7
  isplitl [HS0]
  · unfold owns; iexists _; isplitr
    swap; · iexact HS0
    ipureintro; exact View.read_writes_of_cover _ _ _ _ _ (coverR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7)
  unfold owns; iexists _; isplitr
  swap; · iexact HS2
  ipureintro; exact View.read_writes_of_cover _ _ _ _ _ (coverM c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7)

/-- The head's own work, over the contents it leaves. -/
theorem rest_spec (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) (x10 : Vec F S2x4x256 .f32) (E : Set ℕ) {α : Type} (κ : Prog (TpuEff nD τ sig (Elt F) Λ₀ .tc) α) (Q : α → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ owns (c : Thread nD τ) arg11 fullShare x10 ∗ owns (c : Thread nD τ) arg13 fullShare xs0 ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (hOut c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0) ∗ owns (c : Thread nD τ) arg10 fullShare (cOut c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0) ∗ owns (c : Thread nD τ) arg11 fullShare (arg11.view.read (Elt F) (arg11.view.writes (Elt F) (harg11.unread x10) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.2.1)) ∗ owns (c : Thread nD τ) arg13 fullShare xs0 ∗ (∃ d, owns (c : Thread nD τ) arg14 fullShare d)) -∗ wp frame (wpE (defs₀ (F := F)) Variants.none c none) E κ Q))
      ⊢ wp frame (wpE (defs₀ (F := F)) Variants.none c none) E (restK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q := by
  unfold hOut cOut
  iintro ⟨H0, H1, H2, H3, H8, H9, H10, HS0, HS1, Hk⟩
  iapply ((restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.2.2.2 x10 E κ Q)
  isplitl [H0]; · iexact H0
  isplitl [H1]; · iexact H1
  isplitl [H2]; · iexact H2
  isplitl [H3]; · iexact H3
  isplitl [H8]; · iexact H8
  isplitl [H9]; · iexact H9
  isplitl [H10]; · iexact H10
  isplitl [HS0]; · iexact HS0
  isplitl [HS1]; · iexact HS1
  iintro ⟨H0, H1, H2, H3, ⟨%e8, H8⟩, ⟨%e9, H9⟩, H10, HS0, ⟨%e1, HS1⟩⟩
  iapply Hk
  isplitl [H0]; · iexact H0
  isplitl [H1]; · iexact H1
  isplitl [H2]; · iexact H2
  isplitl [H3]; · iexact H3
  isplitl [H8]
  · unfold owns; iexists _; isplitr
    swap; · iexact H8
    ipureintro; exact View.read_writes_of_cover _ _ _ _ _ (cover8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0)
  isplitl [H9]
  · unfold owns; iexists _; isplitr
    swap; · iexact H9
    ipureintro; exact View.read_writes_of_cover _ _ _ _ _ (cover9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0)
  isplitl [H10]
  · unfold owns; iexists _; isplitr
    swap; · iexact H10
    ipureintro; rfl
  isplitl [HS0]; · iexact HS0
  iexists _; unfold owns; iexists _; isplitr
  swap; · iexact HS1
  ipureintro; rfl

/-- The last stretch at the first head, over the contents it leaves. -/
theorem m_spec (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec F S8x128 .f32) (E : Set ℕ) (Q : PUnit → sProp 𝕄) :
    iprop((∃ d, owns (c : Thread nD τ) arg12 fullShare d) ∗ owns (c : Thread nD τ) arg15 fullShare y0 ∗ (iprop(owns (c : Thread nD τ) arg12 fullShare (mOut c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0) ∗ owns (c : Thread nD τ) arg15 fullShare y0) -∗ Q ⟨⟩))
      ⊢ wp frame (wpE (defs₀ (F := F)) Variants.none c none) E (mEnd i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  unfold mOut
  iintro ⟨H11, HS2, Hk⟩
  iapply ((mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).2 E Q)
  isplitl [H11]; · iexact H11
  isplitl [HS2]; · iexact HS2
  iintro ⟨⟨%e, H11⟩, HS2⟩
  iapply Hk
  isplitl [H11]
  · unfold owns; iexists _; isplitr
    swap; · iexact H11
    ipureintro; exact View.read_writes_of_cover _ _ _ _ _ (cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0)
  iexact HS2

end Cert.KernelIdeal.Run
-- ==== Proof.KI.Pipe.lean ====
module

public import proofs.«01_k».proof.Proof.KI.Spec
public import Idealize.ShloMosaic.Lib.Pipeline.DatRel
public import Mathlib.Tactic.IntervalCases

/-!
# The pipeline

The proof data of the kernel's one pipeline.  The gate rows are carried between the points in a scratch; the rows of
the normaliser accumulate in one output buffer, and the result of the running maxima is stored at the first point and
stays: these two outputs are held to a predicate from point to point.
-/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x1x1024x256 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024x256 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x512 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x16x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x4x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x4x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x4x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x256x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x4x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x4 .f32 := win0_11.stage (cfg0.slots t 11)
abbrev hs11 (t : Fin cfg0.N) : (ms11 t).IsWhole := hstage0_11 ((cfg0.slots t 11).cast nbuf0_11)

/-- The first point. -/
abbrev t0 : Fin cfg0.N := ⟨0, by rw [show cfg0.N = 8 from N_0]; decide⟩

theorem cond_t0 : cond0 (grid0.coords t0) := (hcond0 t0).mpr rfl
theorem cond2_t0 : k0_cond2 (grid0.coords t0) = 1#1 := (hcond2 t0).mpr rfl

/-- The gate rows, as the first point leaves them in the scratch. -/
def rowsV (c : Dev nD) : Vec F S6x8x1024 .f32 :=
  gRows c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) scM0 (Memref.isWhole_whole _) scM1 (Memref.isWhole_whole _) scM2 (Memref.isWhole_whole _) cond_t0 (iblk m c 4 t0) (iblk m c 5 t0) (iblk m c 6 t0) (iblk m c 7 t0)

/-- The final running maxima, as the first point leaves them in the scratch. -/
def mfinV (c : Dev nD) : Vec F S8x128 .f32 :=
  gMfin c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) scM0 (Memref.isWhole_whole _) scM1 (Memref.isWhole_whole _) scM2 (Memref.isWhole_whole _) cond_t0 (iblk m c 4 t0) (iblk m c 5 t0) (iblk m c 6 t0) (iblk m c 7 t0)

/-- The result of the running maxima. -/
def mV (c : Dev nD) : Vec F S2x4 .f32 :=
  mOut c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) scM0 (Memref.isWhole_whole _) scM1 (Memref.isWhole_whole _) scM2 (Memref.isWhole_whole _) cond2_t0 (mfinV m c)

/-- The rows of the output at a point. -/
def hV (c : Dev nD) (t : Fin cfg0.N) : Vec F S1x1x1024x512 .bf16 :=
  hOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c)

/-- The matrix state at a point. -/
def cV (c : Dev nD) (t : Fin cfg0.N) : Vec F S1x1x256x512 .f32 :=
  cOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c)

/-- The row of the normaliser at a point. -/
def nV (c : Dev nD) (t : Fin cfg0.N) : Vec F S1x1x256 .f32 :=
  nPay c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c)

/-- Where the point's row of the normaliser lies. -/
abbrev nRect (t : Fin cfg0.N) : Rect S2x4x256 := Rect.unit (s := S2x4x256) (k0_off23 (grid0.coords t)) S1x1x256.size (k0_off23_inb (grid0.coords t))

/-- What the normaliser's buffer holds after a point: the rows of all points so far. -/
def nOk (c : Dev nD) (t : Fin cfg0.N) (X : Vec F S2x4x256 .f32) : Prop :=
  ∀ s : Fin cfg0.N, s.val ≤ t.val → ∀ x : S1x1x256.Idx, X ((nRect s).emb x) = nV m c s x

/-- The offsets of the point's row. -/
theorem off23 (t : Fin cfg0.N) : k0_off23 (grid0.coords t) = ![t.val / 4, t.val % 4, 0] := by
  have ht : t.val < 8 := Nat.lt_of_lt_of_eq t.isLt N_0
  have h0 := coords0 t
  unfold k0_off23
  rw [h0]
  generalize t.val = n at ht
  interval_cases n <;> rfl

/-- Rows of different points do not meet. -/
theorem nRect_disj (s t : Fin cfg0.N) (h : s.val < t.val) (x : (nRect s).shape.Idx) : (nRect s).emb x ∉ (nRect t).set := by
  have hs : s.val < 8 := Nat.lt_of_lt_of_eq s.isLt N_0
  have ht : t.val < 8 := Nat.lt_of_lt_of_eq t.isLt N_0
  have hx0 : (x 0).val = 0 := Nat.lt_one_iff.mp (x 0).isLt
  have hx1 : (x 1).val = 0 := Nat.lt_one_iff.mp (x 1).isLt
  have e0 : ((nRect s).emb x 0).val = s.val / 4 := by
    rw [Rect.emb_apply]; show (k0_off23 (grid0.coords s)) 0 + 1 * (x 0).val = _
    rw [off23, hx0]; rfl
  have e1 : ((nRect s).emb x 1).val = s.val % 4 := by
    rw [Rect.emb_apply]; show (k0_off23 (grid0.coords s)) 1 + 1 * (x 1).val = _
    rw [off23, hx1]; rfl
  have o0 : (nRect t).off 0 = t.val / 4 := by
    show (k0_off23 (grid0.coords t)) 0 = _
    rw [off23]; rfl
  have o1 : (nRect t).off 1 = t.val % 4 := by
    show (k0_off23 (grid0.coords t)) 1 = _
    rw [off23]; rfl
  by_cases hd : s.val / 4 = t.val / 4
  · exact (nRect t).not_mem_set_of_axis _ 1 _ 1 o1 rfl rfl (by rw [e1]; omega)
  · exact (nRect t).not_mem_set_of_axis _ 0 _ 1 o0 rfl rfl (by rw [e0]; omega)

/-- Storing one rectangle leaves what lies outside it. -/
theorem row_miss {sh : Shape} {e : EltTy} (v : Memref sig .tc .vmem sh e) (hv : v.IsWhole) (Y : sh.Idx → Elt F e) (r : Rect sh) (w : r.shape.Idx → Elt F e)
    (y : sh.Idx) (h : y ∉ r.set) : v.view.read (Elt F) (v.view.writes (Elt F) (hv.unread Y) [⟨r, w⟩]) y = Y y := by
  refine (View.read_writes_cons_miss _ _ _ _ _ h).trans ?_
  rw [View.writes_nil, hv.read_unread]

/-- Storing a point's row keeps the rows before it. -/
theorem row_step (N : (s : Fin cfg0.N) → (nRect s).shape.Idx → Elt F .f32) (t : Fin cfg0.N) (v : Memref sig .tc .vmem S2x4x256 .f32) (hv : v.IsWhole) (Y : Vec F S2x4x256 .f32)
    (hY : ∀ s : Fin cfg0.N, s.val < t.val → ∀ x : (nRect s).shape.Idx, Y ((nRect s).emb x) = N s x)
    (s : Fin cfg0.N) (hs : s.val ≤ t.val) (x : (nRect s).shape.Idx) :
    v.view.read (Elt F) (v.view.writes (Elt F) (hv.unread Y) [⟨nRect t, N t⟩]) ((nRect s).emb x) = N s x := by
  rcases Nat.lt_or_eq_of_le hs with h | h
  · exact (row_miss v hv Y (nRect t) (N t) _ (nRect_disj s t h x)).trans (hY s h x)
  · obtain rfl : s = t := Fin.ext h
    exact View.read_writes_cons_emb v.view (hv.unread Y) (nRect s) (N s) [] x

theorem nOk_step (c : Dev nD) (t : Fin cfg0.N) (v : Memref sig .tc .vmem S2x4x256 .f32) (hv : v.IsWhole) (Y : Vec F S2x4x256 .f32)
    (hY : ∀ s : Fin cfg0.N, s.val < t.val → ∀ x : S1x1x256.Idx, Y ((nRect s).emb x) = nV m c s x)
    (L : List (View.Piece (Elt F) S2x4x256 .f32)) (hL : L = [⟨nRect t, nV m c t⟩]) :
    nOk m c t (v.view.read (Elt F) (v.view.writes (Elt F) (hv.unread Y) L)) := by
  subst hL
  exact row_step (nV m c) t v hv Y hY

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: after the first point the scratch rows hold the gate rows. -/
def PhiS (c : Dev nD) : ℕ → sProp 𝕄
  | 0 => Pipeline.ΦA spec0 c
  | _ + 1 => iprop(iprop(owns (c : Thread nD τ) scM0 fullShare (rowsV m c) ∗ (∃ d, owns (c : Thread nD τ) scM1 fullShare d) ∗ (∃ d, owns (c : Thread nD τ) scM2 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0 fullShare (rowsV m c) ∗ (∃ d, owns (c : Thread nD τ) scM1 fullShare d) ∗ (∃ d, owns (c : Thread nD τ) scM2 fullShare d)) ∗ (∃ r, prngReg c r)) := rfl

theorem PhiS_pos (c : Dev nD) (n : ℕ) (hz : n ≠ 0) :
    PhiS m c n = iprop(iprop(owns (c : Thread nD τ) scM0 fullShare (rowsV m c) ∗ (∃ d, owns (c : Thread nD τ) scM1 fullShare d) ∗ (∃ d, owns (c : Thread nD τ) scM2 fullShare d)) ∗ (∃ r, prngReg c r)) := by
  cases n with
  | zero => exact absurd rfl hz
  | succ n => rfl

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hV m c t
    | ⟨9, _⟩ => cV m c t
    | ⟨10, _⟩ => fun _ => Classical.ofNonempty
    | ⟨11, _⟩ => mV m c
  Φ t := PhiS m c t.val
  q _ := fullShare
  owed _ := 0

/-- The windows held to a predicate: the normaliser and the running maxima. -/
def fgt : Fin cfg0.W → Bool
  | ⟨10, _⟩ => true
  | ⟨11, _⟩ => true
  | _ => false

/-- What each of them is held to. -/
def Rl (c : Dev nD) : (w : Fin cfg0.W) → Fin cfg0.N → ((cfg0.win w).block.Idx → Elt F (cfg0.win w).elt) → Prop
  | ⟨10, _⟩, t, X => nOk m c t X
  | ⟨11, _⟩, _, X => X = mV m c
  | _, _, _ => True

/-- The relational reading of the proof data. -/
def rdat (c : Dev nD) : Pipeline.RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = hV m c t := by dsimp only [dats]
theorem after_9 (c : Dev nD) (t : Fin cfg0.N) : (dats m 0 c).after 9 t = cV m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the normaliser's buffer may hold when the body runs at a later point: the rows of the points before. -/
theorem finds_10 (c : Dev nD) (t : Fin cfg0.N) (Y) (h : ((dats m 0 c).toRRel fgt (Rl m c)).Finds 10 t Y) :
    ∀ s : Fin cfg0.N, s.val < t.val → ∀ x : S1x1x256.Idx, Y ((nRect s).emb x) = nV m c s x := by
  intro s hs x
  have hz : t.val ≠ 0 := by omega
  have ht : t.val < 8 := Nat.lt_of_lt_of_eq t.isLt N_0
  rw [Pipeline.RDat.finds_of_pos _ ((cfg0.win 10).fetch_out rfl t) hz] at h
  rcases h with h | h
  · rw [flush0_10] at h; simp only at h; omega
  · have h2 : nOk m c ⟨t.val - 1, by omega⟩ Y := Pipeline.Dat.toRRel_leaves (dats m 0 c) (fgt := fgt) (Rl := Rl m c) (w := 10) rfl h
    exact h2 s (by simp only; omega) x

/-- What the running maxima's buffer may hold when the body runs at a later point: the result. -/
theorem finds_11 (c : Dev nD) (t : Fin cfg0.N) (hz : t.val ≠ 0) (Y) (h : ((dats m 0 c).toRRel fgt (Rl m c)).Finds 11 t Y) :
    Y = mV m c := by
  have ht : t.val < 8 := Nat.lt_of_lt_of_eq t.isLt N_0
  rw [Pipeline.RDat.finds_of_pos _ ((cfg0.win 11).fetch_out rfl t) hz] at h
  rcases h with h | h
  · rw [flush0_11] at h; simp only at h; omega
  · exact Pipeline.Dat.toRRel_leaves (dats m 0 c) (fgt := fgt) (Rl := Rl m c) (w := 11) rfl h

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ Y, ⌜((dats m 0 c).toRRel fgt (Rl m c)).Finds 10 t Y⌝ ∗ owns (c : Thread nD τ) (ms10 t) fullShare Y)
    ∗ (∃ Y, ⌜((dats m 0 c).toRRel fgt (Rl m c)).Finds 11 t Y⌝ ∗ owns (c : Thread nD τ) (ms11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ (∃ X, ⌜nOk m c t X⌝ ∗ owns (c : Thread nD τ) (ms10 t) fullShare X)
    ∗ (∃ X, ⌜X = mV m c⌝ ∗ owns (c : Thread nD τ) (ms11 t) fullShare X))

/-- The gate rows at a point known to be the first. -/
theorem rowsV_first (c : Dev nD) (t : Fin cfg0.N) (hz : t.val = 0) :
    rowsV m c = gRows c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond0 t).mpr hz) (iblk m c 4 t) (iblk m c 5 t) (iblk m c 6 t) (iblk m c 7 t) := by
  obtain rfl : t = t0 := Fin.ext hz
  rfl

theorem mV_first (c : Dev nD) (t : Fin cfg0.N) (hz : t.val = 0) :
    mOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond2 t).mpr hz) (gMfin c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond0 t).mpr hz) (iblk m c 4 t) (iblk m c 5 t) (iblk m c 6 t) (iblk m c 7 t)) = mV m c := by
  obtain rfl : t = t0 := Fin.ext hz
  rfl

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9, Phi_eq, Phi_eq]
  rw [show (t.succ : Fin (cfg0.N + 1)).val = t.val + 1 from rfl, show (t.castSucc : Fin (cfg0.N + 1)).val = t.val from rfl, PhiS_succ]
  obtain ⟨Q', hQ1, hQ2⟩ := body_split (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) Set.univ (fun _ => bodyPost m c t)
  unfold bodyPost at hQ1 hQ2
  rw [show (dats m 0 c).owesAt () t.succ = (dats m 0 c).owesAt () t.castSucc from rfl,
    after_0, after_1, after_2, after_3, after_4, after_5, after_6, after_7, after_8, after_9, Phi_eq] at hQ1 hQ2
  rw [show (t.succ : Fin (cfg0.N + 1)).val = t.val + 1 from rfl, PhiS_succ] at hQ1 hQ2
  rw [hQ1]
  by_cases hz : t.val = 0
  · rw [PhiS_zero m c _ hz, PhiA_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %hY10, H10⟩, ⟨%Y11, %hY11, H11⟩⟩
    iapply (gates_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond0 t).mpr hz) (iblk m c 4 t) (iblk m c 5 t) (iblk m c 6 t) (iblk m c 7 t) Set.univ _ Q')
    isplitl [H4]; · iexact H4
    isplitl [H5]; · iexact H5
    isplitl [H6]; · iexact H6
    isplitl [H7]; · iexact H7
    isplitl [HS0]; · iexact HS0
    isplitl [HS2]; · iexact HS2
    iintro ⟨H4, H5, H6, H7, HS0, HS2⟩
    rw [← hQ2]
    iapply (rest_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c) Y10 Set.univ _ _)
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexact H10
    isplitl [HS0]; · rw [rowsV_first m c t hz]; iexact HS0
    isplitl [HS1]; · iexact HS1
    iintro ⟨H0, H1, H2, H3, H8, H9, H10, HS0, HS1⟩
    iapply (m_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond2 t).mpr hz) _ Set.univ _)
    isplitl [H11]; · iexists _; iexact H11
    isplitl [HS2]; · iexact HS2
    iintro ⟨H11, HS2⟩
    isplitl [HS0 HS1 HS2 Hg]
    · isplitl [HS0 HS1 HS2]
      · isplitl [HS0]
        · iexact HS0
        isplitl [HS1]
        · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold hV; iexact H8
    isplitl [H9]; · unfold cV; iexact H9
    isplitl [H10]
    · iexists _; isplitr
      swap; · iexact H10
      ipureintro; exact nOk_step m c t (ms10 t) (hs10 t) Y10 (finds_10 m c t Y10 hY10) _ (restRun_L10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c))
    iexists _; isplitr
    swap; · iexact H11
    ipureintro; exact mV_first m c t hz
  · rw [PhiS_pos m c _ hz, gatesSkip c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (fun h => hz ((hcond0 t).mp h))]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %hY10, H10⟩, ⟨%Y11, %hY11, H11⟩⟩
    rw [← hQ2]
    iapply (rest_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c) Y10 Set.univ _ _)
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexact H10
    isplitl [HS0]; · iexact HS0
    isplitl [HS1]; · iexact HS1
    iintro ⟨H0, H1, H2, H3, H8, H9, H10, HS0, HS1⟩
    rw [mSkip c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (fun h => hz ((hcond2 t).mp h))]
    sl_step
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold hV; iexact H8
    isplitl [H9]; · unfold cV; iexact H9
    isplitl [H10]
    · iexists _; isplitr
      swap; · iexact H10
      ipureintro; exact nOk_step m c t (ms10 t) (hs10 t) Y10 (finds_10 m c t Y10 hY10) _ (restRun_L10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c))
    iexists _; isplitr
    swap; · iexact H11
    ipureintro; exact finds_11 m c t hz Y11 hY11

/-- The body table's row at the point's slots is the body. -/
theorem defs₀_row (t : Fin cfg0.N) :
    defs₀ (F := F) .tc cfg0.body (cfg0.bodyArgs t (cfg0.slots t)) = bodyAt0 t := by
  unfold defs₀; rw [Defs.onTc_tc]

/-- The body obligation, the two accumulating windows held to their predicates. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (rdat m c).Φ 0 := by
  rw [show (rdat m c).Φ 0 = PhiS m c 0 from rfl, PhiS_zero m c 0 rfl]

/-- After the last point the invariant gives it back. -/
theorem hout (c : Dev nD) : (rdat m c).Φ (Fin.last cfg0.N) ⊢ Pipeline.ΦA spec0 c := by
  rw [show (rdat m c).Φ (Fin.last cfg0.N) = PhiS m c (Fin.last cfg0.N).val from rfl,
    PhiS_pos m c _ (by rw [Fin.val_last]; have : cfg0.N = 8 := N_0; omega), PhiA_eq]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch: every fair execution of the program ends, every array of the pipeline at contents the proof data allow,
every other buffer as at the start, and every semaphore counter at zero. -/
theorem run_main : θ_run defs (onTc (τ := τ) (main (F := F))) (s₀ m ρ)
    (fun r => (Pipeline.RDat.FramePost cfg0 (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 4 rfl).trans ((A_eq m c 4).trans (V_main_arg3 m c)),
      (h.1.arr_in c 3 rfl).trans ((A_eq m c 3).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c))⟩, h.2⟩) (run_main m ρ)

end Cert.KernelIdeal.Run
-- ==== Proof.K.Def.lean ====
module

public import proofs.«01_k».proof.Proof.Gen.Kernel.Frame
public import proofs.«01_k».proof.Proof.Gen.Kernel.Skeleton

/-!
# The kernel body, run in three stretches

The body of the kernel is three stretches: the gates (a region the first head alone runs), the head's own
work, and the results of the running maxima (a region the first head alone runs).  Each stretch is a program
with the rest of the body as a variable, and each is run once: what it stores is found by the run.
-/

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first region of the body (the gates, at the first head only), followed by the rest `κ` of the program. -/
def gatesK (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) {α : Type} (κ : Prog (TpuEff nD τ sig (Elt F) Λ₀ .tc) α) :
    Prog (TpuEff nD τ sig (Elt F) Λ₀ .tc) α := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let ⟨v796, v820, v824, v827, v828, cst_269⟩ : Σ' (v796 : FVec F S8x1024 .f32) (v820 : FVec F S128x128 .bf16) (v824 : FVec F S64x128 .bf16) (v827 : FVec F S64x128 .bf16) (v828 : FVec F S64x128 .f32), FVec F S64x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15
    let ⟨v833, v837, v841, v845, v846, v850, v851, v855, v861, v867, v873, v879⟩ : Σ' (v833 : FVec F S8x128 .f32) (v837 : FVec F S8x128 .f32) (v841 : FVec F S8x128 .f32) (v845 : FVec F S8x128 .f32) (v846 : FVec F S8x128 .f32) (v850 : FVec F S8x128 .f32) (v851 : FVec F S8x128 .f32) (v855 : FVec F S8x128 .f32) (v861 : FVec F S8x128 .f32) (v867 : FVec F S8x128 .f32) (v873 : FVec F S8x128 .f32), FVec F S8x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v796 v820 v824 v827 v828 cst_269
    let ⟨v885, v891, v897, v903, v905, v920, v922, v923⟩ : Σ' (v885 : FVec F S8x128 .f32) (v891 : FVec F S8x128 .f32) (v897 : FVec F S8x128 .f32) (v903 : FVec F S8x128 .f32) (v905 : IVec S64x128 32) (v920 : FVec F S64x128 .f32) (v922 : IVec S64x128 1), FVec F S64x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v796 v846 v850 v851 v855 v861 v867 v873 v879
    let ⟨v940, v941, v943, v946, v948, v965⟩ : Σ' (v940 : FVec F S64x128 .f32) (v941 : FVec F S8x128 .f32) (v943 : FVec F S8x128 .f32) (v946 : FVec F S8x128 .f32) (v948 : FVec F S8x128 .f32), FVec F S8x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v833 v905 v920 v922 v923
    let ⟨v999, v1000⟩ : Σ' (v999 : FVec F S8x128 .f32), Vec F S1x8x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v861 v941 v943 v948 v965
    let ⟨v1004, v1007, v1037, v1038⟩ : Σ' (v1004 : FVec F S8x128 .f32) (v1007 : FVec F S8x128 .f32) (v1037 : FVec F S8x128 .f32), Vec F S1x8x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v837 v867 v940 v946 v999 v1000
    let ⟨v1065, v1068, v1070, v1075⟩ : Σ' (v1065 : FVec F S8x128 .f32) (v1068 : FVec F S8x128 .f32) (v1070 : FVec F S8x128 .f32), FVec F S8x16 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 v841 v940 v941 v1004 v1007 v1037 v1038
    let ⟨v1108, v1110⟩ : Σ' (v1108 : FVec F S4x16 .f32), FVec F S4x16 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v873 v941 v1065 v1070 v1075
    let ⟨v1126, v1129, v1131, v1148⟩ : Σ' (v1126 : FVec F S8x128 .f32) (v1129 : FVec F S8x128 .f32) (v1131 : FVec F S8x128 .f32), FVec F S8x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v845 v879 v940 v1068 v1108 v1110
    let v1187 : FVec F S8x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 v861 v941 v1126 v1129 v1131 v1148
    let ⟨v1211, v1213, v1216, v1218, v1223, v1224⟩ : Σ' (v1211 : FVec F S8x128 .f32) (v1213 : FVec F S8x128 .f32) (v1216 : FVec F S8x128 .f32) (v1218 : FVec F S8x128 .f32) (v1223 : FVec F S8x16 .f32), IVec S8x128 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v845 v846 v867 v873 v879 v940 v1129 v1187
    let v1259 : FVec F S8x16 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 v885 v1211 v1213 v1218 v1223 v1224
    let ⟨v1274, v1277, v1279, v1296⟩ : Σ' (v1274 : FVec F S8x128 .f32) (v1277 : FVec F S8x128 .f32) (v1279 : FVec F S8x128 .f32), FVec F S8x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 v850 v891 v940 v1216 v1259
    let v1335 : FVec F S8x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 v885 v1211 v1274 v1277 v1279 v1296
    let ⟨v1349, v1351, v1354, v1356, v1373, v1376⟩ : Σ' (v1349 : FVec F S8x128 .f32) (v1351 : FVec F S8x128 .f32) (v1354 : FVec F S8x128 .f32) (v1356 : FVec F S8x128 .f32) (v1373 : FVec F S8x128 .f32), FVec F S1x8x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 v850 v851 v891 v897 v940 v1277 v1335
    let v1411 : FVec F S8x128 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 v940 v1349 v1351 v1356 v1373 v1376
    let ⟨v1415, v1449⟩ : Σ' (v1415 : FVec F S8x128 .f32), FVec F S8x128 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 v855 v903 v1349 v1354 v1411
    let v1485 : FVec F S8x1 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 v855 v897 v903 v1415 v1449
    let v1490 : Vec F S8x128 .f32 ← Prog.lift (.load arg15 (Rect.unit (s := S8x128) ![0, 0] S8x128.size inb_S8x128_S8x128_0_0).toLoadRect (View.loadsAt_vmem h_S8x128))
    Prog.lift (.store arg15 (Rect.unit (s := S8x128) ![0, 0] S8x128.size inb_S8x128_S8x128_0_0) (k0_pay122 v1415 v1485) Finset.univ (View.stores_vmem_bits_univ h_S8x128 rfl) (.inl rfl))
    pure ⟨⟩
  else do
    pure ⟨⟩
  κ

/-- The loads between the gates and the first part of the head's own work. -/
def tail19 (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    Prog (TpuEff nD τ sig (Elt F) Λ₀ .tc) (Σ' (arg0 : BitVec 32) (v5 : IVec S128x128 1) (v31 : FVec F S256x256 .bf16), FVec F S256x256 .f32) := do
  let arg0 : BitVec 32 := BitVec.ofNat 32 (i 0).val
  let v6 : Vec F S1x1x256x256 .fp8e4m3 ← Prog.lift (.load arg2 (Rect.unit (s := S1x1x1024x256) ![0, 0, 0, 0] S1x1x256x256.size inb_S1x1x1024x256_S1x1x256x256_0_0_0_0).toLoadRect (View.loadsAt_vmem h_S1x1x256x256))
  let v9 : Vec F S1x1x1x256 .f32 ← Prog.lift (.load arg4 (Rect.unit (s := S1x1x16x256) ![0, 0, 0, 0] S1x1x1x256.size inb_S1x1x16x256_S1x1x1x256_0_0_0_0).toLoadRect (View.loadsAt_vmem h_S1x1x1x256))
  let v14 : Vec F S1x1x1x256 .f32 ← Prog.lift (.load arg4 (Rect.unit (s := S1x1x16x256) ![0, 0, 1, 0] S1x1x1x256.size inb_S1x1x16x256_S1x1x1x256_0_0_1_0).toLoadRect (View.loadsAt_vmem h_S1x1x1x256))
  let v19 : Vec F S1x1x1x256 .f32 ← Prog.lift (.load arg4 (Rect.unit (s := S1x1x16x256) ![0, 0, 2, 0] S1x1x1x256.size inb_S1x1x16x256_S1x1x1x256_0_0_2_0).toLoadRect (View.loadsAt_vmem h_S1x1x1x256))
  let v24 : Vec F S1x1x1x256 .f32 ← Prog.lift (.load arg4 (Rect.unit (s := S1x1x16x256) ![0, 0, 3, 0] S1x1x1x256.size inb_S1x1x16x256_S1x1x1x256_0_0_3_0).toLoadRect (View.loadsAt_vmem h_S1x1x1x256))
  pure ⟨arg0, k0_pay123, k0_pay124 v6 v9 v14 v19 v24, k0_pay125 v6 v9 v14 v19 v24⟩

/-- The head's own work up to the rows of the normaliser, the gates left out. -/
def rest36 (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    Prog (TpuEff nD τ sig (Elt F) Λ₀ .tc) (Σ' (arg0 : BitVec 32) (v748 : FVec F S1x256 .f32) (v768 : BitVec 32) (v771 : BitVec 32) (v776 : BitVec 1), BitVec 32) := do
  let ⟨arg0, v5, v31, v32⟩ : Σ' (arg0 : BitVec 32) (v5 : IVec S128x128 1) (v31 : FVec F S256x256 .bf16), FVec F S256x256 .f32 ← tail19 i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v40, v46, v71⟩ : Σ' (v40 : FVec F S256x128 .f32) (v46 : FVec F S256x256 .bf16), FVec F S256x256 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v32
  let ⟨v72, v82, v88, v103, v104, v107, v110, v111, v116⟩ : Σ' (v72 : FVec F S256x256 .bf16) (v82 : FVec F S256x128 .f32) (v88 : FVec F S256x256 .bf16) (v103 : FVec F S256x128 .f32) (v104 : FVec F S256x256 .f32) (v107 : FVec F S1x256 .f32) (v110 : FVec F S1x256 .f32) (v111 : FVec F S128x128 .f32), FVec F S128x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v31 v40 v71
  let ⟨v156, v159, v162, v165⟩ : Σ' (v156 : FVec F S256x512 .f32) (v159 : FVec F S256x1 .f32) (v162 : FVec F S1x256 .f32), FVec F S128x128 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v103 v104 v107 v110 v111 v116
  let ⟨v184, v196, v197, v200, v203, v204, v208⟩ : Σ' (v184 : FVec F S256x256 .bf16) (v196 : FVec F S256x128 .f32) (v197 : FVec F S256x256 .f32) (v200 : FVec F S1x256 .f32) (v203 : FVec F S1x256 .f32) (v204 : FVec F S128x128 .f32), FVec F S128x128 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v31 v156 v159 v162 v165
  let ⟨v222, v246, v252, v253, v256, v259, v260, v262, v263⟩ : Σ' (v222 : FVec F S128x128 .f32) (v246 : FVec F S128x128 .f32) (v252 : FVec F S256x256 .bf16) (v253 : FVec F S256x256 .f32) (v256 : FVec F S1x256 .f32) (v259 : FVec F S1x256 .f32) (v260 : FVec F S128x128 .f32) (v262 : FVec F S128x128 .f32), FVec F S128x128 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v72 v184 v196 v197 v200 v203 v204 v208
  let ⟨v308, v311⟩ : Σ' (v308 : FVec F S256x512 .f32), FVec F S256x1 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v196 v222 v246 v252 v253 v256 v259 v260 v262 v263
  let ⟨v337, v348, v352, v355, v358⟩ : Σ' (v337 : FVec F S256x512 .f32) (v348 : FVec F S1x256 .f32) (v352 : FVec F S256x512 .bf16) (v355 : FVec F S256x512 .bf16), FVec F S256x512 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 v46 v82 v88 v308 v311
  let ⟨v390, v391⟩ : Σ' (v390 : FVec F S256x256 .bf16), FVec F S256x256 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 v352 v355 v358
  let ⟨v399, v405, v408, v420, v421, v424, v427, v434, v435⟩ : Σ' (v399 : FVec F S256x128 .f32) (v405 : FVec F S256x256 .bf16) (v408 : FVec F S256x256 .bf16) (v420 : FVec F S256x128 .f32) (v421 : FVec F S256x256 .f32) (v424 : FVec F S1x256 .f32) (v427 : FVec F S1x256 .f32) (v434 : FVec F S128x128 .f32), FVec F S128x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v390 v391
  let ⟨v470, v473, v485, v486⟩ : Σ' (v470 : FVec F S256x128 .f32) (v473 : FVec F S256x512 .f32) (v485 : FVec F S256x128 .f32), FVec F S256x768 .bf16 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v408 v420 v421 v424 v427 v434 v435
  let ⟨v527, v528⟩ : Σ' (v527 : FVec F S256x512 .f32), FVec F S256 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v348 v399 v405 v408 v470 v473 v485 v486
  let ⟨v545, v548, v567, v569⟩ : Σ' (v545 : FVec F S256x512 .f32) (v548 : FVec F S1x256 .f32) (v567 : FVec F S256x256 .bf16), FVec F S1x256 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v337 v348 v527 v528
  let ⟨v590, v599, v605, v608⟩ : Σ' (v590 : FVec F S256x256 .bf16) (v599 : FVec F S256x128 .f32) (v605 : FVec F S256x256 .bf16), FVec F S256x256 .bf16 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v567 v569
  let ⟨v627, v636, v642, v649, v653, v660⟩ : Σ' (v627 : FVec F S1x256 .f32) (v636 : FVec F S128x128 .f32) (v642 : FVec F S128x256 .bf16) (v649 : FVec F S128x128 .f32) (v653 : FVec F S128x128 .bf16), FVec F S128x128 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v590 v608
  let ⟨v691, v702, v705, v706⟩ : Σ' (v691 : FVec F S256x512 .f32) (v702 : FVec F S256x1 .f32) (v705 : FVec F S1x256 .f32), FVec F S1x128 .f32 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v5 v548 v608 v627 v636 v642 v649 v653 v660
  let ⟨v745, v748⟩ : Σ' (v745 : FVec F S256x512 .f32), FVec F S1x256 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v545 v548 v599 v605 v691 v702 v705 v706
  let v749 : Vec F S1x1x256x512 .f32 ← Prog.lift (.load arg10 (Rect.unit (s := S1x1x256x512) ![0, 0, 0, 0] S1x1x256x512.size inb_S1x1x256x512_S1x1x256x512_0_0_0_0).toLoadRect (View.loadsAt_vmem h_S1x1x256x512))
  Prog.lift (.store arg10 (Rect.unit (s := S1x1x256x512) ![0, 0, 0, 0] S1x1x256x512.size inb_S1x1x256x512_S1x1x256x512_0_0_0_0) (k0_pay240 v745) Finset.univ (View.stores_vmem_bits_univ h_S1x1x256x512 rfl) (.inl rfl))
  let v752 : BitVec 32 := Scalar.divsi arg0 4#32
  let v753 : BitVec 1 := Scalar.cmpi .sgt arg0 0#32
  let v754 : BitVec 32 := Scalar.extui v753
  let v755 : BitVec 1 := Scalar.cmpi .slt arg0 0#32
  let v756 : BitVec 32 := Scalar.extui v755
  let v757 : BitVec 32 := Scalar.subi v754 v756
  let v758 : BitVec 1 := Scalar.cmpi .sgt 4#32 0#32
  let v759 : BitVec 32 := Scalar.extui v758
  let v760 : BitVec 1 := Scalar.cmpi .slt 4#32 0#32
  let v761 : BitVec 32 := Scalar.extui v760
  let v762 : BitVec 32 := Scalar.subi v759 v761
  let v763 : BitVec 1 := Scalar.cmpi .ne v757 v762
  let v764 : BitVec 32 := Scalar.remsi arg0 4#32
  let v765 : BitVec 1 := Scalar.cmpi .ne v764 0#32
  let v766 : BitVec 1 := Scalar.andi v763 v765
  let v767 : BitVec 32 := Scalar.subi v752 1#32
  let v768 : BitVec 32 := Scalar.select v766 v767 v752
  let v769 : BitVec 1 := Scalar.cmpi .eq 4#32 0#32
  let v770 : BitVec 32 := Scalar.select v769 1#32 4#32
  let v771 : BitVec 32 := Scalar.remsi arg0 v770
  let v772 : BitVec 1 := Scalar.cmpi .ne v771 0#32
  let v773 : BitVec 1 := Scalar.cmpi .slt v771 0#32
  let v774 : BitVec 1 := Scalar.cmpi .slt v770 0#32
  let v775 : BitVec 1 := Scalar.xori v773 v774
  let v776 : BitVec 1 := Scalar.andi v775 v772
  let v777 : BitVec 32 := Scalar.addi v771 v770
  pure ⟨arg0, v748, v768, v771, v776, v777⟩

/-- The last region of the body (the running maxima's results, at the first head only). -/
def mEnd (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    Prog (TpuEff nD τ sig (Elt F) Λ₀ .tc) PUnit := do
  if k0_h2 : k0_cond2 i = 1#1 then do
    let v787 : Vec F S4x128 .f32 ← Prog.lift (.load arg15 (Rect.unit (s := S8x128) ![0, 0] S4x128.size inb_S8x128_S4x128_0_0).toLoadRect (View.loadsAt_vmem h_S4x128))
    let v790 : Vec F S1x4 .f32 ← Prog.lift (.load arg12 (Rect.unit (s := S2x4) ![0, 0] S1x4.size inb_S2x4_S1x4_0_0).toLoadRect (View.loadsAt_vmem h_S1x4))
    Prog.lift (.store arg12 (Rect.unit (s := S2x4) ![0, 0] S1x4.size inb_S2x4_S1x4_0_0) (k0_pay2 v787) Finset.univ (View.stores_vmem_bits_univ h_S1x4 rfl) (.inl rfl))
    let v791 : Vec F S4x128 .f32 ← Prog.lift (.load arg15 (Rect.unit (s := S8x128) ![4, 0] S4x128.size inb_S8x128_S4x128_4_0).toLoadRect (View.loadsAt_vmem h_S4x128))
    let v794 : Vec F S1x4 .f32 ← Prog.lift (.load arg12 (Rect.unit (s := S2x4) ![1, 0] S1x4.size inb_S2x4_S1x4_1_0).toLoadRect (View.loadsAt_vmem h_S1x4))
    Prog.lift (.store arg12 (Rect.unit (s := S2x4) ![1, 0] S1x4.size inb_S2x4_S1x4_1_0) (k0_pay3 v791) Finset.univ (View.stores_vmem_bits_univ h_S1x4 rfl) (.inl rfl))
    pure ⟨⟩
  else do
    pure ⟨⟩
  pure ⟨⟩

/-- The body between its two guarded regions, followed by the rest `κ` of the program. -/
def restK (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) {α : Type} (κ : Prog (TpuEff nD τ sig (Elt F) Λ₀ .tc) α) :
    Prog (TpuEff nD τ sig (Elt F) Λ₀ .tc) α := do
  let ⟨arg0, v748, v768, v771, v776, v777⟩ : Σ' (arg0 : BitVec 32) (v748 : FVec F S1x256 .f32) (v768 : BitVec 32) (v771 : BitVec 32) (v776 : BitVec 1), BitVec 32 ← rest36 i arg1 harg1 arg2 harg2 arg3 harg3 arg4 harg4 arg5 harg5 arg6 harg6 arg7 harg7 arg8 harg8 arg9 harg9 arg10 harg10 arg11 harg11 arg12 harg12 arg13 harg13 arg14 harg14 arg15 harg15
  let v781 : Vec F S1x1x256 .f32 ← Prog.lift (.load arg11 (Rect.unit (s := S2x4x256) (k0_off23 i) S1x1x256.size (k0_off23_inb i)).toLoadRect (View.loadsAt_vmem h_S1x1x256))
  Prog.lift (.store arg11 (Rect.unit (s := S2x4x256) (k0_off23 i) S1x1x256.size (k0_off23_inb i)) (k0_pay1 v748) Finset.univ (View.stores_vmem_bits_univ h_S1x1x256 rfl) (.inl rfl))
  κ

/-- The gates' stretch at a later head: nothing is run. -/
theorem gatesSkip (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : ¬ (Scalar.cmpi .ne (Scalar.extui (Scalar.cmpi .eq (BitVec.ofNat 32 (i 0).val) 0#32)) 0#32) = 1#1)
    {α : Type} (κ : Prog (TpuEff nD τ sig (Elt F) Λ₀ .tc) α) :
    gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 κ = κ := by
  unfold gatesK
  simp only []
  rw [dif_neg hc]

/-- The last stretch at a later head: nothing is run. -/
theorem mSkip (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : ¬ k0_cond2 i = 1#1) :
    mEnd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = pure ⟨⟩ := by
  unfold mEnd
  rw [dif_neg hc]

end Cert.Kernel.Run
-- ==== Proof.K.RunG.lean ====
module

public import proofs.«01_k».proof.Proof.K.Def

/-!
# The kernel body, run in three stretches

The body of the kernel is three stretches: the gates (a region the first head alone runs), the head's own
work, and the results of the running maxima (a region the first head alone runs).  Each stretch is a program
with the rest of the body as a variable, and each is run once: what it stores is found by the run.
-/

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
set_option sl_exec.resultNames true in
/-- The gates' stretch at the first head: the two rows of gate inputs are read, the scratch rows and the final
maxima are stored, as the pieces found by the run. -/
def gatesRun (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : (Scalar.cmpi .ne (Scalar.extui (Scalar.cmpi .eq (BitVec.ofNat 32 (i 0).val) 0#32)) 0#32) = 1#1)
    (x4 : Vec F S2x4x16 .f32) (x5 : Vec F S2x4x16 .f32) (x6 : Vec F S2x4x1024 .f32) (x7 : Vec F S2x4x1024 .f32) :
    Σ' (LS0 : List (View.Piece (Elt F) S6x8x1024 .f32)), { LS2 : List (View.Piece (Elt F) S8x128 .f32) //
      ∀ (E : Set ℕ) {α : Type} (κ : Prog (TpuEff nD τ sig (Elt F) Λ₀ .tc) α) (Q : α → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg13 fullShare d) ∗ (∃ d, owns (c : Thread nD τ) arg15 fullShare d)
            ∗ (iprop(owns (c : Thread nD τ) arg5 fullShare x4 ∗ owns (c : Thread nD τ) arg6 fullShare x5 ∗ owns (c : Thread nD τ) arg7 fullShare x6 ∗ owns (c : Thread nD τ) arg8 fullShare x7 ∗ (∃ f, arg13.view.loc (c : Thread nD τ) ↦[arg13.view.set]{fullShare} arg13.view.writes (Elt F) f LS0) ∗ (∃ f, arg15.view.loc (c : Thread nD τ) ↦[arg15.view.set]{fullShare} arg15.view.writes (Elt F) f LS2)) -∗ wp frame (wpE (defs₀ (F := F)) Variants.none c none) E κ Q))
          ⊢ wp frame (wpE (defs₀ (F := F)) Variants.none c none) E (gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q } := by
  refine ⟨?_, ?_, fun E α κ Q => ?run⟩
  case run =>
    unfold gatesK

    unfold owns
    iintro ⟨⟨%f4, %hf4, H4⟩, ⟨%f5, %hf5, H5⟩, ⟨%f6, %hf6, H6⟩, ⟨%f7, %hf7, H7⟩, ⟨%ds0, %fs0, -, HS0⟩, ⟨%ds2, %fs2, -, HS2⟩, Hk⟩
    obtain rfl := harg5.eq_unread hf4; obtain rfl := harg6.eq_unread hf5; obtain rfl := harg7.eq_unread hf6; obtain rfl := harg8.eq_unread hf7
    sl_exec (disch := first | sl_exact hc)
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexists _; iexact HS2

set_option maxHeartbeats 1000000 in
set_option sl_exec.resultNames true in
/-- The last stretch at the first head: the two rows of the result of the running maxima are stored. -/
def mRun (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (hc : k0_cond2 i = 1#1) (y : Vec F S8x128 .f32) :
    { L11 : List (View.Piece (Elt F) S2x4 .f32) //
      ∀ (E : Set ℕ) (Q : PUnit → sProp 𝕄),
        iprop((∃ d, owns (c : Thread nD τ) arg12 fullShare d) ∗ owns (c : Thread nD τ) arg15 fullShare y
            ∗ (iprop((∃ f, arg12.view.loc (c : Thread nD τ) ↦[arg12.view.set]{fullShare} arg12.view.writes (Elt F) f L11) ∗ owns (c : Thread nD τ) arg15 fullShare y) -∗ Q ⟨⟩))
          ⊢ wp frame (wpE (defs₀ (F := F)) Variants.none c none) E (mEnd i arg1 harg1 arg2 harg2 arg3 harg3 arg4 harg4 arg5 harg5 arg6 harg6 arg7 harg7 arg8 harg8 arg9 harg9 arg10 harg10 arg11 harg11 arg12 harg12 arg13 harg13 arg14 harg14 arg15 harg15) Q } := by
  refine ⟨?_, fun E Q => ?run⟩
  case run =>
    unfold mEnd
    unfold owns
    iintro ⟨⟨%d11, %f11, -, H11⟩, ⟨%fs2, %hfs2, HS2⟩, Hk⟩
    obtain rfl := harg15.eq_unread hfs2
    sl_exec (disch := first | sl_exact hc)
    sl_step
    iapply Hk
    isplitl [H11]
    · iexists _; iexact H11
    iexists _; isplitr; · ipureintro; exact harg15.read_unread _
    iexact HS2

end Cert.Kernel.Run
-- ==== Proof.K.RunR.lean ====
module

public import proofs.«01_k».proof.Proof.K.Def

/-!
# The kernel body, run in three stretches

The body of the kernel is three stretches: the gates (a region the first head alone runs), the head's own
work, and the results of the running maxima (a region the first head alone runs).  Each stretch is a program
with the rest of the body as a variable, and each is run once: what it stores is found by the run.
-/

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
set_option sl_exec.resultNames true in
/-- The head's own work: from the head's blocks, the scales and the gate rows held in the scratch, the rows of
the output, of the matrix state and of the normaliser are stored, as the pieces found by the run. -/
def restRun (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole)
    (x0 : Vec F S1x1x1024x256 .fp8e4m3) (x1 : Vec F S1x1x1024x256 .fp8e4m3) (x2 : Vec F S1x1x1024x512 .fp8e4m3) (x3 : Vec F S1x1x16x256 .f32)
    (xs0 : Vec F S6x8x1024 .f32) :
    Σ' (L8 : List (View.Piece (Elt F) S1x1x1024x512 .bf16)), Σ' (L9 : List (View.Piece (Elt F) S1x1x256x512 .f32)),
      Σ' (L10 : List (View.Piece (Elt F) S2x4x256 .f32)), { LT1 : List (View.Piece (Elt F) S768x512 .bf16) //
      ∀ (x10 : Vec F S2x4x256 .f32) (E : Set ℕ) {α : Type} (κ : Prog (TpuEff nD τ sig (Elt F) Λ₀ .tc) α) (Q : α → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ owns (c : Thread nD τ) arg11 fullShare x10 ∗ owns (c : Thread nD τ) arg13 fullShare xs0 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)
                ∗ (arg11.view.loc (c : Thread nD τ) ↦[arg11.view.set]{fullShare} arg11.view.writes (Elt F) (harg11.unread x10) L10)
                ∗ owns (c : Thread nD τ) arg13 fullShare xs0 ∗ (∃ f, arg14.view.loc (c : Thread nD τ) ↦[arg14.view.set]{fullShare} arg14.view.writes (Elt F) f LT1)) -∗ wp frame (wpE (defs₀ (F := F)) Variants.none c none) E κ Q))
          ⊢ wp frame (wpE (defs₀ (F := F)) Variants.none c none) E (restK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q } := by
  refine ⟨?_, ?_, ?_, ?_, fun x10 E α κ Q => ?run⟩
  case run =>
    unfold restK rest36 tail19

    unfold owns
    iintro ⟨⟨%f0, %hf0, H0⟩, ⟨%f1, %hf1, H1⟩, ⟨%f2, %hf2, H2⟩, ⟨%f3, %hf3, H3⟩, ⟨%d8, %f8, -, H8⟩, ⟨%d9, %f9, -, H9⟩, ⟨%f10, %hf10, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg11.eq_unread hf10; obtain rfl := harg13.eq_unread hfs0
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H8]
    · iexists _; iexact H8
    isplitl [H9]
    · iexists _; iexact H9
    isplitl [H10]
    · iexact H10
    isplitl [HS0]
    · iexists _; isplitr; · ipureintro; exact harg13.read_unread _
      iexact HS0
    iexists _; iexact HS1

end Cert.Kernel.Run
-- ==== Proof.K.Body.lean ====
module

public import proofs.«01_k».proof.Proof.K.RunG
public import proofs.«01_k».proof.Proof.K.RunR

/-!
# The three stretches put together

The body is the gates' stretch followed by the head's own work and the last stretch.
-/

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 65536 in
/-- The part that holds the gates' region, as the region followed by the loads after it. -/
theorem part19_eq (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) :
    k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 (tail19 i arg1 harg1 arg2 harg2 arg3 harg3 arg4 harg4 arg5 harg5 arg6 harg6 arg7 harg7 arg8 harg8 arg9 harg9 arg10 harg10 arg11 harg11 arg12 harg12 arg13 harg13 arg14 harg14 arg15 harg15) := rfl

set_option maxRecDepth 65536 in
set_option maxHeartbeats 1000000 in
/-- The body is the gates' stretch followed by the rest: what is asked after the first stretch is the same on both sides. -/
theorem body_split (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (E : Set ℕ) (Q : PUnit → sProp 𝕄) :
    ∃ Q', wp frame (wpE (defs₀ (F := F)) Variants.none c none) E (cc0_mlstm_chunkwise i arg1 harg1 arg2 harg2 arg3 harg3 arg4 harg4 arg5 harg5 arg6 harg6 arg7 harg7 arg8 harg8 arg9 harg9 arg10 harg10 arg11 harg11 arg12 harg12 arg13 harg13 arg14 harg14 arg15 harg15) Q = wp frame (wpE (defs₀ (F := F)) Variants.none c none) E (gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 (tail19 i arg1 harg1 arg2 harg2 arg3 harg3 arg4 harg4 arg5 harg5 arg6 harg6 arg7 harg7 arg8 harg8 arg9 harg9 arg10 harg10 arg11 harg11 arg12 harg12 arg13 harg13 arg14 harg14 arg15 harg15)) Q'
      ∧ wp frame (wpE (defs₀ (F := F)) Variants.none c none) E (restK i arg1 harg1 arg2 harg2 arg3 harg3 arg4 harg4 arg5 harg5 arg6 harg6 arg7 harg7 arg8 harg8 arg9 harg9 arg10 harg10 arg11 harg11 arg12 harg12 arg13 harg13 arg14 harg14 arg15 harg15 (mEnd i arg1 harg1 arg2 harg2 arg3 harg3 arg4 harg4 arg5 harg5 arg6 harg6 arg7 harg7 arg8 harg8 arg9 harg9 arg10 harg10 arg11 harg11 arg12 harg12 arg13 harg13 arg14 harg14 arg15 harg15)) Q = wp frame (wpE (defs₀ (F := F)) Variants.none c none) E (tail19 i arg1 harg1 arg2 harg2 arg3 harg3 arg4 harg4 arg5 harg5 arg6 harg6 arg7 harg7 arg8 harg8 arg9 harg9 arg10 harg10 arg11 harg11 arg12 harg12 arg13 harg13 arg14 harg14 arg15 harg15) Q' := by
  refine ⟨?w, ?a, ?b⟩
  case a =>
    rw [cc0_mlstm_chunkwise_eq_skeleton]; unfold cc0_mlstm_chunkwise_skel
    rw [wp_bind, k0_part36_eq_skeleton]; unfold k0_part36_skel
    rw [wp_bind, part19_eq]
  case b =>
    unfold restK rest36
    rw [wp_bind, wp_bind]
    rfl

end Cert.Kernel.Run
-- ==== Proof.K.Spec.lean ====
module

public import proofs.«01_k».proof.Proof.K.Body

/-!
# The three stretches over the contents they leave

The pieces each stretch stores cover its buffers, so what a buffer holds afterwards is those pieces read back.
-/

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the gates' region: the head is the first. -/
abbrev cond0 (i : grid0.Coords) : Prop := (Scalar.cmpi .ne (Scalar.extui (Scalar.cmpi .eq (BitVec.ofNat 32 (i 0).val) 0#32)) 0#32) = 1#1

/-- The first coordinate of a point is its number. -/
theorem coords0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

/-- It holds at the first point only. -/
theorem hcond0 : ∀ t : Fin cfg0.N, cond0 (grid0.coords t) ↔ t.val = 0 :=
  (fun t => by
    have ht : t.val < 8 := Nat.lt_of_lt_of_eq t.isLt N_0
    simp only [cond0, coords0]
    word_cmp
   : ∀ t : Fin grid0.N, cond0 (grid0.coords t) ↔ t.val = 0)

/-- The condition of the last region is the same. -/
theorem hcond2 (t : Fin cfg0.N) : k0_cond2 (grid0.coords t) = 1#1 ↔ t.val = 0 := hcond0 t

/-- Staging buffers and scratch through which contents are stated (the choice does not matter). -/
abbrev VO8 : View sig .tc .vmem S1x1x1024x512 .bf16 := (Memref.whole cc0_stg8_0 : Memref sig .tc .vmem S1x1x1024x512 .bf16).view
abbrev VO9 : View sig .tc .vmem S1x1x256x512 .f32 := (Memref.whole cc0_stg9_0 : Memref sig .tc .vmem S1x1x256x512 .f32).view
abbrev VO11 : View sig .tc .vmem S2x4 .f32 := (Memref.whole cc0_stg11_0 : Memref sig .tc .vmem S2x4 .f32).view
abbrev scM0 : Memref sig .tc .vmem S6x8x1024 .f32 := Memref.whole cc0_scratch0
abbrev scM1 : Memref sig .tc .vmem S768x512 .bf16 := Memref.whole cc0_scratch1
abbrev scM2 : Memref sig .tc .vmem S8x128 .f32 := Memref.whole cc0_scratch2
abbrev VS0 : View sig .tc .vmem S6x8x1024 .f32 := scM0.view
abbrev VS2 : View sig .tc .vmem S8x128 .f32 := scM2.view

/-! Each list of pieces covers its buffer. -/

theorem coverR (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) (y : S6x8x1024.Idx) :
    ∃ pc ∈ (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).1, y ∈ pc.1.set :=
  View.cover_of_tiledL (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).1 S1x8x128.size (by sl_kernel_rfl) y

theorem coverM (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) (y : S8x128.Idx) :
    ∃ pc ∈ (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.1, y ∈ pc.1.set :=
  View.cover_of_tiledL (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.1 S8x128.size (by sl_kernel_rfl) y

theorem cover8 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) (y : S1x1x1024x512.Idx) :
    ∃ pc ∈ (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).1, y ∈ pc.1.set :=
  View.cover_of_tiledL (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).1 S1x1x256x512.size (by sl_kernel_rfl) y

theorem cover9 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) (y : S1x1x256x512.Idx) :
    ∃ pc ∈ (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.1, y ∈ pc.1.set :=
  View.cover_of_tiledL (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.1 S1x1x256x512.size (by sl_kernel_rfl) y

theorem cover11 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec F S8x128 .f32) (y : S2x4.Idx) :
    ∃ pc ∈ (mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).1, y ∈ pc.1.set :=
  View.cover_of_tiledL (mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).1 S1x4.size (by sl_kernel_rfl) y

/-- The gate rows the first head leaves in the scratch. -/
def gRows (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) : Vec F S6x8x1024 .f32 :=
  VS0.read (Elt F) (VS0.writes (Elt F) VS0.junk (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).1)

/-- The final running maxima the first head leaves in the scratch. -/
def gMfin (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) : Vec F S8x128 .f32 :=
  VS2.read (Elt F) (VS2.writes (Elt F) VS2.junk (gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.1)

/-- What a head leaves as its rows of the output. -/
def hOut (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) : Vec F S1x1x1024x512 .bf16 :=
  VO8.read (Elt F) (VO8.writes (Elt F) VO8.junk (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).1)

/-- What a head leaves as its matrix state. -/
def cOut (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) : Vec F S1x1x256x512 .f32 :=
  VO9.read (Elt F) (VO9.writes (Elt F) VO9.junk (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.1)

/-- What the first head leaves as the result of the running maxima. -/
def mOut (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec F S8x128 .f32) : Vec F S2x4 .f32 :=
  VO11.read (Elt F) (VO11.writes (Elt F) VO11.junk (mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).1)

/-- What a head leaves as its row of the normaliser. -/
def nPay (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) : Vec F S1x1x256 .f32 :=
  k0_pay1 (restRun.sl.v748 c i arg2 harg2 arg4 harg4 arg13 harg13 x1 x3 xs0)

theorem restRun_L10 (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) :
    (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.2.1 = [⟨Rect.unit (s := S2x4x256) (k0_off23 i) S1x1x256.size (k0_off23_inb i), nPay c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0⟩] := rfl

/-- The gates' stretch at the first head, over the contents it leaves. -/
theorem gates_spec (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec F S2x4x16 .f32) (x5 : Vec F S2x4x16 .f32) (x6 : Vec F S2x4x1024 .f32) (x7 : Vec F S2x4x1024 .f32) (E : Set ℕ) {α : Type} (κ : Prog (TpuEff nD τ sig (Elt F) Λ₀ .tc) α) (Q : α → sProp 𝕄) :
    iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg13 fullShare d) ∗ (∃ d, owns (c : Thread nD τ) arg15 fullShare d) ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg13 fullShare (gRows c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7) ∗ owns (c : Thread nD τ) arg15 fullShare (gMfin c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7)) -∗ wp frame (wpE (defs₀ (F := F)) Variants.none c none) E κ Q))
      ⊢ wp frame (wpE (defs₀ (F := F)) Variants.none c none) E (gatesK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q := by
  unfold gRows gMfin
  iintro ⟨H4, H5, H6, H7, HS0, HS2, Hk⟩
  iapply ((gatesRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7).2.2 E κ Q)
  isplitl [H4]; · iexact H4
  isplitl [H5]; · iexact H5
  isplitl [H6]; · iexact H6
  isplitl [H7]; · iexact H7
  isplitl [HS0]; · iexact HS0
  isplitl [HS2]; · iexact HS2
  iintro ⟨H4, H5, H6, H7, ⟨%e0, HS0⟩, ⟨%e2, HS2⟩⟩
  iapply Hk
  isplitl [H4]; · iexact H4
  isplitl [H5]; · iexact H5
  isplitl [H6]; · iexact H6
  isplitl [H7]; · iexact H7
  isplitl [HS0]
  · unfold owns; iexists _; isplitr
    swap; · iexact HS0
    ipureintro; exact View.read_writes_of_cover _ _ _ _ _ (coverR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7)
  unfold owns; iexists _; isplitr
  swap; · iexact HS2
  ipureintro; exact View.read_writes_of_cover _ _ _ _ _ (coverM c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7)

/-- The head's own work, over the contents it leaves. -/
theorem rest_spec (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec F S1x1x1024x256 .fp8e4m3) (x1 : Vec F S1x1x1024x256 .fp8e4m3) (x2 : Vec F S1x1x1024x512 .fp8e4m3) (x3 : Vec F S1x1x16x256 .f32) (xs0 : Vec F S6x8x1024 .f32) (x10 : Vec F S2x4x256 .f32) (E : Set ℕ) {α : Type} (κ : Prog (TpuEff nD τ sig (Elt F) Λ₀ .tc) α) (Q : α → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ owns (c : Thread nD τ) arg11 fullShare x10 ∗ owns (c : Thread nD τ) arg13 fullShare xs0 ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (hOut c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0) ∗ owns (c : Thread nD τ) arg10 fullShare (cOut c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0) ∗ owns (c : Thread nD τ) arg11 fullShare (arg11.view.read (Elt F) (arg11.view.writes (Elt F) (harg11.unread x10) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.2.1)) ∗ owns (c : Thread nD τ) arg13 fullShare xs0 ∗ (∃ d, owns (c : Thread nD τ) arg14 fullShare d)) -∗ wp frame (wpE (defs₀ (F := F)) Variants.none c none) E κ Q))
      ⊢ wp frame (wpE (defs₀ (F := F)) Variants.none c none) E (restK i arg1 harg1 arg2 harg2 arg3 harg3 arg4 harg4 arg5 harg5 arg6 harg6 arg7 harg7 arg8 harg8 arg9 harg9 arg10 harg10 arg11 harg11 arg12 harg12 arg13 harg13 arg14 harg14 arg15 harg15 κ) Q := by
  unfold hOut cOut
  iintro ⟨H0, H1, H2, H3, H8, H9, H10, HS0, HS1, Hk⟩
  iapply ((restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0).2.2.2.2 x10 E κ Q)
  isplitl [H0]; · iexact H0
  isplitl [H1]; · iexact H1
  isplitl [H2]; · iexact H2
  isplitl [H3]; · iexact H3
  isplitl [H8]; · iexact H8
  isplitl [H9]; · iexact H9
  isplitl [H10]; · iexact H10
  isplitl [HS0]; · iexact HS0
  isplitl [HS1]; · iexact HS1
  iintro ⟨H0, H1, H2, H3, ⟨%e8, H8⟩, ⟨%e9, H9⟩, H10, HS0, ⟨%e1, HS1⟩⟩
  iapply Hk
  isplitl [H0]; · iexact H0
  isplitl [H1]; · iexact H1
  isplitl [H2]; · iexact H2
  isplitl [H3]; · iexact H3
  isplitl [H8]
  · unfold owns; iexists _; isplitr
    swap; · iexact H8
    ipureintro; exact View.read_writes_of_cover _ _ _ _ _ (cover8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0)
  isplitl [H9]
  · unfold owns; iexists _; isplitr
    swap; · iexact H9
    ipureintro; exact View.read_writes_of_cover _ _ _ _ _ (cover9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0)
  isplitl [H10]
  · unfold owns; iexists _; isplitr
    swap; · iexact H10
    ipureintro; rfl
  isplitl [HS0]; · iexact HS0
  iexists _; unfold owns; iexists _; isplitr
  swap; · iexact HS1
  ipureintro; rfl

/-- The last stretch at the first head, over the contents it leaves. -/
theorem m_spec (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec F S8x128 .f32) (E : Set ℕ) (Q : PUnit → sProp 𝕄) :
    iprop((∃ d, owns (c : Thread nD τ) arg12 fullShare d) ∗ owns (c : Thread nD τ) arg15 fullShare y0 ∗ (iprop(owns (c : Thread nD τ) arg12 fullShare (mOut c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0) ∗ owns (c : Thread nD τ) arg15 fullShare y0) -∗ Q ⟨⟩))
      ⊢ wp frame (wpE (defs₀ (F := F)) Variants.none c none) E (mEnd i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  unfold mOut
  iintro ⟨H11, HS2, Hk⟩
  iapply ((mRun c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0).2 E Q)
  isplitl [H11]; · iexact H11
  isplitl [HS2]; · iexact HS2
  iintro ⟨⟨%e, H11⟩, HS2⟩
  iapply Hk
  isplitl [H11]
  · unfold owns; iexists _; isplitr
    swap; · iexact H11
    ipureintro; exact View.read_writes_of_cover _ _ _ _ _ (cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0)
  iexact HS2

end Cert.Kernel.Run
-- ==== Proof.K.Pipe.lean ====
module

public import proofs.«01_k».proof.Proof.K.Spec
public import Idealize.ShloMosaic.Lib.Pipeline.DatRel
public import Mathlib.Tactic.IntervalCases

/-!
# The pipeline

The proof data of the kernel's one pipeline.  The gate rows are carried between the points in a scratch; the rows of
the normaliser accumulate in one output buffer, and the result of the running maxima is stored at the first point and
stays: these two outputs are held to a predicate from point to point.
-/

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x1x1024x256 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024x256 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x512 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x16x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x4x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x4x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x4x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x256x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x4x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x4 .f32 := win0_11.stage (cfg0.slots t 11)
abbrev hs11 (t : Fin cfg0.N) : (ms11 t).IsWhole := hstage0_11 ((cfg0.slots t 11).cast nbuf0_11)

/-- The first point. -/
abbrev t0 : Fin cfg0.N := ⟨0, by rw [show cfg0.N = 8 from N_0]; decide⟩

theorem cond_t0 : cond0 (grid0.coords t0) := (hcond0 t0).mpr rfl
theorem cond2_t0 : k0_cond2 (grid0.coords t0) = 1#1 := (hcond2 t0).mpr rfl

/-- The gate rows, as the first point leaves them in the scratch. -/
def rowsV (c : Dev nD) : Vec F S6x8x1024 .f32 :=
  gRows c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) scM0 (Memref.isWhole_whole _) scM1 (Memref.isWhole_whole _) scM2 (Memref.isWhole_whole _) cond_t0 (iblk m c 4 t0) (iblk m c 5 t0) (iblk m c 6 t0) (iblk m c 7 t0)

/-- The final running maxima, as the first point leaves them in the scratch. -/
def mfinV (c : Dev nD) : Vec F S8x128 .f32 :=
  gMfin c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) scM0 (Memref.isWhole_whole _) scM1 (Memref.isWhole_whole _) scM2 (Memref.isWhole_whole _) cond_t0 (iblk m c 4 t0) (iblk m c 5 t0) (iblk m c 6 t0) (iblk m c 7 t0)

/-- The result of the running maxima. -/
def mV (c : Dev nD) : Vec F S2x4 .f32 :=
  mOut c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) scM0 (Memref.isWhole_whole _) scM1 (Memref.isWhole_whole _) scM2 (Memref.isWhole_whole _) cond2_t0 (mfinV m c)

/-- The rows of the output at a point. -/
def hV (c : Dev nD) (t : Fin cfg0.N) : Vec F S1x1x1024x512 .bf16 :=
  hOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c)

/-- The matrix state at a point. -/
def cV (c : Dev nD) (t : Fin cfg0.N) : Vec F S1x1x256x512 .f32 :=
  cOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c)

/-- The row of the normaliser at a point. -/
def nV (c : Dev nD) (t : Fin cfg0.N) : Vec F S1x1x256 .f32 :=
  nPay c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c)

/-- Where the point's row of the normaliser lies. -/
abbrev nRect (t : Fin cfg0.N) : Rect S2x4x256 := Rect.unit (s := S2x4x256) (k0_off23 (grid0.coords t)) S1x1x256.size (k0_off23_inb (grid0.coords t))

/-- What the normaliser's buffer holds after a point: the rows of all points so far. -/
def nOk (c : Dev nD) (t : Fin cfg0.N) (X : Vec F S2x4x256 .f32) : Prop :=
  ∀ s : Fin cfg0.N, s.val ≤ t.val → ∀ x : S1x1x256.Idx, X ((nRect s).emb x) = nV m c s x

/-- The offsets of the point's row. -/
theorem off23 (t : Fin cfg0.N) : k0_off23 (grid0.coords t) = ![t.val / 4, t.val % 4, 0] := by
  have ht : t.val < 8 := Nat.lt_of_lt_of_eq t.isLt N_0
  have h0 := coords0 t
  unfold k0_off23
  rw [h0]
  generalize t.val = n at ht
  interval_cases n <;> rfl

/-- Rows of different points do not meet. -/
theorem nRect_disj (s t : Fin cfg0.N) (h : s.val < t.val) (x : (nRect s).shape.Idx) : (nRect s).emb x ∉ (nRect t).set := by
  have hs : s.val < 8 := Nat.lt_of_lt_of_eq s.isLt N_0
  have ht : t.val < 8 := Nat.lt_of_lt_of_eq t.isLt N_0
  have hx0 : (x 0).val = 0 := Nat.lt_one_iff.mp (x 0).isLt
  have hx1 : (x 1).val = 0 := Nat.lt_one_iff.mp (x 1).isLt
  have e0 : ((nRect s).emb x 0).val = s.val / 4 := by
    rw [Rect.emb_apply]; show (k0_off23 (grid0.coords s)) 0 + 1 * (x 0).val = _
    rw [off23, hx0]; rfl
  have e1 : ((nRect s).emb x 1).val = s.val % 4 := by
    rw [Rect.emb_apply]; show (k0_off23 (grid0.coords s)) 1 + 1 * (x 1).val = _
    rw [off23, hx1]; rfl
  have o0 : (nRect t).off 0 = t.val / 4 := by
    show (k0_off23 (grid0.coords t)) 0 = _
    rw [off23]; rfl
  have o1 : (nRect t).off 1 = t.val % 4 := by
    show (k0_off23 (grid0.coords t)) 1 = _
    rw [off23]; rfl
  by_cases hd : s.val / 4 = t.val / 4
  · exact (nRect t).not_mem_set_of_axis _ 1 _ 1 o1 rfl rfl (by rw [e1]; omega)
  · exact (nRect t).not_mem_set_of_axis _ 0 _ 1 o0 rfl rfl (by rw [e0]; omega)

/-- Storing one rectangle leaves what lies outside it. -/
theorem row_miss {sh : Shape} {e : EltTy} (v : Memref sig .tc .vmem sh e) (hv : v.IsWhole) (Y : sh.Idx → Elt F e) (r : Rect sh) (w : r.shape.Idx → Elt F e)
    (y : sh.Idx) (h : y ∉ r.set) : v.view.read (Elt F) (v.view.writes (Elt F) (hv.unread Y) [⟨r, w⟩]) y = Y y := by
  refine (View.read_writes_cons_miss _ _ _ _ _ h).trans ?_
  rw [View.writes_nil, hv.read_unread]

/-- Storing a point's row keeps the rows before it. -/
theorem row_step (N : (s : Fin cfg0.N) → (nRect s).shape.Idx → Elt F .f32) (t : Fin cfg0.N) (v : Memref sig .tc .vmem S2x4x256 .f32) (hv : v.IsWhole) (Y : Vec F S2x4x256 .f32)
    (hY : ∀ s : Fin cfg0.N, s.val < t.val → ∀ x : (nRect s).shape.Idx, Y ((nRect s).emb x) = N s x)
    (s : Fin cfg0.N) (hs : s.val ≤ t.val) (x : (nRect s).shape.Idx) :
    v.view.read (Elt F) (v.view.writes (Elt F) (hv.unread Y) [⟨nRect t, N t⟩]) ((nRect s).emb x) = N s x := by
  rcases Nat.lt_or_eq_of_le hs with h | h
  · exact (row_miss v hv Y (nRect t) (N t) _ (nRect_disj s t h x)).trans (hY s h x)
  · obtain rfl : s = t := Fin.ext h
    exact View.read_writes_cons_emb v.view (hv.unread Y) (nRect s) (N s) [] x

theorem nOk_step (c : Dev nD) (t : Fin cfg0.N) (v : Memref sig .tc .vmem S2x4x256 .f32) (hv : v.IsWhole) (Y : Vec F S2x4x256 .f32)
    (hY : ∀ s : Fin cfg0.N, s.val < t.val → ∀ x : S1x1x256.Idx, Y ((nRect s).emb x) = nV m c s x)
    (L : List (View.Piece (Elt F) S2x4x256 .f32)) (hL : L = [⟨nRect t, nV m c t⟩]) :
    nOk m c t (v.view.read (Elt F) (v.view.writes (Elt F) (hv.unread Y) L)) := by
  subst hL
  exact row_step (nV m c) t v hv Y hY

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: after the first point the scratch rows hold the gate rows. -/
def PhiS (c : Dev nD) : ℕ → sProp 𝕄
  | 0 => Pipeline.ΦA spec0 c
  | _ + 1 => iprop(iprop(owns (c : Thread nD τ) scM0 fullShare (rowsV m c) ∗ (∃ d, owns (c : Thread nD τ) scM1 fullShare d) ∗ (∃ d, owns (c : Thread nD τ) scM2 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0 fullShare (rowsV m c) ∗ (∃ d, owns (c : Thread nD τ) scM1 fullShare d) ∗ (∃ d, owns (c : Thread nD τ) scM2 fullShare d)) ∗ (∃ r, prngReg c r)) := rfl

theorem PhiS_pos (c : Dev nD) (n : ℕ) (hz : n ≠ 0) :
    PhiS m c n = iprop(iprop(owns (c : Thread nD τ) scM0 fullShare (rowsV m c) ∗ (∃ d, owns (c : Thread nD τ) scM1 fullShare d) ∗ (∃ d, owns (c : Thread nD τ) scM2 fullShare d)) ∗ (∃ r, prngReg c r)) := by
  cases n with
  | zero => exact absurd rfl hz
  | succ n => rfl

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hV m c t
    | ⟨9, _⟩ => cV m c t
    | ⟨10, _⟩ => fun _ => Classical.ofNonempty
    | ⟨11, _⟩ => mV m c
  Φ t := PhiS m c t.val
  q _ := fullShare
  owed _ := 0

/-- The windows held to a predicate: the normaliser and the running maxima. -/
def fgt : Fin cfg0.W → Bool
  | ⟨10, _⟩ => true
  | ⟨11, _⟩ => true
  | _ => false

/-- What each of them is held to. -/
def Rl (c : Dev nD) : (w : Fin cfg0.W) → Fin cfg0.N → ((cfg0.win w).block.Idx → Elt F (cfg0.win w).elt) → Prop
  | ⟨10, _⟩, t, X => nOk m c t X
  | ⟨11, _⟩, _, X => X = mV m c
  | _, _, _ => True

/-- The relational reading of the proof data. -/
def rdat (c : Dev nD) : Pipeline.RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = hV m c t := by dsimp only [dats]
theorem after_9 (c : Dev nD) (t : Fin cfg0.N) : (dats m 0 c).after 9 t = cV m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the normaliser's buffer may hold when the body runs at a later point: the rows of the points before. -/
theorem finds_10 (c : Dev nD) (t : Fin cfg0.N) (Y) (h : ((dats m 0 c).toRRel fgt (Rl m c)).Finds 10 t Y) :
    ∀ s : Fin cfg0.N, s.val < t.val → ∀ x : S1x1x256.Idx, Y ((nRect s).emb x) = nV m c s x := by
  intro s hs x
  have hz : t.val ≠ 0 := by omega
  have ht : t.val < 8 := Nat.lt_of_lt_of_eq t.isLt N_0
  rw [Pipeline.RDat.finds_of_pos _ ((cfg0.win 10).fetch_out rfl t) hz] at h
  rcases h with h | h
  · rw [flush0_10] at h; simp only at h; omega
  · have h2 : nOk m c ⟨t.val - 1, by omega⟩ Y := Pipeline.Dat.toRRel_leaves (dats m 0 c) (fgt := fgt) (Rl := Rl m c) (w := 10) rfl h
    exact h2 s (by simp only; omega) x

/-- What the running maxima's buffer may hold when the body runs at a later point: the result. -/
theorem finds_11 (c : Dev nD) (t : Fin cfg0.N) (hz : t.val ≠ 0) (Y) (h : ((dats m 0 c).toRRel fgt (Rl m c)).Finds 11 t Y) :
    Y = mV m c := by
  have ht : t.val < 8 := Nat.lt_of_lt_of_eq t.isLt N_0
  rw [Pipeline.RDat.finds_of_pos _ ((cfg0.win 11).fetch_out rfl t) hz] at h
  rcases h with h | h
  · rw [flush0_11] at h; simp only at h; omega
  · exact Pipeline.Dat.toRRel_leaves (dats m 0 c) (fgt := fgt) (Rl := Rl m c) (w := 11) rfl h

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ Y, ⌜((dats m 0 c).toRRel fgt (Rl m c)).Finds 10 t Y⌝ ∗ owns (c : Thread nD τ) (ms10 t) fullShare Y)
    ∗ (∃ Y, ⌜((dats m 0 c).toRRel fgt (Rl m c)).Finds 11 t Y⌝ ∗ owns (c : Thread nD τ) (ms11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ (∃ X, ⌜nOk m c t X⌝ ∗ owns (c : Thread nD τ) (ms10 t) fullShare X)
    ∗ (∃ X, ⌜X = mV m c⌝ ∗ owns (c : Thread nD τ) (ms11 t) fullShare X))

/-- The gate rows at a point known to be the first. -/
theorem rowsV_first (c : Dev nD) (t : Fin cfg0.N) (hz : t.val = 0) :
    rowsV m c = gRows c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond0 t).mpr hz) (iblk m c 4 t) (iblk m c 5 t) (iblk m c 6 t) (iblk m c 7 t) := by
  obtain rfl : t = t0 := Fin.ext hz
  rfl

theorem mV_first (c : Dev nD) (t : Fin cfg0.N) (hz : t.val = 0) :
    mOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond2 t).mpr hz) (gMfin c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond0 t).mpr hz) (iblk m c 4 t) (iblk m c 5 t) (iblk m c 6 t) (iblk m c 7 t)) = mV m c := by
  obtain rfl : t = t0 := Fin.ext hz
  rfl

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9, Phi_eq, Phi_eq]
  rw [show (t.succ : Fin (cfg0.N + 1)).val = t.val + 1 from rfl, show (t.castSucc : Fin (cfg0.N + 1)).val = t.val from rfl, PhiS_succ]
  obtain ⟨Q', hQ1, hQ2⟩ := body_split (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) Set.univ (fun _ => bodyPost m c t)
  unfold bodyPost at hQ1 hQ2
  rw [show (dats m 0 c).owesAt () t.succ = (dats m 0 c).owesAt () t.castSucc from rfl,
    after_0, after_1, after_2, after_3, after_4, after_5, after_6, after_7, after_8, after_9, Phi_eq] at hQ1 hQ2
  rw [show (t.succ : Fin (cfg0.N + 1)).val = t.val + 1 from rfl, PhiS_succ] at hQ1 hQ2
  rw [hQ1]
  by_cases hz : t.val = 0
  · rw [PhiS_zero m c _ hz, PhiA_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %hY10, H10⟩, ⟨%Y11, %hY11, H11⟩⟩
    iapply (gates_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond0 t).mpr hz) (iblk m c 4 t) (iblk m c 5 t) (iblk m c 6 t) (iblk m c 7 t) Set.univ _ Q')
    isplitl [H4]; · iexact H4
    isplitl [H5]; · iexact H5
    isplitl [H6]; · iexact H6
    isplitl [H7]; · iexact H7
    isplitl [HS0]; · iexact HS0
    isplitl [HS2]; · iexact HS2
    iintro ⟨H4, H5, H6, H7, HS0, HS2⟩
    rw [← hQ2]
    iapply (rest_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c) Y10 Set.univ _ _)
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexact H10
    isplitl [HS0]; · rw [rowsV_first m c t hz]; iexact HS0
    isplitl [HS1]; · iexact HS1
    iintro ⟨H0, H1, H2, H3, H8, H9, H10, HS0, HS1⟩
    iapply (m_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) ((hcond2 t).mpr hz) _ Set.univ _)
    isplitl [H11]; · iexists _; iexact H11
    isplitl [HS2]; · iexact HS2
    iintro ⟨H11, HS2⟩
    isplitl [HS0 HS1 HS2 Hg]
    · isplitl [HS0 HS1 HS2]
      · isplitl [HS0]
        · iexact HS0
        isplitl [HS1]
        · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold hV; iexact H8
    isplitl [H9]; · unfold cV; iexact H9
    isplitl [H10]
    · iexists _; isplitr
      swap; · iexact H10
      ipureintro; exact nOk_step m c t (ms10 t) (hs10 t) Y10 (finds_10 m c t Y10 hY10) _ (restRun_L10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c))
    iexists _; isplitr
    swap; · iexact H11
    ipureintro; exact mV_first m c t hz
  · rw [PhiS_pos m c _ hz, gatesSkip c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (fun h => hz ((hcond0 t).mp h))]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %hY10, H10⟩, ⟨%Y11, %hY11, H11⟩⟩
    rw [← hQ2]
    iapply (rest_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c) Y10 Set.univ _ _)
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexact H10
    isplitl [HS0]; · iexact HS0
    isplitl [HS1]; · iexact HS1
    iintro ⟨H0, H1, H2, H3, H8, H9, H10, HS0, HS1⟩
    rw [mSkip c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (fun h => hz ((hcond2 t).mp h))]
    sl_step
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold hV; iexact H8
    isplitl [H9]; · unfold cV; iexact H9
    isplitl [H10]
    · iexists _; isplitr
      swap; · iexact H10
      ipureintro; exact nOk_step m c t (ms10 t) (hs10 t) Y10 (finds_10 m c t Y10 hY10) _ (restRun_L10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM0 (Memref.isWhole_whole _) scM1 (Memref.isWhole_whole _) scM2 (Memref.isWhole_whole _) (iblk m c 0 t) (iblk m c 1 t) (iblk m c 2 t) (iblk m c 3 t) (rowsV m c))
    iexists _; isplitr
    swap; · iexact H11
    ipureintro; exact finds_11 m c t hz Y11 hY11

/-- The body table's row at the point's slots is the body. -/
theorem defs₀_row (t : Fin cfg0.N) :
    defs₀ (F := F) .tc cfg0.body (cfg0.bodyArgs t (cfg0.slots t)) = bodyAt0 t := by
  unfold defs₀; rw [Defs.onTc_tc]

/-- The body obligation, the two accumulating windows held to their predicates. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (rdat m c).Φ 0 := by
  rw [show (rdat m c).Φ 0 = PhiS m c 0 from rfl, PhiS_zero m c 0 rfl]

/-- After the last point the invariant gives it back. -/
theorem hout (c : Dev nD) : (rdat m c).Φ (Fin.last cfg0.N) ⊢ Pipeline.ΦA spec0 c := by
  rw [show (rdat m c).Φ (Fin.last cfg0.N) = PhiS m c (Fin.last cfg0.N).val from rfl,
    PhiS_pos m c _ (by rw [Fin.val_last]; have : cfg0.N = 8 := N_0; omega), PhiA_eq]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch: every fair execution of the program ends, every array of the pipeline at contents the proof data allow,
every other buffer as at the start, and every semaphore counter at zero. -/
theorem run_main : θ_run defs (onTc (τ := τ) (main (F := F))) (s₀ m ρ)
    (fun r => (Pipeline.RDat.FramePost cfg0 (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 4 rfl).trans ((A_eq m c 4).trans (V_main_arg3 m c)),
      (h.1.arr_in c 3 rfl).trans ((A_eq m c 3).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c))⟩, h.2⟩) (run_main m ρ)

end Cert.Kernel.Run
-- ==== Proof.M.Math.lean ====
module

public import Mathlib.Analysis.SpecialFunctions.Log.Basic
public import Mathlib.Analysis.SpecialFunctions.Exp
public import Mathlib.Data.EReal.Operations
public import Mathlib.Algebra.BigOperators.Fin

@[expose] public section

/-!
# The closed form of the gated scan, over the reals

One batch entry and head. Time is a natural number; chunk `c` holds the times `64 c … 64 c + 63`. Both programs are
shown to compute the quantities of this file: the running maximum `mu`, the state `Cs`, the normaliser `Ns`, the
numerator `hnum` and the denominator `hden` of the output.
-/

noncomputable section

namespace Cert.M

/-- The inputs of one batch entry and head: codes of q, k, v by time, scales by chunk, the two gates by time. -/
structure Inp where
  q : ℕ → Fin 256 → ℝ
  k : ℕ → Fin 256 → ℝ
  v : ℕ → Fin 512 → ℝ
  qs : ℕ → ℝ
  ks : ℕ → Fin 256 → ℝ
  vs : ℕ → ℝ
  ig : ℕ → ℝ
  fp : ℕ → ℝ

/-- The maximum of `g 0 … g n`. -/
def wmax (g : ℕ → ℝ) : ℕ → ℝ
  | 0 => g 0
  | n + 1 => max (wmax g n) (g (n + 1))

theorem wmax_le (g : ℕ → ℝ) (n : ℕ) (x : ℝ) : wmax g n ≤ x ↔ ∀ i ≤ n, g i ≤ x := by
  induction n with
  | zero => simp [wmax]
  | succ n ih =>
    rw [wmax, max_le_iff, ih]
    constructor
    · rintro ⟨h, h'⟩ i hi
      rcases Nat.lt_or_ge n i with h1 | h1
      · obtain rfl : i = n + 1 := by omega
        exact h'
      · exact h i h1
    · exact fun h => ⟨fun i hi => h i (by omega), h _ le_rfl⟩

theorem wmax_congr {g g' : ℕ → ℝ} {n : ℕ} (h : ∀ i ≤ n, g i = g' i) : wmax g n = wmax g' n :=
  eq_of_forall_ge_iff fun x => by
    rw [wmax_le, wmax_le]
    exact forall₂_congr fun i hi => by rw [h i hi]

theorem wmax_add (g : ℕ → ℝ) (x : ℝ) (n : ℕ) : wmax (fun i => x + g i) n = x + wmax g n := by
  induction n with
  | zero => rfl
  | succ n ih => rw [wmax, wmax, ih, max_add_add_left]

theorem wmax_mul (g : ℕ → ℝ) {x : ℝ} (hx : 0 ≤ x) (n : ℕ) : wmax (fun i => g i * x) n = wmax g n * x := by
  induction n with
  | zero => rfl
  | succ n ih => rw [wmax, wmax, ih, max_mul_of_nonneg _ _ hx]

/-- A maximum of two windows that meet is the maximum of their union. -/
theorem wmax_join (g : ℕ → ℝ) (a n : ℕ) : wmax g (a + n + 1) = max (wmax g a) (wmax (fun i => g (a + 1 + i)) n) := by
  induction n with
  | zero => rfl
  | succ n ih =>
    rw [show a + (n + 1) + 1 = (a + n + 1) + 1 from rfl, wmax, ih, wmax, max_assoc]
    rw [show a + n + 1 + 1 = a + 1 + (n + 1) by omega]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_max' (x y : ℝ) : ((max x y : ℝ) : EReal) = max (x : EReal) (y : EReal) :=
  (EReal.coe_strictMono.monotone).map_max

/-- The maximum of a finite family of reals, folded from `⊥` at the extended reals. -/
theorem fold_max {N : ℕ} (g : ℕ → ℝ) : (Finset.univ : Finset (Fin (N + 1))).fold max (⊥ : EReal) (fun k : Fin (N + 1) => (g (k : ℕ) : EReal)) = (wmax g N : EReal) := by
  induction N with
  | zero => simp [wmax]
  | succ n ih =>
    rw [wmax, coe_max', ← ih]
    apply eq_of_forall_ge_iff
    intro c
    rw [Finset.fold_max_le, max_le_iff, Finset.fold_max_le]
    constructor
    · rintro ⟨h0, h⟩
      exact ⟨⟨h0, fun x _ => h x.castSucc (Finset.mem_univ _)⟩, h (Fin.last _) (Finset.mem_univ _)⟩
    · rintro ⟨⟨h0, h⟩, h'⟩
      refine ⟨h0, fun x _ => ?_⟩
      rcases Fin.eq_castSucc_or_eq_last x with ⟨y, rfl⟩ | rfl
      · exact h y (Finset.mem_univ _)
      · exact h'

/-- As `fold_max`, when only the first `t + 1` members are reals and the others are `⊥`. -/
theorem fold_max_ite {N : ℕ} (g : ℕ → ℝ) (t : ℕ) (ht : t ≤ N) :
    (Finset.univ : Finset (Fin (N + 1))).fold max (⊥ : EReal) (fun k : Fin (N + 1) => if (k : ℕ) ≤ t then (g (k : ℕ) : EReal) else ⊥) = (wmax g t : EReal) := by
  rw [← fold_max]
  apply eq_of_forall_ge_iff
  intro c
  rw [Finset.fold_max_le, Finset.fold_max_le]
  refine and_congr_right fun _ => ⟨fun h x _ => ?_, fun h x _ => ?_⟩
  · have := h ⟨x, by omega⟩ (Finset.mem_univ _)
    rwa [if_pos (show ((⟨x, _⟩ : Fin (N + 1)) : ℕ) ≤ t by have := x.2; simp; omega)] at this
  · split
    · rename_i hx
      exact h ⟨x, by omega⟩ (Finset.mem_univ _)
    · exact bot_le

namespace Inp

variable (I : Inp)

/-- The logarithm of the forget gate. -/
def lf (t : ℕ) : ℝ := min (I.fp t) 0 - Real.log (1 + Real.exp (-|I.fp t|))
/-- The sum of the first `n` of them. -/
def Fp (n : ℕ) : ℝ := ∑ u ∈ Finset.range n, I.lf u
/-- The input gate at time `s`, decay divided out. -/
def G (s : ℕ) : ℝ := I.ig s - I.Fp (s + 1)
/-- The running maximum of `G`, from `0`. -/
def mu : ℕ → ℝ
  | 0 => 0
  | n + 1 => max (mu n) (I.G n)
/-- The stabiliser after `n` steps. -/
def ms (n : ℕ) : ℝ := I.Fp n + I.mu n
/-- The weight of time `s` after `n` steps. -/
def W (n s : ℕ) : ℝ := Real.exp (I.G s - I.mu n)
def kk (s : ℕ) (d : Fin 256) : ℝ := I.k s d * I.ks (s / 64) d
def vv (s : ℕ) (e : Fin 512) : ℝ := I.v s e * I.vs (s / 64)
def qk (t s : ℕ) : ℝ := ∑ d, I.q t d * I.kk s d
def qsc (t : ℕ) : ℝ := I.qs (t / 64) * (1 / 16)
def Cs (n : ℕ) (d : Fin 256) (e : Fin 512) : ℝ := ∑ s ∈ Finset.range n, I.W n s * I.kk s d * I.vv s e
def Ns (n : ℕ) (d : Fin 256) : ℝ := ∑ s ∈ Finset.range n, I.W n s * I.kk s d
def hnum (t : ℕ) (e : Fin 512) : ℝ := ∑ s ∈ Finset.range (t + 1), I.W (t + 1) s * I.qk t s * I.vv s e
def hden (t : ℕ) : ℝ := ∑ s ∈ Finset.range (t + 1), I.W (t + 1) s * I.qk t s
def h (t : ℕ) (e : Fin 512) : ℝ :=
  (I.hnum t e * I.qsc t) / max |I.hden t * I.qsc t| (Real.exp (-I.ms (t + 1)))

theorem Fp_add (a n : ℕ) : I.Fp (a + n) = I.Fp a + ∑ u : Fin n, I.lf (a + u) := by
  rw [Fp, Fp, Finset.sum_range_add, Finset.sum_range (fun x => I.lf (a + x))]

theorem mu_add (a n : ℕ) : I.mu (a + n + 1) = max (I.mu a) (wmax (fun i => I.G (a + i)) n) := by
  induction n with
  | zero => rfl
  | succ n ih => rw [show a + (n + 1) + 1 = (a + n + 1) + 1 from rfl, mu, ih, wmax, max_assoc]; rfl

theorem W_shift (a b s : ℕ) : Real.exp (I.mu a - I.mu b) * I.W a s = I.W b s := by
  rw [W, W, ← Real.exp_add]
  congr 1
  ring

theorem Cs_add (a n : ℕ) (d : Fin 256) (e : Fin 512) : I.Cs (a + n) d e
    = Real.exp (I.mu a - I.mu (a + n)) * I.Cs a d e + ∑ j : Fin n, I.W (a + n) (a + j) * I.kk (a + j) d * I.vv (a + j) e := by
  rw [Cs, Cs, Finset.sum_range_add, Finset.sum_range (fun x => I.W (a + n) (a + x) * I.kk (a + x) d * I.vv (a + x) e), Finset.mul_sum]
  congr 1
  refine Finset.sum_congr rfl fun s _ => ?_
  rw [← I.W_shift a (a + n) s]
  ring

theorem Ns_add (a n : ℕ) (d : Fin 256) : I.Ns (a + n) d
    = Real.exp (I.mu a - I.mu (a + n)) * I.Ns a d + ∑ j : Fin n, I.W (a + n) (a + j) * I.kk (a + j) d := by
  rw [Ns, Ns, Finset.sum_range_add, Finset.sum_range (fun x => I.W (a + n) (a + x) * I.kk (a + x) d), Finset.mul_sum]
  congr 1
  refine Finset.sum_congr rfl fun s _ => ?_
  rw [← I.W_shift a (a + n) s]
  ring

theorem sum_le {n : ℕ} (f : ℕ → ℝ) (r : ℕ) (h : r < n) :
    (∑ j : Fin n, if (j : ℕ) ≤ r then f j else 0) = ∑ j ∈ Finset.range (r + 1), f j := by
  rw [← Finset.sum_range (fun j => if j ≤ r then f j else 0), ← Finset.sum_filter]
  congr 1
  ext j
  simp
  omega

/-- The numerator at time `a + r`: the state at `a`, and the times from `a` on. -/
theorem hnum_add (a n r : ℕ) (hr : r < n) (e : Fin 512) : I.hnum (a + r) e
    = Real.exp (I.mu a - I.mu (a + r + 1)) * (∑ d, I.q (a + r) d * I.Cs a d e)
      + ∑ j : Fin n, if (j : ℕ) ≤ r then I.W (a + r + 1) (a + j) * I.qk (a + r) (a + j) * I.vv (a + j) e else 0 := by
  rw [sum_le (fun j => I.W (a + r + 1) (a + j) * I.qk (a + r) (a + j) * I.vv (a + j) e) r hr, hnum, add_assoc a r 1, Finset.sum_range_add]
  congr 1
  simp only [Cs, qk, Finset.mul_sum, Finset.sum_mul]
  rw [Finset.sum_comm]
  refine Finset.sum_congr rfl fun d _ => Finset.sum_congr rfl fun s _ => ?_
  rw [← I.W_shift a (a + (r + 1)) s]
  ring

theorem hden_add (a n r : ℕ) (hr : r < n) : I.hden (a + r)
    = Real.exp (I.mu a - I.mu (a + r + 1)) * (∑ d, I.q (a + r) d * I.Ns a d)
      + ∑ j : Fin n, if (j : ℕ) ≤ r then I.W (a + r + 1) (a + j) * I.qk (a + r) (a + j) else 0 := by
  rw [sum_le (fun j => I.W (a + r + 1) (a + j) * I.qk (a + r) (a + j)) r hr, hden, add_assoc a r 1, Finset.sum_range_add]
  congr 1
  simp only [Ns, qk, Finset.mul_sum, Finset.sum_mul]
  rw [Finset.sum_comm]
  refine Finset.sum_congr rfl fun d _ => Finset.sum_congr rfl fun s _ => ?_
  rw [← I.W_shift a (a + (r + 1)) s]
  ring

end Inp

end Cert.M

end
-- ==== Proof.M.Cast.lean ====
module

public import Idealize.ShloMosaic.PureOps
public import Idealize.ShloMosaic.Lib.IdealHost
public import proofs.«01_k».proof.Proof.M.Math

@[expose] public section

/-! # The extended-real operations at real arguments -/

noncomputable section

namespace Cert.M

open Idealize.ShloMosaic

theorem absf_coe {φ : FTy} (x : ℝ) : (FloatOps.absf (F := Ideal) (φ := φ) (x : EReal) : EReal) = ((|x| : ℝ) : EReal) := by
  show max (x : EReal) (-(x : EReal)) = _
  rw [← EReal.coe_neg, ← coe_max']
  rfl

theorem div_coe' (x y : ℝ) (h : y ≠ 0) : Ideal.div (x : EReal) (y : EReal) = ((x / y : ℝ) : EReal) := by
  rw [Ideal.div_coe h, ← EReal.coe_mul]
  congr 1
  field_simp

theorem exp_mask (p : Prop) [Decidable p] (a b : ℝ) :
    Ideal.exp ((if p then (a : EReal) else ⊥) - (b : EReal)) = (((if p then Real.exp (a - b) else 0) : ℝ) : EReal) := by
  split
  · rw [← EReal.coe_sub, Ideal.exp_coe]
  · rw [EReal.bot_sub]
    rfl

theorem exp2_coe (r : ℝ) : Ideal.exp2 (r : EReal) = ((Real.exp (r * Real.log 2) : ℝ) : EReal) := by
  show ((Real.rpow 2 r : ℝ) : EReal) = _
  congr 1
  show (2 : ℝ) ^ r = _
  rw [Real.rpow_def_of_pos (by norm_num), mul_comm]

theorem log1p_coe (r : ℝ) (h : 0 < r) : Ideal.log1p (r : EReal) = ((Real.log (1 + r) : ℝ) : EReal) := by
  show Ideal.log (1 + (r : EReal)) = _
  rw [show (1 : EReal) = ((1 : ℝ) : EReal) from rfl, ← EReal.coe_add, Ideal.log_coe, if_neg (by linarith)]

theorem ofBits_bot : Ideal.ofBits FTy.f32 4286578688#32 = ⊥ := by
  simp [Ideal.ofBits, Ideal.ieee]

theorem ofBits_sixteenth : Ideal.ofBits FTy.f32 1031798784#32 = ((1 / 16 : ℝ) : EReal) := by
  simp [Ideal.ofBits, Ideal.ieee]
  norm_cast
  norm_num

end Cert.M

end
-- ==== Proof.M.Win.lean ====
module

public import Idealize.ShloMosaic.Lib.Pointwise
public import proofs.«01_k».proof.Proof.M.Cast

@[expose] public section

/-! The host's cumulative sum over 64 tokens, read at a token. -/
set_option maxRecDepth 16384
noncomputable section
namespace Cert.M
open Idealize.ShloMosaic

/-- A left fold of additions is the start plus the sum. -/
theorem foldl_add_sum {α : Type*} (f : α → EReal) (l : List α) (v : EReal) :
    l.foldl (fun r n => r + f n) v = v + (l.map f).sum := by
  induction l generalizing v with
  | nil => simp
  | cons a l ih => simp only [List.foldl_cons, ih, List.map_cons, List.sum_cons, add_assoc]

/-- The positions of a window of 64 tokens. -/
def winEquiv : Fin 64 ≃ (⟨3, ![1, 1, 64]⟩ : Shape).Idx where
  toFun u := ix3 0 0 u
  invFun i := i 2
  left_inv _ := rfl
  right_inv i := by
    funext a
    fin_cases a
    · exact (Subsingleton.elim (α := Fin 1) _ _)
    · exact (Subsingleton.elim (α := Fin 1) _ _)
    · rfl

theorem cumsum_at (x : FVec Ideal ⟨3, ![8, 16, 64]⟩ .f32) (v : FVec Ideal ⟨0, ![]⟩ .f32)
    (h : Shape.ReduceWindows (⟨3, ![8, 16, 64]⟩ : Shape) ![1, 1, 64] ![1, 1, 1] ![0, 0, 63] ![0, 0, 0] ⟨3, ![8, 16, 64]⟩)
    (hu : 0 < (⟨0, ![]⟩ : Shape).numel) (hv : v (Shape.Idx.first hu) = 0)
    (z : Fin 8) (c : Fin 16) (g : ℕ → ℝ) (hx : ∀ s : Fin 64, x (ix3 z c s) = ((g s : ℝ) : EReal)) (t : Fin 64) :
    Host.reduceWindowAdd ![1, 1, 64] ![1, 1, 1] ![0, 0, 63] ![0, 0, 0] x v h hu (ix3 z c t)
      = ((∑ s ∈ Finset.range (t + 1), g s : ℝ) : EReal) := by
  unfold Host.reduceWindowAdd
  rw [Ideal.hostReduceWindowAdd_def]
  unfold Ideal.hostReduceWindowAdd Host.reduceWindow
  dsimp only
  rw [foldl_add_sum, ← List.ofFn_eq_map, List.sum_ofFn, hv, zero_add]
  have key : ∀ i : (⟨3, ![1, 1, 64]⟩ : Shape).Idx, (if hin : ∀ a : Fin 3, (![0, 0, 63] : Fin 3 → ℕ) a ≤ (((ix3 z c t : (⟨3, ![8, 16, 64]⟩ : Shape).Idx) (a.cast h.1.symm)).val * (![1, 1, 1] : Fin 3 → ℕ) a + (i a).val) ∧
      (((ix3 z c t : (⟨3, ![8, 16, 64]⟩ : Shape).Idx) (a.cast h.1.symm)).val * (![1, 1, 1] : Fin 3 → ℕ) a + (i a).val) - (![0, 0, 63] : Fin 3 → ℕ) a < (![8, 16, 64] : Fin 3 → ℕ) a
      then x (fun a => ⟨_, (hin a).2⟩) else 0) = (((if 63 ≤ t.val + (winEquiv.symm i).val then g (t + (winEquiv.symm i).val - 63) else 0 : ℝ)) : EReal) := by
    intro i
    obtain ⟨u, rfl⟩ := winEquiv.surjective i
    rw [Equiv.symm_apply_apply, show winEquiv u = ix3 0 0 u from rfl]
    by_cases h63 : 63 ≤ t.val + u.val
    · rw [dif_pos, if_pos h63]
      · rw [← hx ⟨t + u - 63, by omega⟩]
        congr 1
        funext a
        fin_cases a <;> apply Fin.ext <;> simp [ix3]
      · intro a
        fin_cases a <;> simp [ix3] <;> omega
    · rw [dif_neg, if_neg h63]
      · rfl
      · intro hin
        have := (hin 2).1
        simp [ix3] at this
        omega
  refine (Fintype.sum_equiv ((Shape.rowMajor ⟨3, ![1, 1, 64]⟩).symm.trans winEquiv.symm) _
    (fun u : Fin 64 => ((if 63 ≤ t.val + u.val then g (t + u.val - 63) else 0 : ℝ) : EReal)) (fun n => (by convert key ((Shape.rowMajor ⟨3, ![1, 1, 64]⟩).symm n) <;> rfl))).trans ?_
  rw [← coe_sum]
  refine congrArg Real.toEReal ?_
  rw [Fin.sum_univ_eq_sum_range (fun u => if 63 ≤ t.val + u then g (t.val + u - 63) else 0) 64]
  rw [show Finset.range 64 = Finset.range ((63 - t.val) + (t.val + 1)) from congrArg _ (by omega), Finset.sum_range_add, Finset.sum_eq_zero, zero_add]
  · refine Finset.sum_congr rfl fun x _ => ?_
    rw [if_pos (by omega)]
    congr 1
    omega
  · intro x hx
    rw [if_neg]
    have := Finset.mem_range.1 hx
    omega
end Cert.M
-- ==== Proof.M.Args.lean ====
module

public import Idealize.ShloMosaic.Lib.Pointwise
public import proofs.«01_k».proof.Proof.M.Win

@[expose] public section

/-! # The eight arguments as reals -/

noncomputable section

namespace Cert.M

open Idealize.ShloMosaic

/-- The row of batch `b` and head `h` among the eight of batch × head. -/
def zz (b : Fin 2) (h : Fin 4) : Fin 8 := ⟨b * 4 + h, by omega⟩

theorem zz_surj (z : Fin 8) : ∃ b h, z = zz b h :=
  ⟨⟨z / 4, by omega⟩, ⟨z % 4, by omega⟩, Fin.ext (by simp [zz]; omega)⟩

/-- Every element of the eight arguments is the real that `I` says. -/
structure ArgsOk (I : Fin 8 → Inp) (a0 a1 : Vec Ideal ⟨4, ![2, 4, 1024, 256]⟩ .f32) (a2 : Vec Ideal ⟨4, ![2, 4, 1024, 512]⟩ .f32)
    (a3 : Vec Ideal ⟨3, ![2, 4, 16]⟩ .f32) (a4 : Vec Ideal ⟨4, ![2, 4, 16, 256]⟩ .f32) (a5 : Vec Ideal ⟨3, ![2, 4, 16]⟩ .f32)
    (a6 a7 : Vec Ideal ⟨3, ![2, 4, 1024]⟩ .f32) : Prop where
  h0 : ∀ b h (t : Fin 1024) (d : Fin 256), a0 (ix4 b h t d) = ((I (zz b h)).q t d : EReal)
  h1 : ∀ b h (t : Fin 1024) (d : Fin 256), a1 (ix4 b h t d) = ((I (zz b h)).k t d : EReal)
  h2 : ∀ b h (t : Fin 1024) (e : Fin 512), a2 (ix4 b h t e) = ((I (zz b h)).v t e : EReal)
  h3 : ∀ b h (c : Fin 16), a3 (ix3 b h c) = ((I (zz b h)).qs c : EReal)
  h4 : ∀ b h (c : Fin 16) (d : Fin 256), a4 (ix4 b h c d) = ((I (zz b h)).ks c d : EReal)
  h5 : ∀ b h (c : Fin 16), a5 (ix3 b h c) = ((I (zz b h)).vs c : EReal)
  h6 : ∀ b h (t : Fin 1024), a6 (ix3 b h t) = ((I (zz b h)).ig t : EReal)
  h7 : ∀ b h (t : Fin 1024), a7 (ix3 b h t) = ((I (zz b h)).fp t : EReal)

/-- The four results as functions of the reals: hidden states, final memory, final normaliser, final stabiliser. -/
def hFun (I : Fin 8 → Inp) : Vec Ideal ⟨4, ![2, 4, 1024, 512]⟩ .bf16 := fun y => ((I (zz (y 0) (y 1))).h (y 2).val (y 3) : EReal)
def cFun (I : Fin 8 → Inp) : Vec Ideal ⟨4, ![2, 4, 256, 512]⟩ .f32 := fun y => ((I (zz (y 0) (y 1))).Cs 1024 (y 2) (y 3) : EReal)
def nFun (I : Fin 8 → Inp) : Vec Ideal ⟨3, ![2, 4, 256]⟩ .f32 := fun y => ((I (zz (y 0) (y 1))).Ns 1024 (y 2) : EReal)
def mFun (I : Fin 8 → Inp) : Vec Ideal ⟨2, ![2, 4]⟩ .f32 := fun y => ((I (zz (y 0) (y 1))).ms 1024 : EReal)

variable {I : Fin 8 → Inp} {a0 a1 : Vec Ideal ⟨4, ![2, 4, 1024, 256]⟩ .f32} {a2 : Vec Ideal ⟨4, ![2, 4, 1024, 512]⟩ .f32}
    {a3 : Vec Ideal ⟨3, ![2, 4, 16]⟩ .f32} {a4 : Vec Ideal ⟨4, ![2, 4, 16, 256]⟩ .f32} {a5 : Vec Ideal ⟨3, ![2, 4, 16]⟩ .f32}
    {a6 a7 : Vec Ideal ⟨3, ![2, 4, 1024]⟩ .f32} (A : ArgsOk I a0 a1 a2 a3 a4 a5 a6 a7)

theorem zz_div (z : Fin 8) (h : (z : ℕ) / 4 < 2) (h' : (z : ℕ) % 4 < 4) : zz ⟨(z : ℕ) / 4, h⟩ ⟨(z : ℕ) % 4, h'⟩ = z := Fin.ext (by simp [zz]; omega)

include A
theorem ArgsOk.g0 (z : Fin 8) (h h') (t : Fin 1024) (d : Fin 256) : a0 (ix4 ⟨(z : ℕ) / 4, h⟩ ⟨(z : ℕ) % 4, h'⟩ t d) = ((I z).q t d : EReal) := by rw [A.h0, zz_div]
theorem ArgsOk.g1 (z : Fin 8) (h h') (t : Fin 1024) (d : Fin 256) : a1 (ix4 ⟨(z : ℕ) / 4, h⟩ ⟨(z : ℕ) % 4, h'⟩ t d) = ((I z).k t d : EReal) := by rw [A.h1, zz_div]
theorem ArgsOk.g2 (z : Fin 8) (h h') (t : Fin 1024) (d : Fin 512) : a2 (ix4 ⟨(z : ℕ) / 4, h⟩ ⟨(z : ℕ) % 4, h'⟩ t d) = ((I z).v t d : EReal) := by rw [A.h2, zz_div]
theorem ArgsOk.g3 (z : Fin 8) (h h') (c : Fin 16) : a3 (ix3 ⟨(z : ℕ) / 4, h⟩ ⟨(z : ℕ) % 4, h'⟩ c) = ((I z).qs c : EReal) := by rw [A.h3, zz_div]
theorem ArgsOk.g4 (z : Fin 8) (h h') (c : Fin 16) (d : Fin 256) : a4 (ix4 ⟨(z : ℕ) / 4, h⟩ ⟨(z : ℕ) % 4, h'⟩ c d) = ((I z).ks c d : EReal) := by rw [A.h4, zz_div]
theorem ArgsOk.g5 (z : Fin 8) (h h') (c : Fin 16) : a5 (ix3 ⟨(z : ℕ) / 4, h⟩ ⟨(z : ℕ) % 4, h'⟩ c) = ((I z).vs c : EReal) := by rw [A.h5, zz_div]
theorem ArgsOk.g6 (z : Fin 8) (h h') (t : Fin 1024) : a6 (ix3 ⟨(z : ℕ) / 4, h⟩ ⟨(z : ℕ) % 4, h'⟩ t) = ((I z).ig t : EReal) := by rw [A.h6, zz_div]
theorem ArgsOk.g7 (z : Fin 8) (h h') (t : Fin 1024) : a7 (ix3 ⟨(z : ℕ) / 4, h⟩ ⟨(z : ℕ) % 4, h'⟩ t) = ((I z).fp t : EReal) := by rw [A.h7, zz_div]

end Cert.M
-- ==== Proof.KI.Gates.lean ====
module

public import proofs.«01_k».proof.Proof.KI.RunG
public import Idealize.ShloMosaic.Lib.Pointwise
public import Idealize.ShloMosaic.Lib.KernelVsHost
public import Idealize.ShloMosaic.Lib.Pipeline.ValueKit
public import proofs.«01_k».proof.Proof.M.Cast
public import proofs.«01_k».proof.Proof.M.Args

@[expose] public section

set_option maxRecDepth 16384

/-!
# The gate values of the first head, as reals

Blocks of 128 columns; the first segment is four blocks, the second and the third two blocks each.
-/

noncomputable section

namespace Cert.KernelIdeal.Val

open Idealize.ShloMosaic Idealize.SL.Sem Cert.KernelIdeal Cert.KernelIdeal.Gen Cert.KernelIdeal.Run Cert.M

/-- A load of a part of a whole buffer that holds `X`. -/
theorem ld3 {n0 n1 n2 s0 s1 s2 o0 o1 o2 : ℕ} {e : EltTy} (M : Memref sig .tc .vmem ⟨3, ![n0, n1, n2]⟩ e) (hM : M.IsWhole) (X : Vec Ideal ⟨3, ![n0, n1, n2]⟩ e)
    {inb} (i : Fin s0) (j : Fin s1) (k : Fin s2) (h0 : o0 + i < n0) (h1 : o1 + j < n1) (h2 : o2 + k < n2) :
    (View.readAt (Elt Ideal) M.view (Rect.unit (s := ⟨3, ![n0, n1, n2]⟩) ![o0, o1, o2] ![s0, s1, s2] inb).toLoadRect (hM.unread X) : Vec Ideal ⟨3, ![s0, s1, s2]⟩ e) (ix3 i j k)
      = X (ix3 ⟨o0 + i, h0⟩ ⟨o1 + j, h1⟩ ⟨o2 + k, h2⟩) := by
  rw [View.readAt_eq_ld, Memref.IsWhole.read_unread]
  refine View.ld_unit_apply_of X _ _ _ _ _ fun a => ?_
  fin_cases a <;> rfl

/-- The constant the conversion between the two bases of the exponential multiplies by. -/
def l2 : ℝ := (Real.log 2)⁻¹

theorem l2_nonneg : 0 ≤ l2 := inv_nonneg.2 (Real.log_nonneg (by norm_num))
theorem mul_l2 (x : ℝ) : x * l2 * Real.log 2 = x := by
  rw [l2, mul_assoc, inv_mul_cancel₀ (Real.log_pos (by norm_num)).ne', mul_one]
theorem log2e_eq : (Named.named (F := Ideal) κ "log2e" 0x3FB8AA3B#32 : Ideal .f32) = ((l2 : ℝ) : EReal) := by
  rfl

/-- What the gate inputs hold, as reals. -/
structure GIn (I : Fin 8 → Inp) (x4 x5 : Vec Ideal S2x4x16 .f32) (x6 x7 : Vec Ideal S2x4x1024 .f32) : Prop where
  h4 : ∀ (b : Fin 2) (h : Fin 4) (k : Fin 16), x4 (ix3 b h k) = ((I (zz b h)).qs k : EReal)
  h5 : ∀ (b : Fin 2) (h : Fin 4) (k : Fin 16), x5 (ix3 b h k) = ((I (zz b h)).vs k : EReal)
  h6 : ∀ (b : Fin 2) (h : Fin 4) (t : Fin 1024), x6 (ix3 b h t) = ((I (zz b h)).ig t : EReal)
  h7 : ∀ (b : Fin 2) (h : Fin 4) (t : Fin 1024), x7 (ix3 b h t) = ((I (zz b h)).fp t : EReal)

/-- The windowed maximum of the last `s` entries up to `l`. -/
def wl (g : ℕ → ℝ) (s l : ℕ) : ℝ := wmax (fun i => g (l - i)) (min (s - 1) l)

theorem wl_one (g : ℕ → ℝ) (l : ℕ) : wl g 1 l = g l := by
  simp [wl, wmax]

theorem wl_le (g : ℕ → ℝ) (s l : ℕ) (x : ℝ) : wl g s l ≤ x ↔ ∀ i, i ≤ s - 1 → i ≤ l → g (l - i) ≤ x := by
  rw [wl, wmax_le]
  exact ⟨fun h i h1 h2 => h i (le_min h1 h2), fun h i hi => h i (hi.trans (min_le_left _ _)) (hi.trans (min_le_right _ _))⟩

theorem wl_lt (g : ℕ → ℝ) (s l : ℕ) (h : l < s) : wl g (2 * s) l = wl g s l := by
  rw [wl, wl, min_eq_right (by omega), min_eq_right (by omega)]

theorem wl_ge (g : ℕ → ℝ) (s l : ℕ) (hs : 0 < s) (h : s ≤ l) : wl g (2 * s) l = max (wl g s l) (wl g s (l - s)) := by
  refine eq_of_forall_ge_iff fun x => ?_
  rw [max_le_iff, wl_le, wl_le, wl_le]
  refine ⟨fun H => ⟨fun i h1 h2 => H i (by omega) h2, fun i h1 h2 => ?_⟩, fun H i h1 h2 => ?_⟩
  · have := H (s + i) (by omega) (by omega)
    rwa [Nat.sub_add_eq] at this
  · by_cases hi : i ≤ s - 1
    · exact H.1 i hi h2
    · have := H.2 (i - s) (by omega) (by omega)
      rwa [show l - s - (i - s) = l - i by omega] at this

theorem wl_full (g : ℕ → ℝ) (l : ℕ) (h : l < 128) : wl g 128 l = wmax g l := by
  refine eq_of_forall_ge_iff fun x => ?_
  rw [wl_le, wmax_le]
  refine ⟨fun H i hi => ?_, fun H i h1 h2 => H _ (by omega)⟩
  have := H (l - i) (by omega) (by omega)
  rwa [show l - (l - i) = i by omega] at this

/-- One round of the running maximum along a row: each entry meets the one `s` before it. -/
theorem roll_round (s : ℕ) (sb : BitVec 32) (hsb : sb.toNat = s) (hs : 0 < s) (hs' : s < 128) (g : Fin 64 → ℕ → ℝ) (x : FVec Ideal S64x128 .f32)
    (hx : ∀ (r : Fin 64) (l : Fin 128), x (ix2 r l) = ((wl (g r) s l : ℝ) : EReal)) (r : Fin 64) (l : Fin 128) :
    select (cmpi .sge (iota .tc S64x128 32 [1] iota_S64x128_d1_w32) (broadcast S64x128 sb)) (maximumf x (dynamicRotate 1 sb none x rotates_S64x128_d1)) x (ix2 r l)
      = ((wl (g r) (2 * s) l : ℝ) : EReal) := by
  have hc : cmpi .sge (iota .tc S64x128 32 [1] iota_S64x128_d1_w32) (broadcast S64x128 sb) (ix2 r l) = if s ≤ (l : ℕ) then 1#1 else 0#1 := by
    obtain rfl : sb = BitVec.ofNat 32 s := by rw [← hsb]; simp
    have hl := l.isLt
    pointwise
    word_cmp
    by_cases h : s ≤ (l : ℕ) <;> simp [h]
  have hr : s ≤ (l : ℕ) → dynamicRotate 1 sb none x rotates_S64x128_d1 (ix2 r l) = x (ix2 r ⟨l - s, by omega⟩) := fun h =>
    dynamicRotate_apply (1 : Fin 2) sb x _ _ _ (by
      have hl := l.isLt
      intro b
      fin_cases b
      · rfl
      · show (l : ℕ) - s = ((l : ℕ) + 128 - sb.toNat % 128) % 128
        rw [hsb]
        omega)
  unfold select
  rw [hc]
  by_cases h : s ≤ (l : ℕ)
  · rw [if_pos h]
    show (if (1#1 : BitVec 1) = 1#1 then max (x (ix2 r l)) (dynamicRotate 1 sb none x rotates_S64x128_d1 (ix2 r l)) else _) = _
    rw [if_pos rfl, hr h, hx, hx, ← coe_max', wl_ge (g r) s l hs h]
  · rw [if_neg h]
    show (if (0#1 : BitVec 1) = 1#1 then _ else x (ix2 r l)) = _
    rw [if_neg (by decide), hx, wl_lt _ _ _ (by omega)]

theorem zz_lo (z : Fin 8) {h} : zz 0 ⟨z, h⟩ = z := Fin.ext (by show 0 * 4 + (z : ℕ) = z; omega)
theorem zz_hi (z : Fin 8) (hz : ¬ (z : ℕ) < 4) {h} : zz 1 ⟨z - 4, h⟩ = z := Fin.ext (by show 1 * 4 + ((z : ℕ) - 4) = z; omega)

/-- The head a row of the stacked blocks belongs to, the block it is of, and the first token of that block's segment. -/
theorem coe_min_ (x y : ℝ) : min (x : EReal) (y : EReal) = ((min x y : ℝ) : EReal) :=
  (EReal.coe_strictMono.monotone.map_min (a := x) (b := y)).symm

def zr (r : Fin 64) : Fin 8 := ⟨r % 8, by omega⟩
def aj (j : ℕ) : ℕ := if j < 4 then 0 else if j < 6 then 512 else 768

/-- The stacked scores of a row. -/
def gr (I : Fin 8 → Inp) (r : Fin 64) (i : ℕ) : ℝ := ((I (zr r)).G (128 * (r / 8) + i) + (I (zr r)).Fp (aj (r / 8))) * l2

theorem gr_of (I : Fin 8 → Inp) (r : Fin 64) (z : Fin 8) (n a l : ℕ) (hz : zr r = z) (hn : 128 * ((r : ℕ) / 8) = n) (ha : aj (r / 8) = a) :
    ((I z).G (n + l) + (I z).Fp a) * l2 = gr I r l := by
  subst hz hn ha
  rfl

theorem gr_of0 (I : Fin 8 → Inp) (r : Fin 64) (z : Fin 8) (a l : ℕ) (hz : zr r = z) (hn : 128 * ((r : ℕ) / 8) = 0) (ha : aj (r / 8) = a) :
    ((I z).G l + (I z).Fp a) * l2 = gr I r l := by
  rw [← gr_of I r z 0 a l hz hn ha, Nat.zero_add]

theorem gr_blk (I : Fin 8 → Inp) (j n a : ℕ) (z : Fin 8) (r : Fin 64) (hr : (r : ℕ) = 8 * j + z) (hn : 128 * j = n) (ha : aj j = a) (l : ℕ) :
    wmax (gr I r) l = ((I z).Fp a + wmax (fun i => (I z).G (n + i)) l) * l2 := by
  subst hn ha
  rw [← wmax_add, ← wmax_mul _ l2_nonneg]
  refine wmax_congr fun i _ => ?_
  rw [gr, show zr r = z from Fin.ext (by show (r : ℕ) % 8 = z; omega), show (r : ℕ) / 8 = j by omega, add_comm ((I z).Fp _)]

theorem mt_step (J : Inp) (A : ℝ) (n l : ℕ) : max ((A + J.mu n) * l2) ((A + wmax (fun i => J.G (n + i)) l) * l2) = (A + J.mu (n + l + 1)) * l2 := by
  rw [J.mu_add, ← max_add_add_left, max_mul_of_nonneg _ _ l2_nonneg]

theorem mt_step0 (J : Inp) (l : ℕ) : max 0 ((J.Fp 0 + wmax (fun i => J.G i) l) * l2) = (J.Fp 0 + J.mu (l + 1)) * l2 := by
  have h := mt_step J (J.Fp 0) 0 l
  rw [show (J.Fp 0 + J.mu 0) * l2 = 0 by simp [Inp.Fp, Inp.mu]] at h
  simpa using h

section
variable (c : Dev nD) (arg5 : Memref sig .tc .vmem S2x4x16 .f32) (harg5 : arg5.IsWhole) (arg6 : Memref sig .tc .vmem S2x4x16 .f32) (harg6 : arg6.IsWhole)
  (arg7 : Memref sig .tc .vmem S2x4x1024 .f32) (harg7 : arg7.IsWhole) (arg8 : Memref sig .tc .vmem S2x4x1024 .f32) (harg8 : arg8.IsWhole)
  {I : Fin 8 → Inp} {x4 x5 : Vec Ideal S2x4x16 .f32} {x6 x7 : Vec Ideal S2x4x1024 .f32} (X : GIn I x4 x5 x6 x7)

include c arg5 harg5 arg6 harg6 arg7 harg7 arg8 harg8 X

theorem v796_at (z : Fin 8) (t : Fin 1024) : (gatesRun.sl.v796 c arg7 harg7 x6) (ix2 z t) = ((I z).ig t : EReal) := by
  have e0 := fun (h : Fin 4) (t : Fin 1024) => (ld3 (inb := inb_S2x4x1024_S1x4x1024_0_0_0) arg7 harg7 x6 (0 : Fin 1) h t (by omega) (by omega) (by omega)).trans (X.h6 ⟨_, by omega⟩ ⟨_, by omega⟩ ⟨_, by omega⟩)
  have e1 := fun (h : Fin 4) (t : Fin 1024) => (ld3 (inb := inb_S2x4x1024_S1x4x1024_1_0_0) arg7 harg7 x6 (0 : Fin 1) h t (by omega) (by omega) (by omega)).trans (X.h6 ⟨_, by omega⟩ ⟨_, by omega⟩ ⟨_, by omega⟩)
  pointwise [gatesRun.sl.v796, gatesRun.sl.v793, gatesRun.sl.v795, e0, e1]
  split
  · rw [zz_lo z]
  · rw [zz_hi z (by assumption)]

theorem v791_at (z : Fin 8) (t : Fin 1024) : (gatesRun.sl.v791 c arg8 harg8 x7) (ix2 z t) = ((I z).fp t : EReal) := by
  have e0 := fun (h : Fin 4) (t : Fin 1024) => (ld3 (inb := inb_S2x4x1024_S1x4x1024_0_0_0) arg8 harg8 x7 (0 : Fin 1) h t (by omega) (by omega) (by omega)).trans (X.h7 ⟨_, by omega⟩ ⟨_, by omega⟩ ⟨_, by omega⟩)
  have e1 := fun (h : Fin 4) (t : Fin 1024) => (ld3 (inb := inb_S2x4x1024_S1x4x1024_1_0_0) arg8 harg8 x7 (0 : Fin 1) h t (by omega) (by omega) (by omega)).trans (X.h7 ⟨_, by omega⟩ ⟨_, by omega⟩ ⟨_, by omega⟩)
  pointwise [gatesRun.sl.v791, gatesRun.sl.v788, gatesRun.sl.v790, e0, e1]
  split
  · rw [zz_lo z]
  · rw [zz_hi z (by assumption)]

theorem v804_at (z : Fin 8) (t : Fin 1024) : (gatesRun.sl.v804 c arg8 harg8 x7) (ix2 z t) = ((I z).lf t : EReal) := by
  have e := v791_at c arg5 harg5 arg6 harg6 arg7 harg7 arg8 harg8 X
  pointwise [gatesRun.sl.v804, gatesRun.sl.v803, gatesRun.sl.v802, gatesRun.sl.v801, gatesRun.sl.v799, gatesRun.sl.v798, gatesRun.sl.v797, gatesRun.sl.cst_264, e]
  simp only [zero_sub, absf_coe, ← EReal.coe_neg, Ideal.exp_coe]
  rw [← EReal.coe_zero, coe_min_]
  rw [log1p_coe _ (Real.exp_pos _), ← EReal.coe_sub]
  rfl

theorem v813_at (r : Fin 64) (l : Fin 128) : (gatesRun.sl.v813 c arg8 harg8 x7) (ix2 r l) = ((I (zr r)).lf (128 * (r / 8) + l) : EReal) := by
  have e := v804_at c arg5 harg5 arg6 harg6 arg7 harg7 arg8 harg8 X
  pointwise [gatesRun.sl.v813, gatesRun.sl.v805, gatesRun.sl.v806, gatesRun.sl.v807, gatesRun.sl.v808, gatesRun.sl.v809, gatesRun.sl.v810, gatesRun.sl.v811, gatesRun.sl.v812, e]
  have hr := r.isLt
  split_ifs <;>
  · congr 2
    · congr 1
      refine Fin.ext ?_
      show _ = (r : ℕ) % 8
      try dsimp only
      omega
    · try dsimp only
      omega

theorem tri_at (k l : Fin 128) : (gatesRun.sl.v820 (F := Ideal)) (ix2 k l) = (((if (k : ℕ) ≤ l then 1 else 0) : ℝ) : EReal) := by
  pointwise [gatesRun.sl.v820, gatesRun.sl.v819, gatesRun.sl.v818, gatesRun.sl.v817, gatesRun.sl.v814, gatesRun.sl.v815, gatesRun.sl.cst_264, gatesRun.sl.cst_266]
  have hk := k.isLt
  have hl := l.isLt
  by_cases h : (k : ℕ) ≤ l
  · rw [show IntOp.cmpi CmpIPredicate.sle (BitVec.ofNat 32 ↑k) (BitVec.ofNat 32 ↑l) = 1#1 by word_cmp, if_pos h]
    simp [Scalar.select]
  · rw [show IntOp.cmpi CmpIPredicate.sle (BitVec.ofNat 32 ↑k) (BitVec.ofNat 32 ↑l) = 0#1 by word_cmp, if_neg h]
    simp [Scalar.select]

/-- The running sums of the log forget gates within a block. -/
theorem csum_at (r : Fin 64) (l : Fin 128) : k0_pay12 gatesRun.sl.v820 (gatesRun.sl.v824 c arg8 harg8 x7) (gatesRun.sl.v827 c arg8 harg8 x7) (gatesRun.sl.v828 c arg8 harg8 x7) gatesRun.sl.cst_268 (ix2 r l)
    = (((I (zr r)).Fp (128 * (r / 8) + l + 1) - (I (zr r)).Fp (128 * (r / 8)) : ℝ) : EReal) := by
  have e := v813_at c arg5 harg5 arg6 harg6 arg7 harg7 arg8 harg8 X
  have e' := tri_at c arg5 harg5 arg6 harg6 arg7 harg7 arg8 harg8 X
  pointwise [k0_pay12, gatesRun.sl.v828, gatesRun.sl.v827, gatesRun.sl.v826, gatesRun.sl.v825, gatesRun.sl.v824, gatesRun.sl.v823, gatesRun.sl.v822, gatesRun.sl.v821, gatesRun.sl.cst_268, e, e']
  simp only [← EReal.coe_sub, sub_self, ← EReal.coe_mul, zero_mul, ← coe_sum, Finset.sum_const_zero, EReal.coe_zero, sub_zero, zero_mul, Finset.sum_const_zero, add_zero, zero_add]
  congr 1
  rw [add_assoc, Inp.Fp_add, add_sub_cancel_left, ← Finset.sum_range (fun u => (I (zr r)).lf (128 * ((r : ℕ) / 8) + u)), ← Inp.sum_le (fun u => (I (zr r)).lf (128 * ((r : ℕ) / 8) + u)) _ l.isLt]
  refine Finset.sum_congr rfl fun k _ => ?_
  split <;> simp

theorem zr_blk (j : ℕ) (hj : j < 8) (z : Fin 8) {h} : zr ⟨8 * j + z, h⟩ = z := Fin.ext (by show (8 * j + (z : ℕ)) % 8 = z; omega)

theorem csum_blk (j : ℕ) (hj : j < 8) (z : Fin 8) (l : Fin 128) (r : Fin 64) (hr : (r : ℕ) = 8 * j + z) :
    k0_pay12 gatesRun.sl.v820 (gatesRun.sl.v824 c arg8 harg8 x7) (gatesRun.sl.v827 c arg8 harg8 x7) (gatesRun.sl.v828 c arg8 harg8 x7) gatesRun.sl.cst_268 (ix2 r l) = (((I z).Fp (128 * j + l + 1) - (I z).Fp (128 * j) : ℝ) : EReal) := by
  rw [csum_at c arg5 harg5 arg6 harg6 arg7 harg7 arg8 harg8 X, show zr r = z from Fin.ext (by show (r : ℕ) % 8 = z; omega), show (r : ℕ) / 8 = j by omega]

theorem v833_pf (z : Fin 8) (l : Fin 128) : (k0_pay13 gatesRun.sl.v820 (gatesRun.sl.v824 c arg8 harg8 x7) (gatesRun.sl.v827 c arg8 harg8 x7)   (gatesRun.sl.v828 c arg8 harg8 x7) gatesRun.sl.cst_268) (ix2 z l) = (((I z).Fp (0 + l + 1) - (I z).Fp 0 : ℝ) : EReal) := by
  have e := fun (z : Fin 8) (l : Fin 128) h => csum_blk c arg5 harg5 arg6 harg6 arg7 harg7 arg8 harg8 X 0 (by omega) z l ⟨z, h⟩ (by dsimp only <;> omega)
  pointwise [k0_pay13, e]

theorem v833_at (z : Fin 8) (l : Fin 128) : (gatesRun.sl.v833 c arg8 harg8 x7) (ix2 z l) = (((I z).Fp (0 + l + 1) - (I z).Fp 0 : ℝ) : EReal) := v833_pf c arg5 harg5 arg6 harg6 arg7 harg7 arg8 harg8 X z l

theorem v837_pf (z : Fin 8) (l : Fin 128) : (k0_pay14 gatesRun.sl.v820 (gatesRun.sl.v824 c arg8 harg8 x7) (gatesRun.sl.v827 c arg8 harg8 x7)   (gatesRun.sl.v828 c arg8 harg8 x7) gatesRun.sl.cst_268) (ix2 z l) = (((I z).Fp (128 + l + 1) - (I z).Fp 0 : ℝ) : EReal) := by
  have e := fun (z : Fin 8) (l : Fin 128) h => csum_blk c arg5 harg5 arg6 harg6 arg7 harg7 arg8 harg8 X 1 (by omega) z l ⟨8 + z, h⟩ rfl
  have p := v833_pf c arg5 harg5 arg6 harg6 arg7 harg7 arg8 harg8 X
  have p' := v833_at c arg5 harg5 arg6 harg6 arg7 harg7 arg8 harg8 X
  pointwise [k0_pay14, p, p', e]
  rw [← EReal.coe_add]
  congr 1
  ring

theorem v837_at (z : Fin 8) (l : Fin 128) : (gatesRun.sl.v837 c arg8 harg8 x7) (ix2 z l) = (((I z).Fp (128 + l + 1) - (I z).Fp 0 : ℝ) : EReal) := v837_pf c arg5 harg5 arg6 harg6 arg7 harg7 arg8 harg8 X z l

theorem v841_pf (z : Fin 8) (l : Fin 128) : (k0_pay15 gatesRun.sl.v820 (gatesRun.sl.v824 c arg8 harg8 x7) (gatesRun.sl.v827 c arg8 harg8 x7)   (gatesRun.sl.v828 c arg8 harg8 x7) gatesRun.sl.cst_268) (ix2 z l) = (((I z).Fp (256 + l + 1) - (I z).Fp 0 : ℝ) : EReal) := by
  have e := fun (z : Fin 8) (l : Fin 128) h => csum_blk c arg5 harg5 arg6 harg6 arg7 harg7 arg8 harg8 X 2 (by omega) z l ⟨16 + z, h⟩ rfl
  have p := v837_pf c arg5 harg5 arg6 harg6 arg7 harg7 arg8 harg8 X
  have p' := v837_at c arg5 harg5 arg6 harg6 arg7 harg7 arg8 harg8 X
  pointwise [k0_pay15, p, p', e]
  rw [← EReal.coe_add]
  congr 1
  ring

theorem v841_at (z : Fin 8) (l : Fin 128) : (gatesRun.sl.v841 c arg8 harg8 x7) (ix2 z l) = (((I z).Fp (256 + l + 1) - (I z).Fp 0 : ℝ) : EReal) := v841_pf c arg5 harg5 arg6 harg6 arg7 harg7 arg8 harg8 X z l

theorem v845_pf (z : Fin 8) (l : Fin 128) : (k0_pay16 gatesRun.sl.v820 (gatesRun.sl.v824 c arg8 harg8 x7) (gatesRun.sl.v827 c arg8 harg8 x7)   (gatesRun.sl.v828 c arg8 harg8 x7) gatesRun.sl.cst_268) (ix2 z l) = (((I z).Fp (384 + l + 1) - (I z).Fp 0 : ℝ) : EReal) := by
  have e := fun (z : Fin 8) (l : Fin 128) h => csum_blk c arg5 harg5 arg6 harg6 arg7 harg7 arg8 harg8 X 3 (by omega) z l ⟨24 + z, h⟩ rfl
  have p := v841_pf c arg5 harg5 arg6 harg6 arg7 harg7 arg8 harg8 X
  have p' := v841_at c arg5 harg5 arg6 harg6 arg7 harg7 arg8 harg8 X
  pointwise [k0_pay16, p, p', e]
  rw [← EReal.coe_add]
  congr 1
  ring

theorem v845_at (z : Fin 8) (l : Fin 128) : (gatesRun.sl.v845 c arg8 harg8 x7) (ix2 z l) = (((I z).Fp (384 + l + 1) - (I z).Fp 0 : ℝ) : EReal) := v845_pf c arg5 harg5 arg6 harg6 arg7 harg7 arg8 harg8 X z l

theorem v846_pf (z : Fin 8) (l : Fin 128) : (k0_pay17 gatesRun.sl.v820 (gatesRun.sl.v824 c arg8 harg8 x7) (gatesRun.sl.v827 c arg8 harg8 x7)   (gatesRun.sl.v828 c arg8 harg8 x7) gatesRun.sl.cst_268) (ix2 z l) = (((I z).Fp (512 + l + 1) - (I z).Fp 512 : ℝ) : EReal) := by
  have e := fun (z : Fin 8) (l : Fin 128) h => csum_blk c arg5 harg5 arg6 harg6 arg7 harg7 arg8 harg8 X 4 (by omega) z l ⟨32 + z, h⟩ rfl
  pointwise [k0_pay17, e]

theorem v846_at (z : Fin 8) (l : Fin 128) : (gatesRun.sl.v846 c arg8 harg8 x7) (ix2 z l) = (((I z).Fp (512 + l + 1) - (I z).Fp 512 : ℝ) : EReal) := v846_pf c arg5 harg5 arg6 harg6 arg7 harg7 arg8 harg8 X z l

theorem v850_pf (z : Fin 8) (l : Fin 128) : (k0_pay18 gatesRun.sl.v820 (gatesRun.sl.v824 c arg8 harg8 x7) (gatesRun.sl.v827 c arg8 harg8 x7)   (gatesRun.sl.v828 c arg8 harg8 x7) gatesRun.sl.cst_268) (ix2 z l) = (((I z).Fp (640 + l + 1) - (I z).Fp 512 : ℝ) : EReal) := by
  have e := fun (z : Fin 8) (l : Fin 128) h => csum_blk c arg5 harg5 arg6 harg6 arg7 harg7 arg8 harg8 X 5 (by omega) z l ⟨40 + z, h⟩ rfl
  have p := v846_pf c arg5 harg5 arg6 harg6 arg7 harg7 arg8 harg8 X
  have p' := v846_at c arg5 harg5 arg6 harg6 arg7 harg7 arg8 harg8 X
  pointwise [k0_pay18, p, p', e]
  rw [← EReal.coe_add]
  congr 1
  ring

theorem v850_at (z : Fin 8) (l : Fin 128) : (gatesRun.sl.v850 c arg8 harg8 x7) (ix2 z l) = (((I z).Fp (640 + l + 1) - (I z).Fp 512 : ℝ) : EReal) := v850_pf c arg5 harg5 arg6 harg6 arg7 harg7 arg8 harg8 X z l

theorem v851_pf (z : Fin 8) (l : Fin 128) : (k0_pay19 gatesRun.sl.v820 (gatesRun.sl.v824 c arg8 harg8 x7) (gatesRun.sl.v827 c arg8 harg8 x7)   (gatesRun.sl.v828 c arg8 harg8 x7) gatesRun.sl.cst_268) (ix2 z l) = (((I z).Fp (768 + l + 1) - (I z).Fp 768 : ℝ) : EReal) := by
  have e := fun (z : Fin 8) (l : Fin 128) h => csum_blk c arg5 harg5 arg6 harg6 arg7 harg7 arg8 harg8 X 6 (by omega) z l ⟨48 + z, h⟩ rfl
  pointwise [k0_pay19, e]

theorem v851_at (z : Fin 8) (l : Fin 128) : (gatesRun.sl.v851 c arg8 harg8 x7) (ix2 z l) = (((I z).Fp (768 + l + 1) - (I z).Fp 768 : ℝ) : EReal) := v851_pf c arg5 harg5 arg6 harg6 arg7 harg7 arg8 harg8 X z l

theorem v855_pf (z : Fin 8) (l : Fin 128) : (k0_pay20 gatesRun.sl.v820 (gatesRun.sl.v824 c arg8 harg8 x7) (gatesRun.sl.v827 c arg8 harg8 x7)   (gatesRun.sl.v828 c arg8 harg8 x7) gatesRun.sl.cst_268) (ix2 z l) = (((I z).Fp (896 + l + 1) - (I z).Fp 768 : ℝ) : EReal) := by
  have e := fun (z : Fin 8) (l : Fin 128) h => csum_blk c arg5 harg5 arg6 harg6 arg7 harg7 arg8 harg8 X 7 (by omega) z l ⟨56 + z, h⟩ rfl
  have p := v851_pf c arg5 harg5 arg6 harg6 arg7 harg7 arg8 harg8 X
  have p' := v851_at c arg5 harg5 arg6 harg6 arg7 harg7 arg8 harg8 X
  pointwise [k0_pay20, p, p', e]
  rw [← EReal.coe_add]
  congr 1
  ring

theorem v855_at (z : Fin 8) (l : Fin 128) : (gatesRun.sl.v855 c arg8 harg8 x7) (ix2 z l) = (((I z).Fp (896 + l + 1) - (I z).Fp 768 : ℝ) : EReal) := v855_pf c arg5 harg5 arg6 harg6 arg7 harg7 arg8 harg8 X z l

theorem v861_pf (z : Fin 8) (l : Fin 128) : (k0_pay21 (gatesRun.sl.v796 c arg7 harg7 x6) gatesRun.sl.v820 (gatesRun.sl.v824 c arg8 harg8 x7)   (gatesRun.sl.v827 c arg8 harg8 x7) (gatesRun.sl.v828 c arg8 harg8 x7) gatesRun.sl.cst_268) (ix2 z l) = ((((I z).G (0 + l) + (I z).Fp 0) * l2 : ℝ) : EReal) := by
  have e := v796_at c arg5 harg5 arg6 harg6 arg7 harg7 arg8 harg8 X
  have p := v833_pf c arg5 harg5 arg6 harg6 arg7 harg7 arg8 harg8 X
  have p' := v833_at c arg5 harg5 arg6 harg6 arg7 harg7 arg8 harg8 X
  pointwise [k0_pay21, p, p', e, log2e_eq]
  simp only [← EReal.coe_mul, ← EReal.coe_sub]
  congr 1
  rw [Inp.G]
  try simp only [Nat.zero_add]
  ring

theorem v861_at (z : Fin 8) (l : Fin 128) : (gatesRun.sl.v861 c arg7 harg7 arg8 harg8 x6 x7) (ix2 z l) = ((((I z).G (0 + l) + (I z).Fp 0) * l2 : ℝ) : EReal) := v861_pf c arg5 harg5 arg6 harg6 arg7 harg7 arg8 harg8 X z l

theorem v867_pf (z : Fin 8) (l : Fin 128) : (k0_pay22 (gatesRun.sl.v796 c arg7 harg7 x6) gatesRun.sl.v820 (gatesRun.sl.v824 c arg8 harg8 x7)   (gatesRun.sl.v827 c arg8 harg8 x7) (gatesRun.sl.v828 c arg8 harg8 x7) gatesRun.sl.cst_268) (ix2 z l) = ((((I z).G (128 + l) + (I z).Fp 0) * l2 : ℝ) : EReal) := by
  have e := v796_at c arg5 harg5 arg6 harg6 arg7 harg7 arg8 harg8 X
  have p := v837_pf c arg5 harg5 arg6 harg6 arg7 harg7 arg8 harg8 X
  have p' := v837_at c arg5 harg5 arg6 harg6 arg7 harg7 arg8 harg8 X
  pointwise [k0_pay22, p, p', e, log2e_eq]
  simp only [← EReal.coe_mul, ← EReal.coe_sub]
  congr 1
  rw [Inp.G]
  ring

theorem v867_at (z : Fin 8) (l : Fin 128) : (gatesRun.sl.v867 c arg7 harg7 arg8 harg8 x6 x7) (ix2 z l) = ((((I z).G (128 + l) + (I z).Fp 0) * l2 : ℝ) : EReal) := v867_pf c arg5 harg5 arg6 harg6 arg7 harg7 arg8 harg8 X z l

theorem v873_pf (z : Fin 8) (l : Fin 128) : (k0_pay23 (gatesRun.sl.v796 c arg7 harg7 x6) gatesRun.sl.v820 (gatesRun.sl.v824 c arg8 harg8 x7)   (gatesRun.sl.v827 c arg8 harg8 x7) (gatesRun.sl.v828 c arg8 harg8 x7) gatesRun.sl.cst_268) (ix2 z l) = ((((I z).G (256 + l) + (I z).Fp 0) * l2 : ℝ) : EReal) := by
  have e := v796_at c arg5 harg5 arg6 harg6 arg7 harg7 arg8 harg8 X
  have p := v841_pf c arg5 harg5 arg6 harg6 arg7 harg7 arg8 harg8 X
  have p' := v841_at c arg5 harg5 arg6 harg6 arg7 harg7 arg8 harg8 X
  pointwise [k0_pay23, p, p', e, log2e_eq]
  simp only [← EReal.coe_mul, ← EReal.coe_sub]
  congr 1
  rw [Inp.G]
  ring

theorem v873_at (z : Fin 8) (l : Fin 128) : (gatesRun.sl.v873 c arg7 harg7 arg8 harg8 x6 x7) (ix2 z l) = ((((I z).G (256 + l) + (I z).Fp 0) * l2 : ℝ) : EReal) := v873_pf c arg5 harg5 arg6 harg6 arg7 harg7 arg8 harg8 X z l

theorem v879_pf (z : Fin 8) (l : Fin 128) : (k0_pay24 (gatesRun.sl.v796 c arg7 harg7 x6) gatesRun.sl.v820 (gatesRun.sl.v824 c arg8 harg8 x7)   (gatesRun.sl.v827 c arg8 harg8 x7) (gatesRun.sl.v828 c arg8 harg8 x7) gatesRun.sl.cst_268) (ix2 z l) = ((((I z).G (384 + l) + (I z).Fp 0) * l2 : ℝ) : EReal) := by
  have e := v796_at c arg5 harg5 arg6 harg6 arg7 harg7 arg8 harg8 X
  have p := v845_pf c arg5 harg5 arg6 harg6 arg7 harg7 arg8 harg8 X
  have p' := v845_at c arg5 harg5 arg6 harg6 arg7 harg7 arg8 harg8 X
  pointwise [k0_pay24, p, p', e, log2e_eq]
  simp only [← EReal.coe_mul, ← EReal.coe_sub]
  congr 1
  rw [Inp.G]
  ring

theorem v879_at (z : Fin 8) (l : Fin 128) : (gatesRun.sl.v879 c arg7 harg7 arg8 harg8 x6 x7) (ix2 z l) = ((((I z).G (384 + l) + (I z).Fp 0) * l2 : ℝ) : EReal) := v879_pf c arg5 harg5 arg6 harg6 arg7 harg7 arg8 harg8 X z l

theorem v885_pf (z : Fin 8) (l : Fin 128) : (k0_pay25 (gatesRun.sl.v796 c arg7 harg7 x6) (gatesRun.sl.v846 c arg8 harg8 x7)) (ix2 z l) = ((((I z).G (512 + l) + (I z).Fp 512) * l2 : ℝ) : EReal) := by
  have e := v796_at c arg5 harg5 arg6 harg6 arg7 harg7 arg8 harg8 X
  have p := v846_pf c arg5 harg5 arg6 harg6 arg7 harg7 arg8 harg8 X
  have p' := v846_at c arg5 harg5 arg6 harg6 arg7 harg7 arg8 harg8 X
  pointwise [k0_pay25, p, p', e, log2e_eq]
  simp only [← EReal.coe_mul, ← EReal.coe_sub]
  congr 1
  rw [Inp.G]
  ring

theorem v885_at (z : Fin 8) (l : Fin 128) : (gatesRun.sl.v885 c arg7 harg7 arg8 harg8 x6 x7) (ix2 z l) = ((((I z).G (512 + l) + (I z).Fp 512) * l2 : ℝ) : EReal) := v885_pf c arg5 harg5 arg6 harg6 arg7 harg7 arg8 harg8 X z l

theorem v891_pf (z : Fin 8) (l : Fin 128) : (k0_pay26 (gatesRun.sl.v796 c arg7 harg7 x6) (gatesRun.sl.v850 c arg8 harg8 x7)) (ix2 z l) = ((((I z).G (640 + l) + (I z).Fp 512) * l2 : ℝ) : EReal) := by
  have e := v796_at c arg5 harg5 arg6 harg6 arg7 harg7 arg8 harg8 X
  have p := v850_pf c arg5 harg5 arg6 harg6 arg7 harg7 arg8 harg8 X
  have p' := v850_at c arg5 harg5 arg6 harg6 arg7 harg7 arg8 harg8 X
  pointwise [k0_pay26, p, p', e, log2e_eq]
  simp only [← EReal.coe_mul, ← EReal.coe_sub]
  congr 1
  rw [Inp.G]
  ring

theorem v891_at (z : Fin 8) (l : Fin 128) : (gatesRun.sl.v891 c arg7 harg7 arg8 harg8 x6 x7) (ix2 z l) = ((((I z).G (640 + l) + (I z).Fp 512) * l2 : ℝ) : EReal) := v891_pf c arg5 harg5 arg6 harg6 arg7 harg7 arg8 harg8 X z l

theorem v897_pf (z : Fin 8) (l : Fin 128) : (k0_pay27 (gatesRun.sl.v796 c arg7 harg7 x6) (gatesRun.sl.v851 c arg8 harg8 x7)) (ix2 z l) = ((((I z).G (768 + l) + (I z).Fp 768) * l2 : ℝ) : EReal) := by
  have e := v796_at c arg5 harg5 arg6 harg6 arg7 harg7 arg8 harg8 X
  have p := v851_pf c arg5 harg5 arg6 harg6 arg7 harg7 arg8 harg8 X
  have p' := v851_at c arg5 harg5 arg6 harg6 arg7 harg7 arg8 harg8 X
  pointwise [k0_pay27, p, p', e, log2e_eq]
  simp only [← EReal.coe_mul, ← EReal.coe_sub]
  congr 1
  rw [Inp.G]
  ring

theorem v897_at (z : Fin 8) (l : Fin 128) : (gatesRun.sl.v897 c arg7 harg7 arg8 harg8 x6 x7) (ix2 z l) = ((((I z).G (768 + l) + (I z).Fp 768) * l2 : ℝ) : EReal) := v897_pf c arg5 harg5 arg6 harg6 arg7 harg7 arg8 harg8 X z l

theorem v903_pf (z : Fin 8) (l : Fin 128) : (k0_pay28 (gatesRun.sl.v796 c arg7 harg7 x6) (gatesRun.sl.v855 c arg8 harg8 x7)) (ix2 z l) = ((((I z).G (896 + l) + (I z).Fp 768) * l2 : ℝ) : EReal) := by
  have e := v796_at c arg5 harg5 arg6 harg6 arg7 harg7 arg8 harg8 X
  have p := v855_pf c arg5 harg5 arg6 harg6 arg7 harg7 arg8 harg8 X
  have p' := v855_at c arg5 harg5 arg6 harg6 arg7 harg7 arg8 harg8 X
  pointwise [k0_pay28, p, p', e, log2e_eq]
  simp only [← EReal.coe_mul, ← EReal.coe_sub]
  congr 1
  rw [Inp.G]
  ring

theorem v903_at (z : Fin 8) (l : Fin 128) : (gatesRun.sl.v903 c arg7 harg7 arg8 harg8 x6 x7) (ix2 z l) = ((((I z).G (896 + l) + (I z).Fp 768) * l2 : ℝ) : EReal) := v903_pf c arg5 harg5 arg6 harg6 arg7 harg7 arg8 harg8 X z l

theorem v904_at (r : Fin 64) (l : Fin 128) : concatenate S64x128 0 [⟨S8x128, (gatesRun.sl.v861 c arg7 harg7 arg8 harg8 x6 x7)⟩, ⟨S8x128, (gatesRun.sl.v867 c arg7 harg7 arg8 harg8 x6 x7)⟩, ⟨S8x128, (gatesRun.sl.v873 c arg7 harg7 arg8 harg8 x6 x7)⟩, ⟨S8x128, (gatesRun.sl.v879 c arg7 harg7 arg8 harg8 x6 x7)⟩,
      ⟨S8x128, k0_pay25 (gatesRun.sl.v796 c arg7 harg7 x6) (gatesRun.sl.v846 c arg8 harg8 x7)⟩, ⟨S8x128, k0_pay26 (gatesRun.sl.v796 c arg7 harg7 x6) (gatesRun.sl.v850 c arg8 harg8 x7)⟩, ⟨S8x128, k0_pay27 (gatesRun.sl.v796 c arg7 harg7 x6) (gatesRun.sl.v851 c arg8 harg8 x7)⟩,
      ⟨S8x128, k0_pay28 (gatesRun.sl.v796 c arg7 harg7 x6) (gatesRun.sl.v855 c arg8 harg8 x7)⟩] concatenates_S8x128_S8x128_S8x128_S8x128_S8x128_S8x128_S8x128_S8x128_S64x128_d0 (ix2 r l)
    = ((gr I r l : ℝ) : EReal) := by
  have e0 := v861_at c arg5 harg5 arg6 harg6 arg7 harg7 arg8 harg8 X
  have f0 := v861_pf c arg5 harg5 arg6 harg6 arg7 harg7 arg8 harg8 X
  have e1 := v867_at c arg5 harg5 arg6 harg6 arg7 harg7 arg8 harg8 X
  have f1 := v867_pf c arg5 harg5 arg6 harg6 arg7 harg7 arg8 harg8 X
  have e2 := v873_at c arg5 harg5 arg6 harg6 arg7 harg7 arg8 harg8 X
  have f2 := v873_pf c arg5 harg5 arg6 harg6 arg7 harg7 arg8 harg8 X
  have e3 := v879_at c arg5 harg5 arg6 harg6 arg7 harg7 arg8 harg8 X
  have f3 := v879_pf c arg5 harg5 arg6 harg6 arg7 harg7 arg8 harg8 X
  have e4 := v885_at c arg5 harg5 arg6 harg6 arg7 harg7 arg8 harg8 X
  have f4 := v885_pf c arg5 harg5 arg6 harg6 arg7 harg7 arg8 harg8 X
  have e5 := v891_at c arg5 harg5 arg6 harg6 arg7 harg7 arg8 harg8 X
  have f5 := v891_pf c arg5 harg5 arg6 harg6 arg7 harg7 arg8 harg8 X
  have e6 := v897_at c arg5 harg5 arg6 harg6 arg7 harg7 arg8 harg8 X
  have f6 := v897_pf c arg5 harg5 arg6 harg6 arg7 harg7 arg8 harg8 X
  have e7 := v903_at c arg5 harg5 arg6 harg6 arg7 harg7 arg8 harg8 X
  have f7 := v903_pf c arg5 harg5 arg6 harg6 arg7 harg7 arg8 harg8 X
  pointwise [e0, e1, e2, e3, f4, f5, f6, f7]
  have hr := r.isLt
  split_ifs <;>
  · first
      | refine congrArg _ (gr_of I r _ _ _ l ?_ ?_ ?_)
      | refine congrArg _ (gr_of0 I r _ _ l ?_ ?_ ?_)
    · refine Fin.ext ?_
      show (r : ℕ) % 8 = _
      try dsimp only
      omega
    · omega
    · unfold aj
      split_ifs <;> omega

theorem v940_pf (r : Fin 64) (l : Fin 128) : (k0_pay32 gatesRun.sl.v905 (gatesRun.sl.v920 c arg7 harg7 arg8 harg8 x6 x7) k0_pay30   (gatesRun.sl.v923 c arg7 harg7 arg8 harg8 x6 x7)) (ix2 r l) = ((wmax (gr I r) l : ℝ) : EReal) := by
  have H := fun r l => roll_round 64 64#32 rfl (by omega) (by omega) (gr I) _ (fun r l => roll_round 32 32#32 rfl (by omega) (by omega) (gr I) _
    (fun r l => roll_round 16 16#32 rfl (by omega) (by omega) (gr I) _ (fun r l => roll_round 8 8#32 rfl (by omega) (by omega) (gr I) _
    (fun r l => roll_round 4 4#32 rfl (by omega) (by omega) (gr I) _ (fun r l => roll_round 2 2#32 rfl (by omega) (by omega) (gr I) _
    (fun r l => roll_round 1 1#32 rfl (by omega) (by omega) (gr I) _ (fun r l => (v904_at c arg5 harg5 arg6 harg6 arg7 harg7 arg8 harg8 X r l).trans (by rw [wl_one])) r l) r l) r l) r l) r l) r l) r l
  exact (H r l).trans (by rw [show 2 * 64 = 128 from rfl, wl_full _ _ l.isLt])

theorem v940_at (r : Fin 64) (l : Fin 128) : (gatesRun.sl.v940 c arg7 harg7 arg8 harg8 x6 x7) (ix2 r l) = ((wmax (gr I r) l : ℝ) : EReal) := v940_pf c arg5 harg5 arg6 harg6 arg7 harg7 arg8 harg8 X r l

theorem v943_pf (z : Fin 8) (l : Fin 128) : (k0_pay34 gatesRun.sl.v905 (gatesRun.sl.v920 c arg7 harg7 arg8 harg8 x6 x7) k0_pay30   (gatesRun.sl.v923 c arg7 harg7 arg8 harg8 x6 x7)) (ix2 z l) = ((((I z).Fp 0 + (I z).mu (0 + l + 1)) * l2 : ℝ) : EReal) := by
  have e := fun (z : Fin 8) (l : Fin 128) h => (v940_pf c arg5 harg5 arg6 harg6 arg7 harg7 arg8 harg8 X ⟨z, h⟩ l).trans (congrArg _ (gr_blk I 0 0 0 z ⟨z, h⟩ (by dsimp only; omega) rfl rfl l))
  have e' := fun (z : Fin 8) (l : Fin 128) h => (v940_at c arg5 harg5 arg6 harg6 arg7 harg7 arg8 harg8 X ⟨z, h⟩ l).trans (congrArg _ (gr_blk I 0 0 0 z ⟨z, h⟩ (by dsimp only; omega) rfl rfl l))
  pointwise [k0_pay34, k0_pay33, e, e']
  simp only [← EReal.coe_zero, ← coe_max']
  try simp only [Nat.zero_add]
  exact congrArg _ (mt_step0 _ _)

theorem v943_at (z : Fin 8) (l : Fin 128) : (gatesRun.sl.v943 c arg7 harg7 arg8 harg8 x6 x7) (ix2 z l) = ((((I z).Fp 0 + (I z).mu (0 + l + 1)) * l2 : ℝ) : EReal) := v943_pf c arg5 harg5 arg6 harg6 arg7 harg7 arg8 harg8 X z l

theorem v946_pf (z : Fin 8) (l : Fin 128) : (k0_pay35 gatesRun.sl.v905 (gatesRun.sl.v920 c arg7 harg7 arg8 harg8 x6 x7) k0_pay30   (gatesRun.sl.v923 c arg7 harg7 arg8 harg8 x6 x7)) (ix2 z l) = ((((I z).Fp 0 + (I z).mu 128) * l2 : ℝ) : EReal) := by
  have p := v943_pf c arg5 harg5 arg6 harg6 arg7 harg7 arg8 harg8 X
  pointwise [k0_pay35, p]

theorem v946_at (z : Fin 8) (l : Fin 128) : (gatesRun.sl.v946 c arg7 harg7 arg8 harg8 x6 x7) (ix2 z l) = ((((I z).Fp 0 + (I z).mu 128) * l2 : ℝ) : EReal) := v946_pf c arg5 harg5 arg6 harg6 arg7 harg7 arg8 harg8 X z l

theorem v1004_pf (z : Fin 8) (l : Fin 128) : (k0_pay44 (gatesRun.sl.v940 c arg7 harg7 arg8 harg8 x6 x7) (gatesRun.sl.v946 c arg7 harg7 arg8 harg8 x6 x7)) (ix2 z l) = ((((I z).Fp 0 + (I z).mu (128 + l + 1)) * l2 : ℝ) : EReal) := by
  have e := fun (z : Fin 8) (l : Fin 128) h => (v940_pf c arg5 harg5 arg6 harg6 arg7 harg7 arg8 harg8 X ⟨8 + z, h⟩ l).trans (congrArg _ (gr_blk I 1 128 0 z ⟨8 + z, h⟩ (by dsimp only) rfl rfl l))
  have e' := fun (z : Fin 8) (l : Fin 128) h => (v940_at c arg5 harg5 arg6 harg6 arg7 harg7 arg8 harg8 X ⟨8 + z, h⟩ l).trans (congrArg _ (gr_blk I 1 128 0 z ⟨8 + z, h⟩ (by dsimp only) rfl rfl l))
  have r := v946_at c arg5 harg5 arg6 harg6 arg7 harg7 arg8 harg8 X
  have r' := v946_pf c arg5 harg5 arg6 harg6 arg7 harg7 arg8 harg8 X
  pointwise [k0_pay44, r, r', e, e']
  simp only [← EReal.coe_zero, ← coe_max']
  exact congrArg _ (mt_step _ _ _ _)

theorem v1004_at (z : Fin 8) (l : Fin 128) : (gatesRun.sl.v1004 c arg7 harg7 arg8 harg8 x6 x7) (ix2 z l) = ((((I z).Fp 0 + (I z).mu (128 + l + 1)) * l2 : ℝ) : EReal) := v1004_pf c arg5 harg5 arg6 harg6 arg7 harg7 arg8 harg8 X z l

theorem v1007_pf (z : Fin 8) (l : Fin 128) : (k0_pay45 (gatesRun.sl.v940 c arg7 harg7 arg8 harg8 x6 x7) (gatesRun.sl.v946 c arg7 harg7 arg8 harg8 x6 x7)) (ix2 z l) = ((((I z).Fp 0 + (I z).mu 256) * l2 : ℝ) : EReal) := by
  have p := v1004_pf c arg5 harg5 arg6 harg6 arg7 harg7 arg8 harg8 X
  pointwise [k0_pay45, p]

theorem v1007_at (z : Fin 8) (l : Fin 128) : (gatesRun.sl.v1007 c arg7 harg7 arg8 harg8 x6 x7) (ix2 z l) = ((((I z).Fp 0 + (I z).mu 256) * l2 : ℝ) : EReal) := v1007_pf c arg5 harg5 arg6 harg6 arg7 harg7 arg8 harg8 X z l

theorem v1065_pf (z : Fin 8) (l : Fin 128) : (k0_pay52 (gatesRun.sl.v940 c arg7 harg7 arg8 harg8 x6 x7) (gatesRun.sl.v1007 c arg7 harg7 arg8 harg8 x6 x7)) (ix2 z l) = ((((I z).Fp 0 + (I z).mu (256 + l + 1)) * l2 : ℝ) : EReal) := by
  have e := fun (z : Fin 8) (l : Fin 128) h => (v940_pf c arg5 harg5 arg6 harg6 arg7 harg7 arg8 harg8 X ⟨16 + z, h⟩ l).trans (congrArg _ (gr_blk I 2 256 0 z ⟨16 + z, h⟩ (by dsimp only) rfl rfl l))
  have e' := fun (z : Fin 8) (l : Fin 128) h => (v940_at c arg5 harg5 arg6 harg6 arg7 harg7 arg8 harg8 X ⟨16 + z, h⟩ l).trans (congrArg _ (gr_blk I 2 256 0 z ⟨16 + z, h⟩ (by dsimp only) rfl rfl l))
  have r := v1007_at c arg5 harg5 arg6 harg6 arg7 harg7 arg8 harg8 X
  have r' := v1007_pf c arg5 harg5 arg6 harg6 arg7 harg7 arg8 harg8 X
  pointwise [k0_pay52, r, r', e, e']
  simp only [← EReal.coe_zero, ← coe_max']
  exact congrArg _ (mt_step _ _ _ _)

theorem v1065_at (z : Fin 8) (l : Fin 128) : (gatesRun.sl.v1065 c arg7 harg7 arg8 harg8 x6 x7) (ix2 z l) = ((((I z).Fp 0 + (I z).mu (256 + l + 1)) * l2 : ℝ) : EReal) := v1065_pf c arg5 harg5 arg6 harg6 arg7 harg7 arg8 harg8 X z l

theorem v1068_pf (z : Fin 8) (l : Fin 128) : (k0_pay53 (gatesRun.sl.v940 c arg7 harg7 arg8 harg8 x6 x7) (gatesRun.sl.v1007 c arg7 harg7 arg8 harg8 x6 x7)) (ix2 z l) = ((((I z).Fp 0 + (I z).mu 384) * l2 : ℝ) : EReal) := by
  have p := v1065_pf c arg5 harg5 arg6 harg6 arg7 harg7 arg8 harg8 X
  pointwise [k0_pay53, p]

theorem v1068_at (z : Fin 8) (l : Fin 128) : (gatesRun.sl.v1068 c arg7 harg7 arg8 harg8 x6 x7) (ix2 z l) = ((((I z).Fp 0 + (I z).mu 384) * l2 : ℝ) : EReal) := v1068_pf c arg5 harg5 arg6 harg6 arg7 harg7 arg8 harg8 X z l

theorem v1126_pf (z : Fin 8) (l : Fin 128) : (k0_pay63 (gatesRun.sl.v940 c arg7 harg7 arg8 harg8 x6 x7) (gatesRun.sl.v1068 c arg7 harg7 arg8 harg8 x6 x7)) (ix2 z l) = ((((I z).Fp 0 + (I z).mu (384 + l + 1)) * l2 : ℝ) : EReal) := by
  have e := fun (z : Fin 8) (l : Fin 128) h => (v940_pf c arg5 harg5 arg6 harg6 arg7 harg7 arg8 harg8 X ⟨24 + z, h⟩ l).trans (congrArg _ (gr_blk I 3 384 0 z ⟨24 + z, h⟩ (by dsimp only) rfl rfl l))
  have e' := fun (z : Fin 8) (l : Fin 128) h => (v940_at c arg5 harg5 arg6 harg6 arg7 harg7 arg8 harg8 X ⟨24 + z, h⟩ l).trans (congrArg _ (gr_blk I 3 384 0 z ⟨24 + z, h⟩ (by dsimp only) rfl rfl l))
  have r := v1068_at c arg5 harg5 arg6 harg6 arg7 harg7 arg8 harg8 X
  have r' := v1068_pf c arg5 harg5 arg6 harg6 arg7 harg7 arg8 harg8 X
  pointwise [k0_pay63, r, r', e, e']
  simp only [← EReal.coe_zero, ← coe_max']
  exact congrArg _ (mt_step _ _ _ _)

theorem v1126_at (z : Fin 8) (l : Fin 128) : (gatesRun.sl.v1126 c arg7 harg7 arg8 harg8 x6 x7) (ix2 z l) = ((((I z).Fp 0 + (I z).mu (384 + l + 1)) * l2 : ℝ) : EReal) := v1126_pf c arg5 harg5 arg6 harg6 arg7 harg7 arg8 harg8 X z l

theorem v1129_pf (z : Fin 8) (l : Fin 128) : (k0_pay64 (gatesRun.sl.v940 c arg7 harg7 arg8 harg8 x6 x7) (gatesRun.sl.v1068 c arg7 harg7 arg8 harg8 x6 x7)) (ix2 z l) = ((((I z).Fp 0 + (I z).mu 512) * l2 : ℝ) : EReal) := by
  have p := v1126_pf c arg5 harg5 arg6 harg6 arg7 harg7 arg8 harg8 X
  pointwise [k0_pay64, p]

theorem v1129_at (z : Fin 8) (l : Fin 128) : (gatesRun.sl.v1129 c arg7 harg7 arg8 harg8 x6 x7) (ix2 z l) = ((((I z).Fp 0 + (I z).mu 512) * l2 : ℝ) : EReal) := v1129_pf c arg5 harg5 arg6 harg6 arg7 harg7 arg8 harg8 X z l

theorem v1211_pf (z : Fin 8) (l : Fin 128) : (k0_pay77 (gatesRun.sl.v845 c arg8 harg8 x7) (gatesRun.sl.v1129 c arg7 harg7 arg8 harg8 x6 x7)) (ix2 z l) = ((((I z).Fp 512 + (I z).mu 512) * l2 : ℝ) : EReal) := by
  have r := v1129_at c arg5 harg5 arg6 harg6 arg7 harg7 arg8 harg8 X
  have p := v845_at c arg5 harg5 arg6 harg6 arg7 harg7 arg8 harg8 X
  pointwise [k0_pay77, r, p, log2e_eq]
  simp only [← EReal.coe_mul, ← EReal.coe_add]
  congr 1
  ring

theorem v1211_at (z : Fin 8) (l : Fin 128) : (gatesRun.sl.v1211 c arg7 harg7 arg8 harg8 x6 x7) (ix2 z l) = ((((I z).Fp 512 + (I z).mu 512) * l2 : ℝ) : EReal) := v1211_pf c arg5 harg5 arg6 harg6 arg7 harg7 arg8 harg8 X z l

theorem v1213_pf (z : Fin 8) (l : Fin 128) : (k0_pay78 (gatesRun.sl.v845 c arg8 harg8 x7) (gatesRun.sl.v940 c arg7 harg7 arg8 harg8 x6 x7)   (gatesRun.sl.v1129 c arg7 harg7 arg8 harg8 x6 x7)) (ix2 z l) = ((((I z).Fp 512 + (I z).mu (512 + l + 1)) * l2 : ℝ) : EReal) := by
  have e := fun (z : Fin 8) (l : Fin 128) h => (v940_pf c arg5 harg5 arg6 harg6 arg7 harg7 arg8 harg8 X ⟨32 + z, h⟩ l).trans (congrArg _ (gr_blk I 4 512 512 z ⟨32 + z, h⟩ (by dsimp only) rfl rfl l))
  have e' := fun (z : Fin 8) (l : Fin 128) h => (v940_at c arg5 harg5 arg6 harg6 arg7 harg7 arg8 harg8 X ⟨32 + z, h⟩ l).trans (congrArg _ (gr_blk I 4 512 512 z ⟨32 + z, h⟩ (by dsimp only) rfl rfl l))
  have r := v1211_at c arg5 harg5 arg6 harg6 arg7 harg7 arg8 harg8 X
  have r' := v1211_pf c arg5 harg5 arg6 harg6 arg7 harg7 arg8 harg8 X
  pointwise [k0_pay78, r, r', e, e']
  simp only [← EReal.coe_zero, ← coe_max']
  exact congrArg _ (mt_step _ _ _ _)

theorem v1213_at (z : Fin 8) (l : Fin 128) : (gatesRun.sl.v1213 c arg7 harg7 arg8 harg8 x6 x7) (ix2 z l) = ((((I z).Fp 512 + (I z).mu (512 + l + 1)) * l2 : ℝ) : EReal) := v1213_pf c arg5 harg5 arg6 harg6 arg7 harg7 arg8 harg8 X z l

theorem v1216_pf (z : Fin 8) (l : Fin 128) : (k0_pay79 (gatesRun.sl.v845 c arg8 harg8 x7) (gatesRun.sl.v940 c arg7 harg7 arg8 harg8 x6 x7)   (gatesRun.sl.v1129 c arg7 harg7 arg8 harg8 x6 x7)) (ix2 z l) = ((((I z).Fp 512 + (I z).mu 640) * l2 : ℝ) : EReal) := by
  have p := v1213_pf c arg5 harg5 arg6 harg6 arg7 harg7 arg8 harg8 X
  pointwise [k0_pay79, p]

theorem v1216_at (z : Fin 8) (l : Fin 128) : (gatesRun.sl.v1216 c arg7 harg7 arg8 harg8 x6 x7) (ix2 z l) = ((((I z).Fp 512 + (I z).mu 640) * l2 : ℝ) : EReal) := v1216_pf c arg5 harg5 arg6 harg6 arg7 harg7 arg8 harg8 X z l

theorem v1274_pf (z : Fin 8) (l : Fin 128) : (k0_pay88 (gatesRun.sl.v940 c arg7 harg7 arg8 harg8 x6 x7) (gatesRun.sl.v1216 c arg7 harg7 arg8 harg8 x6 x7)) (ix2 z l) = ((((I z).Fp 512 + (I z).mu (640 + l + 1)) * l2 : ℝ) : EReal) := by
  have e := fun (z : Fin 8) (l : Fin 128) h => (v940_pf c arg5 harg5 arg6 harg6 arg7 harg7 arg8 harg8 X ⟨40 + z, h⟩ l).trans (congrArg _ (gr_blk I 5 640 512 z ⟨40 + z, h⟩ (by dsimp only) rfl rfl l))
  have e' := fun (z : Fin 8) (l : Fin 128) h => (v940_at c arg5 harg5 arg6 harg6 arg7 harg7 arg8 harg8 X ⟨40 + z, h⟩ l).trans (congrArg _ (gr_blk I 5 640 512 z ⟨40 + z, h⟩ (by dsimp only) rfl rfl l))
  have r := v1216_at c arg5 harg5 arg6 harg6 arg7 harg7 arg8 harg8 X
  have r' := v1216_pf c arg5 harg5 arg6 harg6 arg7 harg7 arg8 harg8 X
  pointwise [k0_pay88, r, r', e, e']
  simp only [← EReal.coe_zero, ← coe_max']
  exact congrArg _ (mt_step _ _ _ _)

theorem v1274_at (z : Fin 8) (l : Fin 128) : (gatesRun.sl.v1274 c arg7 harg7 arg8 harg8 x6 x7) (ix2 z l) = ((((I z).Fp 512 + (I z).mu (640 + l + 1)) * l2 : ℝ) : EReal) := v1274_pf c arg5 harg5 arg6 harg6 arg7 harg7 arg8 harg8 X z l

theorem v1277_pf (z : Fin 8) (l : Fin 128) : (k0_pay89 (gatesRun.sl.v940 c arg7 harg7 arg8 harg8 x6 x7) (gatesRun.sl.v1216 c arg7 harg7 arg8 harg8 x6 x7)) (ix2 z l) = ((((I z).Fp 512 + (I z).mu 768) * l2 : ℝ) : EReal) := by
  have p := v1274_pf c arg5 harg5 arg6 harg6 arg7 harg7 arg8 harg8 X
  pointwise [k0_pay89, p]

theorem v1277_at (z : Fin 8) (l : Fin 128) : (gatesRun.sl.v1277 c arg7 harg7 arg8 harg8 x6 x7) (ix2 z l) = ((((I z).Fp 512 + (I z).mu 768) * l2 : ℝ) : EReal) := v1277_pf c arg5 harg5 arg6 harg6 arg7 harg7 arg8 harg8 X z l

theorem v1349_pf (z : Fin 8) (l : Fin 128) : (k0_pay100 (gatesRun.sl.v850 c arg8 harg8 x7) (gatesRun.sl.v1277 c arg7 harg7 arg8 harg8 x6 x7)) (ix2 z l) = ((((I z).Fp 768 + (I z).mu 768) * l2 : ℝ) : EReal) := by
  have r := v1277_at c arg5 harg5 arg6 harg6 arg7 harg7 arg8 harg8 X
  have p := v850_at c arg5 harg5 arg6 harg6 arg7 harg7 arg8 harg8 X
  pointwise [k0_pay100, r, p, log2e_eq]
  simp only [← EReal.coe_mul, ← EReal.coe_add]
  congr 1
  ring

theorem v1349_at (z : Fin 8) (l : Fin 128) : (gatesRun.sl.v1349 c arg7 harg7 arg8 harg8 x6 x7) (ix2 z l) = ((((I z).Fp 768 + (I z).mu 768) * l2 : ℝ) : EReal) := v1349_pf c arg5 harg5 arg6 harg6 arg7 harg7 arg8 harg8 X z l

theorem v1351_pf (z : Fin 8) (l : Fin 128) : (k0_pay101 (gatesRun.sl.v850 c arg8 harg8 x7) (gatesRun.sl.v940 c arg7 harg7 arg8 harg8 x6 x7)   (gatesRun.sl.v1277 c arg7 harg7 arg8 harg8 x6 x7)) (ix2 z l) = ((((I z).Fp 768 + (I z).mu (768 + l + 1)) * l2 : ℝ) : EReal) := by
  have e := fun (z : Fin 8) (l : Fin 128) h => (v940_pf c arg5 harg5 arg6 harg6 arg7 harg7 arg8 harg8 X ⟨48 + z, h⟩ l).trans (congrArg _ (gr_blk I 6 768 768 z ⟨48 + z, h⟩ (by dsimp only) rfl rfl l))
  have e' := fun (z : Fin 8) (l : Fin 128) h => (v940_at c arg5 harg5 arg6 harg6 arg7 harg7 arg8 harg8 X ⟨48 + z, h⟩ l).trans (congrArg _ (gr_blk I 6 768 768 z ⟨48 + z, h⟩ (by dsimp only) rfl rfl l))
  have r := v1349_at c arg5 harg5 arg6 harg6 arg7 harg7 arg8 harg8 X
  have r' := v1349_pf c arg5 harg5 arg6 harg6 arg7 harg7 arg8 harg8 X
  pointwise [k0_pay101, r, r', e, e']
  simp only [← EReal.coe_zero, ← coe_max']
  exact congrArg _ (mt_step _ _ _ _)

theorem v1351_at (z : Fin 8) (l : Fin 128) : (gatesRun.sl.v1351 c arg7 harg7 arg8 harg8 x6 x7) (ix2 z l) = ((((I z).Fp 768 + (I z).mu (768 + l + 1)) * l2 : ℝ) : EReal) := v1351_pf c arg5 harg5 arg6 harg6 arg7 harg7 arg8 harg8 X z l

theorem v1354_pf (z : Fin 8) (l : Fin 128) : (k0_pay102 (gatesRun.sl.v850 c arg8 harg8 x7) (gatesRun.sl.v940 c arg7 harg7 arg8 harg8 x6 x7)   (gatesRun.sl.v1277 c arg7 harg7 arg8 harg8 x6 x7)) (ix2 z l) = ((((I z).Fp 768 + (I z).mu 896) * l2 : ℝ) : EReal) := by
  have p := v1351_pf c arg5 harg5 arg6 harg6 arg7 harg7 arg8 harg8 X
  pointwise [k0_pay102, p]

theorem v1354_at (z : Fin 8) (l : Fin 128) : (gatesRun.sl.v1354 c arg7 harg7 arg8 harg8 x6 x7) (ix2 z l) = ((((I z).Fp 768 + (I z).mu 896) * l2 : ℝ) : EReal) := v1354_pf c arg5 harg5 arg6 harg6 arg7 harg7 arg8 harg8 X z l

theorem v1411m_pf (z : Fin 8) (l : Fin 128) : (k0_pay111 (gatesRun.sl.v1354 c arg7 harg7 arg8 harg8 x6 x7) (gatesRun.sl.v1411 c arg7 harg7 arg8 harg8 x6 x7)) (ix2 z l) = ((((I z).Fp 768 + (I z).mu (896 + l + 1)) * l2 : ℝ) : EReal) := by
  have e := fun (z : Fin 8) (l : Fin 128) h => (v940_pf c arg5 harg5 arg6 harg6 arg7 harg7 arg8 harg8 X ⟨56 + z, h⟩ l).trans (congrArg _ (gr_blk I 7 896 768 z ⟨56 + z, h⟩ (by dsimp only) rfl rfl l))
  have e' := fun (z : Fin 8) (l : Fin 128) h => (v940_at c arg5 harg5 arg6 harg6 arg7 harg7 arg8 harg8 X ⟨56 + z, h⟩ l).trans (congrArg _ (gr_blk I 7 896 768 z ⟨56 + z, h⟩ (by dsimp only) rfl rfl l))
  have r := v1354_at c arg5 harg5 arg6 harg6 arg7 harg7 arg8 harg8 X
  have r' := v1354_pf c arg5 harg5 arg6 harg6 arg7 harg7 arg8 harg8 X
  pointwise [k0_pay111, gatesRun.sl.v1411, r, r', e, e']
  simp only [← EReal.coe_zero, ← coe_max']
  exact congrArg _ (mt_step _ _ _ _)

theorem v1415_pf (z : Fin 8) (l : Fin 128) : (k0_pay112 (gatesRun.sl.v1354 c arg7 harg7 arg8 harg8 x6 x7) (gatesRun.sl.v1411 c arg7 harg7 arg8 harg8 x6 x7)) (ix2 z l) = ((((I z).Fp 768 + (I z).mu 1024) * l2 : ℝ) : EReal) := by
  have p := v1411m_pf c arg5 harg5 arg6 harg6 arg7 harg7 arg8 harg8 X
  pointwise [k0_pay112, p]

theorem v1415_at (z : Fin 8) (l : Fin 128) : (gatesRun.sl.v1415 c arg7 harg7 arg8 harg8 x6 x7) (ix2 z l) = ((((I z).Fp 768 + (I z).mu 1024) * l2 : ℝ) : EReal) := v1415_pf c arg5 harg5 arg6 harg6 arg7 harg7 arg8 harg8 X z l

end
end Cert.KernelIdeal.Val
-- ==== Proof.KI.Rows.lean ====
module

public import proofs.«01_k».proof.Proof.KI.Gates
public import proofs.«01_k».proof.Proof.KI.Spec
public import Idealize.ShloMosaic.Lib.Pointwise
public import Idealize.ShloMosaic.Lib.KernelVsHost
public import Idealize.ShloMosaic.Lib.Pipeline.ValueKit
public import proofs.«01_k».proof.Proof.M.Cast
public import proofs.«01_k».proof.Proof.M.Args

@[expose] public section

set_option maxRecDepth 16384

/-!
# The six rows of gate values, block by block

Six rows for each head: scores, running maxima, the bound of the denominator, two decay factors, the scale of the values.
-/

noncomputable section

namespace Cert.KernelIdeal.Val

open Idealize.ShloMosaic Idealize.SL.Sem Cert.KernelIdeal Cert.KernelIdeal.Gen Cert.KernelIdeal.Run Cert.M

theorem sel_at (l : Fin 128) (a b : EReal) : Scalar.select (IntOp.cmpi CmpIPredicate.slt (BitVec.ofNat 32 ↑l) 64#32) a b = if (l : ℕ) < 64 then a else b := by
  have hl := l.isLt
  by_cases h : (l : ℕ) < 64
  · rw [show IntOp.cmpi CmpIPredicate.slt (BitVec.ofNat 32 ↑l) 64#32 = 1#1 by word_cmp, if_pos h]
    rfl
  · rw [show IntOp.cmpi CmpIPredicate.slt (BitVec.ofNat 32 ↑l) 64#32 = 0#1 by word_cmp, if_neg h]
    rfl

/-- A scale per chunk, spread over the two chunks of a block. -/
theorem vs_sel (I : Fin 8 → Inp) (z : Fin 8) (l : Fin 128) (a b t : ℕ) (ht : t / 64 = if (l : ℕ) < 64 then a else b) {h0 h2 : (z : ℕ) < 4 → (z : ℕ) < 4} {h1 h3 : ¬ (z : ℕ) < 4 → (z : ℕ) - 4 < 4} :
    Scalar.select (IntOp.cmpi CmpIPredicate.slt (BitVec.ofNat 32 ↑l) 64#32)
      (if h : (z : ℕ) < 4 then (((I (zz 0 ⟨z, h0 h⟩)).vs a : ℝ) : EReal) else (((I (zz 1 ⟨z - 4, h1 h⟩)).vs a : ℝ) : EReal))
      (if h : (z : ℕ) < 4 then (((I (zz 0 ⟨z, h2 h⟩)).vs b : ℝ) : EReal) else (((I (zz 1 ⟨z - 4, h3 h⟩)).vs b : ℝ) : EReal))
      = (((I z).vs (t / 64) : ℝ) : EReal) := by
  rw [sel_at, ht]
  by_cases h : (z : ℕ) < 4
  · rw [dif_pos h, dif_pos h, zz_lo]
    split <;> rfl
  · rw [dif_neg h, dif_neg h, zz_hi z h]
    split <;> rfl

theorem qs_sel (I : Fin 8 → Inp) (z : Fin 8) (l : Fin 128) (a b t : ℕ) (ht : t / 64 = if (l : ℕ) < 64 then a else b) {h0 h2 : (z : ℕ) < 4 → (z : ℕ) < 4} {h1 h3 : ¬ (z : ℕ) < 4 → (z : ℕ) - 4 < 4} :
    Scalar.select (IntOp.cmpi CmpIPredicate.slt (BitVec.ofNat 32 ↑l) 64#32)
      (if h : (z : ℕ) < 4 then (((I (zz 0 ⟨z, h0 h⟩)).qs a : ℝ) : EReal) else (((I (zz 1 ⟨z - 4, h1 h⟩)).qs a : ℝ) : EReal))
      (if h : (z : ℕ) < 4 then (((I (zz 0 ⟨z, h2 h⟩)).qs b : ℝ) : EReal) else (((I (zz 1 ⟨z - 4, h3 h⟩)).qs b : ℝ) : EReal))
      = (((I z).qs (t / 64) : ℝ) : EReal) := by
  rw [sel_at, ht]
  by_cases h : (z : ℕ) < 4
  · rw [dif_pos h, dif_pos h, zz_lo]
    split <;> rfl
  · rw [dif_neg h, dif_neg h, zz_hi z h]
    split <;> rfl

theorem exp2_l2 (x : ℝ) : FloatOps.exp2 (F := Ideal) (φ := .f32) (((x * l2 : ℝ) : EReal)) = ((Real.exp x : ℝ) : EReal) := by
  show Ideal.exp2 _ = _
  rw [exp2_coe, mul_l2]

theorem row2_num (a b m : ℝ) : FloatOps.exp2 (F := Ideal) (φ := .f32) (0 - ((((a - b : ℝ) : EReal)) * ((l2 : ℝ) : EReal) + (((b + m) * l2 : ℝ) : EReal)))
    = ((Real.exp (-(a + m)) : ℝ) : EReal) := by
  rw [← exp2_l2, zero_sub, ← EReal.coe_mul, ← EReal.coe_add, ← EReal.coe_neg]
  congr 2
  ring

theorem row3_num (a m n : ℝ) : FloatOps.exp2 (F := Ideal) (φ := .f32) ((((a + m) * l2 : ℝ) : EReal) - (((a + n) * l2 : ℝ) : EReal))
    = ((Real.exp (m - n) : ℝ) : EReal) := by
  rw [← exp2_l2, ← EReal.coe_sub]
  congr 2
  ring

theorem row3_num0 (J : Inp) (n : ℝ) : FloatOps.exp2 (F := Ideal) (φ := .f32) (0 - (((J.Fp 0 + n) * l2 : ℝ) : EReal))
    = ((Real.exp (J.mu 0 - n) : ℝ) : EReal) := by
  rw [← row3_num (J.Fp 0), show (J.Fp 0 + J.mu 0) * l2 = 0 by simp [Inp.Fp, Inp.mu], EReal.coe_zero]

theorem row4_num (g a m : ℝ) : FloatOps.exp2 (F := Ideal) (φ := .f32) ((((g + a) * l2 : ℝ) : EReal) - (((a + m) * l2 : ℝ) : EReal))
    = ((Real.exp (g - m) : ℝ) : EReal) := by
  rw [add_comm g, row3_num]

section
variable (c : Dev nD) (arg5 : Memref sig .tc .vmem S2x4x16 .f32) (harg5 : arg5.IsWhole) (arg6 : Memref sig .tc .vmem S2x4x16 .f32) (harg6 : arg6.IsWhole)
  (arg7 : Memref sig .tc .vmem S2x4x1024 .f32) (harg7 : arg7.IsWhole) (arg8 : Memref sig .tc .vmem S2x4x1024 .f32) (harg8 : arg8.IsWhole)
  {I : Fin 8 → Inp} {x4 x5 : Vec Ideal S2x4x16 .f32} {x6 x7 : Vec Ideal S2x4x1024 .f32} (X : GIn I x4 x5 x6 x7)

include c arg5 harg5 arg6 harg6 arg7 harg7 arg8 harg8 X

theorem row4_7 (z : Fin 8) (l : Fin 128) : (k0_pay120 (gatesRun.sl.v903 c arg7 harg7 arg8 harg8 x6 x7) (gatesRun.sl.v1415 c arg7 harg7 arg8 harg8 x6 x7) : Vec Ideal S1x8x128 .f32) (ix3 0 z l) = ((Real.exp ((I z).G (896 + l) - (I z).mu 1024) : ℝ) : EReal) := by
  have a0 := v1415_at c arg5 harg5 arg6 harg6 arg7 harg7 arg8 harg8 X
  have b0 := v1415_pf c arg5 harg5 arg6 harg6 arg7 harg7 arg8 harg8 X
  have a1 := v903_at c arg5 harg5 arg6 harg6 arg7 harg7 arg8 harg8 X
  have b1 := v903_pf c arg5 harg5 arg6 harg6 arg7 harg7 arg8 harg8 X
  pointwise [k0_pay120, a0, b0, a1, b1, log2e_eq]
  exact row4_num _ _ _

theorem row4_6 (z : Fin 8) (l : Fin 128) : (k0_pay119 (gatesRun.sl.v897 c arg7 harg7 arg8 harg8 x6 x7) (gatesRun.sl.v1415 c arg7 harg7 arg8 harg8 x6 x7) : Vec Ideal S1x8x128 .f32) (ix3 0 z l) = ((Real.exp ((I z).G (768 + l) - (I z).mu 1024) : ℝ) : EReal) := by
  have a0 := v1415_at c arg5 harg5 arg6 harg6 arg7 harg7 arg8 harg8 X
  have b0 := v1415_pf c arg5 harg5 arg6 harg6 arg7 harg7 arg8 harg8 X
  have a1 := v897_at c arg5 harg5 arg6 harg6 arg7 harg7 arg8 harg8 X
  have b1 := v897_pf c arg5 harg5 arg6 harg6 arg7 harg7 arg8 harg8 X
  pointwise [k0_pay119, a0, b0, a1, b1, log2e_eq]
  exact row4_num _ _ _

theorem row5_7 (z : Fin 8) (l : Fin 128) : (k0_pay118 (View.readAt (Elt Ideal) arg6.view (Rect.unit (s := S2x4x16) ![0, 0, 0] S1x4x16.size inb_S2x4x16_S1x4x16_0_0_0).toLoadRect (harg6.unread x5)) (View.readAt (Elt Ideal) arg6.view (Rect.unit (s := S2x4x16) ![1, 0, 0] S1x4x16.size inb_S2x4x16_S1x4x16_1_0_0).toLoadRect (harg6.unread x5)) : Vec Ideal S1x8x128 .f32) (ix3 0 z l) = (((I z).vs ((896 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [k0_pay118, e0, e1, log2e_eq]
  exact vs_sel I z l 14 15 (896 + l) (by split <;> omega)

theorem row3_7 (z : Fin 8) (l : Fin 128) : (k0_pay117 (gatesRun.sl.v1449 c arg7 harg7 arg8 harg8 x6 x7) : Vec Ideal S1x8x128 .f32) (ix3 0 z l) = ((Real.exp ((I z).mu 768 - (I z).mu ((896 + l) + 1)) : ℝ) : EReal) := by
  have a0 := v1349_at c arg5 harg5 arg6 harg6 arg7 harg7 arg8 harg8 X
  have b0 := v1349_pf c arg5 harg5 arg6 harg6 arg7 harg7 arg8 harg8 X
  have a1 := v1354_at c arg5 harg5 arg6 harg6 arg7 harg7 arg8 harg8 X
  have b1 := v1354_pf c arg5 harg5 arg6 harg6 arg7 harg7 arg8 harg8 X
  have b2 := v1411m_pf c arg5 harg5 arg6 harg6 arg7 harg7 arg8 harg8 X
  have a3 := v940_at c arg5 harg5 arg6 harg6 arg7 harg7 arg8 harg8 X
  have b3 := v940_pf c arg5 harg5 arg6 harg6 arg7 harg7 arg8 harg8 X
  pointwise [k0_pay116, k0_pay117, gatesRun.sl.v1449, a0, b0, a1, b1, b2, a3, b3, log2e_eq]
  exact row3_num _ _ _

theorem row2_7 (z : Fin 8) (l : Fin 128) : (k0_pay115 (gatesRun.sl.v855 c arg8 harg8 x7) (gatesRun.sl.v1354 c arg7 harg7 arg8 harg8 x6 x7) (gatesRun.sl.v1411 c arg7 harg7 arg8 harg8 x6 x7) (View.readAt (Elt Ideal) arg5.view (Rect.unit (s := S2x4x16) ![0, 0, 0] S1x4x16.size inb_S2x4x16_S1x4x16_0_0_0).toLoadRect (harg5.unread x4)) (View.readAt (Elt Ideal) arg5.view (Rect.unit (s := S2x4x16) ![1, 0, 0] S1x4x16.size inb_S2x4x16_S1x4x16_1_0_0).toLoadRect (harg5.unread x4)) : Vec Ideal S1x8x128 .f32) (ix3 0 z l) = Ideal.div ((Real.exp (-(I z).ms ((896 + l) + 1)) : ℝ) : EReal) (((I z).qsc (896 + l) : ℝ) : EReal) := by
  have a0 := v1354_at c arg5 harg5 arg6 harg6 arg7 harg7 arg8 harg8 X
  have b0 := v1354_pf c arg5 harg5 arg6 harg6 arg7 harg7 arg8 harg8 X
  have b1 := v1411m_pf c arg5 harg5 arg6 harg6 arg7 harg7 arg8 harg8 X
  have a2 := v855_at c arg5 harg5 arg6 harg6 arg7 harg7 arg8 harg8 X
  have b2 := v855_pf c arg5 harg5 arg6 harg6 arg7 harg7 arg8 harg8 X
  have a3 := v940_at c arg5 harg5 arg6 harg6 arg7 harg7 arg8 harg8 X
  have b3 := v940_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay115, a0, b0, b1, a2, b2, a3, b3, e0, e1, log2e_eq]
  rw [row2_num, qs_sel I z l 14 15 (896 + l) (by split <;> omega), ofBits_sixteenth, ← EReal.coe_mul]
  rfl

theorem row1_7 (z : Fin 8) (l : Fin 128) : (k0_pay114 (gatesRun.sl.v1354 c arg7 harg7 arg8 harg8 x6 x7) (gatesRun.sl.v1411 c arg7 harg7 arg8 harg8 x6 x7) : Vec Ideal S1x8x128 .f32) (ix3 0 z l) = ((((I z).Fp 768 + (I z).mu ((896 + l) + 1)) * l2 : ℝ) : EReal) := by
  have a0 := v1354_at c arg5 harg5 arg6 harg6 arg7 harg7 arg8 harg8 X
  have b0 := v1354_pf c arg5 harg5 arg6 harg6 arg7 harg7 arg8 harg8 X
  have b1 := v1411m_pf c arg5 harg5 arg6 harg6 arg7 harg7 arg8 harg8 X
  have a2 := v940_at c arg5 harg5 arg6 harg6 arg7 harg7 arg8 harg8 X
  have b2 := v940_pf c arg5 harg5 arg6 harg6 arg7 harg7 arg8 harg8 X
  pointwise [k0_pay114, a0, b0, b1, a2, b2, log2e_eq]

theorem row0_7 (z : Fin 8) (l : Fin 128) : (k0_pay113 (gatesRun.sl.v903 c arg7 harg7 arg8 harg8 x6 x7) : Vec Ideal S1x8x128 .f32) (ix3 0 z l) = ((((I z).G (896 + l) + (I z).Fp 768) * l2 : ℝ) : EReal) := by
  have a0 := v903_at c arg5 harg5 arg6 harg6 arg7 harg7 arg8 harg8 X
  have b0 := v903_pf c arg5 harg5 arg6 harg6 arg7 harg7 arg8 harg8 X
  pointwise [k0_pay113, a0, b0, log2e_eq]

theorem row5_6 (z : Fin 8) (l : Fin 128) : ((gatesRun.sl.v1410 c arg6 harg6 x5) : Vec Ideal S1x8x128 .f32) (ix3 0 z l) = (((I z).vs ((768 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [gatesRun.sl.v1401, gatesRun.sl.v1402, gatesRun.sl.v1403, gatesRun.sl.v1404, gatesRun.sl.v1405, gatesRun.sl.v1406, gatesRun.sl.v1407, gatesRun.sl.v1410, gatesRun.sl.v986, gatesRun.sl.v988, gatesRun.sl.v989, gatesRun.sl.v990, gatesRun.sl.v991, e0, e1, log2e_eq]
  exact vs_sel I z l 12 13 (768 + l) (by split <;> omega)

theorem row3_6 (z : Fin 8) (l : Fin 128) : ((gatesRun.sl.v1392 c arg7 harg7 arg8 harg8 x6 x7) : Vec Ideal S1x8x128 .f32) (ix3 0 z l) = ((Real.exp ((I z).mu 768 - (I z).mu ((768 + l) + 1)) : ℝ) : EReal) := by
  have a0 := v1349_at c arg5 harg5 arg6 harg6 arg7 harg7 arg8 harg8 X
  have b0 := v1349_pf c arg5 harg5 arg6 harg6 arg7 harg7 arg8 harg8 X
  have a1 := v1351_at c arg5 harg5 arg6 harg6 arg7 harg7 arg8 harg8 X
  have b1 := v1351_pf c arg5 harg5 arg6 harg6 arg7 harg7 arg8 harg8 X
  pointwise [gatesRun.sl.v1388, gatesRun.sl.v1389, gatesRun.sl.v1392, a0, b0, a1, b1, log2e_eq]
  exact row3_num _ _ _

theorem row2_6 (z : Fin 8) (l : Fin 128) : ((gatesRun.sl.v1387 c arg5 harg5 arg7 harg7 arg8 harg8 x4 x6 x7) : Vec Ideal S1x8x128 .f32) (ix3 0 z l) = Ideal.div ((Real.exp (-(I z).ms ((768 + l) + 1)) : ℝ) : EReal) (((I z).qsc (768 + l) : ℝ) : EReal) := by
  have a0 := v1351_at c arg5 harg5 arg6 harg6 arg7 harg7 arg8 harg8 X
  have b0 := v1351_pf c arg5 harg5 arg6 harg6 arg7 harg7 arg8 harg8 X
  have a1 := v851_at c arg5 harg5 arg6 harg6 arg7 harg7 arg8 harg8 X
  have b1 := v851_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay103, k0_pay104, gatesRun.sl.cst_264, gatesRun.sl.v1356, gatesRun.sl.v1373, gatesRun.sl.v1380, gatesRun.sl.v1382, gatesRun.sl.v1383, gatesRun.sl.v1384, gatesRun.sl.v1387, gatesRun.sl.v973, a0, b0, a1, b1, e0, e1, log2e_eq]
  rw [row2_num, qs_sel I z l 12 13 (768 + l) (by split <;> omega), ofBits_sixteenth, ← EReal.coe_mul]
  rfl

theorem row1_6 (z : Fin 8) (l : Fin 128) : ((gatesRun.sl.v1379 c arg7 harg7 arg8 harg8 x6 x7) : Vec Ideal S1x8x128 .f32) (ix3 0 z l) = ((((I z).Fp 768 + (I z).mu ((768 + l) + 1)) * l2 : ℝ) : EReal) := by
  have a0 := v1351_at c arg5 harg5 arg6 harg6 arg7 harg7 arg8 harg8 X
  have b0 := v1351_pf c arg5 harg5 arg6 harg6 arg7 harg7 arg8 harg8 X
  pointwise [gatesRun.sl.v1379, a0, b0, log2e_eq]

theorem row0_6 (z : Fin 8) (l : Fin 128) : ((gatesRun.sl.v1376 c arg7 harg7 arg8 harg8 x6 x7) : Vec Ideal S1x8x128 .f32) (ix3 0 z l) = ((((I z).G (768 + l) + (I z).Fp 768) * l2 : ℝ) : EReal) := by
  have a0 := v897_at c arg5 harg5 arg6 harg6 arg7 harg7 arg8 harg8 X
  have b0 := v897_pf c arg5 harg5 arg6 harg6 arg7 harg7 arg8 harg8 X
  pointwise [k0_pay105, gatesRun.sl.v1376, a0, b0, log2e_eq]

theorem row4_5 (z : Fin 8) (l : Fin 128) : (k0_pay99 (gatesRun.sl.v891 c arg7 harg7 arg8 harg8 x6 x7) (gatesRun.sl.v1277 c arg7 harg7 arg8 harg8 x6 x7) : Vec Ideal S1x8x128 .f32) (ix3 0 z l) = ((Real.exp ((I z).G (640 + l) - (I z).mu 768) : ℝ) : EReal) := by
  have a0 := v1277_at c arg5 harg5 arg6 harg6 arg7 harg7 arg8 harg8 X
  have b0 := v1277_pf c arg5 harg5 arg6 harg6 arg7 harg7 arg8 harg8 X
  have a1 := v891_at c arg5 harg5 arg6 harg6 arg7 harg7 arg8 harg8 X
  have b1 := v891_pf c arg5 harg5 arg6 harg6 arg7 harg7 arg8 harg8 X
  pointwise [k0_pay99, a0, b0, a1, b1, log2e_eq]
  exact row4_num _ _ _

theorem row4_4 (z : Fin 8) (l : Fin 128) : (k0_pay98 (gatesRun.sl.v1335 c arg7 harg7 arg8 harg8 x6 x7) : Vec Ideal S1x8x128 .f32) (ix3 0 z l) = ((Real.exp ((I z).G (512 + l) - (I z).mu 768) : ℝ) : EReal) := by
  have a0 := v1277_at c arg5 harg5 arg6 harg6 arg7 harg7 arg8 harg8 X
  have b0 := v1277_pf c arg5 harg5 arg6 harg6 arg7 harg7 arg8 harg8 X
  have a1 := v885_at c arg5 harg5 arg6 harg6 arg7 harg7 arg8 harg8 X
  have b1 := v885_pf c arg5 harg5 arg6 harg6 arg7 harg7 arg8 harg8 X
  pointwise [k0_pay98, gatesRun.sl.v1334, gatesRun.sl.v1335, a0, b0, a1, b1, log2e_eq]
  exact row4_num _ _ _

theorem row5_5 (z : Fin 8) (l : Fin 128) : ((gatesRun.sl.v1333 c arg6 harg6 x5) : Vec Ideal S1x8x128 .f32) (ix3 0 z l) = (((I z).vs ((640 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [gatesRun.sl.v1324, gatesRun.sl.v1325, gatesRun.sl.v1326, gatesRun.sl.v1327, gatesRun.sl.v1328, gatesRun.sl.v1329, gatesRun.sl.v1330, gatesRun.sl.v1333, gatesRun.sl.v986, gatesRun.sl.v988, gatesRun.sl.v989, gatesRun.sl.v990, gatesRun.sl.v991, e0, e1, log2e_eq]
  exact vs_sel I z l 10 11 (640 + l) (by split <;> omega)

theorem row3_5 (z : Fin 8) (l : Fin 128) : ((gatesRun.sl.v1315 c arg7 harg7 arg8 harg8 x6 x7) : Vec Ideal S1x8x128 .f32) (ix3 0 z l) = ((Real.exp ((I z).mu 512 - (I z).mu ((640 + l) + 1)) : ℝ) : EReal) := by
  have a0 := v1211_at c arg5 harg5 arg6 harg6 arg7 harg7 arg8 harg8 X
  have b0 := v1211_pf c arg5 harg5 arg6 harg6 arg7 harg7 arg8 harg8 X
  have a1 := v1274_at c arg5 harg5 arg6 harg6 arg7 harg7 arg8 harg8 X
  have b1 := v1274_pf c arg5 harg5 arg6 harg6 arg7 harg7 arg8 harg8 X
  pointwise [gatesRun.sl.v1311, gatesRun.sl.v1312, gatesRun.sl.v1315, a0, b0, a1, b1, log2e_eq]
  exact row3_num _ _ _

theorem row2_5 (z : Fin 8) (l : Fin 128) : ((gatesRun.sl.v1310 c arg5 harg5 arg7 harg7 arg8 harg8 x4 x6 x7) : Vec Ideal S1x8x128 .f32) (ix3 0 z l) = Ideal.div ((Real.exp (-(I z).ms ((640 + l) + 1)) : ℝ) : EReal) (((I z).qsc (640 + l) : ℝ) : EReal) := by
  have a0 := v1274_at c arg5 harg5 arg6 harg6 arg7 harg7 arg8 harg8 X
  have b0 := v1274_pf c arg5 harg5 arg6 harg6 arg7 harg7 arg8 harg8 X
  have a1 := v850_at c arg5 harg5 arg6 harg6 arg7 harg7 arg8 harg8 X
  have b1 := v850_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay90, k0_pay91, gatesRun.sl.cst_264, gatesRun.sl.v1279, gatesRun.sl.v1296, gatesRun.sl.v1303, gatesRun.sl.v1305, gatesRun.sl.v1306, gatesRun.sl.v1307, gatesRun.sl.v1310, gatesRun.sl.v973, a0, b0, a1, b1, e0, e1, log2e_eq]
  rw [row2_num, qs_sel I z l 10 11 (640 + l) (by split <;> omega), ofBits_sixteenth, ← EReal.coe_mul]
  rfl

theorem row1_5 (z : Fin 8) (l : Fin 128) : ((gatesRun.sl.v1302 c arg7 harg7 arg8 harg8 x6 x7) : Vec Ideal S1x8x128 .f32) (ix3 0 z l) = ((((I z).Fp 512 + (I z).mu ((640 + l) + 1)) * l2 : ℝ) : EReal) := by
  have a0 := v1274_at c arg5 harg5 arg6 harg6 arg7 harg7 arg8 harg8 X
  have b0 := v1274_pf c arg5 harg5 arg6 harg6 arg7 harg7 arg8 harg8 X
  pointwise [gatesRun.sl.v1302, a0, b0, log2e_eq]

theorem row0_5 (z : Fin 8) (l : Fin 128) : (k0_pay92 (gatesRun.sl.v891 c arg7 harg7 arg8 harg8 x6 x7) : Vec Ideal S1x8x128 .f32) (ix3 0 z l) = ((((I z).G (640 + l) + (I z).Fp 512) * l2 : ℝ) : EReal) := by
  have a0 := v891_at c arg5 harg5 arg6 harg6 arg7 harg7 arg8 harg8 X
  have b0 := v891_pf c arg5 harg5 arg6 harg6 arg7 harg7 arg8 harg8 X
  pointwise [k0_pay92, a0, b0, log2e_eq]

theorem row5_4 (z : Fin 8) (l : Fin 128) : (k0_pay87 (gatesRun.sl.v989 c arg6 harg6 x5) : Vec Ideal S1x8x128 .f32) (ix3 0 z l) = (((I z).vs ((512 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [k0_pay87, gatesRun.sl.v986, gatesRun.sl.v988, gatesRun.sl.v989, e0, e1, log2e_eq]
  exact vs_sel I z l 8 9 (512 + l) (by split <;> omega)

theorem row3_4 (z : Fin 8) (l : Fin 128) : ((gatesRun.sl.v1254 c arg7 harg7 arg8 harg8 x6 x7) : Vec Ideal S1x8x128 .f32) (ix3 0 z l) = ((Real.exp ((I z).mu 512 - (I z).mu ((512 + l) + 1)) : ℝ) : EReal) := by
  have a0 := v1211_at c arg5 harg5 arg6 harg6 arg7 harg7 arg8 harg8 X
  have b0 := v1211_pf c arg5 harg5 arg6 harg6 arg7 harg7 arg8 harg8 X
  have a1 := v1213_at c arg5 harg5 arg6 harg6 arg7 harg7 arg8 harg8 X
  have b1 := v1213_pf c arg5 harg5 arg6 harg6 arg7 harg7 arg8 harg8 X
  pointwise [gatesRun.sl.v1250, gatesRun.sl.v1251, gatesRun.sl.v1254, a0, b0, a1, b1, log2e_eq]
  exact row3_num _ _ _

theorem row2_4 (z : Fin 8) (l : Fin 128) : ((gatesRun.sl.v1249 c arg5 harg5 arg7 harg7 arg8 harg8 x4 x6 x7) : Vec Ideal S1x8x128 .f32) (ix3 0 z l) = Ideal.div ((Real.exp (-(I z).ms ((512 + l) + 1)) : ℝ) : EReal) (((I z).qsc (512 + l) : ℝ) : EReal) := by
  have a0 := v1213_at c arg5 harg5 arg6 harg6 arg7 harg7 arg8 harg8 X
  have b0 := v1213_pf c arg5 harg5 arg6 harg6 arg7 harg7 arg8 harg8 X
  have a1 := v846_at c arg5 harg5 arg6 harg6 arg7 harg7 arg8 harg8 X
  have b1 := v846_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay80, k0_pay81, gatesRun.sl.cst_264, gatesRun.sl.cst_368, gatesRun.sl.v1086, gatesRun.sl.v1218, gatesRun.sl.v1223, gatesRun.sl.v1224, gatesRun.sl.v1227, gatesRun.sl.v1228, gatesRun.sl.v1229, gatesRun.sl.v1230, gatesRun.sl.v1231, gatesRun.sl.v1232, gatesRun.sl.v1233, gatesRun.sl.v1235, gatesRun.sl.v1242, gatesRun.sl.v1244, gatesRun.sl.v1245, gatesRun.sl.v1246, gatesRun.sl.v1249, gatesRun.sl.v973, gatesRun.sl.v991, a0, b0, a1, b1, e0, e1, log2e_eq]
  rw [row2_num, qs_sel I z l 8 9 (512 + l) (by split <;> omega), ofBits_sixteenth, ← EReal.coe_mul]
  rfl

theorem row1_4 (z : Fin 8) (l : Fin 128) : ((gatesRun.sl.v1241 c arg7 harg7 arg8 harg8 x6 x7) : Vec Ideal S1x8x128 .f32) (ix3 0 z l) = ((((I z).Fp 512 + (I z).mu ((512 + l) + 1)) * l2 : ℝ) : EReal) := by
  have a0 := v1213_at c arg5 harg5 arg6 harg6 arg7 harg7 arg8 harg8 X
  have b0 := v1213_pf c arg5 harg5 arg6 harg6 arg7 harg7 arg8 harg8 X
  pointwise [gatesRun.sl.v1241, a0, b0, log2e_eq]

theorem row0_4 (z : Fin 8) (l : Fin 128) : ((gatesRun.sl.v1238 c arg7 harg7 arg8 harg8 x6 x7) : Vec Ideal S1x8x128 .f32) (ix3 0 z l) = ((((I z).G (512 + l) + (I z).Fp 512) * l2 : ℝ) : EReal) := by
  have a0 := v885_at c arg5 harg5 arg6 harg6 arg7 harg7 arg8 harg8 X
  have b0 := v885_pf c arg5 harg5 arg6 harg6 arg7 harg7 arg8 harg8 X
  pointwise [gatesRun.sl.v1238, a0, b0, log2e_eq]

theorem row4_3 (z : Fin 8) (l : Fin 128) : (k0_pay76 (gatesRun.sl.v879 c arg7 harg7 arg8 harg8 x6 x7) (gatesRun.sl.v1129 c arg7 harg7 arg8 harg8 x6 x7) : Vec Ideal S1x8x128 .f32) (ix3 0 z l) = ((Real.exp ((I z).G (384 + l) - (I z).mu 512) : ℝ) : EReal) := by
  have a0 := v1129_at c arg5 harg5 arg6 harg6 arg7 harg7 arg8 harg8 X
  have b0 := v1129_pf c arg5 harg5 arg6 harg6 arg7 harg7 arg8 harg8 X
  have a1 := v879_at c arg5 harg5 arg6 harg6 arg7 harg7 arg8 harg8 X
  have b1 := v879_pf c arg5 harg5 arg6 harg6 arg7 harg7 arg8 harg8 X
  pointwise [k0_pay76, a0, b0, a1, b1, log2e_eq]
  exact row4_num _ _ _

theorem row4_2 (z : Fin 8) (l : Fin 128) : (k0_pay75 (gatesRun.sl.v873 c arg7 harg7 arg8 harg8 x6 x7) (gatesRun.sl.v1129 c arg7 harg7 arg8 harg8 x6 x7) : Vec Ideal S1x8x128 .f32) (ix3 0 z l) = ((Real.exp ((I z).G (256 + l) - (I z).mu 512) : ℝ) : EReal) := by
  have a0 := v1129_at c arg5 harg5 arg6 harg6 arg7 harg7 arg8 harg8 X
  have b0 := v1129_pf c arg5 harg5 arg6 harg6 arg7 harg7 arg8 harg8 X
  have a1 := v873_at c arg5 harg5 arg6 harg6 arg7 harg7 arg8 harg8 X
  have b1 := v873_pf c arg5 harg5 arg6 harg6 arg7 harg7 arg8 harg8 X
  pointwise [k0_pay75, a0, b0, a1, b1, log2e_eq]
  exact row4_num _ _ _

theorem row4_1 (z : Fin 8) (l : Fin 128) : (k0_pay74 (gatesRun.sl.v867 c arg7 harg7 arg8 harg8 x6 x7) (gatesRun.sl.v1129 c arg7 harg7 arg8 harg8 x6 x7) : Vec Ideal S1x8x128 .f32) (ix3 0 z l) = ((Real.exp ((I z).G (128 + l) - (I z).mu 512) : ℝ) : EReal) := by
  have a0 := v1129_at c arg5 harg5 arg6 harg6 arg7 harg7 arg8 harg8 X
  have b0 := v1129_pf c arg5 harg5 arg6 harg6 arg7 harg7 arg8 harg8 X
  have a1 := v867_at c arg5 harg5 arg6 harg6 arg7 harg7 arg8 harg8 X
  have b1 := v867_pf c arg5 harg5 arg6 harg6 arg7 harg7 arg8 harg8 X
  pointwise [k0_pay74, a0, b0, a1, b1, log2e_eq]
  exact row4_num _ _ _

theorem row4_0 (z : Fin 8) (l : Fin 128) : (k0_pay73 (gatesRun.sl.v1187 c arg7 harg7 arg8 harg8 x6 x7) : Vec Ideal S1x8x128 .f32) (ix3 0 z l) = ((Real.exp ((I z).G (l : ℕ) - (I z).mu 512) : ℝ) : EReal) := by
  have a0 := v1129_at c arg5 harg5 arg6 harg6 arg7 harg7 arg8 harg8 X
  have b0 := v1129_pf c arg5 harg5 arg6 harg6 arg7 harg7 arg8 harg8 X
  have a1 := v861_at c arg5 harg5 arg6 harg6 arg7 harg7 arg8 harg8 X
  have b1 := v861_pf c arg5 harg5 arg6 harg6 arg7 harg7 arg8 harg8 X
  pointwise [k0_pay73, gatesRun.sl.v1186, gatesRun.sl.v1187, a0, b0, a1, b1, log2e_eq]
  exact row4_num _ _ _

theorem row5_3 (z : Fin 8) (l : Fin 128) : ((gatesRun.sl.v1185 c arg6 harg6 x5) : Vec Ideal S1x8x128 .f32) (ix3 0 z l) = (((I z).vs ((384 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [gatesRun.sl.v1176, gatesRun.sl.v1177, gatesRun.sl.v1178, gatesRun.sl.v1179, gatesRun.sl.v1180, gatesRun.sl.v1181, gatesRun.sl.v1182, gatesRun.sl.v1185, gatesRun.sl.v986, gatesRun.sl.v988, gatesRun.sl.v989, gatesRun.sl.v990, gatesRun.sl.v991, e0, e1, log2e_eq]
  exact vs_sel I z l 6 7 (384 + l) (by split <;> omega)

theorem row3_3 (z : Fin 8) (l : Fin 128) : ((gatesRun.sl.v1167 c arg7 harg7 arg8 harg8 x6 x7) : Vec Ideal S1x8x128 .f32) (ix3 0 z l) = ((Real.exp ((I z).mu 0 - (I z).mu ((384 + l) + 1)) : ℝ) : EReal) := by
  have a0 := v1126_at c arg5 harg5 arg6 harg6 arg7 harg7 arg8 harg8 X
  have b0 := v1126_pf c arg5 harg5 arg6 harg6 arg7 harg7 arg8 harg8 X
  pointwise [k0_pay33, gatesRun.sl.v1163, gatesRun.sl.v1164, gatesRun.sl.v1167, a0, b0, log2e_eq]
  exact row3_num0 _ _

theorem row2_3 (z : Fin 8) (l : Fin 128) : ((gatesRun.sl.v1162 c arg5 harg5 arg7 harg7 arg8 harg8 x4 x6 x7) : Vec Ideal S1x8x128 .f32) (ix3 0 z l) = Ideal.div ((Real.exp (-(I z).ms ((384 + l) + 1)) : ℝ) : EReal) (((I z).qsc (384 + l) : ℝ) : EReal) := by
  have a0 := v1126_at c arg5 harg5 arg6 harg6 arg7 harg7 arg8 harg8 X
  have b0 := v1126_pf c arg5 harg5 arg6 harg6 arg7 harg7 arg8 harg8 X
  have a1 := v845_at c arg5 harg5 arg6 harg6 arg7 harg7 arg8 harg8 X
  have b1 := v845_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay65, k0_pay66, gatesRun.sl.cst_264, gatesRun.sl.v1131, gatesRun.sl.v1148, gatesRun.sl.v1155, gatesRun.sl.v1157, gatesRun.sl.v1158, gatesRun.sl.v1159, gatesRun.sl.v1162, gatesRun.sl.v973, a0, b0, a1, b1, e0, e1, log2e_eq]
  rw [row2_num, qs_sel I z l 6 7 (384 + l) (by split <;> omega), ofBits_sixteenth, ← EReal.coe_mul]
  rfl

theorem row1_3 (z : Fin 8) (l : Fin 128) : ((gatesRun.sl.v1154 c arg7 harg7 arg8 harg8 x6 x7) : Vec Ideal S1x8x128 .f32) (ix3 0 z l) = ((((I z).Fp 0 + (I z).mu ((384 + l) + 1)) * l2 : ℝ) : EReal) := by
  have a0 := v1126_at c arg5 harg5 arg6 harg6 arg7 harg7 arg8 harg8 X
  have b0 := v1126_pf c arg5 harg5 arg6 harg6 arg7 harg7 arg8 harg8 X
  pointwise [gatesRun.sl.v1154, a0, b0, log2e_eq]

theorem row0_3 (z : Fin 8) (l : Fin 128) : (k0_pay67 (gatesRun.sl.v879 c arg7 harg7 arg8 harg8 x6 x7) : Vec Ideal S1x8x128 .f32) (ix3 0 z l) = ((((I z).G (384 + l) + (I z).Fp 0) * l2 : ℝ) : EReal) := by
  have a0 := v879_at c arg5 harg5 arg6 harg6 arg7 harg7 arg8 harg8 X
  have b0 := v879_pf c arg5 harg5 arg6 harg6 arg7 harg7 arg8 harg8 X
  pointwise [k0_pay67, a0, b0, log2e_eq]

theorem row5_2 (z : Fin 8) (l : Fin 128) : (k0_pay62 (gatesRun.sl.v986 c arg6 harg6 x5) (gatesRun.sl.v988 c arg6 harg6 x5) : Vec Ideal S1x8x128 .f32) (ix3 0 z l) = (((I z).vs ((256 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [k0_pay62, gatesRun.sl.v986, gatesRun.sl.v988, e0, e1, log2e_eq]
  exact vs_sel I z l 4 5 (256 + l) (by split <;> omega)

theorem row3_2 (z : Fin 8) (l : Fin 128) : ((gatesRun.sl.v1106 c arg7 harg7 arg8 harg8 x6 x7) : Vec Ideal S1x8x128 .f32) (ix3 0 z l) = ((Real.exp ((I z).mu 0 - (I z).mu ((256 + l) + 1)) : ℝ) : EReal) := by
  have a0 := v1065_at c arg5 harg5 arg6 harg6 arg7 harg7 arg8 harg8 X
  have b0 := v1065_pf c arg5 harg5 arg6 harg6 arg7 harg7 arg8 harg8 X
  pointwise [k0_pay33, gatesRun.sl.v1102, gatesRun.sl.v1103, gatesRun.sl.v1106, a0, b0, log2e_eq]
  exact row3_num0 _ _

theorem row2_2 (z : Fin 8) (l : Fin 128) : ((gatesRun.sl.v1101 c arg5 harg5 arg7 harg7 arg8 harg8 x4 x6 x7) : Vec Ideal S1x8x128 .f32) (ix3 0 z l) = Ideal.div ((Real.exp (-(I z).ms ((256 + l) + 1)) : ℝ) : EReal) (((I z).qsc (256 + l) : ℝ) : EReal) := by
  have a0 := v1065_at c arg5 harg5 arg6 harg6 arg7 harg7 arg8 harg8 X
  have b0 := v1065_pf c arg5 harg5 arg6 harg6 arg7 harg7 arg8 harg8 X
  have a1 := v841_at c arg5 harg5 arg6 harg6 arg7 harg7 arg8 harg8 X
  have b1 := v841_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay54, k0_pay55, gatesRun.sl.cst_264, gatesRun.sl.cst_368, gatesRun.sl.v1070, gatesRun.sl.v1075, gatesRun.sl.v1079, gatesRun.sl.v1080, gatesRun.sl.v1081, gatesRun.sl.v1082, gatesRun.sl.v1083, gatesRun.sl.v1084, gatesRun.sl.v1085, gatesRun.sl.v1086, gatesRun.sl.v1087, gatesRun.sl.v1094, gatesRun.sl.v1096, gatesRun.sl.v1097, gatesRun.sl.v1098, gatesRun.sl.v1101, gatesRun.sl.v973, gatesRun.sl.v990, gatesRun.sl.v991, a0, b0, a1, b1, e0, e1, log2e_eq]
  rw [row2_num, qs_sel I z l 4 5 (256 + l) (by split <;> omega), ofBits_sixteenth, ← EReal.coe_mul]
  rfl

theorem row1_2 (z : Fin 8) (l : Fin 128) : ((gatesRun.sl.v1093 c arg7 harg7 arg8 harg8 x6 x7) : Vec Ideal S1x8x128 .f32) (ix3 0 z l) = ((((I z).Fp 0 + (I z).mu ((256 + l) + 1)) * l2 : ℝ) : EReal) := by
  have a0 := v1065_at c arg5 harg5 arg6 harg6 arg7 harg7 arg8 harg8 X
  have b0 := v1065_pf c arg5 harg5 arg6 harg6 arg7 harg7 arg8 harg8 X
  pointwise [gatesRun.sl.v1093, a0, b0, log2e_eq]

theorem row0_2 (z : Fin 8) (l : Fin 128) : ((gatesRun.sl.v1090 c arg7 harg7 arg8 harg8 x6 x7) : Vec Ideal S1x8x128 .f32) (ix3 0 z l) = ((((I z).G (256 + l) + (I z).Fp 0) * l2 : ℝ) : EReal) := by
  have a0 := v873_at c arg5 harg5 arg6 harg6 arg7 harg7 arg8 harg8 X
  have b0 := v873_pf c arg5 harg5 arg6 harg6 arg7 harg7 arg8 harg8 X
  pointwise [gatesRun.sl.v1090, a0, b0, log2e_eq]

theorem row5_1 (z : Fin 8) (l : Fin 128) : (k0_pay51 (View.readAt (Elt Ideal) arg6.view (Rect.unit (s := S2x4x16) ![0, 0, 0] S1x4x16.size inb_S2x4x16_S1x4x16_0_0_0).toLoadRect (harg6.unread x5)) (View.readAt (Elt Ideal) arg6.view (Rect.unit (s := S2x4x16) ![1, 0, 0] S1x4x16.size inb_S2x4x16_S1x4x16_1_0_0).toLoadRect (harg6.unread x5)) : Vec Ideal S1x8x128 .f32) (ix3 0 z l) = (((I z).vs ((128 + l) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [k0_pay51, e0, e1, log2e_eq]
  exact vs_sel I z l 2 3 (128 + l) (by split <;> omega)

theorem row3_1 (z : Fin 8) (l : Fin 128) : (k0_pay50 k0_pay33 (gatesRun.sl.v1004 c arg7 harg7 arg8 harg8 x6 x7) : Vec Ideal S1x8x128 .f32) (ix3 0 z l) = ((Real.exp ((I z).mu 0 - (I z).mu ((128 + l) + 1)) : ℝ) : EReal) := by
  have a0 := v1004_at c arg5 harg5 arg6 harg6 arg7 harg7 arg8 harg8 X
  have b0 := v1004_pf c arg5 harg5 arg6 harg6 arg7 harg7 arg8 harg8 X
  pointwise [k0_pay33, k0_pay50, a0, b0, log2e_eq]
  exact row3_num0 _ _

theorem row2_1 (z : Fin 8) (l : Fin 128) : (k0_pay49 (gatesRun.sl.v1037 c arg5 harg5 arg7 harg7 arg8 harg8 x4 x6 x7) : Vec Ideal S1x8x128 .f32) (ix3 0 z l) = Ideal.div ((Real.exp (-(I z).ms ((128 + l) + 1)) : ℝ) : EReal) (((I z).qsc (128 + l) : ℝ) : EReal) := by
  have a0 := v1004_at c arg5 harg5 arg6 harg6 arg7 harg7 arg8 harg8 X
  have b0 := v1004_pf c arg5 harg5 arg6 harg6 arg7 harg7 arg8 harg8 X
  have a1 := v837_at c arg5 harg5 arg6 harg6 arg7 harg7 arg8 harg8 X
  have b1 := v837_pf c arg5 harg5 arg6 harg6 arg7 harg7 arg8 harg8 X
  have a2 := v940_at c arg5 harg5 arg6 harg6 arg7 harg7 arg8 harg8 X
  have b2 := v940_pf c arg5 harg5 arg6 harg6 arg7 harg7 arg8 harg8 X
  have a3 := v946_at c arg5 harg5 arg6 harg6 arg7 harg7 arg8 harg8 X
  have b3 := v946_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay48, k0_pay49, gatesRun.sl.v1037, a0, b0, a1, b1, a2, b2, a3, b3, e0, e1, log2e_eq]
  rw [row2_num, qs_sel I z l 2 3 (128 + l) (by split <;> omega), ofBits_sixteenth, ← EReal.coe_mul]
  rfl

theorem row1_1 (z : Fin 8) (l : Fin 128) : (k0_pay47 (gatesRun.sl.v940 c arg7 harg7 arg8 harg8 x6 x7) (gatesRun.sl.v946 c arg7 harg7 arg8 harg8 x6 x7) : Vec Ideal S1x8x128 .f32) (ix3 0 z l) = ((((I z).Fp 0 + (I z).mu ((128 + l) + 1)) * l2 : ℝ) : EReal) := by
  have a0 := v1004_at c arg5 harg5 arg6 harg6 arg7 harg7 arg8 harg8 X
  have b0 := v1004_pf c arg5 harg5 arg6 harg6 arg7 harg7 arg8 harg8 X
  have a1 := v940_at c arg5 harg5 arg6 harg6 arg7 harg7 arg8 harg8 X
  have b1 := v940_pf c arg5 harg5 arg6 harg6 arg7 harg7 arg8 harg8 X
  have a2 := v946_at c arg5 harg5 arg6 harg6 arg7 harg7 arg8 harg8 X
  have b2 := v946_pf c arg5 harg5 arg6 harg6 arg7 harg7 arg8 harg8 X
  pointwise [k0_pay47, a0, b0, a1, b1, a2, b2, log2e_eq]

theorem row0_1 (z : Fin 8) (l : Fin 128) : (k0_pay46 (gatesRun.sl.v867 c arg7 harg7 arg8 harg8 x6 x7) : Vec Ideal S1x8x128 .f32) (ix3 0 z l) = ((((I z).G (128 + l) + (I z).Fp 0) * l2 : ℝ) : EReal) := by
  have a0 := v867_at c arg5 harg5 arg6 harg6 arg7 harg7 arg8 harg8 X
  have b0 := v867_pf c arg5 harg5 arg6 harg6 arg7 harg7 arg8 harg8 X
  pointwise [k0_pay46, a0, b0, log2e_eq]

theorem row5_0 (z : Fin 8) (l : Fin 128) : (k0_pay43 (gatesRun.sl.v999 c arg6 harg6 x5) : Vec Ideal S1x8x128 .f32) (ix3 0 z l) = (((I z).vs ((l : ℕ) / 64) : ℝ) : EReal) := by
  have e0 := fun (h : Fin 4) (t : Fin 16) => (ld3 (inb := inb_S2x4x16_S1x4x16_0_0_0) arg6 harg6 x5 (0 : Fin 1) h t (by omega) (by omega) (by omega)).trans (X.h5 ⟨_, by omega⟩ ⟨_, by omega⟩ ⟨_, by omega⟩)
  have e1 := fun (h : Fin 4) (t : Fin 16) => (ld3 (inb := inb_S2x4x16_S1x4x16_1_0_0) arg6 harg6 x5 (0 : Fin 1) h t (by omega) (by omega) (by omega)).trans (X.h5 ⟨_, by omega⟩ ⟨_, by omega⟩ ⟨_, by omega⟩)
  pointwise [k0_pay43, gatesRun.sl.v986, gatesRun.sl.v988, gatesRun.sl.v989, gatesRun.sl.v990, gatesRun.sl.v991, gatesRun.sl.v993, gatesRun.sl.v994, gatesRun.sl.v995, gatesRun.sl.v996, gatesRun.sl.v997, gatesRun.sl.v998, gatesRun.sl.v999, e0, e1, log2e_eq]
  exact vs_sel I z l 0 1 (l : ℕ) (by split <;> omega)

theorem row3_0 (z : Fin 8) (l : Fin 128) : ((gatesRun.sl.v984 c arg7 harg7 arg8 harg8 x6 x7) : Vec Ideal S1x8x128 .f32) (ix3 0 z l) = ((Real.exp ((I z).mu 0 - (I z).mu ((l : ℕ) + 1)) : ℝ) : EReal) := by
  have a0 := v943_at c arg5 harg5 arg6 harg6 arg7 harg7 arg8 harg8 X
  have b0 := v943_pf c arg5 harg5 arg6 harg6 arg7 harg7 arg8 harg8 X
  pointwise [k0_pay33, gatesRun.sl.v980, gatesRun.sl.v981, gatesRun.sl.v984, a0, b0, log2e_eq]
  exact row3_num0 _ _

theorem row2_0 (z : Fin 8) (l : Fin 128) : ((gatesRun.sl.v979 c arg5 harg5 arg7 harg7 arg8 harg8 x4 x6 x7) : Vec Ideal S1x8x128 .f32) (ix3 0 z l) = Ideal.div ((Real.exp (-(I z).ms ((l : ℕ) + 1)) : ℝ) : EReal) (((I z).qsc (l : ℕ) : ℝ) : EReal) := by
  have a0 := v833_at c arg5 harg5 arg6 harg6 arg7 harg7 arg8 harg8 X
  have b0 := v833_pf c arg5 harg5 arg6 harg6 arg7 harg7 arg8 harg8 X
  have a1 := v943_at c arg5 harg5 arg6 harg6 arg7 harg7 arg8 harg8 X
  have b1 := v943_pf c arg5 harg5 arg6 harg6 arg7 harg7 arg8 harg8 X
  have e0 := fun (h : Fin 4) (t : Fin 16) => (ld3 (inb := inb_S2x4x16_S1x4x16_0_0_0) arg5 harg5 x4 (0 : Fin 1) h t (by omega) (by omega) (by omega)).trans (X.h4 ⟨_, by omega⟩ ⟨_, by omega⟩ ⟨_, by omega⟩)
  have e1 := fun (h : Fin 4) (t : Fin 16) => (ld3 (inb := inb_S2x4x16_S1x4x16_1_0_0) arg5 harg5 x4 (0 : Fin 1) h t (by omega) (by omega) (by omega)).trans (X.h4 ⟨_, by omega⟩ ⟨_, by omega⟩ ⟨_, by omega⟩)
  pointwise [k0_pay36, k0_pay37, gatesRun.sl.cst_264, gatesRun.sl.v948, gatesRun.sl.v965, gatesRun.sl.v972, gatesRun.sl.v973, gatesRun.sl.v974, gatesRun.sl.v975, gatesRun.sl.v976, gatesRun.sl.v979, a0, b0, a1, b1, e0, e1, log2e_eq]
  rw [row2_num, qs_sel I z l 0 1 (l : ℕ) (by split <;> omega), ofBits_sixteenth, ← EReal.coe_mul]
  rfl

theorem row1_0 (z : Fin 8) (l : Fin 128) : ((gatesRun.sl.v971 c arg7 harg7 arg8 harg8 x6 x7) : Vec Ideal S1x8x128 .f32) (ix3 0 z l) = ((((I z).Fp 0 + (I z).mu ((l : ℕ) + 1)) * l2 : ℝ) : EReal) := by
  have a0 := v943_at c arg5 harg5 arg6 harg6 arg7 harg7 arg8 harg8 X
  have b0 := v943_pf c arg5 harg5 arg6 harg6 arg7 harg7 arg8 harg8 X
  pointwise [gatesRun.sl.v971, a0, b0, log2e_eq]

theorem row0_0 (z : Fin 8) (l : Fin 128) : ((gatesRun.sl.v968 c arg7 harg7 arg8 harg8 x6 x7) : Vec Ideal S1x8x128 .f32) (ix3 0 z l) = ((((I z).G (l : ℕ) + (I z).Fp 0) * l2 : ℝ) : EReal) := by
  have a0 := v861_at c arg5 harg5 arg6 harg6 arg7 harg7 arg8 harg8 X
  have b0 := v861_pf c arg5 harg5 arg6 harg6 arg7 harg7 arg8 harg8 X
  pointwise [gatesRun.sl.v968, a0, b0, log2e_eq]

end
end Cert.KernelIdeal.Val
-- ==== Proof.KI.Rest1.lean ====
module

public import proofs.«01_k».proof.Proof.M.Math
public import proofs.«01_k».proof.Proof.M.Cast
public import proofs.«01_k».proof.Proof.KI.Gates
public import proofs.«01_k».proof.Proof.KI.RunR
public import Idealize.ShloMosaic.Lib.Pointwise
public import proofs.«01_k».proof.Proof.KI.Rows

@[expose] public section

set_option maxRecDepth 16384

/-!
# One head: the loads, the scaled keys, the products of queries and keys, the weights

The blocks are of 128 or 256 tokens; the weights of a query are zero at later tokens.
-/

noncomputable section

namespace Cert.KernelIdeal.Val

open Idealize.ShloMosaic Idealize.SL.Sem Cert.KernelIdeal Cert.KernelIdeal.Gen Cert.KernelIdeal.Run Cert.M

/-- The first and the last token of a segment, exclusive. -/
def sa (s : ℕ) : ℕ := if s < 512 then 0 else if s < 768 then 512 else 768
def se (s : ℕ) : ℕ := if s < 512 then 512 else if s < 768 then 768 else 1024

theorem sa_of (s a : ℕ) (h : (s < 512 ∧ a = 0) ∨ (512 ≤ s ∧ s < 768 ∧ a = 512) ∨ (768 ≤ s ∧ a = 768)) : sa s = a := by
  unfold sa
  split_ifs <;> omega
theorem se_of (s a : ℕ) (h : (s < 512 ∧ a = 512) ∨ (512 ≤ s ∧ s < 768 ∧ a = 768) ∨ (768 ≤ s ∧ a = 1024)) : se s = a := by
  unfold se
  split_ifs <;> omega

/-- What a head finds: the codes and their scales, and the six rows of gate values. -/
structure RIn (J : Inp) (z : Fin 8) (x0 : Vec Ideal S1x1x1024x256 .fp8e4m3) (x1 : Vec Ideal S1x1x1024x256 .fp8e4m3) (x2 : Vec Ideal S1x1x1024x512 .fp8e4m3) (x3 : Vec Ideal S1x1x16x256 .f32) (xs0 : Vec Ideal S6x8x1024 .f32) : Prop where
  q : ∀ (s : Fin 1024) (d : Fin 256), x0 (ix4 0 0 s d) = ((J.q s d : ℝ) : EReal)
  k : ∀ (s : Fin 1024) (d : Fin 256), x1 (ix4 0 0 s d) = ((J.k s d : ℝ) : EReal)
  v : ∀ (s : Fin 1024) (e : Fin 512), x2 (ix4 0 0 s e) = ((J.v s e : ℝ) : EReal)
  ks : ∀ (j : Fin 16) (d : Fin 256), x3 (ix4 0 0 j d) = ((J.ks j d : ℝ) : EReal)
  r0 : ∀ s : Fin 1024, xs0 (ix3 0 z s) = (((J.G s + J.Fp (sa s)) * l2 : ℝ) : EReal)
  r1 : ∀ s : Fin 1024, xs0 (ix3 1 z s) = (((J.Fp (sa s) + J.mu (s + 1)) * l2 : ℝ) : EReal)
  r2 : ∀ s : Fin 1024, xs0 (ix3 2 z s) = Ideal.div ((Real.exp (-J.ms (s + 1)) : ℝ) : EReal) ((J.qsc s : ℝ) : EReal)
  r3 : ∀ s : Fin 1024, xs0 (ix3 3 z s) = ((Real.exp (J.mu (sa s) - J.mu (s + 1)) : ℝ) : EReal)
  r4 : ∀ s : Fin 1024, xs0 (ix3 4 z s) = ((Real.exp (J.G s - J.mu (se s)) : ℝ) : EReal)
  r5 : ∀ s : Fin 1024, xs0 (ix3 5 z s) = ((J.vs (s / 64) : ℝ) : EReal)

/-- A load of a part of a whole buffer that holds `X`. -/
theorem ld4 {n2 n3 s2 s3 o2 o3 : ℕ} {e : EltTy} (M : Memref sig .tc .vmem ⟨4, ![1, 1, n2, n3]⟩ e) (hM : M.IsWhole) (X : Vec Ideal ⟨4, ![1, 1, n2, n3]⟩ e)
    {inb} (j : Fin s2) (k : Fin s3) (h2 : o2 + j < n2) (h3 : o3 + k < n3) :
    (View.readAt (Elt Ideal) M.view (Rect.unit (s := ⟨4, ![1, 1, n2, n3]⟩) ![0, 0, o2, o3] ![1, 1, s2, s3] inb).toLoadRect (hM.unread X) : Vec Ideal ⟨4, ![1, 1, s2, s3]⟩ e) (ix4 0 0 j k)
      = X (ix4 0 0 ⟨o2 + j, h2⟩ ⟨o3 + k, h3⟩) := by
  rw [View.readAt_eq_ld, Memref.IsWhole.read_unread]
  refine View.ld_unit_apply_of X _ _ _ _ _ fun a => ?_
  fin_cases a <;> rfl

/-- A load of a part of a row of gate values. -/
theorem ldo {r : ℕ} {z : Fin 8} {col : ℕ} {off : Fin 3 → ℕ} (ho : off = ![r, z, col]) (M : Memref sig .tc .vmem S6x8x1024 .f32) (hM : M.IsWhole) (X : Vec Ideal S6x8x1024 .f32)
    {inb} (l : Fin 256) (hr : r < 6) (hc : col + l < 1024) :
    (View.readAt (Elt Ideal) M.view (Rect.unit (s := S6x8x1024) off S1x1x256.size inb).toLoadRect (hM.unread X) : Vec Ideal S1x1x256 .f32) (ix3 0 0 l)
      = X (ix3 ⟨r, hr⟩ z ⟨col + l, hc⟩) := by
  subst ho
  rw [View.readAt_eq_ld, Memref.IsWhole.read_unread]
  refine View.ld_unit_apply_of X _ _ _ _ _ fun a => ?_
  fin_cases a <;> rfl

theorem ix_nat : ∀ k : Fin 8, (Scalar.indexCast (BitVec.ofNat 32 k.val) : Index).toNat = k.val := by
  decide

theorem kk_of (J : Inp) (s j : ℕ) (d : Fin 256) (h : s / 64 = j) : ((J.k s d : ℝ) : EReal) * ((J.ks j d : ℝ) : EReal) = ((J.kk s d : ℝ) : EReal) := by
  subst h
  rw [← EReal.coe_mul]
  rfl

/-- The weight of token `s` at query `t`, times the product of the two; zero at later tokens. -/
def pw (J : Inp) (t s : ℕ) : ℝ := if s ≤ t then J.W (t + 1) s * J.qk t s else 0

theorem pw_zero (J : Inp) {t s : ℕ} (h : t < s) : pw J t s = 0 := if_neg (by omega)

theorem pw_u (J : Inp) (t s : ℕ) (A : ℝ) (h : s ≤ t) :
    ((J.qk t s : ℝ) : EReal) * FloatOps.exp2 (F := Ideal) (φ := .f32) ((((J.G s + A) * l2 : ℝ) : EReal) - (((A + J.mu (t + 1)) * l2 : ℝ) : EReal)) = ((pw J t s : ℝ) : EReal) := by
  rw [row4_num, ← EReal.coe_mul, pw, if_pos h, mul_comm]
  rfl

theorem pw_m (J : Inp) (t s t' s' : ℕ) (A : ℝ) (h : s' ≤ t' ↔ s ≤ t) :
    Scalar.select (if s' ≤ t' then 1#1 else 0#1 : BitVec 1) (((J.qk t s : ℝ) : EReal) * FloatOps.exp2 (F := Ideal) (φ := .f32) ((((J.G s + A) * l2 : ℝ) : EReal) - (((A + J.mu (t + 1)) * l2 : ℝ) : EReal))) (0 : EReal)
      = ((pw J t s : ℝ) : EReal) := by
  by_cases h' : s' ≤ t'
  · rw [if_pos h', pw_u J t s A (h.1 h')]
    rfl
  · rw [if_neg h', pw, if_neg (fun h'' => h' (h.2 h''))]
    rfl

theorem mask_at (r l : Fin 128) : k0_pay123 (ix2 r l) = if (l : ℕ) ≤ r then 1#1 else 0#1 := by
  have hr := r.isLt
  have hl := l.isLt
  pointwise [k0_pay123]
  by_cases h : (l : ℕ) ≤ r
  · rw [show IntOp.cmpi CmpIPredicate.sge (BitVec.ofNat 32 ↑r) (BitVec.ofNat 32 ↑l) = 1#1 by word_cmp, if_pos h]
  · rw [show IntOp.cmpi CmpIPredicate.sge (BitVec.ofNat 32 ↑r) (BitVec.ofNat 32 ↑l) = 0#1 by word_cmp, if_neg h]

section
variable (c : Dev nD) (i : grid0.Coords) (z : Fin 8) (hz : (i 0).val = z) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg13 : Memref sig .tc .vmem S6x8x1024 .f32) (harg13 : arg13.IsWhole) (arg14 : Memref sig .tc .vmem S768x512 .bf16)
  {x0 : Vec Ideal S1x1x1024x256 .fp8e4m3} {x1 : Vec Ideal S1x1x1024x256 .fp8e4m3} {x2 : Vec Ideal S1x1x1024x512 .fp8e4m3} {x3 : Vec Ideal S1x1x16x256 .f32} {xs0 : Vec Ideal S6x8x1024 .f32} {J : Inp} (X : RIn J z x0 x1 x2 x3 xs0)
include c i z hz arg1 harg1 arg2 harg2 arg3 harg3 arg4 harg4 arg13 harg13 arg14 X

theorem v505_at (l : Fin 256) : (restRun.sl.v505 c i arg13 harg13 xs0) (ix2 0 l) = Ideal.div ((Real.exp (-J.ms ((512 + l) + 1)) : ℝ) : EReal) ((J.qsc (512 + l) : ℝ) : EReal) := by
  have e := fun l : Fin 256 => (ldo (show k0_off16 i = ![2, (z : ℕ), 512] by unfold k0_off16; dsimp only; rw [hz, ix_nat]) arg13 harg13 xs0 (inb := k0_off16_inb i) l (by omega) (by omega)).trans (X.r2 _)
  pointwise [restRun.sl.v505, e]

theorem v402_at (l : Fin 256) : (restRun.sl.v402 c i arg13 harg13 xs0) (ix2 0 l) = ((J.vs ((512 + l) / 64) : ℝ) : EReal) := by
  have e := fun l : Fin 256 => (ldo (show k0_off12 i = ![5, (z : ℕ), 512] by unfold k0_off12; dsimp only; rw [hz, ix_nat]) arg13 harg13 xs0 (inb := k0_off12_inb i) l (by omega) (by omega)).trans (X.r5 _)
  pointwise [restRun.sl.v402, e]

theorem v162_at (l : Fin 256) : (restRun.sl.v162 c i arg13 harg13 xs0) (ix2 0 l) = Ideal.div ((Real.exp (-J.ms ((l : ℕ) + 1)) : ℝ) : EReal) ((J.qsc (l : ℕ) : ℝ) : EReal) := by
  have e := fun l : Fin 256 => (ldo (show k0_off7 i = ![2, (z : ℕ), 0] by unfold k0_off7; dsimp only; rw [hz, ix_nat]) arg13 harg13 xs0 (inb := k0_off7_inb i) l (by omega) (by omega)).trans (X.r2 _)
  pointwise [restRun.sl.v162, e]

theorem v624_at (l : Fin 256) : (restRun.sl.v624 c i arg13 harg13 xs0) (ix2 0 l) = (((J.G (768 + l) + J.Fp 768) * l2 : ℝ) : EReal) := by
  have e := fun l : Fin 256 => (ldo (show k0_off20 i = ![0, (z : ℕ), 768] by unfold k0_off20; dsimp only; rw [hz, ix_nat]) arg13 harg13 xs0 (inb := k0_off20_inb i) l (by omega) (by omega)).trans (X.r0 _)
  pointwise [restRun.sl.v624, e]
  rw [sa_of _ 768 (by omega)]

theorem v705_at (l : Fin 256) : (restRun.sl.v705 c i arg13 harg13 xs0) (ix2 0 l) = Ideal.div ((Real.exp (-J.ms ((768 + l) + 1)) : ℝ) : EReal) ((J.qsc (768 + l) : ℝ) : EReal) := by
  have e := fun l : Fin 256 => (ldo (show k0_off22 i = ![2, (z : ℕ), 768] by unfold k0_off22; dsimp only; rw [hz, ix_nat]) arg13 harg13 xs0 (inb := k0_off22_inb i) l (by omega) (by omega)).trans (X.r2 _)
  pointwise [restRun.sl.v705, e]

theorem v594_at (l : Fin 256) : (restRun.sl.v594 c i arg13 harg13 xs0) (ix2 0 l) = ((Real.exp (J.G (768 + l) - J.mu 1024) : ℝ) : EReal) := by
  have e := fun l : Fin 256 => (ldo (show k0_off17 i = ![4, (z : ℕ), 768] by unfold k0_off17; dsimp only; rw [hz, ix_nat]) arg13 harg13 xs0 (inb := k0_off17_inb i) l (by omega) (by omega)).trans (X.r4 _)
  pointwise [restRun.sl.v594, e]
  rw [se_of _ 1024 (by omega)]

theorem v424_at (l : Fin 256) : (restRun.sl.v424 c i arg13 harg13 xs0) (ix2 0 l) = (((J.G (512 + l) + J.Fp 512) * l2 : ℝ) : EReal) := by
  have e := fun l : Fin 256 => (ldo (show k0_off14 i = ![0, (z : ℕ), 512] by unfold k0_off14; dsimp only; rw [hz, ix_nat]) arg13 harg13 xs0 (inb := k0_off14_inb i) l (by omega) (by omega)).trans (X.r0 _)
  pointwise [restRun.sl.v424, e]
  rw [sa_of _ 512 (by omega)]

theorem v76_at (l : Fin 256) : (restRun.sl.v76 c i arg13 harg13 xs0) (ix2 0 l) = ((Real.exp (J.G (256 + l) - J.mu 512) : ℝ) : EReal) := by
  have e := fun l : Fin 256 => (ldo (show k0_off3 i = ![4, (z : ℕ), 256] by unfold k0_off3; dsimp only; rw [hz, ix_nat]) arg13 harg13 xs0 (inb := k0_off3_inb i) l (by omega) (by omega)).trans (X.r4 _)
  pointwise [restRun.sl.v76, e]
  rw [se_of _ 512 (by omega)]

theorem v256_at (l : Fin 256) : (restRun.sl.v256 c i arg13 harg13 xs0) (ix2 0 l) = (((J.G (256 + l) + J.Fp 0) * l2 : ℝ) : EReal) := by
  have e := fun l : Fin 256 => (ldo (show k0_off9 i = ![0, (z : ℕ), 256] by unfold k0_off9; dsimp only; rw [hz, ix_nat]) arg13 harg13 xs0 (inb := k0_off9_inb i) l (by omega) (by omega)).trans (X.r0 _)
  pointwise [restRun.sl.v256, e]
  rw [sa_of _ 0 (by omega)]

theorem v394_at (l : Fin 256) : (restRun.sl.v394 c i arg13 harg13 xs0) (ix2 0 l) = ((Real.exp (J.G (512 + l) - J.mu 768) : ℝ) : EReal) := by
  have e := fun l : Fin 256 => (ldo (show k0_off11 i = ![4, (z : ℕ), 512] by unfold k0_off11; dsimp only; rw [hz, ix_nat]) arg13 harg13 xs0 (inb := k0_off11_inb i) l (by omega) (by omega)).trans (X.r4 _)
  pointwise [restRun.sl.v394, e]
  rw [se_of _ 768 (by omega)]

theorem v314_at (l : Fin 256) : (restRun.sl.v314 c i arg13 harg13 xs0) (ix2 0 l) = Ideal.div ((Real.exp (-J.ms ((256 + l) + 1)) : ℝ) : EReal) ((J.qsc (256 + l) : ℝ) : EReal) := by
  have e := fun l : Fin 256 => (ldo (show k0_off10 i = ![2, (z : ℕ), 256] by unfold k0_off10; dsimp only; rw [hz, ix_nat]) arg13 harg13 xs0 (inb := k0_off10_inb i) l (by omega) (by omega)).trans (X.r2 _)
  pointwise [restRun.sl.v314, e]

theorem v476_at (l : Fin 256) : (restRun.sl.v476 c i arg13 harg13 xs0) (ix2 0 l) = ((Real.exp (J.mu 512 - J.mu ((512 + l) + 1)) : ℝ) : EReal) := by
  have e := fun l : Fin 256 => (ldo (show k0_off15 i = ![3, (z : ℕ), 512] by unfold k0_off15; dsimp only; rw [hz, ix_nat]) arg13 harg13 xs0 (inb := k0_off15_inb i) l (by omega) (by omega)).trans (X.r3 _)
  pointwise [restRun.sl.v476, e]
  rw [sa_of _ 512 (by omega)]

theorem v35_at (l : Fin 256) : (restRun.sl.v35 c i arg13 harg13 xs0) (ix2 0 l) = ((Real.exp (J.G (l : ℕ) - J.mu 512) : ℝ) : EReal) := by
  have e := fun l : Fin 256 => (ldo (show k0_off1 i = ![4, (z : ℕ), 0] by unfold k0_off1; dsimp only; rw [hz, ix_nat]) arg13 harg13 xs0 (inb := k0_off1_inb i) l (by omega) (by omega)).trans (X.r4 _)
  pointwise [restRun.sl.v35, e]
  rw [se_of _ 512 (by omega)]

theorem v43_at (l : Fin 256) : (restRun.sl.v43 c i arg13 harg13 xs0) (ix2 0 l) = ((J.vs ((l : ℕ) / 64) : ℝ) : EReal) := by
  have e := fun l : Fin 256 => (ldo (show k0_off2 i = ![5, (z : ℕ), 0] by unfold k0_off2; dsimp only; rw [hz, ix_nat]) arg13 harg13 xs0 (inb := k0_off2_inb i) l (by omega) (by omega)).trans (X.r5 _)
  pointwise [restRun.sl.v43, e]

theorem v187_at (l : Fin 256) : (restRun.sl.v187 c i arg13 harg13 xs0) (ix2 0 l) = (((J.Fp 0 + J.mu ((256 + l) + 1)) * l2 : ℝ) : EReal) := by
  have e := fun l : Fin 256 => (ldo (show k0_off8 i = ![1, (z : ℕ), 256] by unfold k0_off8; dsimp only; rw [hz, ix_nat]) arg13 harg13 xs0 (inb := k0_off8_inb i) l (by omega) (by omega)).trans (X.r1 _)
  pointwise [restRun.sl.v187, e]
  rw [sa_of _ 0 (by omega)]

theorem v602_at (l : Fin 256) : (restRun.sl.v602 c i arg13 harg13 xs0) (ix2 0 l) = ((J.vs ((768 + l) / 64) : ℝ) : EReal) := by
  have e := fun l : Fin 256 => (ldo (show k0_off18 i = ![5, (z : ℕ), 768] by unfold k0_off18; dsimp only; rw [hz, ix_nat]) arg13 harg13 xs0 (inb := k0_off18_inb i) l (by omega) (by omega)).trans (X.r5 _)
  pointwise [restRun.sl.v602, e]

theorem v676_at (l : Fin 256) : (restRun.sl.v676 c i arg13 harg13 xs0) (ix2 0 l) = ((Real.exp (J.mu 768 - J.mu ((768 + l) + 1)) : ℝ) : EReal) := by
  have e := fun l : Fin 256 => (ldo (show k0_off21 i = ![3, (z : ℕ), 768] by unfold k0_off21; dsimp only; rw [hz, ix_nat]) arg13 harg13 xs0 (inb := k0_off21_inb i) l (by omega) (by omega)).trans (X.r3 _)
  pointwise [restRun.sl.v676, e]
  rw [sa_of _ 768 (by omega)]

theorem v611_at (l : Fin 256) : (restRun.sl.v611 c i arg13 harg13 xs0) (ix2 0 l) = (((J.Fp 768 + J.mu ((768 + l) + 1)) * l2 : ℝ) : EReal) := by
  have e := fun l : Fin 256 => (ldo (show k0_off19 i = ![1, (z : ℕ), 768] by unfold k0_off19; dsimp only; rw [hz, ix_nat]) arg13 harg13 xs0 (inb := k0_off19_inb i) l (by omega) (by omega)).trans (X.r1 _)
  pointwise [restRun.sl.v611, e]
  rw [sa_of _ 768 (by omega)]

theorem v107_at (l : Fin 256) : (restRun.sl.v107 c i arg13 harg13 xs0) (ix2 0 l) = (((J.G (l : ℕ) + J.Fp 0) * l2 : ℝ) : EReal) := by
  have e := fun l : Fin 256 => (ldo (show k0_off6 i = ![0, (z : ℕ), 0] by unfold k0_off6; dsimp only; rw [hz, ix_nat]) arg13 harg13 xs0 (inb := k0_off6_inb i) l (by omega) (by omega)).trans (X.r0 _)
  pointwise [restRun.sl.v107, e]
  rw [sa_of _ 0 (by omega)]

theorem v94_at (l : Fin 256) : (restRun.sl.v94 c i arg13 harg13 xs0) (ix2 0 l) = (((J.Fp 0 + J.mu ((l : ℕ) + 1)) * l2 : ℝ) : EReal) := by
  have e := fun l : Fin 256 => (ldo (show k0_off5 i = ![1, (z : ℕ), 0] by unfold k0_off5; dsimp only; rw [hz, ix_nat]) arg13 harg13 xs0 (inb := k0_off5_inb i) l (by omega) (by omega)).trans (X.r1 _)
  pointwise [restRun.sl.v94, e]
  rw [sa_of _ 0 (by omega)]

theorem v85_at (l : Fin 256) : (restRun.sl.v85 c i arg13 harg13 xs0) (ix2 0 l) = ((J.vs ((256 + l) / 64) : ℝ) : EReal) := by
  have e := fun l : Fin 256 => (ldo (show k0_off4 i = ![5, (z : ℕ), 256] by unfold k0_off4; dsimp only; rw [hz, ix_nat]) arg13 harg13 xs0 (inb := k0_off4_inb i) l (by omega) (by omega)).trans (X.r5 _)
  pointwise [restRun.sl.v85, e]

theorem v411_at (l : Fin 256) : (restRun.sl.v411 c i arg13 harg13 xs0) (ix2 0 l) = (((J.Fp 512 + J.mu ((512 + l) + 1)) * l2 : ℝ) : EReal) := by
  have e := fun l : Fin 256 => (ldo (show k0_off13 i = ![1, (z : ℕ), 512] by unfold k0_off13; dsimp only; rw [hz, ix_nat]) arg13 harg13 xs0 (inb := k0_off13_inb i) l (by omega) (by omega)).trans (X.r1 _)
  pointwise [restRun.sl.v411, e]
  rw [sa_of _ 512 (by omega)]

theorem v91_at (r d : Fin 256) : (restRun.sl.v91 c arg1 harg1 x0) (ix2 r d) = ((J.q (r : ℕ) d : ℝ) : EReal) := by
  have e := fun r d : Fin 256 => (ld4 (inb := inb_S1x1x1024x256_S1x1x256x256_0_0_0_0) arg1 harg1 x0 r d (by omega) (by omega)).trans (X.q _ _)
  pointwise [restRun.sl.v91, restRun.sl.v90, e]

theorem v184_at (r d : Fin 256) : (restRun.sl.v184 c arg1 harg1 x0) (ix2 r d) = ((J.q (256 + r) d : ℝ) : EReal) := by
  have e := fun r d : Fin 256 => (ld4 (inb := inb_S1x1x1024x256_S1x1x256x256_0_0_256_0) arg1 harg1 x0 r d (by omega) (by omega)).trans (X.q _ _)
  pointwise [restRun.sl.v184, restRun.sl.v183, e]

theorem v408_at (r d : Fin 256) : (restRun.sl.v408 c arg1 harg1 x0) (ix2 r d) = ((J.q (512 + r) d : ℝ) : EReal) := by
  have e := fun r d : Fin 256 => (ld4 (inb := inb_S1x1x1024x256_S1x1x256x256_0_0_512_0) arg1 harg1 x0 r d (by omega) (by omega)).trans (X.q _ _)
  pointwise [restRun.sl.v408, restRun.sl.v407, e]

theorem v608_at (r d : Fin 256) : (restRun.sl.v608 c arg1 harg1 x0) (ix2 r d) = ((J.q (768 + r) d : ℝ) : EReal) := by
  have e := fun r d : Fin 256 => (ld4 (inb := inb_S1x1x1024x256_S1x1x256x256_0_0_768_0) arg1 harg1 x0 r d (by omega) (by omega)).trans (X.q _ _)
  pointwise [restRun.sl.v608, restRun.sl.v607, e]

theorem v155_at (s : Fin 256) (e : Fin 512) : (restRun.sl.v155 c arg3 harg3 x2) (ix2 s e) = ((J.v (s : ℕ) e : ℝ) : EReal) := by
  have e := fun (r : Fin 256) (d : Fin 512) => (ld4 (inb := inb_S1x1x1024x512_S1x1x256x512_0_0_0_0) arg3 harg3 x2 r d (by omega) (by omega)).trans (X.v _ _)
  pointwise [restRun.sl.v155, e]

theorem v307_at (s : Fin 512) (e : Fin 512) : (restRun.sl.v307 c arg3 harg3 x2) (ix2 s e) = ((J.v (s : ℕ) e : ℝ) : EReal) := by
  have e := fun (r : Fin 512) (d : Fin 512) => (ld4 (inb := inb_S1x1x1024x512_S1x1x512x512_0_0_0_0) arg3 harg3 x2 r d (by omega) (by omega)).trans (X.v _ _)
  pointwise [restRun.sl.v307, e]

theorem v472_at (s : Fin 256) (e : Fin 512) : (restRun.sl.v472 c arg3 harg3 x2) (ix2 s e) = ((J.v (512 + s) e : ℝ) : EReal) := by
  have e := fun (r : Fin 256) (d : Fin 512) => (ld4 (inb := inb_S1x1x1024x512_S1x1x256x512_0_0_512_0) arg3 harg3 x2 r d (by omega) (by omega)).trans (X.v _ _)
  pointwise [restRun.sl.v472, e]

theorem v672_at (s : Fin 256) (e : Fin 512) : (restRun.sl.v672 c arg3 harg3 x2) (ix2 s e) = ((J.v (768 + s) e : ℝ) : EReal) := by
  have e := fun (r : Fin 256) (d : Fin 512) => (ld4 (inb := inb_S1x1x1024x512_S1x1x256x512_0_0_768_0) arg3 harg3 x2 r d (by omega) (by omega)).trans (X.v _ _)
  pointwise [restRun.sl.v672, e]

theorem kb0_at (d s : Fin 256) : (k0_pay124 (View.readAt (Elt Ideal) arg2.view (Rect.unit (s := S1x1x1024x256) ![0, 0, 0, 0] S1x1x256x256.size inb_S1x1x1024x256_S1x1x256x256_0_0_0_0).toLoadRect (harg2.unread x1)) (View.readAt (Elt Ideal) arg4.view (Rect.unit (s := S1x1x16x256) ![0, 0, 0, 0] S1x1x1x256.size inb_S1x1x16x256_S1x1x1x256_0_0_0_0).toLoadRect (harg4.unread x3)) (View.readAt (Elt Ideal) arg4.view (Rect.unit (s := S1x1x16x256) ![0, 0, 1, 0] S1x1x1x256.size inb_S1x1x16x256_S1x1x1x256_0_0_1_0).toLoadRect (harg4.unread x3)) (View.readAt (Elt Ideal) arg4.view (Rect.unit (s := S1x1x16x256) ![0, 0, 2, 0] S1x1x1x256.size inb_S1x1x16x256_S1x1x1x256_0_0_2_0).toLoadRect (harg4.unread x3)) (View.readAt (Elt Ideal) arg4.view (Rect.unit (s := S1x1x16x256) ![0, 0, 3, 0] S1x1x1x256.size inb_S1x1x16x256_S1x1x1x256_0_0_3_0).toLoadRect (harg4.unread x3))) (ix2 d s) = ((J.kk (s : ℕ) d : ℝ) : EReal) := by
  have e := fun s d : Fin 256 => (ld4 (inb := inb_S1x1x1024x256_S1x1x256x256_0_0_0_0) arg2 harg2 x1 s d (by omega) (by omega)).trans (X.k _ _)
  have f0 : ∀ d : Fin 256, (View.readAt (Elt Ideal) arg4.view (Rect.unit (s := S1x1x16x256) ![0, 0, 0, 0] S1x1x1x256.size inb_S1x1x16x256_S1x1x1x256_0_0_0_0).toLoadRect (harg4.unread x3)) (ix4 0 0 0 d) = ((J.ks 0 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f1 : ∀ d : Fin 256, (View.readAt (Elt Ideal) arg4.view (Rect.unit (s := S1x1x16x256) ![0, 0, 1, 0] S1x1x1x256.size inb_S1x1x16x256_S1x1x1x256_0_0_1_0).toLoadRect (harg4.unread x3)) (ix4 0 0 0 d) = ((J.ks 1 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f2 : ∀ d : Fin 256, (View.readAt (Elt Ideal) arg4.view (Rect.unit (s := S1x1x16x256) ![0, 0, 2, 0] S1x1x1x256.size inb_S1x1x16x256_S1x1x1x256_0_0_2_0).toLoadRect (harg4.unread x3)) (ix4 0 0 0 d) = ((J.ks 2 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f3 : ∀ d : Fin 256, (View.readAt (Elt Ideal) arg4.view (Rect.unit (s := S1x1x16x256) ![0, 0, 3, 0] S1x1x1x256.size inb_S1x1x16x256_S1x1x1x256_0_0_3_0).toLoadRect (harg4.unread x3)) (ix4 0 0 0 d) = ((J.ks 3 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  pointwise [k0_pay124, e, f0, f1, f2, f3]
  split_ifs <;> exact kk_of J _ _ d (by omega)

theorem kf0_at (d s : Fin 256) : (k0_pay125 (View.readAt (Elt Ideal) arg2.view (Rect.unit (s := S1x1x1024x256) ![0, 0, 0, 0] S1x1x256x256.size inb_S1x1x1024x256_S1x1x256x256_0_0_0_0).toLoadRect (harg2.unread x1)) (View.readAt (Elt Ideal) arg4.view (Rect.unit (s := S1x1x16x256) ![0, 0, 0, 0] S1x1x1x256.size inb_S1x1x16x256_S1x1x1x256_0_0_0_0).toLoadRect (harg4.unread x3)) (View.readAt (Elt Ideal) arg4.view (Rect.unit (s := S1x1x16x256) ![0, 0, 1, 0] S1x1x1x256.size inb_S1x1x16x256_S1x1x1x256_0_0_1_0).toLoadRect (harg4.unread x3)) (View.readAt (Elt Ideal) arg4.view (Rect.unit (s := S1x1x16x256) ![0, 0, 2, 0] S1x1x1x256.size inb_S1x1x16x256_S1x1x1x256_0_0_2_0).toLoadRect (harg4.unread x3)) (View.readAt (Elt Ideal) arg4.view (Rect.unit (s := S1x1x16x256) ![0, 0, 3, 0] S1x1x1x256.size inb_S1x1x16x256_S1x1x1x256_0_0_3_0).toLoadRect (harg4.unread x3))) (ix2 d s) = ((J.kk (s : ℕ) d : ℝ) : EReal) := by
  have e := kb0_at c i z hz arg1 harg1 arg2 harg2 arg3 harg3 arg4 harg4 arg13 harg13 arg14 X
  pointwise [k0_pay125, e]

theorem v72_at (d s : Fin 256) : (restRun.sl.v72 c arg2 harg2 arg4 harg4 x1 x3) (ix2 d s) = ((J.kk (256 + s) d : ℝ) : EReal) := by
  have e := fun s d : Fin 256 => (ld4 (inb := inb_S1x1x1024x256_S1x1x256x256_0_0_256_0) arg2 harg2 x1 s d (by omega) (by omega)).trans (X.k _ _)
  have f0 : ∀ d : Fin 256, (View.readAt (Elt Ideal) arg4.view (Rect.unit (s := S1x1x16x256) ![0, 0, 4, 0] S1x1x1x256.size inb_S1x1x16x256_S1x1x1x256_0_0_4_0).toLoadRect (harg4.unread x3)) (ix4 0 0 0 d) = ((J.ks 4 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f1 : ∀ d : Fin 256, (View.readAt (Elt Ideal) arg4.view (Rect.unit (s := S1x1x16x256) ![0, 0, 5, 0] S1x1x1x256.size inb_S1x1x16x256_S1x1x1x256_0_0_5_0).toLoadRect (harg4.unread x3)) (ix4 0 0 0 d) = ((J.ks 5 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f2 : ∀ d : Fin 256, (View.readAt (Elt Ideal) arg4.view (Rect.unit (s := S1x1x16x256) ![0, 0, 6, 0] S1x1x1x256.size inb_S1x1x16x256_S1x1x1x256_0_0_6_0).toLoadRect (harg4.unread x3)) (ix4 0 0 0 d) = ((J.ks 6 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f3 : ∀ d : Fin 256, (View.readAt (Elt Ideal) arg4.view (Rect.unit (s := S1x1x16x256) ![0, 0, 7, 0] S1x1x1x256.size inb_S1x1x16x256_S1x1x1x256_0_0_7_0).toLoadRect (harg4.unread x3)) (ix4 0 0 0 d) = ((J.ks 7 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  pointwise [restRun.sl.v72, restRun.sl.v71, restRun.sl.v49, restRun.sl.v70, restRun.sl.v48, restRun.sl.v54, restRun.sl.v59, restRun.sl.v64, restRun.sl.v69, restRun.sl.v53, restRun.sl.v58, restRun.sl.v63, restRun.sl.v68, restRun.sl.v52, restRun.sl.v57, restRun.sl.v62, restRun.sl.v67, restRun.sl.v51, restRun.sl.v56, restRun.sl.v61, restRun.sl.v66, e, f0, f1, f2, f3]
  split_ifs <;> exact kk_of J _ _ d (by omega)

theorem v73_at (d s : Fin 256) : (restRun.sl.v73 c arg2 harg2 arg4 harg4 x1 x3) (ix2 d s) = ((J.kk (256 + s) d : ℝ) : EReal) := by
  have e := v72_at c i z hz arg1 harg1 arg2 harg2 arg3 harg3 arg4 harg4 arg13 harg13 arg14 X
  pointwise [restRun.sl.v73, e]

theorem v390_at (d s : Fin 256) : (restRun.sl.v390 c arg2 harg2 arg4 harg4 x1 x3) (ix2 d s) = ((J.kk (512 + s) d : ℝ) : EReal) := by
  have e := fun s d : Fin 256 => (ld4 (inb := inb_S1x1x1024x256_S1x1x256x256_0_0_512_0) arg2 harg2 x1 s d (by omega) (by omega)).trans (X.k _ _)
  have f0 : ∀ d : Fin 256, (View.readAt (Elt Ideal) arg4.view (Rect.unit (s := S1x1x16x256) ![0, 0, 8, 0] S1x1x1x256.size inb_S1x1x16x256_S1x1x1x256_0_0_8_0).toLoadRect (harg4.unread x3)) (ix4 0 0 0 d) = ((J.ks 8 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f1 : ∀ d : Fin 256, (View.readAt (Elt Ideal) arg4.view (Rect.unit (s := S1x1x16x256) ![0, 0, 9, 0] S1x1x1x256.size inb_S1x1x16x256_S1x1x1x256_0_0_9_0).toLoadRect (harg4.unread x3)) (ix4 0 0 0 d) = ((J.ks 9 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f2 : ∀ d : Fin 256, (View.readAt (Elt Ideal) arg4.view (Rect.unit (s := S1x1x16x256) ![0, 0, 10, 0] S1x1x1x256.size inb_S1x1x16x256_S1x1x1x256_0_0_10_0).toLoadRect (harg4.unread x3)) (ix4 0 0 0 d) = ((J.ks 10 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f3 : ∀ d : Fin 256, (View.readAt (Elt Ideal) arg4.view (Rect.unit (s := S1x1x16x256) ![0, 0, 11, 0] S1x1x1x256.size inb_S1x1x16x256_S1x1x1x256_0_0_11_0).toLoadRect (harg4.unread x3)) (ix4 0 0 0 d) = ((J.ks 11 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  pointwise [restRun.sl.v390, restRun.sl.v389, restRun.sl.v367, restRun.sl.v388, restRun.sl.v366, restRun.sl.v372, restRun.sl.v377, restRun.sl.v382, restRun.sl.v387, restRun.sl.v371, restRun.sl.v376, restRun.sl.v381, restRun.sl.v386, restRun.sl.v370, restRun.sl.v375, restRun.sl.v380, restRun.sl.v385, restRun.sl.v369, restRun.sl.v374, restRun.sl.v379, restRun.sl.v384, e, f0, f1, f2, f3]
  split_ifs <;> exact kk_of J _ _ d (by omega)

theorem v391_at (d s : Fin 256) : (restRun.sl.v391 c arg2 harg2 arg4 harg4 x1 x3) (ix2 d s) = ((J.kk (512 + s) d : ℝ) : EReal) := by
  have e := v390_at c i z hz arg1 harg1 arg2 harg2 arg3 harg3 arg4 harg4 arg13 harg13 arg14 X
  pointwise [restRun.sl.v391, e]

theorem v590_at (d s : Fin 256) : (restRun.sl.v590 c arg2 harg2 arg4 harg4 x1 x3) (ix2 d s) = ((J.kk (768 + s) d : ℝ) : EReal) := by
  have e := fun s d : Fin 256 => (ld4 (inb := inb_S1x1x1024x256_S1x1x256x256_0_0_768_0) arg2 harg2 x1 s d (by omega) (by omega)).trans (X.k _ _)
  have f0 : ∀ d : Fin 256, (View.readAt (Elt Ideal) arg4.view (Rect.unit (s := S1x1x16x256) ![0, 0, 12, 0] S1x1x1x256.size inb_S1x1x16x256_S1x1x1x256_0_0_12_0).toLoadRect (harg4.unread x3)) (ix4 0 0 0 d) = ((J.ks 12 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f1 : ∀ d : Fin 256, (View.readAt (Elt Ideal) arg4.view (Rect.unit (s := S1x1x16x256) ![0, 0, 13, 0] S1x1x1x256.size inb_S1x1x16x256_S1x1x1x256_0_0_13_0).toLoadRect (harg4.unread x3)) (ix4 0 0 0 d) = ((J.ks 13 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f2 : ∀ d : Fin 256, (View.readAt (Elt Ideal) arg4.view (Rect.unit (s := S1x1x16x256) ![0, 0, 14, 0] S1x1x1x256.size inb_S1x1x16x256_S1x1x1x256_0_0_14_0).toLoadRect (harg4.unread x3)) (ix4 0 0 0 d) = ((J.ks 14 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  have f3 : ∀ d : Fin 256, (View.readAt (Elt Ideal) arg4.view (Rect.unit (s := S1x1x16x256) ![0, 0, 15, 0] S1x1x1x256.size inb_S1x1x16x256_S1x1x1x256_0_0_15_0).toLoadRect (harg4.unread x3)) (ix4 0 0 0 d) = ((J.ks 15 d : ℝ) : EReal) := fun d => (ld4 arg4 harg4 x3 0 d (by omega) (by omega)).trans (X.ks _ ⟨0 + d, by omega⟩ |>.trans (by rw [show (⟨0 + (d : ℕ), by omega⟩ : Fin 256) = d from Fin.ext (Nat.zero_add _)] <;> rfl))
  pointwise [restRun.sl.v590, restRun.sl.v589, restRun.sl.v567, restRun.sl.v588, restRun.sl.v566, restRun.sl.v572, restRun.sl.v577, restRun.sl.v582, restRun.sl.v587, restRun.sl.v571, restRun.sl.v576, restRun.sl.v581, restRun.sl.v586, restRun.sl.v570, restRun.sl.v575, restRun.sl.v580, restRun.sl.v585, restRun.sl.v569, restRun.sl.v574, restRun.sl.v579, restRun.sl.v584, e, f0, f1, f2, f3]
  split_ifs <;> exact kk_of J _ _ d (by omega)

theorem v591_at (d s : Fin 256) : (restRun.sl.v591 c arg2 harg2 arg4 harg4 x1 x3) (ix2 d s) = ((J.kk (768 + s) d : ℝ) : EReal) := by
  have e := v590_at c i z hz arg1 harg1 arg2 harg2 arg3 harg3 arg4 harg4 arg13 harg13 arg14 X
  pointwise [restRun.sl.v591, e]

theorem v104_at (r s : Fin 256) : (restRun.sl.v104 c arg1 harg1 arg2 harg2 arg4 harg4 x0 x1 x3) (ix2 r s) = ((J.qk (r : ℕ) (s : ℕ) : ℝ) : EReal) := by
  have e0 := v91_at c i z hz arg1 harg1 arg2 harg2 arg3 harg3 arg4 harg4 arg13 harg13 arg14 X
  have e1 := kb0_at c i z hz arg1 harg1 arg2 harg2 arg3 harg3 arg4 harg4 arg13 harg13 arg14 X
  pointwise [restRun.sl.v104, restRun.sl.cst, e0, e1]
  simp only [← EReal.coe_mul, ← coe_sum]
  rfl

theorem v197_at (r s : Fin 256) : (restRun.sl.v197 c arg1 harg1 arg2 harg2 arg4 harg4 x0 x1 x3) (ix2 r s) = ((J.qk (256 + r) (s : ℕ) : ℝ) : EReal) := by
  have e0 := v184_at c i z hz arg1 harg1 arg2 harg2 arg3 harg3 arg4 harg4 arg13 harg13 arg14 X
  have e1 := kb0_at c i z hz arg1 harg1 arg2 harg2 arg3 harg3 arg4 harg4 arg13 harg13 arg14 X
  pointwise [restRun.sl.v197, restRun.sl.cst, e0, e1]
  simp only [← EReal.coe_mul, ← coe_sum]
  rfl

theorem v253_at (r s : Fin 256) : (restRun.sl.v253 c arg1 harg1 arg2 harg2 arg4 harg4 x0 x1 x3) (ix2 r s) = ((J.qk (256 + r) (256 + s) : ℝ) : EReal) := by
  have e0 := v184_at c i z hz arg1 harg1 arg2 harg2 arg3 harg3 arg4 harg4 arg13 harg13 arg14 X
  have e1 := v72_at c i z hz arg1 harg1 arg2 harg2 arg3 harg3 arg4 harg4 arg13 harg13 arg14 X
  pointwise [restRun.sl.v253, restRun.sl.cst, e0, e1]
  simp only [← EReal.coe_mul, ← coe_sum]
  rfl

theorem v421_at (r s : Fin 256) : (restRun.sl.v421 c arg1 harg1 arg2 harg2 arg4 harg4 x0 x1 x3) (ix2 r s) = ((J.qk (512 + r) (512 + s) : ℝ) : EReal) := by
  have e0 := v408_at c i z hz arg1 harg1 arg2 harg2 arg3 harg3 arg4 harg4 arg13 harg13 arg14 X
  have e1 := v390_at c i z hz arg1 harg1 arg2 harg2 arg3 harg3 arg4 harg4 arg13 harg13 arg14 X
  pointwise [restRun.sl.v421, restRun.sl.cst, e0, e1]
  simp only [← EReal.coe_mul, ← coe_sum]
  rfl

theorem v621_at (r s : Fin 256) : (restRun.sl.v621 c arg1 harg1 arg2 harg2 arg4 harg4 x0 x1 x3) (ix2 r s) = ((J.qk (768 + r) (768 + s) : ℝ) : EReal) := by
  have e0 := v608_at c i z hz arg1 harg1 arg2 harg2 arg3 harg3 arg4 harg4 arg13 harg13 arg14 X
  have e1 := v590_at c i z hz arg1 harg1 arg2 harg2 arg3 harg3 arg4 harg4 arg13 harg13 arg14 X
  pointwise [restRun.sl.v621, restRun.sl.cst, e0, e1]
  simp only [← EReal.coe_mul, ← coe_sum]
  rfl

theorem v119_at (r l : Fin 128) : (restRun.sl.v119 c i arg1 harg1 arg2 harg2 arg4 harg4 arg13 harg13 x0 x1 x3 xs0) (ix2 r l) = ((pw J (r : ℕ) (l : ℕ) : ℝ) : EReal) := by
  have e0 := v104_at c i z hz arg1 harg1 arg2 harg2 arg3 harg3 arg4 harg4 arg13 harg13 arg14 X
  have e1 := v107_at c i z hz arg1 harg1 arg2 harg2 arg3 harg3 arg4 harg4 arg13 harg13 arg14 X
  have e2 := v94_at c i z hz arg1 harg1 arg2 harg2 arg3 harg3 arg4 harg4 arg13 harg13 arg14 X
  pointwise [restRun.sl.v119, restRun.sl.v117, restRun.sl.v118, restRun.sl.v111, restRun.sl.v116, restRun.sl.cst_50, restRun.sl.v115, restRun.sl.v114, restRun.sl.v113, restRun.sl.v112, restRun.sl.v103, restRun.sl.v98, restRun.sl.v102, restRun.sl.v97, restRun.sl.v101, restRun.sl.v96, restRun.sl.v100, restRun.sl.v95, restRun.sl.v99, mask_at, e0, e1, e2]
  exact pw_m J _ _ _ _ _ (by omega)

theorem v132_at (r l : Fin 128) : (restRun.sl.v132 c i arg1 harg1 arg2 harg2 arg4 harg4 arg13 harg13 x0 x1 x3 xs0) (ix2 r l) = ((pw J (128 + (r : ℕ)) (l : ℕ) : ℝ) : EReal) := by
  have e0 := v104_at c i z hz arg1 harg1 arg2 harg2 arg3 harg3 arg4 harg4 arg13 harg13 arg14 X
  have e1 := v107_at c i z hz arg1 harg1 arg2 harg2 arg3 harg3 arg4 harg4 arg13 harg13 arg14 X
  have e2 := v94_at c i z hz arg1 harg1 arg2 harg2 arg3 harg3 arg4 harg4 arg13 harg13 arg14 X
  pointwise [restRun.sl.v132, restRun.sl.v126, restRun.sl.v131, restRun.sl.v130, restRun.sl.v114, restRun.sl.v128, restRun.sl.v112, restRun.sl.v103, restRun.sl.v98, restRun.sl.v102, restRun.sl.v97, restRun.sl.v101, restRun.sl.v96, restRun.sl.v100, restRun.sl.v95, restRun.sl.v99, mask_at, e0, e1, e2]
  exact pw_u J _ _ _ (by omega)

theorem v145_at (r l : Fin 128) : (restRun.sl.v145 c i arg1 harg1 arg2 harg2 arg4 harg4 arg13 harg13 x0 x1 x3 xs0) (ix2 r l) = ((pw J (128 + (r : ℕ)) (128 + (l : ℕ)) : ℝ) : EReal) := by
  have e0 := v104_at c i z hz arg1 harg1 arg2 harg2 arg3 harg3 arg4 harg4 arg13 harg13 arg14 X
  have e1 := v107_at c i z hz arg1 harg1 arg2 harg2 arg3 harg3 arg4 harg4 arg13 harg13 arg14 X
  have e2 := v94_at c i z hz arg1 harg1 arg2 harg2 arg3 harg3 arg4 harg4 arg13 harg13 arg14 X
  pointwise [restRun.sl.v145, restRun.sl.v143, restRun.sl.v118, restRun.sl.v137, restRun.sl.v142, restRun.sl.cst_50, restRun.sl.v141, restRun.sl.v140, restRun.sl.v128, restRun.sl.v138, restRun.sl.v103, restRun.sl.v98, restRun.sl.v102, restRun.sl.v97, restRun.sl.v101, restRun.sl.v96, restRun.sl.v100, restRun.sl.v95, restRun.sl.v99, mask_at, e0, e1, e2]
  exact pw_m J _ _ _ _ _ (by omega)

theorem v210_at (r l : Fin 128) : (restRun.sl.v210 c i arg1 harg1 arg2 harg2 arg4 harg4 arg13 harg13 x0 x1 x3 xs0) (ix2 r l) = ((pw J (256 + (r : ℕ)) (l : ℕ) : ℝ) : EReal) := by
  have e0 := v197_at c i z hz arg1 harg1 arg2 harg2 arg3 harg3 arg4 harg4 arg13 harg13 arg14 X
  have e1 := v107_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v210, restRun.sl.v204, restRun.sl.v209, restRun.sl.v208, restRun.sl.v114, restRun.sl.v206, restRun.sl.v112, restRun.sl.v196, restRun.sl.v191, restRun.sl.v195, restRun.sl.v190, restRun.sl.v194, restRun.sl.v189, restRun.sl.v193, restRun.sl.v188, restRun.sl.v192, mask_at, e0, e1, e2]
  exact pw_u J _ _ _ (by omega)

theorem v221_at (r l : Fin 128) : (restRun.sl.v221 c i arg1 harg1 arg2 harg2 arg4 harg4 arg13 harg13 x0 x1 x3 xs0) (ix2 r l) = ((pw J (256 + (r : ℕ)) (128 + (l : ℕ)) : ℝ) : EReal) := by
  have e0 := v197_at c i z hz arg1 harg1 arg2 harg2 arg3 harg3 arg4 harg4 arg13 harg13 arg14 X
  have e1 := v107_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v221, restRun.sl.v215, restRun.sl.v220, restRun.sl.v219, restRun.sl.v140, restRun.sl.v206, restRun.sl.v138, restRun.sl.v196, restRun.sl.v191, restRun.sl.v195, restRun.sl.v190, restRun.sl.v194, restRun.sl.v189, restRun.sl.v193, restRun.sl.v188, restRun.sl.v192, mask_at, e0, e1, e2]
  exact pw_u J _ _ _ (by omega)

theorem v234_at (r l : Fin 128) : (restRun.sl.v234 c i arg1 harg1 arg2 harg2 arg4 harg4 arg13 harg13 x0 x1 x3 xs0) (ix2 r l) = ((pw J (256 + (128 + (r : ℕ))) (l : ℕ) : ℝ) : EReal) := by
  have e0 := v197_at c i z hz arg1 harg1 arg2 harg2 arg3 harg3 arg4 harg4 arg13 harg13 arg14 X
  have e1 := v107_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v234, restRun.sl.v228, restRun.sl.v233, restRun.sl.v232, restRun.sl.v114, restRun.sl.v230, restRun.sl.v112, restRun.sl.v196, restRun.sl.v191, restRun.sl.v195, restRun.sl.v190, restRun.sl.v194, restRun.sl.v189, restRun.sl.v193, restRun.sl.v188, restRun.sl.v192, mask_at, e0, e1, e2]
  exact pw_u J _ _ _ (by omega)

theorem v245_at (r l : Fin 128) : (restRun.sl.v245 c i arg1 harg1 arg2 harg2 arg4 harg4 arg13 harg13 x0 x1 x3 xs0) (ix2 r l) = ((pw J (256 + (128 + (r : ℕ))) (128 + (l : ℕ)) : ℝ) : EReal) := by
  have e0 := v197_at c i z hz arg1 harg1 arg2 harg2 arg3 harg3 arg4 harg4 arg13 harg13 arg14 X
  have e1 := v107_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v245, restRun.sl.v239, restRun.sl.v244, restRun.sl.v243, restRun.sl.v140, restRun.sl.v230, restRun.sl.v138, restRun.sl.v196, restRun.sl.v191, restRun.sl.v195, restRun.sl.v190, restRun.sl.v194, restRun.sl.v189, restRun.sl.v193, restRun.sl.v188, restRun.sl.v192, mask_at, e0, e1, e2]
  exact pw_u J _ _ _ (by omega)

theorem v268_at (r l : Fin 128) : (restRun.sl.v268 c i arg1 harg1 arg2 harg2 arg4 harg4 arg13 harg13 x0 x1 x3 xs0) (ix2 r l) = ((pw J (256 + (r : ℕ)) (256 + (l : ℕ)) : ℝ) : EReal) := by
  have e0 := v253_at c i z hz arg1 harg1 arg2 harg2 arg3 harg3 arg4 harg4 arg13 harg13 arg14 X
  have e1 := v256_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v268, restRun.sl.v266, restRun.sl.v118, restRun.sl.v260, restRun.sl.v265, restRun.sl.cst_50, restRun.sl.v264, restRun.sl.v263, restRun.sl.v206, restRun.sl.v261, restRun.sl.v196, restRun.sl.v191, restRun.sl.v195, restRun.sl.v190, restRun.sl.v194, restRun.sl.v189, restRun.sl.v193, restRun.sl.v188, restRun.sl.v192, mask_at, e0, e1, e2]
  exact pw_m J _ _ _ _ _ (by omega)

theorem v282_at (r l : Fin 128) : (restRun.sl.v282 c i arg1 harg1 arg2 harg2 arg4 harg4 arg13 harg13 x0 x1 x3 xs0) (ix2 r l) = ((pw J (256 + (128 + (r : ℕ))) (256 + (l : ℕ)) : ℝ) : EReal) := by
  have e0 := v253_at c i z hz arg1 harg1 arg2 harg2 arg3 harg3 arg4 harg4 arg13 harg13 arg14 X
  have e1 := v256_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v282, restRun.sl.v276, restRun.sl.v281, restRun.sl.v280, restRun.sl.v263, restRun.sl.v230, restRun.sl.v261, restRun.sl.v196, restRun.sl.v191, restRun.sl.v195, restRun.sl.v190, restRun.sl.v194, restRun.sl.v189, restRun.sl.v193, restRun.sl.v188, restRun.sl.v192, mask_at, e0, e1, e2]
  exact pw_u J _ _ _ (by omega)

theorem v296_at (r l : Fin 128) : (restRun.sl.v296 c i arg1 harg1 arg2 harg2 arg4 harg4 arg13 harg13 x0 x1 x3 xs0) (ix2 r l) = ((pw J (256 + (128 + (r : ℕ))) (256 + (128 + (l : ℕ))) : ℝ) : EReal) := by
  have e0 := v253_at c i z hz arg1 harg1 arg2 harg2 arg3 harg3 arg4 harg4 arg13 harg13 arg14 X
  have e1 := v256_at c i z hz arg1 harg1 arg2 harg2 arg3 harg3 arg4 harg4 arg13 harg13 arg14 X
  have e2 := v187_at c i z hz arg1 harg1 arg2 harg2 arg3 harg3 arg4 harg4 arg13 harg13 arg14 X
  pointwise [restRun.sl.v296, restRun.sl.v294, restRun.sl.v118, restRun.sl.v288, restRun.sl.v293, restRun.sl.cst_50, restRun.sl.v292, restRun.sl.v291, restRun.sl.v230, restRun.sl.v289, restRun.sl.v196, restRun.sl.v191, restRun.sl.v195, restRun.sl.v190, restRun.sl.v194, restRun.sl.v189, restRun.sl.v193, restRun.sl.v188, restRun.sl.v192, mask_at, e0, e1, e2]
  exact pw_m J _ _ _ _ _ (by omega)

theorem v436_at (r l : Fin 128) : (restRun.sl.v436 c i arg1 harg1 arg2 harg2 arg4 harg4 arg13 harg13 x0 x1 x3 xs0) (ix2 r l) = ((pw J (512 + (r : ℕ)) (512 + (l : ℕ)) : ℝ) : EReal) := by
  have e0 := v421_at c i z hz arg1 harg1 arg2 harg2 arg3 harg3 arg4 harg4 arg13 harg13 arg14 X
  have e1 := v424_at c i z hz arg1 harg1 arg2 harg2 arg3 harg3 arg4 harg4 arg13 harg13 arg14 X
  have e2 := v411_at c i z hz arg1 harg1 arg2 harg2 arg3 harg3 arg4 harg4 arg13 harg13 arg14 X
  pointwise [restRun.sl.v436, restRun.sl.v434, restRun.sl.v118, restRun.sl.v428, restRun.sl.v433, restRun.sl.cst_50, restRun.sl.v432, restRun.sl.v431, restRun.sl.v430, restRun.sl.v429, restRun.sl.v420, restRun.sl.v415, restRun.sl.v419, restRun.sl.v414, restRun.sl.v418, restRun.sl.v413, restRun.sl.v417, restRun.sl.v412, restRun.sl.v416, mask_at, e0, e1, e2]
  exact pw_m J _ _ _ _ _ (by omega)

theorem v449_at (r l : Fin 128) : (restRun.sl.v449 c i arg1 harg1 arg2 harg2 arg4 harg4 arg13 harg13 x0 x1 x3 xs0) (ix2 r l) = ((pw J (512 + (128 + (r : ℕ))) (512 + (l : ℕ)) : ℝ) : EReal) := by
  have e0 := v421_at c i z hz arg1 harg1 arg2 harg2 arg3 harg3 arg4 harg4 arg13 harg13 arg14 X
  have e1 := v424_at c i z hz arg1 harg1 arg2 harg2 arg3 harg3 arg4 harg4 arg13 harg13 arg14 X
  have e2 := v411_at c i z hz arg1 harg1 arg2 harg2 arg3 harg3 arg4 harg4 arg13 harg13 arg14 X
  pointwise [restRun.sl.v449, restRun.sl.v443, restRun.sl.v448, restRun.sl.v447, restRun.sl.v431, restRun.sl.v445, restRun.sl.v429, restRun.sl.v420, restRun.sl.v415, restRun.sl.v419, restRun.sl.v414, restRun.sl.v418, restRun.sl.v413, restRun.sl.v417, restRun.sl.v412, restRun.sl.v416, mask_at, e0, e1, e2]
  exact pw_u J _ _ _ (by omega)

theorem v462_at (r l : Fin 128) : (restRun.sl.v462 c i arg1 harg1 arg2 harg2 arg4 harg4 arg13 harg13 x0 x1 x3 xs0) (ix2 r l) = ((pw J (512 + (128 + (r : ℕ))) (512 + (128 + (l : ℕ))) : ℝ) : EReal) := by
  have e0 := v421_at c i z hz arg1 harg1 arg2 harg2 arg3 harg3 arg4 harg4 arg13 harg13 arg14 X
  have e1 := v424_at c i z hz arg1 harg1 arg2 harg2 arg3 harg3 arg4 harg4 arg13 harg13 arg14 X
  have e2 := v411_at c i z hz arg1 harg1 arg2 harg2 arg3 harg3 arg4 harg4 arg13 harg13 arg14 X
  pointwise [restRun.sl.v462, restRun.sl.v460, restRun.sl.v118, restRun.sl.v454, restRun.sl.v459, restRun.sl.cst_50, restRun.sl.v458, restRun.sl.v457, restRun.sl.v445, restRun.sl.v455, restRun.sl.v420, restRun.sl.v415, restRun.sl.v419, restRun.sl.v414, restRun.sl.v418, restRun.sl.v413, restRun.sl.v417, restRun.sl.v412, restRun.sl.v416, mask_at, e0, e1, e2]
  exact pw_m J _ _ _ _ _ (by omega)

theorem v636_at (r l : Fin 128) : (restRun.sl.v636 c i arg1 harg1 arg2 harg2 arg4 harg4 arg13 harg13 x0 x1 x3 xs0) (ix2 r l) = ((pw J (768 + (r : ℕ)) (768 + (l : ℕ)) : ℝ) : EReal) := by
  have e0 := v621_at c i z hz arg1 harg1 arg2 harg2 arg3 harg3 arg4 harg4 arg13 harg13 arg14 X
  have e1 := v624_at c i z hz arg1 harg1 arg2 harg2 arg3 harg3 arg4 harg4 arg13 harg13 arg14 X
  have e2 := v611_at c i z hz arg1 harg1 arg2 harg2 arg3 harg3 arg4 harg4 arg13 harg13 arg14 X
  pointwise [restRun.sl.v636, restRun.sl.v634, restRun.sl.v118, restRun.sl.v628, restRun.sl.v633, restRun.sl.cst_50, restRun.sl.v632, restRun.sl.v631, restRun.sl.v630, restRun.sl.v629, restRun.sl.v620, restRun.sl.v615, restRun.sl.v619, restRun.sl.v614, restRun.sl.v618, restRun.sl.v613, restRun.sl.v617, restRun.sl.v612, restRun.sl.v616, mask_at, e0, e1, e2]
  exact pw_m J _ _ _ _ _ (by omega)

theorem v649_at (r l : Fin 128) : (restRun.sl.v649 c i arg1 harg1 arg2 harg2 arg4 harg4 arg13 harg13 x0 x1 x3 xs0) (ix2 r l) = ((pw J (768 + (128 + (r : ℕ))) (768 + (l : ℕ)) : ℝ) : EReal) := by
  have e0 := v621_at c i z hz arg1 harg1 arg2 harg2 arg3 harg3 arg4 harg4 arg13 harg13 arg14 X
  have e1 := v624_at c i z hz arg1 harg1 arg2 harg2 arg3 harg3 arg4 harg4 arg13 harg13 arg14 X
  have e2 := v611_at c i z hz arg1 harg1 arg2 harg2 arg3 harg3 arg4 harg4 arg13 harg13 arg14 X
  pointwise [restRun.sl.v649, restRun.sl.v643, restRun.sl.v648, restRun.sl.v647, restRun.sl.v631, restRun.sl.v645, restRun.sl.v629, restRun.sl.v620, restRun.sl.v615, restRun.sl.v619, restRun.sl.v614, restRun.sl.v618, restRun.sl.v613, restRun.sl.v617, restRun.sl.v612, restRun.sl.v616, mask_at, e0, e1, e2]
  exact pw_u J _ _ _ (by omega)

theorem v662_at (r l : Fin 128) : (restRun.sl.v662 c i arg1 harg1 arg2 harg2 arg4 harg4 arg13 harg13 x0 x1 x3 xs0) (ix2 r l) = ((pw J (768 + (128 + (r : ℕ))) (768 + (128 + (l : ℕ))) : ℝ) : EReal) := by
  have e0 := v621_at c i z hz arg1 harg1 arg2 harg2 arg3 harg3 arg4 harg4 arg13 harg13 arg14 X
  have e1 := v624_at c i z hz arg1 harg1 arg2 harg2 arg3 harg3 arg4 harg4 arg13 harg13 arg14 X
  have e2 := v611_at c i z hz arg1 harg1 arg2 harg2 arg3 harg3 arg4 harg4 arg13 harg13 arg14 X
  pointwise [restRun.sl.v662, restRun.sl.v660, restRun.sl.v118, restRun.sl.v654, restRun.sl.v659, restRun.sl.cst_50, restRun.sl.v658, restRun.sl.v657, restRun.sl.v645, restRun.sl.v655, restRun.sl.v620, restRun.sl.v615, restRun.sl.v619, restRun.sl.v614, restRun.sl.v618, restRun.sl.v613, restRun.sl.v617, restRun.sl.v612, restRun.sl.v616, mask_at, e0, e1, e2]
  exact pw_m J _ _ _ _ _ (by omega)

end

end Cert.KernelIdeal.Val

end
-- ==== Proof.KI.Rest2.lean ====
module

public import proofs.«01_k».proof.Proof.M.Math
public import proofs.«01_k».proof.Proof.M.Cast
public import proofs.«01_k».proof.Proof.KI.Gates
public import proofs.«01_k».proof.Proof.KI.RunR
public import Idealize.ShloMosaic.Lib.Pointwise
public import proofs.«01_k».proof.Proof.KI.Rest1

@[expose] public section

set_option maxRecDepth 16384

/-!
# One head: the states at the ends of the segments, and the outputs

Sums over 128 lanes are sums over the tokens of two or four blocks.
-/

noncomputable section

namespace Cert.KernelIdeal.Val

open Idealize.ShloMosaic Idealize.SL.Sem Cert.KernelIdeal Cert.KernelIdeal.Gen Cert.KernelIdeal.Run Cert.M

theorem lanes2 (f : ℕ → ℝ) : ∑ l : Fin 128, (f l + f (128 + l)) = ∑ s : Fin 256, f s := by
  rw [Finset.sum_add_distrib]
  show _ = ∑ s : Fin (128 + 128), f s
  rw [Fin.sum_univ_add]
  rfl

theorem lanes4 (f : ℕ → ℝ) : ∑ l : Fin 128, (f l + f (128 + l) + f (256 + l) + f (256 + (128 + l))) = ∑ s : Fin 512, f s := by
  rw [show (∑ s : Fin 512, f s) = ∑ s : Fin (256 + 256), f s from rfl, Fin.sum_univ_add]
  show _ = ∑ s : Fin 256, f s + ∑ s : Fin 256, f (256 + s)
  rw [← lanes2, ← lanes2 (fun s => f (256 + s)), ← Finset.sum_add_distrib]
  exact Finset.sum_congr rfl fun l _ => by ring

theorem lanes2d (f : Fin 256 → ℝ) {h0 : ∀ l : Fin 128, (l : ℕ) < 256} {h1 : ∀ l : Fin 128, 128 + (l : ℕ) < 256} :
    ∑ l : Fin 128, (f ⟨l, h0 l⟩ + f ⟨128 + l, h1 l⟩) = ∑ d : Fin 256, f d := by
  rw [Finset.sum_add_distrib]
  show _ = ∑ s : Fin (128 + 128), f s
  rw [Fin.sum_univ_add]
  rfl

theorem pw_add (J : Inp) (a r s : ℕ) : pw J (a + r) (a + s) = if s ≤ r then J.W (a + r + 1) (a + s) * J.qk (a + r) (a + s) else 0 := by
  unfold pw
  by_cases h : s ≤ r
  · rw [if_pos h, if_pos (by omega)]
  · rw [if_neg h, if_neg (by omega)]

/-- The denominator of a query in the first segment. -/
theorem hden_pw (J : Inp) (n t : ℕ) (h : t < n) : ∑ s : Fin n, pw J t s = J.hden t :=
  Inp.sum_le (fun s => J.W (t + 1) s * J.qk t s) t h

theorem hnum_pw (J : Inp) (n t : ℕ) (h : t < n) (e : Fin 512) : ∑ s : Fin n, pw J t s * J.vs (s / 64) * J.v s e = J.hnum t e := by
  rw [Inp.hnum, ← Inp.sum_le (fun s => J.W (t + 1) s * J.qk t s * J.vv s e) t h]
  refine Finset.sum_congr rfl fun s _ => ?_
  unfold pw
  split
  · rw [Inp.vv]; ring
  · ring

theorem hden_seg (J : Inp) (a n r : ℕ) (h : r < n) :
    ∑ s : Fin n, pw J (a + r) (a + s) + Real.exp (J.mu a - J.mu (a + r + 1)) * ∑ d, J.q (a + r) d * J.Ns a d = J.hden (a + r) := by
  rw [J.hden_add a n r h, add_comm]
  exact congrArg _ (Finset.sum_congr rfl fun s _ => pw_add J a r s)

theorem hnum_seg (J : Inp) (a n r : ℕ) (h : r < n) (e : Fin 512) :
    ∑ s : Fin n, pw J (a + r) (a + s) * J.vs ((a + s) / 64) * J.v (a + s) e + (∑ d, J.q (a + r) d * J.Cs a d e) * Real.exp (J.mu a - J.mu (a + r + 1)) = J.hnum (a + r) e := by
  rw [J.hnum_add a n r h, add_comm, mul_comm]
  refine congrArg _ (Finset.sum_congr rfl fun s _ => ?_)
  rw [pw_add]
  split
  · rw [Inp.vv]; ring
  · ring

theorem Cs_first (J : Inp) (n : ℕ) (d : Fin 256) (e : Fin 512) : ∑ s : Fin n, J.kk s d * Real.exp (J.G s - J.mu n) * J.vs (s / 64) * J.v s e = J.Cs n d e := by
  rw [Inp.Cs, Finset.sum_range]
  exact Finset.sum_congr rfl fun s _ => by rw [Inp.vv, Inp.W]; ring

theorem Ns_first (J : Inp) (n : ℕ) (d : Fin 256) : ∑ s : Fin n, J.kk s d * Real.exp (J.G s - J.mu n) = J.Ns n d := by
  rw [Inp.Ns, Finset.sum_range]
  exact Finset.sum_congr rfl fun s _ => by rw [Inp.W]; ring

theorem Cs_seg (J : Inp) (a n b : ℕ) (hb : a + n = b) (d : Fin 256) (e : Fin 512) :
    J.Cs a d e * Real.exp (J.mu a - J.mu b) + ∑ s : Fin n, J.kk (a + s) d * Real.exp (J.G (a + s) - J.mu b) * J.vs ((a + s) / 64) * J.v (a + s) e = J.Cs b d e := by
  subst hb
  rw [J.Cs_add, mul_comm]
  exact congrArg _ (Finset.sum_congr rfl fun s _ => by rw [Inp.vv, Inp.W]; ring)

theorem Ns_seg (J : Inp) (a n b : ℕ) (hb : a + n = b) (d : Fin 256) :
    J.Ns a d * Real.exp (J.mu a - J.mu b) + ∑ s : Fin n, J.kk (a + s) d * Real.exp (J.G (a + s) - J.mu b) = J.Ns b d := by
  subst hb
  rw [J.Ns_add, mul_comm]
  exact congrArg _ (Finset.sum_congr rfl fun s _ => by rw [Inp.W]; ring)

/-- The kernel multiplies the numerator by one over the larger of the denominator and the bound over the query scale. -/
theorem h_fin (N D m q : ℝ) (hq : 0 ≤ q) :
    (N : EReal) * Ideal.div 1 (max ((|D| : ℝ) : EReal) (Ideal.div ((Real.exp (-m) : ℝ) : EReal) (q : EReal))) = (((N * q) / max |D * q| (Real.exp (-m)) : ℝ) : EReal) := by
  rcases hq.eq_or_lt with rfl | h
  · have e : Ideal.div ((Real.exp (-m) : ℝ) : EReal) ((0 : ℝ) : EReal) = ⊤ := by
      rw [Ideal.div, EReal.coe_zero, if_pos rfl, if_pos (EReal.coe_pos.2 (Real.exp_pos _))]
    rw [e, max_eq_right le_top, Ideal.div, if_neg (by simp)]
    simp
  · rw [div_coe' _ _ h.ne', ← coe_max', ← EReal.coe_one, div_coe', ← EReal.coe_mul]
    · congr 1
      rw [abs_mul, abs_of_pos h, show Real.exp (-m) / q = Real.exp (-m) * q⁻¹ from div_eq_mul_inv _ _]
      have hx : max (|D| * q) (Real.exp (-m)) = max |D| (Real.exp (-m) * q⁻¹) * q := by
        rw [max_mul_of_nonneg _ _ h.le, mul_assoc, inv_mul_cancel₀ h.ne', mul_one]
      rw [hx]
      have : 0 < max |D| (Real.exp (-m) * q⁻¹) := lt_max_of_lt_right (by positivity)
      field_simp
    · have : 0 < max |D| (Real.exp (-m) / q) := lt_max_of_lt_right (by positivity)
      exact this.ne'

section
variable (c : Dev nD) (i : grid0.Coords) (z : Fin 8) (hz : (i 0).val = z) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg13 : Memref sig .tc .vmem S6x8x1024 .f32) (harg13 : arg13.IsWhole) (arg14 : Memref sig .tc .vmem S768x512 .bf16)
  {x0 : Vec Ideal S1x1x1024x256 .fp8e4m3} {x1 : Vec Ideal S1x1x1024x256 .fp8e4m3} {x2 : Vec Ideal S1x1x1024x512 .fp8e4m3} {x3 : Vec Ideal S1x1x16x256 .f32} {xs0 : Vec Ideal S6x8x1024 .f32} {J : Inp} (X : RIn J z x0 x1 x2 x3 xs0)
include c i z hz arg1 harg1 arg2 harg2 arg3 harg3 arg4 harg4 arg13 harg13 arg14 X

theorem v152_at (r s : Fin 256) : (restRun.sl.v152 c i arg1 harg1 arg2 harg2 arg4 harg4 arg13 harg13 x0 x1 x3 xs0) (ix2 r s) = ((pw J (r : ℕ) (s : ℕ) * J.vs ((s : ℕ) / 64) : ℝ) : EReal) := by
  have e0 := v119_at c i z hz arg1 harg1 arg2 harg2 arg3 harg3 arg4 harg4 arg13 harg13 arg14 X
  have e1 := v132_at c i z hz arg1 harg1 arg2 harg2 arg3 harg3 arg4 harg4 arg13 harg13 arg14 X
  have e2 := v145_at c i z hz arg1 harg1 arg2 harg2 arg3 harg3 arg4 harg4 arg13 harg13 arg14 X
  have e3 := v43_at c i z hz arg1 harg1 arg2 harg2 arg3 harg3 arg4 harg4 arg13 harg13 arg14 X
  pointwise [restRun.sl.v152, restRun.sl.v125, restRun.sl.v151, restRun.sl.v123, restRun.sl.v124, restRun.sl.v136, restRun.sl.v150, restRun.sl.v122, restRun.sl.cst_51, restRun.sl.v135, restRun.sl.v149, restRun.sl.v121, restRun.sl.v148, restRun.sl.v120, restRun.sl.v147, e0, e1, e2, e3]
  have hr := r.isLt
  have hs := s.isLt
  by_cases h : (r : ℕ) < 128 <;> by_cases h' : (s : ℕ) < 128
  · simp only [h, h', ↓reduceDIte, ↓reduceIte, ← EReal.coe_mul]
  · simp only [h, h', ↓reduceDIte, ↓reduceIte, ← EReal.coe_mul, show 128 + ((s : ℕ) - 128) = s by omega]
    rw [pw_zero J (by omega), zero_mul, EReal.coe_zero]
  · simp only [h, h', ↓reduceDIte, ↓reduceIte, ← EReal.coe_mul, show 128 + ((r : ℕ) - 128) = r by omega]
  · simp only [h, h', ↓reduceDIte, ↓reduceIte, ← EReal.coe_mul, show 128 + ((s : ℕ) - 128) = s by omega, show 128 + ((r : ℕ) - 128) = r by omega]

theorem v252_at (r s : Fin 256) : (restRun.sl.v252 c i arg1 harg1 arg2 harg2 arg4 harg4 arg13 harg13 x0 x1 x3 xs0) (ix2 r s) = ((pw J (256 + r) (s : ℕ) * J.vs ((s : ℕ) / 64) : ℝ) : EReal) := by
  have e0 := v210_at c i z hz arg1 harg1 arg2 harg2 arg3 harg3 arg4 harg4 arg13 harg13 arg14 X
  have e1 := v221_at c i z hz arg1 harg1 arg2 harg2 arg3 harg3 arg4 harg4 arg13 harg13 arg14 X
  have e2 := v234_at c i z hz arg1 harg1 arg2 harg2 arg3 harg3 arg4 harg4 arg13 harg13 arg14 X
  have e3 := v245_at c i z hz arg1 harg1 arg2 harg2 arg3 harg3 arg4 harg4 arg13 harg13 arg14 X
  have e4 := v43_at c i z hz arg1 harg1 arg2 harg2 arg3 harg3 arg4 harg4 arg13 harg13 arg14 X
  pointwise [restRun.sl.v252, restRun.sl.v227, restRun.sl.v251, restRun.sl.v214, restRun.sl.v226, restRun.sl.v238, restRun.sl.v250, restRun.sl.v213, restRun.sl.v225, restRun.sl.v237, restRun.sl.v249, restRun.sl.v121, restRun.sl.v148, restRun.sl.v120, restRun.sl.v147, e0, e1, e2, e3, e4]
  have hr := r.isLt
  have hs := s.isLt
  by_cases h : (r : ℕ) < 128 <;> by_cases h' : (s : ℕ) < 128
  · simp only [h, h', ↓reduceDIte, ↓reduceIte, ← EReal.coe_mul]
  · simp only [h, h', ↓reduceDIte, ↓reduceIte, ← EReal.coe_mul, show 128 + ((s : ℕ) - 128) = s by omega]
  · simp only [h, h', ↓reduceDIte, ↓reduceIte, ← EReal.coe_mul, show 128 + ((r : ℕ) - 128) = r by omega]
  · simp only [h, h', ↓reduceDIte, ↓reduceIte, ← EReal.coe_mul, show 128 + ((s : ℕ) - 128) = s by omega, show 128 + ((r : ℕ) - 128) = r by omega]

theorem v303_at (r s : Fin 256) : (restRun.sl.v303 c i arg1 harg1 arg2 harg2 arg4 harg4 arg13 harg13 x0 x1 x3 xs0) (ix2 r s) = ((pw J (256 + r) (256 + s) * J.vs ((256 + s) / 64) : ℝ) : EReal) := by
  have e0 := v268_at c i z hz arg1 harg1 arg2 harg2 arg3 harg3 arg4 harg4 arg13 harg13 arg14 X
  have e1 := v282_at c i z hz arg1 harg1 arg2 harg2 arg3 harg3 arg4 harg4 arg13 harg13 arg14 X
  have e2 := v296_at c i z hz arg1 harg1 arg2 harg2 arg3 harg3 arg4 harg4 arg13 harg13 arg14 X
  have e3 := v85_at c i z hz arg1 harg1 arg2 harg2 arg3 harg3 arg4 harg4 arg13 harg13 arg14 X
  pointwise [restRun.sl.v303, restRun.sl.v275, restRun.sl.v302, restRun.sl.v273, restRun.sl.v124, restRun.sl.v287, restRun.sl.v301, restRun.sl.v272, restRun.sl.cst_51, restRun.sl.v286, restRun.sl.v300, restRun.sl.v271, restRun.sl.v299, restRun.sl.v270, restRun.sl.v298, e0, e1, e2, e3]
  have hr := r.isLt
  have hs := s.isLt
  by_cases h : (r : ℕ) < 128 <;> by_cases h' : (s : ℕ) < 128
  · simp only [h, h', ↓reduceDIte, ↓reduceIte, ← EReal.coe_mul]
  · simp only [h, h', ↓reduceDIte, ↓reduceIte, ← EReal.coe_mul, show 128 + ((s : ℕ) - 128) = s by omega]
    rw [pw_zero J (by omega), zero_mul, EReal.coe_zero]
  · simp only [h, h', ↓reduceDIte, ↓reduceIte, ← EReal.coe_mul, show 128 + ((r : ℕ) - 128) = r by omega]
  · simp only [h, h', ↓reduceDIte, ↓reduceIte, ← EReal.coe_mul, show 128 + ((s : ℕ) - 128) = s by omega, show 128 + ((r : ℕ) - 128) = r by omega]

theorem v469_at (r s : Fin 256) : (restRun.sl.v469 c i arg1 harg1 arg2 harg2 arg4 harg4 arg13 harg13 x0 x1 x3 xs0) (ix2 r s) = ((pw J (512 + r) (512 + s) * J.vs ((512 + s) / 64) : ℝ) : EReal) := by
  have e0 := v436_at c i z hz arg1 harg1 arg2 harg2 arg3 harg3 arg4 harg4 arg13 harg13 arg14 X
  have e1 := v449_at c i z hz arg1 harg1 arg2 harg2 arg3 harg3 arg4 harg4 arg13 harg13 arg14 X
  have e2 := v462_at c i z hz arg1 harg1 arg2 harg2 arg3 harg3 arg4 harg4 arg13 harg13 arg14 X
  have e3 := v402_at c i z hz arg1 harg1 arg2 harg2 arg3 harg3 arg4 harg4 arg13 harg13 arg14 X
  pointwise [restRun.sl.v469, restRun.sl.v442, restRun.sl.v468, restRun.sl.v440, restRun.sl.v124, restRun.sl.v453, restRun.sl.v467, restRun.sl.v439, restRun.sl.cst_51, restRun.sl.v452, restRun.sl.v466, restRun.sl.v438, restRun.sl.v465, restRun.sl.v437, restRun.sl.v464, e0, e1, e2, e3]
  have hr := r.isLt
  have hs := s.isLt
  by_cases h : (r : ℕ) < 128 <;> by_cases h' : (s : ℕ) < 128
  · simp only [h, h', ↓reduceDIte, ↓reduceIte, ← EReal.coe_mul]
  · simp only [h, h', ↓reduceDIte, ↓reduceIte, ← EReal.coe_mul, show 128 + ((s : ℕ) - 128) = s by omega]
    rw [pw_zero J (by omega), zero_mul, EReal.coe_zero]
  · simp only [h, h', ↓reduceDIte, ↓reduceIte, ← EReal.coe_mul, show 128 + ((r : ℕ) - 128) = r by omega]
  · simp only [h, h', ↓reduceDIte, ↓reduceIte, ← EReal.coe_mul, show 128 + ((s : ℕ) - 128) = s by omega, show 128 + ((r : ℕ) - 128) = r by omega]

theorem v669_at (r s : Fin 256) : (restRun.sl.v669 c i arg1 harg1 arg2 harg2 arg4 harg4 arg13 harg13 x0 x1 x3 xs0) (ix2 r s) = ((pw J (768 + r) (768 + s) * J.vs ((768 + s) / 64) : ℝ) : EReal) := by
  have e0 := v636_at c i z hz arg1 harg1 arg2 harg2 arg3 harg3 arg4 harg4 arg13 harg13 arg14 X
  have e1 := v649_at c i z hz arg1 harg1 arg2 harg2 arg3 harg3 arg4 harg4 arg13 harg13 arg14 X
  have e2 := v662_at c i z hz arg1 harg1 arg2 harg2 arg3 harg3 arg4 harg4 arg13 harg13 arg14 X
  have e3 := v602_at c i z hz arg1 harg1 arg2 harg2 arg3 harg3 arg4 harg4 arg13 harg13 arg14 X
  pointwise [restRun.sl.v669, restRun.sl.v642, restRun.sl.v668, restRun.sl.v640, restRun.sl.v124, restRun.sl.v653, restRun.sl.v667, restRun.sl.v639, restRun.sl.cst_51, restRun.sl.v652, restRun.sl.v666, restRun.sl.v638, restRun.sl.v665, restRun.sl.v637, restRun.sl.v664, e0, e1, e2, e3]
  have hr := r.isLt
  have hs := s.isLt
  by_cases h : (r : ℕ) < 128 <;> by_cases h' : (s : ℕ) < 128
  · simp only [h, h', ↓reduceDIte, ↓reduceIte, ← EReal.coe_mul]
  · simp only [h, h', ↓reduceDIte, ↓reduceIte, ← EReal.coe_mul, show 128 + ((s : ℕ) - 128) = s by omega]
    rw [pw_zero J (by omega), zero_mul, EReal.coe_zero]
  · simp only [h, h', ↓reduceDIte, ↓reduceIte, ← EReal.coe_mul, show 128 + ((r : ℕ) - 128) = r by omega]
  · simp only [h, h', ↓reduceDIte, ↓reduceIte, ← EReal.coe_mul, show 128 + ((s : ℕ) - 128) = s by omega, show 128 + ((r : ℕ) - 128) = r by omega]

theorem v305_at (r : Fin 256) (s : Fin 512) : (restRun.sl.v305 c i arg1 harg1 arg2 harg2 arg4 harg4 arg13 harg13 x0 x1 x3 xs0) (ix2 r s) = ((pw J (256 + r) s * J.vs ((s : ℕ) / 64) : ℝ) : EReal) := by
  have e0 := v252_at c i z hz arg1 harg1 arg2 harg2 arg3 harg3 arg4 harg4 arg13 harg13 arg14 X
  have e1 := v303_at c i z hz arg1 harg1 arg2 harg2 arg3 harg3 arg4 harg4 arg13 harg13 arg14 X
  pointwise [restRun.sl.v305, e0, e1]
  have hs := s.isLt
  by_cases h : (s : ℕ) < 256
  · simp only [h, ↓reduceDIte, ↓reduceIte]
  · simp only [h, ↓reduceDIte, ↓reduceIte, show 256 + ((s : ℕ) - 256) = s by omega]

theorem v153_at (r : Fin 256) (l : Fin 128) : (restRun.sl.v153 c i arg1 harg1 arg2 harg2 arg4 harg4 arg13 harg13 x0 x1 x3 xs0) (ix2 r l) = ((pw J (r : ℕ) (l : ℕ) + pw J (r : ℕ) ((128 + (l : ℕ))) : ℝ) : EReal) := by
  have e0 := v119_at c i z hz arg1 harg1 arg2 harg2 arg3 harg3 arg4 harg4 arg13 harg13 arg14 X
  have e1 := v132_at c i z hz arg1 harg1 arg2 harg2 arg3 harg3 arg4 harg4 arg13 harg13 arg14 X
  have e2 := v145_at c i z hz arg1 harg1 arg2 harg2 arg3 harg3 arg4 harg4 arg13 harg13 arg14 X
  pointwise [restRun.sl.v153, restRun.sl.v146, e0, e1, e2]
  have hr := r.isLt
  by_cases h : (r : ℕ) < 128
  · simp only [h, ↓reduceDIte, ↓reduceIte]
    rw [pw_zero J (t := (r : ℕ)) (s := (128 + (l : ℕ))) (by omega), add_zero]
  · simp only [h, ↓reduceDIte, ↓reduceIte, ← EReal.coe_add, show 128 + ((r : ℕ) - 128) = r by omega]

theorem v470_at (r : Fin 256) (l : Fin 128) : (restRun.sl.v470 c i arg1 harg1 arg2 harg2 arg4 harg4 arg13 harg13 x0 x1 x3 xs0) (ix2 r l) = ((pw J (512 + r) (512 + l) + pw J (512 + r) (512 + (128 + (l : ℕ))) : ℝ) : EReal) := by
  have e0 := v436_at c i z hz arg1 harg1 arg2 harg2 arg3 harg3 arg4 harg4 arg13 harg13 arg14 X
  have e1 := v449_at c i z hz arg1 harg1 arg2 harg2 arg3 harg3 arg4 harg4 arg13 harg13 arg14 X
  have e2 := v462_at c i z hz arg1 harg1 arg2 harg2 arg3 harg3 arg4 harg4 arg13 harg13 arg14 X
  pointwise [restRun.sl.v470, restRun.sl.v463, e0, e1, e2]
  have hr := r.isLt
  by_cases h : (r : ℕ) < 128
  · simp only [h, ↓reduceDIte, ↓reduceIte]
    rw [pw_zero J (t := (512 + r)) (s := 512 + (128 + (l : ℕ))) (by omega), add_zero]
  · simp only [h, ↓reduceDIte, ↓reduceIte, ← EReal.coe_add, show 128 + ((r : ℕ) - 128) = r by omega]

theorem v670_at (r : Fin 256) (l : Fin 128) : (restRun.sl.v670 c i arg1 harg1 arg2 harg2 arg4 harg4 arg13 harg13 x0 x1 x3 xs0) (ix2 r l) = ((pw J (768 + r) (768 + l) + pw J (768 + r) (768 + (128 + (l : ℕ))) : ℝ) : EReal) := by
  have e0 := v636_at c i z hz arg1 harg1 arg2 harg2 arg3 harg3 arg4 harg4 arg13 harg13 arg14 X
  have e1 := v649_at c i z hz arg1 harg1 arg2 harg2 arg3 harg3 arg4 harg4 arg13 harg13 arg14 X
  have e2 := v662_at c i z hz arg1 harg1 arg2 harg2 arg3 harg3 arg4 harg4 arg13 harg13 arg14 X
  pointwise [restRun.sl.v670, restRun.sl.v663, e0, e1, e2]
  have hr := r.isLt
  by_cases h : (r : ℕ) < 128
  · simp only [h, ↓reduceDIte, ↓reduceIte]
    rw [pw_zero J (t := (768 + r)) (s := 768 + (128 + (l : ℕ))) (by omega), add_zero]
  · simp only [h, ↓reduceDIte, ↓reduceIte, ← EReal.coe_add, show 128 + ((r : ℕ) - 128) = r by omega]

theorem v304_at (r : Fin 256) (l : Fin 128) : (restRun.sl.v304 c i arg1 harg1 arg2 harg2 arg4 harg4 arg13 harg13 x0 x1 x3 xs0) (ix2 r l) = ((pw J (256 + r) l + pw J (256 + r) (128 + (l : ℕ)) + pw J (256 + r) (256 + (l : ℕ)) + pw J (256 + r) (256 + (128 + (l : ℕ))) : ℝ) : EReal) := by
  have e0 := v268_at c i z hz arg1 harg1 arg2 harg2 arg3 harg3 arg4 harg4 arg13 harg13 arg14 X
  have e1 := v296_at c i z hz arg1 harg1 arg2 harg2 arg3 harg3 arg4 harg4 arg13 harg13 arg14 X
  have e2 := v210_at c i z hz arg1 harg1 arg2 harg2 arg3 harg3 arg4 harg4 arg13 harg13 arg14 X
  have e3 := v221_at c i z hz arg1 harg1 arg2 harg2 arg3 harg3 arg4 harg4 arg13 harg13 arg14 X
  have e4 := v282_at c i z hz arg1 harg1 arg2 harg2 arg3 harg3 arg4 harg4 arg13 harg13 arg14 X
  have e5 := v234_at c i z hz arg1 harg1 arg2 harg2 arg3 harg3 arg4 harg4 arg13 harg13 arg14 X
  have e6 := v245_at c i z hz arg1 harg1 arg2 harg2 arg3 harg3 arg4 harg4 arg13 harg13 arg14 X
  pointwise [restRun.sl.v304, restRun.sl.v269, restRun.sl.v297, restRun.sl.v222, restRun.sl.v283, restRun.sl.v246, e0, e1, e2, e3, e4, e5, e6]
  have hr := r.isLt
  by_cases h : (r : ℕ) < 128
  · simp only [h, ↓reduceDIte, ↓reduceIte, ← EReal.coe_add]
    rw [pw_zero J (t := 256 + (r : ℕ)) (s := 256 + (128 + (l : ℕ))) (by omega), add_zero]
  · simp only [h, ↓reduceDIte, ↓reduceIte, ← EReal.coe_add, show 128 + ((r : ℕ) - 128) = r by omega]

theorem v82_at (d : Fin 256) (l : Fin 128) : (restRun.sl.v82 c i arg2 harg2 arg4 harg4 arg13 harg13 x1 x3 xs0) (ix2 d l) = ((J.kk (l : ℕ) d * Real.exp (J.G (l : ℕ) - J.mu 512) + J.kk (128 + (l : ℕ)) d * Real.exp (J.G (128 + (l : ℕ)) - J.mu 512) + (J.kk (256 + (l : ℕ)) d * Real.exp (J.G (256 + (l : ℕ)) - J.mu 512) + J.kk (256 + (128 + (l : ℕ))) d * Real.exp (J.G (256 + (128 + (l : ℕ))) - J.mu 512)) : ℝ) : EReal) := by
  have e0 := v73_at c i z hz arg1 harg1 arg2 harg2 arg3 harg3 arg4 harg4 arg13 harg13 arg14 X
  have e1 := v35_at c i z hz arg1 harg1 arg2 harg2 arg3 harg3 arg4 harg4 arg13 harg13 arg14 X
  have e2 := v76_at c i z hz arg1 harg1 arg2 harg2 arg3 harg3 arg4 harg4 arg13 harg13 arg14 X
  have e3 := kf0_at c i z hz arg1 harg1 arg2 harg2 arg3 harg3 arg4 harg4 arg13 harg13 arg14 X
  pointwise [restRun.sl.v82, restRun.sl.v40, restRun.sl.v81, restRun.sl.v38, restRun.sl.v39, restRun.sl.v79, restRun.sl.v80, restRun.sl.v37, restRun.sl.v78, restRun.sl.v36, restRun.sl.v77, e0, e1, e2, e3]
  simp only [← EReal.coe_mul, ← EReal.coe_add, ← coe_sum]

theorem v399_at (d : Fin 256) (l : Fin 128) : (restRun.sl.v399 c i arg2 harg2 arg4 harg4 arg13 harg13 x1 x3 xs0) (ix2 d l) = ((J.kk (512 + (l : ℕ)) d * Real.exp (J.G (512 + (l : ℕ)) - J.mu 768) + J.kk (512 + (128 + (l : ℕ))) d * Real.exp (J.G (512 + (128 + (l : ℕ))) - J.mu 768) : ℝ) : EReal) := by
  have e0 := v391_at c i z hz arg1 harg1 arg2 harg2 arg3 harg3 arg4 harg4 arg13 harg13 arg14 X
  have e1 := v394_at c i z hz arg1 harg1 arg2 harg2 arg3 harg3 arg4 harg4 arg13 harg13 arg14 X
  pointwise [restRun.sl.v399, restRun.sl.v397, restRun.sl.v398, restRun.sl.v396, restRun.sl.v395, e0, e1]
  simp only [← EReal.coe_mul, ← EReal.coe_add, ← coe_sum]

theorem v599_at (d : Fin 256) (l : Fin 128) : (restRun.sl.v599 c i arg2 harg2 arg4 harg4 arg13 harg13 x1 x3 xs0) (ix2 d l) = ((J.kk (768 + (l : ℕ)) d * Real.exp (J.G (768 + (l : ℕ)) - J.mu 1024) + J.kk (768 + (128 + (l : ℕ))) d * Real.exp (J.G (768 + (128 + (l : ℕ))) - J.mu 1024) : ℝ) : EReal) := by
  have e0 := v591_at c i z hz arg1 harg1 arg2 harg2 arg3 harg3 arg4 harg4 arg13 harg13 arg14 X
  have e1 := v594_at c i z hz arg1 harg1 arg2 harg2 arg3 harg3 arg4 harg4 arg13 harg13 arg14 X
  pointwise [restRun.sl.v599, restRun.sl.v597, restRun.sl.v598, restRun.sl.v596, restRun.sl.v595, e0, e1]
  simp only [← EReal.coe_mul, ← EReal.coe_add, ← coe_sum]

theorem v338_at (d : Fin 256) : (restRun.sl.v338 c i arg2 harg2 arg4 harg4 arg13 harg13 x1 x3 xs0) (ix1 d) = ((J.Ns 512 d : ℝ) : EReal) := by
  have e0 := v82_at c i z hz arg1 harg1 arg2 harg2 arg3 harg3 arg4 harg4 arg13 harg13 arg14 X
  pointwise [restRun.sl.v338, e0]
  simp only [← coe_sum, ← add_assoc]
  exact congrArg _ ((lanes4 fun s => J.kk s d * Real.exp (J.G s - J.mu 512)).trans (Ns_first J 512 d))

theorem v528_at (d : Fin 256) : (restRun.sl.v528 c i arg2 harg2 arg4 harg4 arg13 harg13 x1 x3 xs0) (ix1 d) = ((∑ s : Fin 256, J.kk (512 + s) d * Real.exp (J.G (512 + s) - J.mu 768) : ℝ) : EReal) := by
  have e0 := v399_at c i z hz arg1 harg1 arg2 harg2 arg3 harg3 arg4 harg4 arg13 harg13 arg14 X
  pointwise [restRun.sl.v528, e0]
  simp only [← coe_sum]
  exact congrArg _ (lanes2 fun s => J.kk (512 + s) d * Real.exp (J.G (512 + s) - J.mu 768))

theorem v728_at (d : Fin 256) : (restRun.sl.v728 c i arg2 harg2 arg4 harg4 arg13 harg13 x1 x3 xs0) (ix1 d) = ((∑ s : Fin 256, J.kk (768 + s) d * Real.exp (J.G (768 + s) - J.mu 1024) : ℝ) : EReal) := by
  have e0 := v599_at c i z hz arg1 harg1 arg2 harg2 arg3 harg3 arg4 harg4 arg13 harg13 arg14 X
  pointwise [restRun.sl.v728, e0]
  simp only [← coe_sum]
  exact congrArg _ (lanes2 fun s => J.kk (768 + s) d * Real.exp (J.G (768 + s) - J.mu 1024))

theorem v348_at (d : Fin 256) : (restRun.sl.v348 c i arg2 harg2 arg4 harg4 arg13 harg13 x1 x3 xs0) (ix2 0 d) = ((J.Ns 512 d : ℝ) : EReal) := by
  have e0 := v338_at c i z hz arg1 harg1 arg2 harg2 arg3 harg3 arg4 harg4 arg13 harg13 arg14 X
  pointwise [restRun.sl.v348, restRun.sl.v344, restRun.sl.v347, restRun.sl.v343, restRun.sl.v346, restRun.sl.v342, restRun.sl.v345, restRun.sl.v341, restRun.sl.v340, restRun.sl.v339, e0]
  have hd := d.isLt
  by_cases h : (d : ℕ) < 128
  · simp only [h, ↓reduceDIte, ↓reduceIte]
  · simp only [h, ↓reduceDIte, ↓reduceIte, show 128 + ((d : ℕ) - 128) = d by omega]

theorem v538_at (d : Fin 256) : (restRun.sl.v538 c i arg2 harg2 arg4 harg4 arg13 harg13 x1 x3 xs0) (ix2 0 d) = ((∑ s : Fin 256, J.kk (512 + s) d * Real.exp (J.G (512 + s) - J.mu 768) : ℝ) : EReal) := by
  have e0 := v528_at c i z hz arg1 harg1 arg2 harg2 arg3 harg3 arg4 harg4 arg13 harg13 arg14 X
  pointwise [restRun.sl.v538, restRun.sl.v534, restRun.sl.v537, restRun.sl.v533, restRun.sl.v536, restRun.sl.v532, restRun.sl.v535, restRun.sl.v531, restRun.sl.v530, restRun.sl.v529, e0]
  have hd := d.isLt
  by_cases h : (d : ℕ) < 128
  · simp only [h, ↓reduceDIte, ↓reduceIte]
  · simp only [h, ↓reduceDIte, ↓reduceIte, show 128 + ((d : ℕ) - 128) = d by omega]

theorem v738_at (d : Fin 256) : (restRun.sl.v738 c i arg2 harg2 arg4 harg4 arg13 harg13 x1 x3 xs0) (ix2 0 d) = ((∑ s : Fin 256, J.kk (768 + s) d * Real.exp (J.G (768 + s) - J.mu 1024) : ℝ) : EReal) := by
  have e0 := v728_at c i z hz arg1 harg1 arg2 harg2 arg3 harg3 arg4 harg4 arg13 harg13 arg14 X
  pointwise [restRun.sl.v738, restRun.sl.v734, restRun.sl.v737, restRun.sl.v733, restRun.sl.v736, restRun.sl.v732, restRun.sl.v735, restRun.sl.v731, restRun.sl.v730, restRun.sl.v729, e0]
  have hd := d.isLt
  by_cases h : (d : ℕ) < 128
  · simp only [h, ↓reduceDIte, ↓reduceIte]
  · simp only [h, ↓reduceDIte, ↓reduceIte, show 128 + ((d : ℕ) - 128) = d by omega]

theorem v548_at (d : Fin 256) : (restRun.sl.v548 c i arg2 harg2 arg4 harg4 arg13 harg13 x1 x3 xs0) (ix2 0 d) = ((J.Ns 768 d : ℝ) : EReal) := by
  have e0 := v538_at c i z hz arg1 harg1 arg2 harg2 arg3 harg3 arg4 harg4 arg13 harg13 arg14 X
  have e1 := v348_at c i z hz arg1 harg1 arg2 harg2 arg3 harg3 arg4 harg4 arg13 harg13 arg14 X
  have e2 := v476_at c i z hz arg1 harg1 arg2 harg2 arg3 harg3 arg4 harg4 arg13 harg13 arg14 X
  pointwise [restRun.sl.v548, restRun.sl.v547, restRun.sl.v546, restRun.sl.v542, e0, e1, e2]
  simp only [← EReal.coe_mul, ← EReal.coe_add, ← coe_sum]
  exact congrArg _ (Ns_seg J 512 256 768 rfl d)

theorem v748_at (d : Fin 256) : (restRun.sl.v748 c i arg2 harg2 arg4 harg4 arg13 harg13 x1 x3 xs0) (ix2 0 d) = ((J.Ns 1024 d : ℝ) : EReal) := by
  have e0 := v738_at c i z hz arg1 harg1 arg2 harg2 arg3 harg3 arg4 harg4 arg13 harg13 arg14 X
  have e1 := v548_at c i z hz arg1 harg1 arg2 harg2 arg3 harg3 arg4 harg4 arg13 harg13 arg14 X
  have e2 := v676_at c i z hz arg1 harg1 arg2 harg2 arg3 harg3 arg4 harg4 arg13 harg13 arg14 X
  pointwise [restRun.sl.v748, restRun.sl.v747, restRun.sl.v746, restRun.sl.v742, e0, e1, e2]
  simp only [← EReal.coe_mul, ← EReal.coe_add, ← coe_sum]
  exact congrArg _ (Ns_seg J 768 256 1024 rfl d)

theorem v334_at (d : Fin 256) (s : Fin 512) : (restRun.sl.v334 c i arg2 harg2 arg4 harg4 arg13 harg13 x1 x3 xs0) (ix2 d s) = ((J.kk s d * Real.exp (J.G s - J.mu 512) * J.vs ((s : ℕ) / 64) : ℝ) : EReal) := by
  have e0 := v43_at c i z hz arg1 harg1 arg2 harg2 arg3 harg3 arg4 harg4 arg13 harg13 arg14 X
  have e1 := v73_at c i z hz arg1 harg1 arg2 harg2 arg3 harg3 arg4 harg4 arg13 harg13 arg14 X
  have e2 := v85_at c i z hz arg1 harg1 arg2 harg2 arg3 harg3 arg4 harg4 arg13 harg13 arg14 X
  have e3 := v35_at c i z hz arg1 harg1 arg2 harg2 arg3 harg3 arg4 harg4 arg13 harg13 arg14 X
  have e4 := v76_at c i z hz arg1 harg1 arg2 harg2 arg3 harg3 arg4 harg4 arg13 harg13 arg14 X
  have e5 := kf0_at c i z hz arg1 harg1 arg2 harg2 arg3 harg3 arg4 harg4 arg13 harg13 arg14 X
  pointwise [restRun.sl.v334, restRun.sl.v46, restRun.sl.v88, restRun.sl.v45, restRun.sl.v87, restRun.sl.v37, restRun.sl.v44, restRun.sl.v78, restRun.sl.v86, restRun.sl.v36, restRun.sl.v77, e0, e1, e2, e3, e4, e5]
  have hs := s.isLt
  by_cases h : (s : ℕ) < 256
  · simp only [h, ↓reduceDIte, ↓reduceIte, ← EReal.coe_mul]
  · simp only [h, ↓reduceDIte, ↓reduceIte, ← EReal.coe_mul, show 256 + ((s : ℕ) - 256) = s by omega]

theorem v337_at (d : Fin 256) (e : Fin 512) : (restRun.sl.v337 c i arg2 harg2 arg3 harg3 arg4 harg4 arg13 harg13 x1 x2 x3 xs0) (ix2 d e) = ((J.Cs 512 d e : ℝ) : EReal) := by
  have e0 := v334_at c i z hz arg1 harg1 arg2 harg2 arg3 harg3 arg4 harg4 arg13 harg13 arg14 X
  have e1 := v307_at c i z hz arg1 harg1 arg2 harg2 arg3 harg3 arg4 harg4 arg13 harg13 arg14 X
  pointwise [restRun.sl.v337, restRun.sl.cst_57, e0, e1]
  simp only [← EReal.coe_mul, ← EReal.coe_add, ← coe_sum]
  exact congrArg _ (Cs_first J 512 d e)

theorem v545_at (d : Fin 256) (e : Fin 512) : (restRun.sl.v545 c i arg2 harg2 arg3 harg3 arg4 harg4 arg13 harg13 x1 x2 x3 xs0) (ix2 d e) = ((J.Cs 768 d e : ℝ) : EReal) := by
  have e0 := v337_at c i z hz arg1 harg1 arg2 harg2 arg3 harg3 arg4 harg4 arg13 harg13 arg14 X
  have e1 := v472_at c i z hz arg1 harg1 arg2 harg2 arg3 harg3 arg4 harg4 arg13 harg13 arg14 X
  have e2 := v476_at c i z hz arg1 harg1 arg2 harg2 arg3 harg3 arg4 harg4 arg13 harg13 arg14 X
  have e3 := v391_at c i z hz arg1 harg1 arg2 harg2 arg3 harg3 arg4 harg4 arg13 harg13 arg14 X
  have e4 := v402_at c i z hz arg1 harg1 arg2 harg2 arg3 harg3 arg4 harg4 arg13 harg13 arg14 X
  have e5 := v394_at c i z hz arg1 harg1 arg2 harg2 arg3 harg3 arg4 harg4 arg13 harg13 arg14 X
  pointwise [restRun.sl.v545, restRun.sl.v544, restRun.sl.v527, restRun.sl.v543, restRun.sl.v405, restRun.sl.cst_57, restRun.sl.v542, restRun.sl.v404, restRun.sl.v396, restRun.sl.v403, restRun.sl.v395, e0, e1, e2, e3, e4, e5]
  simp only [← EReal.coe_mul, ← EReal.coe_add, ← coe_sum]
  exact congrArg _ (Cs_seg J 512 256 768 rfl d e)

theorem v745_at (d : Fin 256) (e : Fin 512) : (restRun.sl.v745 c i arg2 harg2 arg3 harg3 arg4 harg4 arg13 harg13 x1 x2 x3 xs0) (ix2 d e) = ((J.Cs 1024 d e : ℝ) : EReal) := by
  have e0 := v545_at c i z hz arg1 harg1 arg2 harg2 arg3 harg3 arg4 harg4 arg13 harg13 arg14 X
  have e1 := v672_at c i z hz arg1 harg1 arg2 harg2 arg3 harg3 arg4 harg4 arg13 harg13 arg14 X
  have e2 := v676_at c i z hz arg1 harg1 arg2 harg2 arg3 harg3 arg4 harg4 arg13 harg13 arg14 X
  have e3 := v591_at c i z hz arg1 harg1 arg2 harg2 arg3 harg3 arg4 harg4 arg13 harg13 arg14 X
  have e4 := v602_at c i z hz arg1 harg1 arg2 harg2 arg3 harg3 arg4 harg4 arg13 harg13 arg14 X
  have e5 := v594_at c i z hz arg1 harg1 arg2 harg2 arg3 harg3 arg4 harg4 arg13 harg13 arg14 X
  pointwise [restRun.sl.v745, restRun.sl.v744, restRun.sl.v727, restRun.sl.v743, restRun.sl.v605, restRun.sl.cst_57, restRun.sl.v742, restRun.sl.v604, restRun.sl.v596, restRun.sl.v603, restRun.sl.v595, e0, e1, e2, e3, e4, e5]
  simp only [← EReal.coe_mul, ← EReal.coe_add, ← coe_sum]
  exact congrArg _ (Cs_seg J 768 256 1024 rfl d e)

end

end Cert.KernelIdeal.Val

end
-- ==== Proof.KI.Rest3.lean ====
module

public import proofs.«01_k».proof.Proof.M.Math
public import proofs.«01_k».proof.Proof.M.Cast
public import proofs.«01_k».proof.Proof.KI.Gates
public import proofs.«01_k».proof.Proof.KI.RunR
public import Idealize.ShloMosaic.Lib.Pointwise
public import proofs.«01_k».proof.Proof.KI.Rest2

@[expose] public section

set_option maxRecDepth 16384

/-!
# One head: the outputs

Numerators and denominators of the queries, the state read back from the scratch, and the quotients.
-/

noncomputable section

namespace Cert.KernelIdeal.Val

open Idealize.ShloMosaic Idealize.SL.Sem Cert.KernelIdeal Cert.KernelIdeal.Gen Cert.KernelIdeal.Run Cert.M

/-- Three blocks of rows, stored one after the other. -/
theorem three (v : Memref sig .tc .vmem S768x512 .bf16) (f) (L : List (View.Piece (Elt Ideal) S768x512 .bf16)) (w0 w1 w2 : Vec Ideal S256x512 .bf16) {i0 i1 i2} (k : Fin 768) (e : Fin 512) :
    v.view.read (Elt Ideal) (v.view.writes (Elt Ideal) f (⟨Rect.unit (s := S768x512) ![512, 0] S256x512.size i2, w2⟩ :: ⟨Rect.unit (s := S768x512) ![256, 0] S256x512.size i1, w1⟩ :: ⟨Rect.unit (s := S768x512) ![0, 0] S256x512.size i0, w0⟩ :: L)) (ix2 k e)
      = if h : 512 ≤ (k : ℕ) then w2 (ix2 ⟨k - 512, by omega⟩ e) else if h' : 256 ≤ (k : ℕ) then w1 (ix2 ⟨k - 256, by omega⟩ e) else w0 (ix2 ⟨k, by omega⟩ e) := by
  have hk := k.isLt
  by_cases h2 : 512 ≤ (k : ℕ)
  · rw [dif_pos h2]
    have hj : (k : ℕ) - 512 < 256 := by omega
    refine View.read_writes_cons_hit_of_coords _ _ (Rect.unit (s := S768x512) ![512, 0] S256x512.size i2) _ _ (ix2 (⟨k - 512, hj⟩ : Fin 256) e) _ ?_
    intro a; fin_cases a <;> simp [Rect.unit, ix2] <;> omega
  rw [dif_neg h2]
  refine (View.read_writes_cons_miss_of_axis _ _ _ _ _ 0 512 256 rfl rfl rfl (Or.inl (by show (k : ℕ) < 512; omega))).trans ?_
  by_cases h1 : 256 ≤ (k : ℕ)
  · rw [dif_pos h1]
    have hj : (k : ℕ) - 256 < 256 := by omega
    refine View.read_writes_cons_hit_of_coords _ _ (Rect.unit (s := S768x512) ![256, 0] S256x512.size i1) _ _ (ix2 (⟨k - 256, hj⟩ : Fin 256) e) _ ?_
    intro a; fin_cases a <;> simp [Rect.unit, ix2] <;> omega
  rw [dif_neg h1]
  refine (View.read_writes_cons_miss_of_axis _ _ _ _ _ 0 256 256 rfl rfl rfl (Or.inl (by show (k : ℕ) < 256; omega))).trans ?_
  have hj : (k : ℕ) < 256 := by omega
  refine View.read_writes_cons_hit_of_coords _ _ (Rect.unit (s := S768x512) ![0, 0] S256x512.size i0) _ _ (ix2 (⟨k, hj⟩ : Fin 256) e) _ ?_
  intro a; fin_cases a <;> simp [Rect.unit, ix2]

/-- The pattern of one. -/
theorem ofBits_one' : Ideal.ofBits FTy.f32 1065353216#32 = 1 := by
  simp [Ideal.ofBits, Ideal.ieee]
  try norm_cast
  try norm_num

section
variable (c : Dev nD) (i : grid0.Coords) (z : Fin 8) (hz : (i 0).val = z) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg13 : Memref sig .tc .vmem S6x8x1024 .f32) (harg13 : arg13.IsWhole) (arg14 : Memref sig .tc .vmem S768x512 .bf16)
  {x0 : Vec Ideal S1x1x1024x256 .fp8e4m3} {x1 : Vec Ideal S1x1x1024x256 .fp8e4m3} {x2 : Vec Ideal S1x1x1024x512 .fp8e4m3} {x3 : Vec Ideal S1x1x16x256 .f32} {xs0 : Vec Ideal S6x8x1024 .f32} {J : Inp} (X : RIn J z x0 x1 x2 x3 xs0)
include c i z hz arg1 harg1 arg2 harg2 arg3 harg3 arg4 harg4 arg13 harg13 arg14 X

theorem v157_at (r : Fin 256) : (restRun.sl.v157 c i arg1 harg1 arg2 harg2 arg4 harg4 arg13 harg13 x0 x1 x3 xs0) (ix1 r) = ((J.hden (r : ℕ) : ℝ) : EReal) := by
  have e0 := v153_at c i z hz arg1 harg1 arg2 harg2 arg3 harg3 arg4 harg4 arg13 harg13 arg14 X
  pointwise [restRun.sl.v157, e0]
  simp only [← coe_sum]
  exact congrArg _ ((lanes2 fun s => pw J r s).trans (hden_pw J 256 r r.isLt))

theorem v309_at (r : Fin 256) : (restRun.sl.v309 c i arg1 harg1 arg2 harg2 arg4 harg4 arg13 harg13 x0 x1 x3 xs0) (ix1 r) = ((J.hden (256 + r) : ℝ) : EReal) := by
  have e0 := v304_at c i z hz arg1 harg1 arg2 harg2 arg3 harg3 arg4 harg4 arg13 harg13 arg14 X
  pointwise [restRun.sl.v309, e0]
  simp only [← coe_sum]
  exact congrArg _ ((lanes4 fun s => pw J (256 + r) s).trans (hden_pw J 512 (256 + r) (by omega)))

theorem v485_at (r : Fin 256) (l : Fin 128) : (restRun.sl.v485 c i arg13 harg13 xs0) (ix2 r l) = ((Real.exp (J.mu 512 - J.mu (512 + (r : ℕ) + 1)) : ℝ) : EReal) := by
  have e0 := v476_at c i z hz arg1 harg1 arg2 harg2 arg3 harg3 arg4 harg4 arg13 harg13 arg14 X
  pointwise [restRun.sl.v485, restRun.sl.v480, restRun.sl.v484, restRun.sl.v479, restRun.sl.v483, restRun.sl.v478, restRun.sl.v482, restRun.sl.v477, restRun.sl.v481, e0]
  have hr := r.isLt
  by_cases h : (r : ℕ) < 128
  · simp only [h, ↓reduceDIte, ↓reduceIte]
  · simp only [h, ↓reduceDIte, ↓reduceIte, show 128 + ((r : ℕ) - 128) = r by omega]

theorem v685_at (r : Fin 256) (l : Fin 128) : (restRun.sl.v685 c i arg13 harg13 xs0) (ix2 r l) = ((Real.exp (J.mu 768 - J.mu (768 + (r : ℕ) + 1)) : ℝ) : EReal) := by
  have e0 := v676_at c i z hz arg1 harg1 arg2 harg2 arg3 harg3 arg4 harg4 arg13 harg13 arg14 X
  pointwise [restRun.sl.v685, restRun.sl.v680, restRun.sl.v684, restRun.sl.v679, restRun.sl.v683, restRun.sl.v678, restRun.sl.v682, restRun.sl.v677, restRun.sl.v681, e0]
  have hr := r.isLt
  by_cases h : (r : ℕ) < 128
  · simp only [h, ↓reduceDIte, ↓reduceIte]
  · simp only [h, ↓reduceDIte, ↓reduceIte, show 128 + ((r : ℕ) - 128) = r by omega]

theorem v497_at (r : Fin 256) (l : Fin 128) : (restRun.sl.v497 c i arg1 harg1 arg2 harg2 arg4 harg4 arg13 harg13 x0 x1 x3 xs0) (ix2 r l) = ((J.q (512 + r) ⟨l, by omega⟩ * J.Ns 512 ⟨l, by omega⟩ + J.q (512 + r) ⟨128 + l, by omega⟩ * J.Ns 512 ⟨128 + l, by omega⟩ : ℝ) : EReal) := by
  have e0 := v408_at c i z hz arg1 harg1 arg2 harg2 arg3 harg3 arg4 harg4 arg13 harg13 arg14 X
  have e1 := v348_at c i z hz arg1 harg1 arg2 harg2 arg3 harg3 arg4 harg4 arg13 harg13 arg14 X
  pointwise [restRun.sl.v497, restRun.sl.v495, restRun.sl.v496, restRun.sl.v494, restRun.sl.v492, restRun.sl.v493, e0, e1]
  simp only [← EReal.coe_mul, ← EReal.coe_add, ← coe_sum]

theorem v697_at (r : Fin 256) (l : Fin 128) : (restRun.sl.v697 c i arg1 harg1 arg2 harg2 arg4 harg4 arg13 harg13 x0 x1 x3 xs0) (ix2 r l) = ((J.q (768 + r) ⟨l, by omega⟩ * J.Ns 768 ⟨l, by omega⟩ + J.q (768 + r) ⟨128 + l, by omega⟩ * J.Ns 768 ⟨128 + l, by omega⟩ : ℝ) : EReal) := by
  have e0 := v608_at c i z hz arg1 harg1 arg2 harg2 arg3 harg3 arg4 harg4 arg13 harg13 arg14 X
  have e1 := v548_at c i z hz arg1 harg1 arg2 harg2 arg3 harg3 arg4 harg4 arg13 harg13 arg14 X
  pointwise [restRun.sl.v697, restRun.sl.v695, restRun.sl.v696, restRun.sl.v694, restRun.sl.v692, restRun.sl.v693, e0, e1]
  simp only [← EReal.coe_mul, ← EReal.coe_add, ← coe_sum]

theorem v500_at (r : Fin 256) : (restRun.sl.v500 c i arg1 harg1 arg2 harg2 arg4 harg4 arg13 harg13 x0 x1 x3 xs0) (ix1 r) = ((J.hden (512 + r) : ℝ) : EReal) := by
  have e0 := v470_at c i z hz arg1 harg1 arg2 harg2 arg3 harg3 arg4 harg4 arg13 harg13 arg14 X
  have e1 := v485_at c i z hz arg1 harg1 arg2 harg2 arg3 harg3 arg4 harg4 arg13 harg13 arg14 X
  have e2 := v497_at c i z hz arg1 harg1 arg2 harg2 arg3 harg3 arg4 harg4 arg13 harg13 arg14 X
  pointwise [restRun.sl.v500, restRun.sl.v499, restRun.sl.v498, e0, e1, e2]
  simp only [← EReal.coe_mul, ← EReal.coe_add, ← coe_sum]
  refine congrArg _ ?_
  rw [Finset.sum_add_distrib, ← Finset.mul_sum, lanes2d fun d => J.q (512 + r) d * J.Ns 512 d, lanes2 fun s => pw J (512 + r) (512 + s)]
  exact hden_seg J 512 256 r r.isLt

theorem v700_at (r : Fin 256) : (restRun.sl.v700 c i arg1 harg1 arg2 harg2 arg4 harg4 arg13 harg13 x0 x1 x3 xs0) (ix1 r) = ((J.hden (768 + r) : ℝ) : EReal) := by
  have e0 := v670_at c i z hz arg1 harg1 arg2 harg2 arg3 harg3 arg4 harg4 arg13 harg13 arg14 X
  have e1 := v685_at c i z hz arg1 harg1 arg2 harg2 arg3 harg3 arg4 harg4 arg13 harg13 arg14 X
  have e2 := v697_at c i z hz arg1 harg1 arg2 harg2 arg3 harg3 arg4 harg4 arg13 harg13 arg14 X
  pointwise [restRun.sl.v700, restRun.sl.v699, restRun.sl.v698, e0, e1, e2]
  simp only [← EReal.coe_mul, ← EReal.coe_add, ← coe_sum]
  refine congrArg _ ?_
  rw [Finset.sum_add_distrib, ← Finset.mul_sum, lanes2d fun d => J.q (768 + r) d * J.Ns 768 d, lanes2 fun s => pw J (768 + r) (768 + s)]
  exact hden_seg J 768 256 r r.isLt

theorem v358_at (d : Fin 256) (e : Fin 512) : (restRun.sl.v358 c i arg2 harg2 arg3 harg3 arg4 harg4 arg13 harg13 x1 x2 x3 xs0) (ix2 d e) = ((J.Cs 512 d e : ℝ) : EReal) := by
  have e0 := v337_at c i z hz arg1 harg1 arg2 harg2 arg3 harg3 arg4 harg4 arg13 harg13 arg14 X
  pointwise [restRun.sl.v358, restRun.sl.v349, e0]

theorem v361_at (d : Fin 256) (e : Fin 512) : (restRun.sl.v361 c i arg2 harg2 arg3 harg3 arg4 harg4 arg13 harg13 x1 x2 x3 xs0) (ix2 d e) = ((0 : ℝ) : EReal) := by
  have e0 := v337_at c i z hz arg1 harg1 arg2 harg2 arg3 harg3 arg4 harg4 arg13 harg13 arg14 X
  pointwise [restRun.sl.v361, restRun.sl.v352, restRun.sl.v351, restRun.sl.v350, restRun.sl.v349, e0]
  simp only [← EReal.coe_sub, sub_self, EReal.coe_zero, sub_zero]

theorem v364_at (d : Fin 256) (e : Fin 512) : (restRun.sl.v364 c i arg2 harg2 arg3 harg3 arg4 harg4 arg13 harg13 x1 x2 x3 xs0) (ix2 d e) = ((0 : ℝ) : EReal) := by
  have e0 := v337_at c i z hz arg1 harg1 arg2 harg2 arg3 harg3 arg4 harg4 arg13 harg13 arg14 X
  pointwise [restRun.sl.v364, restRun.sl.v355, restRun.sl.v354, restRun.sl.v351, restRun.sl.v353, restRun.sl.v350, restRun.sl.v352, restRun.sl.v349, e0]
  simp only [← EReal.coe_sub, sub_self, EReal.coe_zero, sub_zero]

theorem v487_at (k : Fin 768) (e : Fin 512) : (restRun.sl.v487 c i arg2 harg2 arg3 harg3 arg4 harg4 arg13 harg13 arg14 x1 x2 x3 xs0) (ix2 k e) = (((if h : (k : ℕ) < 256 then J.Cs 512 ⟨k, h⟩ e else 0) : ℝ) : EReal) := by
  have a0 := v358_at c i z hz arg1 harg1 arg2 harg2 arg3 harg3 arg4 harg4 arg13 harg13 arg14 X
  have a1 := v361_at c i z hz arg1 harg1 arg2 harg2 arg3 harg3 arg4 harg4 arg13 harg13 arg14 X
  have a2 := v364_at c i z hz arg1 harg1 arg2 harg2 arg3 harg3 arg4 harg4 arg13 harg13 arg14 X
  unfold restRun.sl.v487 View.readCov
  rw [View.readAt_eq_ld]
  refine (View.ld_unit_apply_of _ ![0, 0] S768x512.size _ (ix2 k e) (ix2 k e) fun a => by fin_cases a <;> exact (Nat.zero_add _).symm).trans ?_
  unfold restRun.sl.HS1_3
  refine (three arg14 _ _ _ _ _ k e).trans ?_
  have hk := k.isLt
  by_cases h2 : 512 ≤ (k : ℕ)
  · rw [dif_pos h2, dif_neg (by omega)]
    exact a2 _ _
  rw [dif_neg h2]
  by_cases h1 : 256 ≤ (k : ℕ)
  · rw [dif_pos h1, dif_neg (by omega)]
    exact a1 _ _
  rw [dif_neg h1, dif_pos (by omega)]
  exact a0 _ _

theorem v558_at (d : Fin 256) (e : Fin 512) : (restRun.sl.v558 c i arg2 harg2 arg3 harg3 arg4 harg4 arg13 harg13 x1 x2 x3 xs0) (ix2 d e) = ((J.Cs 768 d e : ℝ) : EReal) := by
  have e0 := v545_at c i z hz arg1 harg1 arg2 harg2 arg3 harg3 arg4 harg4 arg13 harg13 arg14 X
  pointwise [restRun.sl.v558, restRun.sl.v549, e0]

theorem v561_at (d : Fin 256) (e : Fin 512) : (restRun.sl.v561 c i arg2 harg2 arg3 harg3 arg4 harg4 arg13 harg13 x1 x2 x3 xs0) (ix2 d e) = ((0 : ℝ) : EReal) := by
  have e0 := v545_at c i z hz arg1 harg1 arg2 harg2 arg3 harg3 arg4 harg4 arg13 harg13 arg14 X
  pointwise [restRun.sl.v561, restRun.sl.v552, restRun.sl.v551, restRun.sl.v550, restRun.sl.v549, e0]
  simp only [← EReal.coe_sub, sub_self, EReal.coe_zero, sub_zero]

theorem v564_at (d : Fin 256) (e : Fin 512) : (restRun.sl.v564 c i arg2 harg2 arg3 harg3 arg4 harg4 arg13 harg13 x1 x2 x3 xs0) (ix2 d e) = ((0 : ℝ) : EReal) := by
  have e0 := v545_at c i z hz arg1 harg1 arg2 harg2 arg3 harg3 arg4 harg4 arg13 harg13 arg14 X
  pointwise [restRun.sl.v564, restRun.sl.v555, restRun.sl.v554, restRun.sl.v551, restRun.sl.v553, restRun.sl.v550, restRun.sl.v552, restRun.sl.v549, e0]
  simp only [← EReal.coe_sub, sub_self, EReal.coe_zero, sub_zero]

theorem v687_at (k : Fin 768) (e : Fin 512) : (restRun.sl.v687 c i arg2 harg2 arg3 harg3 arg4 harg4 arg13 harg13 arg14 x1 x2 x3 xs0) (ix2 k e) = (((if h : (k : ℕ) < 256 then J.Cs 768 ⟨k, h⟩ e else 0) : ℝ) : EReal) := by
  have a0 := v558_at c i z hz arg1 harg1 arg2 harg2 arg3 harg3 arg4 harg4 arg13 harg13 arg14 X
  have a1 := v561_at c i z hz arg1 harg1 arg2 harg2 arg3 harg3 arg4 harg4 arg13 harg13 arg14 X
  have a2 := v564_at c i z hz arg1 harg1 arg2 harg2 arg3 harg3 arg4 harg4 arg13 harg13 arg14 X
  unfold restRun.sl.v687 View.readCov
  rw [View.readAt_eq_ld]
  refine (View.ld_unit_apply_of _ ![0, 0] S768x512.size _ (ix2 k e) (ix2 k e) fun a => by fin_cases a <;> exact (Nat.zero_add _).symm).trans ?_
  unfold restRun.sl.HS1_6 restRun.sl.HS1_5 restRun.sl.HS1_4
  refine (three arg14 _ _ _ _ _ k e).trans ?_
  have hk := k.isLt
  by_cases h2 : 512 ≤ (k : ℕ)
  · rw [dif_pos h2, dif_neg (by omega)]
    exact a2 _ _
  rw [dif_neg h2]
  by_cases h1 : 256 ≤ (k : ℕ)
  · rw [dif_pos h1, dif_neg (by omega)]
    exact a1 _ _
  rw [dif_neg h1, dif_pos (by omega)]
  exact a0 _ _

theorem v486_at (r : Fin 256) (k : Fin 768) : (restRun.sl.v486 c arg1 harg1 x0) (ix2 r k) = ((J.q (512 + r) ⟨k % 256, Nat.mod_lt _ (by norm_num)⟩ : ℝ) : EReal) := by
  have e0 := v408_at c i z hz arg1 harg1 arg2 harg2 arg3 harg3 arg4 harg4 arg13 harg13 arg14 X
  pointwise [restRun.sl.v486, e0]
  have hk := k.isLt
  have key : ∀ (m : ℕ) (hm : m < 256), m = (k : ℕ) % 256 → (⟨m, hm⟩ : Fin 256) = ⟨(k : ℕ) % 256, Nat.mod_lt _ (by norm_num)⟩ := fun m hm h => Fin.ext h
  split_ifs <;> exact congrArg (fun d => ((J.q (512 + (r : ℕ)) d : ℝ) : EReal)) (key _ _ (by omega))

theorem v686_at (r : Fin 256) (k : Fin 768) : (restRun.sl.v686 c arg1 harg1 x0) (ix2 r k) = ((J.q (768 + r) ⟨k % 256, Nat.mod_lt _ (by norm_num)⟩ : ℝ) : EReal) := by
  have e0 := v608_at c i z hz arg1 harg1 arg2 harg2 arg3 harg3 arg4 harg4 arg13 harg13 arg14 X
  pointwise [restRun.sl.v686, e0]
  have hk := k.isLt
  have key : ∀ (m : ℕ) (hm : m < 256), m = (k : ℕ) % 256 → (⟨m, hm⟩ : Fin 256) = ⟨(k : ℕ) % 256, Nat.mod_lt _ (by norm_num)⟩ := fun m hm h => Fin.ext h
  split_ifs <;> exact congrArg (fun d => ((J.q (768 + (r : ℕ)) d : ℝ) : EReal)) (key _ _ (by omega))

theorem v489_at (r : Fin 256) (e : Fin 512) : (restRun.sl.v489 c i arg13 harg13 xs0) (ix2 r e) = ((Real.exp (J.mu 512 - J.mu (512 + (r : ℕ) + 1)) : ℝ) : EReal) := by
  have e0 := v485_at c i z hz arg1 harg1 arg2 harg2 arg3 harg3 arg4 harg4 arg13 harg13 arg14 X
  pointwise [restRun.sl.v489, e0]
  try split_ifs <;> rfl

theorem v689_at (r : Fin 256) (e : Fin 512) : (restRun.sl.v689 c i arg13 harg13 xs0) (ix2 r e) = ((Real.exp (J.mu 768 - J.mu (768 + (r : ℕ) + 1)) : ℝ) : EReal) := by
  have e0 := v685_at c i z hz arg1 harg1 arg2 harg2 arg3 harg3 arg4 harg4 arg13 harg13 arg14 X
  pointwise [restRun.sl.v689, e0]
  try split_ifs <;> rfl

theorem v156_at (r : Fin 256) (e : Fin 512) : (restRun.sl.v156 c i arg1 harg1 arg2 harg2 arg3 harg3 arg4 harg4 arg13 harg13 x0 x1 x2 x3 xs0) (ix2 r e) = ((J.hnum (r : ℕ) e : ℝ) : EReal) := by
  have e0 := v152_at c i z hz arg1 harg1 arg2 harg2 arg3 harg3 arg4 harg4 arg13 harg13 arg14 X
  have e1 := v155_at c i z hz arg1 harg1 arg2 harg2 arg3 harg3 arg4 harg4 arg13 harg13 arg14 X
  pointwise [restRun.sl.v156, restRun.sl.cst_57, e0, e1]
  simp only [← EReal.coe_mul, ← EReal.coe_add, ← coe_sum]
  exact congrArg _ (hnum_pw J 256 r r.isLt e)

theorem v308_at (r : Fin 256) (e : Fin 512) : (restRun.sl.v308 c i arg1 harg1 arg2 harg2 arg3 harg3 arg4 harg4 arg13 harg13 x0 x1 x2 x3 xs0) (ix2 r e) = ((J.hnum (256 + r) e : ℝ) : EReal) := by
  have e0 := v305_at c i z hz arg1 harg1 arg2 harg2 arg3 harg3 arg4 harg4 arg13 harg13 arg14 X
  have e1 := v307_at c i z hz arg1 harg1 arg2 harg2 arg3 harg3 arg4 harg4 arg13 harg13 arg14 X
  pointwise [restRun.sl.v308, restRun.sl.cst_57, e0, e1]
  simp only [← EReal.coe_mul, ← EReal.coe_add, ← coe_sum]
  exact congrArg _ (hnum_pw J 512 (256 + r) (by omega) e)

theorem v488_at (r : Fin 256) (e : Fin 512) : (restRun.sl.v488 c i arg1 harg1 arg2 harg2 arg3 harg3 arg4 harg4 arg13 harg13 arg14 x0 x1 x2 x3 xs0) (ix2 r e) = ((∑ d, J.q (512 + r) d * J.Cs 512 d e : ℝ) : EReal) := by
  have e0 := v486_at c i z hz arg1 harg1 arg2 harg2 arg3 harg3 arg4 harg4 arg13 harg13 arg14 X
  have e1 := v487_at c i z hz arg1 harg1 arg2 harg2 arg3 harg3 arg4 harg4 arg13 harg13 arg14 X
  pointwise [restRun.sl.v488, restRun.sl.cst_57, e0, e1]
  simp only [← EReal.coe_mul, ← EReal.coe_add, ← coe_sum]
  refine congrArg _ ?_
  simp only [mul_zero, Finset.sum_const_zero, add_zero]
  refine Finset.sum_congr rfl fun d _ => ?_
  congr 2
  exact Fin.ext (Nat.mod_eq_of_lt d.isLt)

theorem v688_at (r : Fin 256) (e : Fin 512) : (restRun.sl.v688 c i arg1 harg1 arg2 harg2 arg3 harg3 arg4 harg4 arg13 harg13 arg14 x0 x1 x2 x3 xs0) (ix2 r e) = ((∑ d, J.q (768 + r) d * J.Cs 768 d e : ℝ) : EReal) := by
  have e0 := v686_at c i z hz arg1 harg1 arg2 harg2 arg3 harg3 arg4 harg4 arg13 harg13 arg14 X
  have e1 := v687_at c i z hz arg1 harg1 arg2 harg2 arg3 harg3 arg4 harg4 arg13 harg13 arg14 X
  pointwise [restRun.sl.v688, restRun.sl.cst_57, e0, e1]
  simp only [← EReal.coe_mul, ← EReal.coe_add, ← coe_sum]
  refine congrArg _ ?_
  simp only [mul_zero, Finset.sum_const_zero, add_zero]
  refine Finset.sum_congr rfl fun d _ => ?_
  congr 2
  exact Fin.ext (Nat.mod_eq_of_lt d.isLt)

theorem v491_at (r : Fin 256) (e : Fin 512) : (restRun.sl.v491 c i arg1 harg1 arg2 harg2 arg3 harg3 arg4 harg4 arg13 harg13 arg14 x0 x1 x2 x3 xs0) (ix2 r e) = ((J.hnum (512 + r) e : ℝ) : EReal) := by
  have e0 := v469_at c i z hz arg1 harg1 arg2 harg2 arg3 harg3 arg4 harg4 arg13 harg13 arg14 X
  have e1 := v472_at c i z hz arg1 harg1 arg2 harg2 arg3 harg3 arg4 harg4 arg13 harg13 arg14 X
  have e2 := v488_at c i z hz arg1 harg1 arg2 harg2 arg3 harg3 arg4 harg4 arg13 harg13 arg14 X
  have e3 := v489_at c i z hz arg1 harg1 arg2 harg2 arg3 harg3 arg4 harg4 arg13 harg13 arg14 X
  pointwise [restRun.sl.v491, restRun.sl.v473, restRun.sl.v490, restRun.sl.cst_57, e0, e1, e2, e3]
  simp only [← EReal.coe_mul, ← EReal.coe_add, ← coe_sum]
  exact congrArg _ (hnum_seg J 512 256 r r.isLt e)

theorem v691_at (r : Fin 256) (e : Fin 512) : (restRun.sl.v691 c i arg1 harg1 arg2 harg2 arg3 harg3 arg4 harg4 arg13 harg13 arg14 x0 x1 x2 x3 xs0) (ix2 r e) = ((J.hnum (768 + r) e : ℝ) : EReal) := by
  have e0 := v669_at c i z hz arg1 harg1 arg2 harg2 arg3 harg3 arg4 harg4 arg13 harg13 arg14 X
  have e1 := v672_at c i z hz arg1 harg1 arg2 harg2 arg3 harg3 arg4 harg4 arg13 harg13 arg14 X
  have e2 := v688_at c i z hz arg1 harg1 arg2 harg2 arg3 harg3 arg4 harg4 arg13 harg13 arg14 X
  have e3 := v689_at c i z hz arg1 harg1 arg2 harg2 arg3 harg3 arg4 harg4 arg13 harg13 arg14 X
  pointwise [restRun.sl.v691, restRun.sl.v673, restRun.sl.v690, restRun.sl.cst_57, e0, e1, e2, e3]
  simp only [← EReal.coe_mul, ← EReal.coe_add, ← coe_sum]
  exact congrArg _ (hnum_seg J 768 256 r r.isLt e)

theorem v172_at (r : Fin 256) : (restRun.sl.v172 c i arg13 harg13 xs0) (ix2 r 0) = Ideal.div ((Real.exp (-J.ms ((r : ℕ) + 1)) : ℝ) : EReal) ((J.qsc (r : ℕ) : ℝ) : EReal) := by
  have e0 := v162_at c i z hz arg1 harg1 arg2 harg2 arg3 harg3 arg4 harg4 arg13 harg13 arg14 X
  pointwise [restRun.sl.v172, restRun.sl.v171, restRun.sl.v166, restRun.sl.v170, restRun.sl.v165, restRun.sl.v169, restRun.sl.v164, restRun.sl.v168, restRun.sl.v163, restRun.sl.v167, e0]
  have hr := r.isLt
  by_cases h : (r : ℕ) < 128
  · simp only [h, ↓reduceDIte, ↓reduceIte]
  · simp only [h, ↓reduceDIte, ↓reduceIte, show 128 + ((r : ℕ) - 128) = r by omega]

theorem v181_at (hq : ∀ j, 0 ≤ J.qs j) (r : Fin 256) (e : Fin 512) : (restRun.sl.v181 c i arg1 harg1 arg2 harg2 arg3 harg3 arg4 harg4 arg13 harg13 x0 x1 x2 x3 xs0) (ix4 0 0 r e) = ((J.h (r : ℕ) e : ℝ) : EReal) := by
  have e0 := v156_at c i z hz arg1 harg1 arg2 harg2 arg3 harg3 arg4 harg4 arg13 harg13 arg14 X
  have e1 := v172_at c i z hz arg1 harg1 arg2 harg2 arg3 harg3 arg4 harg4 arg13 harg13 arg14 X
  have e2 := v157_at c i z hz arg1 harg1 arg2 harg2 arg3 harg3 arg4 harg4 arg13 harg13 arg14 X
  pointwise [restRun.sl.v181, restRun.sl.v178, restRun.sl.v177, restRun.sl.v176, restRun.sl.v175, restRun.sl.v174, restRun.sl.v173, restRun.sl.cst_61, restRun.sl.v159, restRun.sl.v158, absf_coe, ofBits_one', e0, e1, e2]
  exact h_fin _ _ _ _ (mul_nonneg (hq _) (by norm_num))

theorem v324_at (r : Fin 256) : (restRun.sl.v324 c i arg13 harg13 xs0) (ix2 r 0) = Ideal.div ((Real.exp (-J.ms ((256 + r) + 1)) : ℝ) : EReal) ((J.qsc (256 + r) : ℝ) : EReal) := by
  have e0 := v314_at c i z hz arg1 harg1 arg2 harg2 arg3 harg3 arg4 harg4 arg13 harg13 arg14 X
  pointwise [restRun.sl.v324, restRun.sl.v323, restRun.sl.v318, restRun.sl.v322, restRun.sl.v317, restRun.sl.v321, restRun.sl.v316, restRun.sl.v320, restRun.sl.v315, restRun.sl.v319, e0]
  have hr := r.isLt
  by_cases h : (r : ℕ) < 128
  · simp only [h, ↓reduceDIte, ↓reduceIte]
  · simp only [h, ↓reduceDIte, ↓reduceIte, show 128 + ((r : ℕ) - 128) = r by omega]

theorem v333_at (hq : ∀ j, 0 ≤ J.qs j) (r : Fin 256) (e : Fin 512) : (restRun.sl.v333 c i arg1 harg1 arg2 harg2 arg3 harg3 arg4 harg4 arg13 harg13 x0 x1 x2 x3 xs0) (ix4 0 0 r e) = ((J.h (256 + r) e : ℝ) : EReal) := by
  have e0 := v308_at c i z hz arg1 harg1 arg2 harg2 arg3 harg3 arg4 harg4 arg13 harg13 arg14 X
  have e1 := v324_at c i z hz arg1 harg1 arg2 harg2 arg3 harg3 arg4 harg4 arg13 harg13 arg14 X
  have e2 := v309_at c i z hz arg1 harg1 arg2 harg2 arg3 harg3 arg4 harg4 arg13 harg13 arg14 X
  pointwise [restRun.sl.v333, restRun.sl.v330, restRun.sl.v329, restRun.sl.v328, restRun.sl.v327, restRun.sl.v174, restRun.sl.v325, restRun.sl.cst_61, restRun.sl.v311, restRun.sl.v310, absf_coe, ofBits_one', e0, e1, e2]
  exact h_fin _ _ _ _ (mul_nonneg (hq _) (by norm_num))

theorem v515_at (r : Fin 256) : (restRun.sl.v515 c i arg13 harg13 xs0) (ix2 r 0) = Ideal.div ((Real.exp (-J.ms ((512 + r) + 1)) : ℝ) : EReal) ((J.qsc (512 + r) : ℝ) : EReal) := by
  have e0 := v505_at c i z hz arg1 harg1 arg2 harg2 arg3 harg3 arg4 harg4 arg13 harg13 arg14 X
  pointwise [restRun.sl.v515, restRun.sl.v514, restRun.sl.v509, restRun.sl.v513, restRun.sl.v508, restRun.sl.v512, restRun.sl.v507, restRun.sl.v511, restRun.sl.v506, restRun.sl.v510, e0]
  have hr := r.isLt
  by_cases h : (r : ℕ) < 128
  · simp only [h, ↓reduceDIte, ↓reduceIte]
  · simp only [h, ↓reduceDIte, ↓reduceIte, show 128 + ((r : ℕ) - 128) = r by omega]

theorem v524_at (hq : ∀ j, 0 ≤ J.qs j) (r : Fin 256) (e : Fin 512) : (restRun.sl.v524 c i arg1 harg1 arg2 harg2 arg3 harg3 arg4 harg4 arg13 harg13 arg14 x0 x1 x2 x3 xs0) (ix4 0 0 r e) = ((J.h (512 + r) e : ℝ) : EReal) := by
  have e0 := v491_at c i z hz arg1 harg1 arg2 harg2 arg3 harg3 arg4 harg4 arg13 harg13 arg14 X
  have e1 := v515_at c i z hz arg1 harg1 arg2 harg2 arg3 harg3 arg4 harg4 arg13 harg13 arg14 X
  have e2 := v500_at c i z hz arg1 harg1 arg2 harg2 arg3 harg3 arg4 harg4 arg13 harg13 arg14 X
  pointwise [restRun.sl.v524, restRun.sl.v521, restRun.sl.v520, restRun.sl.v519, restRun.sl.v518, restRun.sl.v174, restRun.sl.v516, restRun.sl.cst_61, restRun.sl.v502, restRun.sl.v501, absf_coe, ofBits_one', e0, e1, e2]
  exact h_fin _ _ _ _ (mul_nonneg (hq _) (by norm_num))

theorem v715_at (r : Fin 256) : (restRun.sl.v715 c i arg13 harg13 xs0) (ix2 r 0) = Ideal.div ((Real.exp (-J.ms ((768 + r) + 1)) : ℝ) : EReal) ((J.qsc (768 + r) : ℝ) : EReal) := by
  have e0 := v705_at c i z hz arg1 harg1 arg2 harg2 arg3 harg3 arg4 harg4 arg13 harg13 arg14 X
  pointwise [restRun.sl.v715, restRun.sl.v714, restRun.sl.v709, restRun.sl.v713, restRun.sl.v708, restRun.sl.v712, restRun.sl.v707, restRun.sl.v711, restRun.sl.v706, restRun.sl.v710, e0]
  have hr := r.isLt
  by_cases h : (r : ℕ) < 128
  · simp only [h, ↓reduceDIte, ↓reduceIte]
  · simp only [h, ↓reduceDIte, ↓reduceIte, show 128 + ((r : ℕ) - 128) = r by omega]

theorem v724_at (hq : ∀ j, 0 ≤ J.qs j) (r : Fin 256) (e : Fin 512) : (restRun.sl.v724 c i arg1 harg1 arg2 harg2 arg3 harg3 arg4 harg4 arg13 harg13 arg14 x0 x1 x2 x3 xs0) (ix4 0 0 r e) = ((J.h (768 + r) e : ℝ) : EReal) := by
  have e0 := v691_at c i z hz arg1 harg1 arg2 harg2 arg3 harg3 arg4 harg4 arg13 harg13 arg14 X
  have e1 := v715_at c i z hz arg1 harg1 arg2 harg2 arg3 harg3 arg4 harg4 arg13 harg13 arg14 X
  have e2 := v700_at c i z hz arg1 harg1 arg2 harg2 arg3 harg3 arg4 harg4 arg13 harg13 arg14 X
  pointwise [restRun.sl.v724, restRun.sl.v721, restRun.sl.v720, restRun.sl.v719, restRun.sl.v718, restRun.sl.v174, restRun.sl.v716, restRun.sl.cst_61, restRun.sl.v702, restRun.sl.v701, absf_coe, ofBits_one', e0, e1, e2]
  exact h_fin _ _ _ _ (mul_nonneg (hq _) (by norm_num))

end

end Cert.KernelIdeal.Val

end
-- ==== Proof.KI.Vals1.lean ====
module

public import proofs.«01_k».proof.Proof.KI.Rows
public import proofs.«01_k».proof.Proof.KI.Rest3

@[expose] public section

set_option maxRecDepth 16384

/-!
# The contents the three stretches leave, as reals

The pieces a stretch stores, put together.
-/

noncomputable section

namespace Cert.KernelIdeal.Val

open Idealize.ShloMosaic Idealize.SL.Sem Cert.KernelIdeal Cert.KernelIdeal.Gen Cert.KernelIdeal.Run Cert.M

theorem ln2_eq : (Named.named (F := Ideal) κ "ln2" 0x3F317218#32 : Ideal .f32) = ((Real.log 2 : ℝ) : EReal) := by
  rfl

/-- Row `i` of the gate values at time `s`. -/
def rowVal (J : Inp) (i : Fin 6) (s : ℕ) : EReal :=
  if i = 0 then (((J.G s + J.Fp (sa s)) * l2 : ℝ) : EReal)
  else if i = 1 then (((J.Fp (sa s) + J.mu (s + 1)) * l2 : ℝ) : EReal)
  else if i = 2 then Ideal.div ((Real.exp (-J.ms (s + 1)) : ℝ) : EReal) ((J.qsc s : ℝ) : EReal)
  else if i = 3 then ((Real.exp (J.mu (sa s) - J.mu (s + 1)) : ℝ) : EReal)
  else if i = 4 then ((Real.exp (J.G s - J.mu (se s)) : ℝ) : EReal)
  else ((J.vs (s / 64) : ℝ) : EReal)

theorem rowVal_0 (J : Inp) (s : ℕ) : rowVal J 0 s = (((J.G s + J.Fp (sa s)) * l2 : ℝ) : EReal) := rfl
theorem rowVal_1 (J : Inp) (s : ℕ) : rowVal J 1 s = (((J.Fp (sa s) + J.mu (s + 1)) * l2 : ℝ) : EReal) := rfl
theorem rowVal_2 (J : Inp) (s : ℕ) : rowVal J 2 s = Ideal.div ((Real.exp (-J.ms (s + 1)) : ℝ) : EReal) ((J.qsc s : ℝ) : EReal) := rfl
theorem rowVal_3 (J : Inp) (s : ℕ) : rowVal J 3 s = ((Real.exp (J.mu (sa s) - J.mu (s + 1)) : ℝ) : EReal) := rfl
theorem rowVal_4 (J : Inp) (s : ℕ) : rowVal J 4 s = ((Real.exp (J.G s - J.mu (se s)) : ℝ) : EReal) := rfl
theorem rowVal_5 (J : Inp) (s : ℕ) : rowVal J 5 s = ((J.vs (s / 64) : ℝ) : EReal) := rfl

/-- All six rows of all heads. -/
def rowsG (I : Fin 8 → Inp) : Vec Ideal S6x8x1024 .f32 := fun y => rowVal (I (y 1)) (y 0) (y 2).val

/-- A stored block of a row agrees with the rows. -/
theorem piece_ok (I : Fin 8 → Inp) (r : Fin 6) (o : ℕ) {off : Fin 3 → ℕ} (ho : off = ![(r : ℕ), 0, o]) (w : Vec Ideal S1x8x128 .f32) {inb}
    (h : ∀ (z : Fin 8) (l : Fin 128), w (ix3 0 z l) = rowVal (I z) r (o + l)) :
    ∀ x : S1x8x128.Idx, w x = rowsG I ((Rect.unit (s := S6x8x1024) off S1x8x128.size inb).emb x) := by
  subst ho
  intro x
  have hx0 : (x 0).val = 0 := Nat.lt_one_iff.mp (x 0).isLt
  have e : x = ix3 0 (x 1) (x 2) := by
    funext a
    fin_cases a
    · exact Fin.ext hx0
    · rfl
    · rfl
  refine (congrArg w e).trans ((h (x 1) (x 2)).trans ?_)
  unfold rowsG
  have e0 : (Rect.unit (s := S6x8x1024) ![(r : ℕ), 0, o] S1x8x128.size inb).emb x 0 = r := Fin.ext (by
    rw [Rect.emb_apply]; show (r : ℕ) + 1 * (x 0).val = r; omega)
  have e1 : (Rect.unit (s := S6x8x1024) ![(r : ℕ), 0, o] S1x8x128.size inb).emb x 1 = x 1 := Fin.ext (by
    rw [Rect.emb_apply]; show 0 + 1 * (x 1).val = (x 1).val; omega)
  have e2 : ((Rect.unit (s := S6x8x1024) ![(r : ℕ), 0, o] S1x8x128.size inb).emb x 2).val = o + (x 2).val := by
    rw [Rect.emb_apply]; show o + 1 * (x 2).val = _; omega
  rw [e0, e1, e2]

/-- The gate rows the first head leaves. -/
theorem gRows_eq (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec Ideal S2x4x16 .f32) (x5 : Vec Ideal S2x4x16 .f32) (x6 : Vec Ideal S2x4x1024 .f32) (x7 : Vec Ideal S2x4x1024 .f32) {I : Fin 8 → Inp} (X : GIn I x4 x5 x6 x7) :
    gRows (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7 = rowsG I := by
  funext y
  unfold gRows
  refine View.read_writes_apply_of_pieces _ _ _ _ ?_ y (coverR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7 y)
  unfold gatesRun
  dsimp only
  refine List.forall_mem_cons.2 ⟨piece_ok I 4 896 rfl (inb := by decide) _ fun z l => ?_, ?_⟩
  · have hl := l.isLt
    rw [rowVal_4, se_of _ 1024 (by omega)]
    exact row4_7 c arg5 harg5 arg6 harg6 arg7 harg7 arg8 harg8 X z l
  refine List.forall_mem_cons.2 ⟨piece_ok I 4 768 rfl (inb := by decide) _ fun z l => ?_, ?_⟩
  · have hl := l.isLt
    rw [rowVal_4, se_of _ 1024 (by omega)]
    exact row4_6 c arg5 harg5 arg6 harg6 arg7 harg7 arg8 harg8 X z l
  refine List.forall_mem_cons.2 ⟨piece_ok I 5 896 rfl (inb := by decide) _ fun z l => ?_, ?_⟩
  · have hl := l.isLt
    rw [rowVal_5]
    exact row5_7 c arg5 harg5 arg6 harg6 arg7 harg7 arg8 harg8 X z l
  refine List.forall_mem_cons.2 ⟨piece_ok I 3 896 rfl (inb := by decide) _ fun z l => ?_, ?_⟩
  · have hl := l.isLt
    rw [rowVal_3, sa_of _ 768 (by omega)]
    exact row3_7 c arg5 harg5 arg6 harg6 arg7 harg7 arg8 harg8 X z l
  refine List.forall_mem_cons.2 ⟨piece_ok I 2 896 rfl (inb := by decide) _ fun z l => ?_, ?_⟩
  · have hl := l.isLt
    rw [rowVal_2]
    exact row2_7 c arg5 harg5 arg6 harg6 arg7 harg7 arg8 harg8 X z l
  refine List.forall_mem_cons.2 ⟨piece_ok I 1 896 rfl (inb := by decide) _ fun z l => ?_, ?_⟩
  · have hl := l.isLt
    rw [rowVal_1, sa_of _ 768 (by omega)]
    exact row1_7 c arg5 harg5 arg6 harg6 arg7 harg7 arg8 harg8 X z l
  refine List.forall_mem_cons.2 ⟨piece_ok I 0 896 rfl (inb := by decide) _ fun z l => ?_, ?_⟩
  · have hl := l.isLt
    rw [rowVal_0, sa_of _ 768 (by omega)]
    exact row0_7 c arg5 harg5 arg6 harg6 arg7 harg7 arg8 harg8 X z l
  refine List.forall_mem_cons.2 ⟨piece_ok I 5 768 rfl (inb := by decide) _ fun z l => ?_, ?_⟩
  · have hl := l.isLt
    rw [rowVal_5]
    exact row5_6 c arg5 harg5 arg6 harg6 arg7 harg7 arg8 harg8 X z l
  refine List.forall_mem_cons.2 ⟨piece_ok I 3 768 rfl (inb := by decide) _ fun z l => ?_, ?_⟩
  · have hl := l.isLt
    rw [rowVal_3, sa_of _ 768 (by omega)]
    exact row3_6 c arg5 harg5 arg6 harg6 arg7 harg7 arg8 harg8 X z l
  refine List.forall_mem_cons.2 ⟨piece_ok I 2 768 rfl (inb := by decide) _ fun z l => ?_, ?_⟩
  · have hl := l.isLt
    rw [rowVal_2]
    exact row2_6 c arg5 harg5 arg6 harg6 arg7 harg7 arg8 harg8 X z l
  refine List.forall_mem_cons.2 ⟨piece_ok I 1 768 rfl (inb := by decide) _ fun z l => ?_, ?_⟩
  · have hl := l.isLt
    rw [rowVal_1, sa_of _ 768 (by omega)]
    exact row1_6 c arg5 harg5 arg6 harg6 arg7 harg7 arg8 harg8 X z l
  refine List.forall_mem_cons.2 ⟨piece_ok I 0 768 rfl (inb := by decide) _ fun z l => ?_, ?_⟩
  · have hl := l.isLt
    rw [rowVal_0, sa_of _ 768 (by omega)]
    exact row0_6 c arg5 harg5 arg6 harg6 arg7 harg7 arg8 harg8 X z l
  refine List.forall_mem_cons.2 ⟨piece_ok I 4 640 rfl (inb := by decide) _ fun z l => ?_, ?_⟩
  · have hl := l.isLt
    rw [rowVal_4, se_of _ 768 (by omega)]
    exact row4_5 c arg5 harg5 arg6 harg6 arg7 harg7 arg8 harg8 X z l
  refine List.forall_mem_cons.2 ⟨piece_ok I 4 512 rfl (inb := by decide) _ fun z l => ?_, ?_⟩
  · have hl := l.isLt
    rw [rowVal_4, se_of _ 768 (by omega)]
    exact row4_4 c arg5 harg5 arg6 harg6 arg7 harg7 arg8 harg8 X z l
  refine List.forall_mem_cons.2 ⟨piece_ok I 5 640 rfl (inb := by decide) _ fun z l => ?_, ?_⟩
  · have hl := l.isLt
    rw [rowVal_5]
    exact row5_5 c arg5 harg5 arg6 harg6 arg7 harg7 arg8 harg8 X z l
  refine List.forall_mem_cons.2 ⟨piece_ok I 3 640 rfl (inb := by decide) _ fun z l => ?_, ?_⟩
  · have hl := l.isLt
    rw [rowVal_3, sa_of _ 512 (by omega)]
    exact row3_5 c arg5 harg5 arg6 harg6 arg7 harg7 arg8 harg8 X z l
  refine List.forall_mem_cons.2 ⟨piece_ok I 2 640 rfl (inb := by decide) _ fun z l => ?_, ?_⟩
  · have hl := l.isLt
    rw [rowVal_2]
    exact row2_5 c arg5 harg5 arg6 harg6 arg7 harg7 arg8 harg8 X z l
  refine List.forall_mem_cons.2 ⟨piece_ok I 1 640 rfl (inb := by decide) _ fun z l => ?_, ?_⟩
  · have hl := l.isLt
    rw [rowVal_1, sa_of _ 512 (by omega)]
    exact row1_5 c arg5 harg5 arg6 harg6 arg7 harg7 arg8 harg8 X z l
  refine List.forall_mem_cons.2 ⟨piece_ok I 0 640 rfl (inb := by decide) _ fun z l => ?_, ?_⟩
  · have hl := l.isLt
    rw [rowVal_0, sa_of _ 512 (by omega)]
    exact row0_5 c arg5 harg5 arg6 harg6 arg7 harg7 arg8 harg8 X z l
  refine List.forall_mem_cons.2 ⟨piece_ok I 5 512 rfl (inb := by decide) _ fun z l => ?_, ?_⟩
  · have hl := l.isLt
    rw [rowVal_5]
    exact row5_4 c arg5 harg5 arg6 harg6 arg7 harg7 arg8 harg8 X z l
  refine List.forall_mem_cons.2 ⟨piece_ok I 3 512 rfl (inb := by decide) _ fun z l => ?_, ?_⟩
  · have hl := l.isLt
    rw [rowVal_3, sa_of _ 512 (by omega)]
    exact row3_4 c arg5 harg5 arg6 harg6 arg7 harg7 arg8 harg8 X z l
  refine List.forall_mem_cons.2 ⟨piece_ok I 2 512 rfl (inb := by decide) _ fun z l => ?_, ?_⟩
  · have hl := l.isLt
    rw [rowVal_2]
    exact row2_4 c arg5 harg5 arg6 harg6 arg7 harg7 arg8 harg8 X z l
  refine List.forall_mem_cons.2 ⟨piece_ok I 1 512 rfl (inb := by decide) _ fun z l => ?_, ?_⟩
  · have hl := l.isLt
    rw [rowVal_1, sa_of _ 512 (by omega)]
    exact row1_4 c arg5 harg5 arg6 harg6 arg7 harg7 arg8 harg8 X z l
  refine List.forall_mem_cons.2 ⟨piece_ok I 0 512 rfl (inb := by decide) _ fun z l => ?_, ?_⟩
  · have hl := l.isLt
    rw [rowVal_0, sa_of _ 512 (by omega)]
    exact row0_4 c arg5 harg5 arg6 harg6 arg7 harg7 arg8 harg8 X z l
  refine List.forall_mem_cons.2 ⟨piece_ok I 4 384 rfl (inb := by decide) _ fun z l => ?_, ?_⟩
  · have hl := l.isLt
    rw [rowVal_4, se_of _ 512 (by omega)]
    exact row4_3 c arg5 harg5 arg6 harg6 arg7 harg7 arg8 harg8 X z l
  refine List.forall_mem_cons.2 ⟨piece_ok I 4 256 rfl (inb := by decide) _ fun z l => ?_, ?_⟩
  · have hl := l.isLt
    rw [rowVal_4, se_of _ 512 (by omega)]
    exact row4_2 c arg5 harg5 arg6 harg6 arg7 harg7 arg8 harg8 X z l
  refine List.forall_mem_cons.2 ⟨piece_ok I 4 128 rfl (inb := by decide) _ fun z l => ?_, ?_⟩
  · have hl := l.isLt
    rw [rowVal_4, se_of _ 512 (by omega)]
    exact row4_1 c arg5 harg5 arg6 harg6 arg7 harg7 arg8 harg8 X z l
  refine List.forall_mem_cons.2 ⟨piece_ok I 4 0 rfl (inb := by decide) _ fun z l => ?_, ?_⟩
  · have hl := l.isLt
    rw [rowVal_4, Nat.zero_add, se_of _ 512 (by omega)]
    exact row4_0 c arg5 harg5 arg6 harg6 arg7 harg7 arg8 harg8 X z l
  refine List.forall_mem_cons.2 ⟨piece_ok I 5 384 rfl (inb := by decide) _ fun z l => ?_, ?_⟩
  · have hl := l.isLt
    rw [rowVal_5]
    exact row5_3 c arg5 harg5 arg6 harg6 arg7 harg7 arg8 harg8 X z l
  refine List.forall_mem_cons.2 ⟨piece_ok I 3 384 rfl (inb := by decide) _ fun z l => ?_, ?_⟩
  · have hl := l.isLt
    rw [rowVal_3, sa_of _ 0 (by omega)]
    exact row3_3 c arg5 harg5 arg6 harg6 arg7 harg7 arg8 harg8 X z l
  refine List.forall_mem_cons.2 ⟨piece_ok I 2 384 rfl (inb := by decide) _ fun z l => ?_, ?_⟩
  · have hl := l.isLt
    rw [rowVal_2]
    exact row2_3 c arg5 harg5 arg6 harg6 arg7 harg7 arg8 harg8 X z l
  refine List.forall_mem_cons.2 ⟨piece_ok I 1 384 rfl (inb := by decide) _ fun z l => ?_, ?_⟩
  · have hl := l.isLt
    rw [rowVal_1, sa_of _ 0 (by omega)]
    exact row1_3 c arg5 harg5 arg6 harg6 arg7 harg7 arg8 harg8 X z l
  refine List.forall_mem_cons.2 ⟨piece_ok I 0 384 rfl (inb := by decide) _ fun z l => ?_, ?_⟩
  · have hl := l.isLt
    rw [rowVal_0, sa_of _ 0 (by omega)]
    exact row0_3 c arg5 harg5 arg6 harg6 arg7 harg7 arg8 harg8 X z l
  refine List.forall_mem_cons.2 ⟨piece_ok I 5 256 rfl (inb := by decide) _ fun z l => ?_, ?_⟩
  · have hl := l.isLt
    rw [rowVal_5]
    exact row5_2 c arg5 harg5 arg6 harg6 arg7 harg7 arg8 harg8 X z l
  refine List.forall_mem_cons.2 ⟨piece_ok I 3 256 rfl (inb := by decide) _ fun z l => ?_, ?_⟩
  · have hl := l.isLt
    rw [rowVal_3, sa_of _ 0 (by omega)]
    exact row3_2 c arg5 harg5 arg6 harg6 arg7 harg7 arg8 harg8 X z l
  refine List.forall_mem_cons.2 ⟨piece_ok I 2 256 rfl (inb := by decide) _ fun z l => ?_, ?_⟩
  · have hl := l.isLt
    rw [rowVal_2]
    exact row2_2 c arg5 harg5 arg6 harg6 arg7 harg7 arg8 harg8 X z l
  refine List.forall_mem_cons.2 ⟨piece_ok I 1 256 rfl (inb := by decide) _ fun z l => ?_, ?_⟩
  · have hl := l.isLt
    rw [rowVal_1, sa_of _ 0 (by omega)]
    exact row1_2 c arg5 harg5 arg6 harg6 arg7 harg7 arg8 harg8 X z l
  refine List.forall_mem_cons.2 ⟨piece_ok I 0 256 rfl (inb := by decide) _ fun z l => ?_, ?_⟩
  · have hl := l.isLt
    rw [rowVal_0, sa_of _ 0 (by omega)]
    exact row0_2 c arg5 harg5 arg6 harg6 arg7 harg7 arg8 harg8 X z l
  refine List.forall_mem_cons.2 ⟨piece_ok I 5 128 rfl (inb := by decide) _ fun z l => ?_, ?_⟩
  · have hl := l.isLt
    rw [rowVal_5]
    exact row5_1 c arg5 harg5 arg6 harg6 arg7 harg7 arg8 harg8 X z l
  refine List.forall_mem_cons.2 ⟨piece_ok I 3 128 rfl (inb := by decide) _ fun z l => ?_, ?_⟩
  · have hl := l.isLt
    rw [rowVal_3, sa_of _ 0 (by omega)]
    exact row3_1 c arg5 harg5 arg6 harg6 arg7 harg7 arg8 harg8 X z l
  refine List.forall_mem_cons.2 ⟨piece_ok I 2 128 rfl (inb := by decide) _ fun z l => ?_, ?_⟩
  · have hl := l.isLt
    rw [rowVal_2]
    exact row2_1 c arg5 harg5 arg6 harg6 arg7 harg7 arg8 harg8 X z l
  refine List.forall_mem_cons.2 ⟨piece_ok I 1 128 rfl (inb := by decide) _ fun z l => ?_, ?_⟩
  · have hl := l.isLt
    rw [rowVal_1, sa_of _ 0 (by omega)]
    exact row1_1 c arg5 harg5 arg6 harg6 arg7 harg7 arg8 harg8 X z l
  refine List.forall_mem_cons.2 ⟨piece_ok I 0 128 rfl (inb := by decide) _ fun z l => ?_, ?_⟩
  · have hl := l.isLt
    rw [rowVal_0, sa_of _ 0 (by omega)]
    exact row0_1 c arg5 harg5 arg6 harg6 arg7 harg7 arg8 harg8 X z l
  refine List.forall_mem_cons.2 ⟨piece_ok I 5 0 rfl (inb := by decide) _ fun z l => ?_, ?_⟩
  · have hl := l.isLt
    rw [rowVal_5, Nat.zero_add]
    exact row5_0 c arg5 harg5 arg6 harg6 arg7 harg7 arg8 harg8 X z l
  refine List.forall_mem_cons.2 ⟨piece_ok I 3 0 rfl (inb := by decide) _ fun z l => ?_, ?_⟩
  · have hl := l.isLt
    rw [rowVal_3, Nat.zero_add, sa_of _ 0 (by omega)]
    exact row3_0 c arg5 harg5 arg6 harg6 arg7 harg7 arg8 harg8 X z l
  refine List.forall_mem_cons.2 ⟨piece_ok I 2 0 rfl (inb := by decide) _ fun z l => ?_, ?_⟩
  · have hl := l.isLt
    rw [rowVal_2, Nat.zero_add]
    exact row2_0 c arg5 harg5 arg6 harg6 arg7 harg7 arg8 harg8 X z l
  refine List.forall_mem_cons.2 ⟨piece_ok I 1 0 rfl (inb := by decide) _ fun z l => ?_, ?_⟩
  · have hl := l.isLt
    rw [rowVal_1, Nat.zero_add, sa_of _ 0 (by omega)]
    exact row1_0 c arg5 harg5 arg6 harg6 arg7 harg7 arg8 harg8 X z l
  refine List.forall_mem_cons.2 ⟨piece_ok I 0 0 rfl (inb := by decide) _ fun z l => ?_, ?_⟩
  · have hl := l.isLt
    rw [rowVal_0, Nat.zero_add, sa_of _ 0 (by omega)]
    exact row0_0 c arg5 harg5 arg6 harg6 arg7 harg7 arg8 harg8 X z l
  exact fun p hp => absurd hp List.not_mem_nil

/-- The final running maxima the first head leaves. -/
theorem gMfin_at (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : cond0 i) (x4 : Vec Ideal S2x4x16 .f32) (x5 : Vec Ideal S2x4x16 .f32) (x6 : Vec Ideal S2x4x1024 .f32) (x7 : Vec Ideal S2x4x1024 .f32) {I : Fin 8 → Inp} (X : GIn I x4 x5 x6 x7) (z : Fin 8) (l : Fin 128) :
    gMfin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x4 x5 x6 x7 (ix2 z l) = (((I z).ms 1024 : ℝ) : EReal) := by
  have a0 := v1415_at c arg5 harg5 arg6 harg6 arg7 harg7 arg8 harg8 X
  have b0 := v855_at c arg5 harg5 arg6 harg6 arg7 harg7 arg8 harg8 X
  unfold gMfin gatesRun
  dsimp only
  rw [View.read_writes_cons_hit_of_coords _ _ _ _ _ (ix2 z l) _ (by intro a; fin_cases a <;> simp [Rect.unit, ix2])]
  unfold gatesRun.sl.v1485
  pointwise [k0_pay122, k0_pay121, a0, b0, ln2_eq, log2e_eq]
  simp only [← EReal.coe_mul, ← EReal.coe_add]
  refine congrArg _ ?_
  rw [← add_mul, mul_l2, Inp.ms]
  norm_num
  try ring

/-- The result of the running maxima. -/
theorem mOut_at (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (hc : k0_cond2 i = 1#1) (y0 : Vec Ideal S8x128 .f32) (J : Fin 8 → ℝ) (hy : ∀ z l, y0 (ix2 z l) = (J z : EReal)) (b : Fin 2) (h : Fin 4) :
    mOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc y0 (ix2 b h) = (J (zz b h) : EReal) := by
  unfold mOut mRun
  dsimp only
  have H : ∀ (o : ℕ) (inb) (k : Fin 4) (l : Fin 128) (ho : o + k < 8), (View.readAt (Elt Ideal) arg15.view (Rect.unit (s := S8x128) ![o, 0] S4x128.size inb).toLoadRect (harg15.unread y0) : Vec Ideal S4x128 .f32) (ix2 k l) = (J ⟨o + k, ho⟩ : EReal) := by
    intro o inb k l ho
    rw [View.readAt_eq_ld, Memref.IsWhole.read_unread]
    refine Eq.trans (View.ld_unit_apply_of _ _ _ _ _ (ix2 ⟨o + k, ho⟩ l) fun a => ?_) (hy _ _)
    fin_cases a
    · rfl
    · exact (Nat.zero_add _).symm
  fin_cases b
  · refine (View.read_writes_cons_miss_of_axis _ _ _ _ _ 0 1 1 rfl rfl rfl (Or.inl Nat.zero_lt_one)).trans ?_
    refine (View.read_writes_cons_hit_of_coords _ _ (Rect.unit (s := S2x4) ![0, 0] S1x4.size _) _ _ (ix2 (0 : Fin 1) h) _ ?_).trans ?_
    · intro a; fin_cases a <;> simp [Rect.unit, ix2]
    have H0 := fun k l => H 0 inb_S8x128_S4x128_0_0 k l (by omega)
    generalize (View.readAt (Elt Ideal) arg15.view (Rect.unit (s := S8x128) ![0, 0] S4x128.size inb_S8x128_S4x128_0_0).toLoadRect (harg15.unread y0) : Vec Ideal S4x128 .f32) = f at H0 ⊢
    pointwise [k0_pay2, H0]
    refine congrArg (fun z => (J z : EReal)) (Fin.ext ?_)
    simp [zz]
  · refine (View.read_writes_cons_hit_of_coords _ _ (Rect.unit (s := S2x4) ![1, 0] S1x4.size _) _ _ (ix2 (0 : Fin 1) h) _ ?_).trans ?_
    · intro a; fin_cases a <;> simp [Rect.unit, ix2]
    have H0 := fun k l => H 4 inb_S8x128_S4x128_4_0 k l (by omega)
    generalize (View.readAt (Elt Ideal) arg15.view (Rect.unit (s := S8x128) ![4, 0] S4x128.size inb_S8x128_S4x128_4_0).toLoadRect (harg15.unread y0) : Vec Ideal S4x128 .f32) = f at H0 ⊢
    pointwise [k0_pay3, H0]
    refine congrArg (fun z => (J z : EReal)) (Fin.ext ?_)
    simp [zz]

/-- The hidden states a head leaves. -/
theorem hOut_at (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec Ideal S1x1x1024x256 .fp8e4m3) (x1 : Vec Ideal S1x1x1024x256 .fp8e4m3) (x2 : Vec Ideal S1x1x1024x512 .fp8e4m3) (x3 : Vec Ideal S1x1x16x256 .f32) (xs0 : Vec Ideal S6x8x1024 .f32) {J : Inp} (z : Fin 8) (hz : (i 0).val = z) (X : RIn J z x0 x1 x2 x3 xs0) (hq : ∀ j, 0 ≤ J.qs j) (s : Fin 1024) (e : Fin 512) :
    hOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0 (ix4 0 0 s e) = ((J.h s e : ℝ) : EReal) := by
  unfold hOut restRun
  dsimp only
  have hs := s.isLt
  by_cases h768 : 768 ≤ (s : ℕ)
  · have hj : (s : ℕ) - 768 < 256 := by omega
    refine (View.read_writes_cons_hit_of_coords _ _ (Rect.unit (s := S1x1x1024x512) ![0, 0, 768, 0] S1x1x256x512.size _) _ _ (ix4 0 0 (⟨s - 768, hj⟩ : Fin 256) e) _ ?_).trans ?_
    · intro a; fin_cases a <;> simp [Rect.unit, ix4] <;> omega
    refine (v724_at c i z hz arg1 harg1 arg2 harg2 arg3 harg3 arg4 harg4 arg13 harg13 arg14 X hq (⟨s - 768, hj⟩ : Fin 256) e).trans ?_
    refine congrArg (fun t => ((J.h t e : ℝ) : EReal)) ?_
    show 768 + ((s : ℕ) - 768) = s
    omega
  refine (View.read_writes_cons_miss_of_axis _ _ _ _ _ 2 768 256 rfl rfl rfl (Or.inl (by show (s : ℕ) < 768; omega))).trans ?_
  by_cases h512 : 512 ≤ (s : ℕ)
  · have hj : (s : ℕ) - 512 < 256 := by omega
    refine (View.read_writes_cons_hit_of_coords _ _ (Rect.unit (s := S1x1x1024x512) ![0, 0, 512, 0] S1x1x256x512.size _) _ _ (ix4 0 0 (⟨s - 512, hj⟩ : Fin 256) e) _ ?_).trans ?_
    · intro a; fin_cases a <;> simp [Rect.unit, ix4] <;> omega
    refine (v524_at c i z hz arg1 harg1 arg2 harg2 arg3 harg3 arg4 harg4 arg13 harg13 arg14 X hq (⟨s - 512, hj⟩ : Fin 256) e).trans ?_
    refine congrArg (fun t => ((J.h t e : ℝ) : EReal)) ?_
    show 512 + ((s : ℕ) - 512) = s
    omega
  refine (View.read_writes_cons_miss_of_axis _ _ _ _ _ 2 512 256 rfl rfl rfl (Or.inl (by show (s : ℕ) < 512; omega))).trans ?_
  by_cases h256 : 256 ≤ (s : ℕ)
  · have hj : (s : ℕ) - 256 < 256 := by omega
    refine (View.read_writes_cons_hit_of_coords _ _ (Rect.unit (s := S1x1x1024x512) ![0, 0, 256, 0] S1x1x256x512.size _) _ _ (ix4 0 0 (⟨s - 256, hj⟩ : Fin 256) e) _ ?_).trans ?_
    · intro a; fin_cases a <;> simp [Rect.unit, ix4] <;> omega
    refine (v333_at c i z hz arg1 harg1 arg2 harg2 arg3 harg3 arg4 harg4 arg13 harg13 arg14 X hq (⟨s - 256, hj⟩ : Fin 256) e).trans ?_
    refine congrArg (fun t => ((J.h t e : ℝ) : EReal)) ?_
    show 256 + ((s : ℕ) - 256) = s
    omega
  refine (View.read_writes_cons_miss_of_axis _ _ _ _ _ 2 256 256 rfl rfl rfl (Or.inl (by show (s : ℕ) < 256; omega))).trans ?_
  have hj : (s : ℕ) < 256 := by omega
  refine (View.read_writes_cons_hit_of_coords _ _ (Rect.unit (s := S1x1x1024x512) ![0, 0, 0, 0] S1x1x256x512.size _) _ _ (ix4 0 0 (⟨s, hj⟩ : Fin 256) e) _ ?_).trans ?_
  · intro a; fin_cases a <;> simp [Rect.unit, ix4]
  refine (v181_at c i z hz arg1 harg1 arg2 harg2 arg3 harg3 arg4 harg4 arg13 harg13 arg14 X hq (⟨s, hj⟩ : Fin 256) e).trans ?_
  rfl

/-- The final memory of a head. -/
theorem cOut_at (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec Ideal S1x1x1024x256 .fp8e4m3) (x1 : Vec Ideal S1x1x1024x256 .fp8e4m3) (x2 : Vec Ideal S1x1x1024x512 .fp8e4m3) (x3 : Vec Ideal S1x1x16x256 .f32) (xs0 : Vec Ideal S6x8x1024 .f32) {J : Inp} (z : Fin 8) (hz : (i 0).val = z) (X : RIn J z x0 x1 x2 x3 xs0) (d : Fin 256) (e : Fin 512) :
    cOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0 (ix4 0 0 d e) = ((J.Cs 1024 d e : ℝ) : EReal) := by
  have H := v745_at c i z hz arg1 harg1 arg2 harg2 arg3 harg3 arg4 harg4 arg13 harg13 arg14 X
  unfold cOut restRun
  dsimp only
  rw [View.read_writes_cons_hit_of_coords _ _ _ _ _ (ix4 0 0 d e) _ (by intro a; fin_cases a <;> simp [Rect.unit, ix4])]
  pointwise [k0_pay240, H]

/-- The final normaliser of a head. -/
theorem nPay_at (c : Dev nD) (i : grid0.Coords) (arg1 : Memref sig .tc .vmem S1x1x1024x256 .fp8e4m3) (harg1 : arg1.IsWhole) (arg2 : Memref sig .tc .vmem S1x1x1024x256 .fp8e4m3) (harg2 : arg2.IsWhole) (arg3 : Memref sig .tc .vmem S1x1x1024x512 .fp8e4m3) (harg3 : arg3.IsWhole) (arg4 : Memref sig .tc .vmem S1x1x16x256 .f32) (harg4 : arg4.IsWhole) (arg5 : Memref sig .tc .vmem S2x4x16 .f32) (harg5 : arg5.IsWhole) (arg6 : Memref sig .tc .vmem S2x4x16 .f32) (harg6 : arg6.IsWhole) (arg7 : Memref sig .tc .vmem S2x4x1024 .f32) (harg7 : arg7.IsWhole) (arg8 : Memref sig .tc .vmem S2x4x1024 .f32) (harg8 : arg8.IsWhole) (arg9 : Memref sig .tc .vmem S1x1x1024x512 .bf16) (harg9 : arg9.IsWhole) (arg10 : Memref sig .tc .vmem S1x1x256x512 .f32) (harg10 : arg10.IsWhole) (arg11 : Memref sig .tc .vmem S2x4x256 .f32) (harg11 : arg11.IsWhole) (arg12 : Memref sig .tc .vmem S2x4 .f32) (harg12 : arg12.IsWhole) (arg13 : Memref sig .tc .vmem S6x8x1024 .f32) (harg13 : arg13.IsWhole) (arg14 : Memref sig .tc .vmem S768x512 .bf16) (harg14 : arg14.IsWhole) (arg15 : Memref sig .tc .vmem S8x128 .f32) (harg15 : arg15.IsWhole) (x0 : Vec Ideal S1x1x1024x256 .fp8e4m3) (x1 : Vec Ideal S1x1x1024x256 .fp8e4m3) (x2 : Vec Ideal S1x1x1024x512 .fp8e4m3) (x3 : Vec Ideal S1x1x16x256 .f32) (xs0 : Vec Ideal S6x8x1024 .f32) {J : Inp} (z : Fin 8) (hz : (i 0).val = z) (X : RIn J z x0 x1 x2 x3 xs0) (d : Fin 256) :
    nPay (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 xs0 (ix3 0 0 d) = ((J.Ns 1024 d : ℝ) : EReal) := by
  have H := v748_at c i z hz arg1 harg1 arg2 harg2 arg3 harg3 arg4 harg4 arg13 harg13 arg14 X
  unfold nPay
  pointwise [k0_pay1, H]

end Cert.KernelIdeal.Val
-- ==== Proof.KI.Vals2.lean ====
module

public import proofs.«01_k».proof.Proof.KI.Vals1
public import proofs.«01_k».proof.Proof.KI.Pipe
public import Idealize.ShloMosaic.Lib.Pipeline.ValueKit
public import Idealize.ShloMosaic.Lib.Pipeline.ArrRel
public import Idealize.ShloMosaic.Lib.StableHlo.RunRead

@[expose] public section

set_option maxRecDepth 16384

/-!
# The four result arrays of the kernel, as reals

What each window finds, what each point leaves, and the arrays these fill.
-/

noncomputable section

namespace Cert.KernelIdeal.Val

open Idealize.ShloMosaic Idealize.ShloMosaic.Tactic Idealize.SL.Sem Cert.KernelIdeal Cert.KernelIdeal.Gen Cert.KernelIdeal.Run Cert.M

variable (m : (ℓ : Loc nD τ sig) → Buf (Elt Ideal) ℓ) (c : Dev nD)

/-- The kernel's entry contents are the reals `I`. -/
abbrev Ok (I : Fin 8 → Inp) : Prop :=
  ArgsOk I (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

theorem V_v0 : (V (F := Ideal) m c main_v0 : FVec Ideal S2x4x1024x256 .fp8e4m3) = (Host.convertf (s := S2x4x1024x256) (φ := .f32) .fp8e4m3 (m (c.tc.loc main_arg0)) : FVec Ideal S2x4x1024x256 .fp8e4m3) := by
  unfold_abbrev_sides
  after_reads_simp

theorem V_v1 : (V (F := Ideal) m c main_v1 : FVec Ideal S2x4x1024x256 .fp8e4m3) = (Host.convertf (s := S2x4x1024x256) (φ := .f32) .fp8e4m3 (m (c.tc.loc main_arg1)) : FVec Ideal S2x4x1024x256 .fp8e4m3) := by
  unfold_abbrev_sides
  after_reads_simp

theorem V_v2 : (V (F := Ideal) m c main_v2 : FVec Ideal S2x4x1024x512 .fp8e4m3) = (Host.convertf (s := S2x4x1024x512) (φ := .f32) .fp8e4m3 (m (c.tc.loc main_arg2)) : FVec Ideal S2x4x1024x512 .fp8e4m3) := by
  unfold_abbrev_sides
  after_reads_simp

variable {m c} {I : Fin 8 → Inp} (A : Ok m c I)

theorem idx_0 : ∀ t : Fin cfg0.N, win0_0.index t = ![t.val / 4, t.val % 4, 0, 0] := (by decide +kernel : ∀ t : Fin grid0.N, _)
theorem idx_1 : ∀ t : Fin cfg0.N, win0_1.index t = ![t.val / 4, t.val % 4, 0, 0] := (by decide +kernel : ∀ t : Fin grid0.N, _)
theorem idx_2 : ∀ t : Fin cfg0.N, win0_2.index t = ![t.val / 4, t.val % 4, 0, 0] := (by decide +kernel : ∀ t : Fin grid0.N, _)
theorem idx_3 : ∀ t : Fin cfg0.N, win0_3.index t = ![t.val / 4, t.val % 4, 0, 0] := (by decide +kernel : ∀ t : Fin grid0.N, _)
theorem idx_8 : ∀ t : Fin cfg0.N, win0_8.index t = ![t.val / 4, t.val % 4, 0, 0] := (by decide +kernel : ∀ t : Fin grid0.N, _)
theorem idx_9 : ∀ t : Fin cfg0.N, win0_9.index t = ![t.val / 4, t.val % 4, 0, 0] := (by decide +kernel : ∀ t : Fin grid0.N, _)

theorem iblk_4 (t : Fin cfg0.N) : (iblk m c 4 t : Vec Ideal S2x4x16 .f32) = V (F := Ideal) m c main_arg3 := by
  funext j
  blk_simp [iblk]
  refine congrArg _ (funext fun a => Fin.ext ?_)
  rw [show (win0_4.blk t).view.emb j a = _ from rfl]
  fin_cases a <;> blk_simp <;> first | exact (congrArg (· + _) (Nat.zero_mul _)).trans (Nat.zero_add _) | exact rfl | (show (_ : ℕ) = 0; decide +revert +kernel)

theorem iblk_5 (t : Fin cfg0.N) : (iblk m c 5 t : Vec Ideal S2x4x16 .f32) = V (F := Ideal) m c main_arg5 := by
  funext j
  blk_simp [iblk]
  refine congrArg _ (funext fun a => Fin.ext ?_)
  rw [show (win0_5.blk t).view.emb j a = _ from rfl]
  fin_cases a <;> blk_simp <;> first | exact (congrArg (· + _) (Nat.zero_mul _)).trans (Nat.zero_add _) | exact rfl | (show (_ : ℕ) = 0; decide +revert +kernel)

theorem iblk_6 (t : Fin cfg0.N) : (iblk m c 6 t : Vec Ideal S2x4x1024 .f32) = V (F := Ideal) m c main_arg6 := by
  funext j
  blk_simp [iblk]
  refine congrArg _ (funext fun a => Fin.ext ?_)
  rw [show (win0_6.blk t).view.emb j a = _ from rfl]
  fin_cases a <;> blk_simp <;> first | exact (congrArg (· + _) (Nat.zero_mul _)).trans (Nat.zero_add _) | exact rfl | (show (_ : ℕ) = 0; decide +revert +kernel)

theorem iblk_7 (t : Fin cfg0.N) : (iblk m c 7 t : Vec Ideal S2x4x1024 .f32) = V (F := Ideal) m c main_arg7 := by
  funext j
  blk_simp [iblk]
  refine congrArg _ (funext fun a => Fin.ext ?_)
  rw [show (win0_7.blk t).view.emb j a = _ from rfl]
  fin_cases a <;> blk_simp <;> first | exact (congrArg (· + _) (Nat.zero_mul _)).trans (Nat.zero_add _) | exact rfl | (show (_ : ℕ) = 0; decide +revert +kernel)

/-- The head of a point. -/
def hd (t : Fin cfg0.N) : Fin 8 := ⟨t.val, Nat.lt_of_lt_of_eq t.isLt N_0⟩

theorem hd_lt (t : Fin cfg0.N) : t.val / 4 < 2 := by have := Nat.lt_of_lt_of_eq t.isLt N_0; omega
theorem hd_lt' (t : Fin cfg0.N) : t.val % 4 < 4 := by omega

theorem zz_hd (t : Fin cfg0.N) (b : Fin 2) (h : Fin 4) (hb : b.val = t.val / 4) (hh : h.val = t.val % 4) : zz b h = hd t :=
  Fin.ext (by simp [zz, hd]; omega)

theorem iblk_0 (t : Fin cfg0.N) (s : Fin 1024) (d : Fin 256) : (iblk m c 0 t : Vec Ideal S1x1x1024x256 .fp8e4m3) (ix4 0 0 s d) = V (F := Ideal) m c main_v0 (ix4 ⟨t.val / 4, hd_lt t⟩ ⟨t.val % 4, hd_lt' t⟩ s d) := by
  blk_ext [iblk, idx_0]

theorem iblk_1 (t : Fin cfg0.N) (s : Fin 1024) (d : Fin 256) : (iblk m c 1 t : Vec Ideal S1x1x1024x256 .fp8e4m3) (ix4 0 0 s d) = V (F := Ideal) m c main_v1 (ix4 ⟨t.val / 4, hd_lt t⟩ ⟨t.val % 4, hd_lt' t⟩ s d) := by
  blk_ext [iblk, idx_1]

theorem iblk_2 (t : Fin cfg0.N) (s : Fin 1024) (d : Fin 512) : (iblk m c 2 t : Vec Ideal S1x1x1024x512 .fp8e4m3) (ix4 0 0 s d) = V (F := Ideal) m c main_v2 (ix4 ⟨t.val / 4, hd_lt t⟩ ⟨t.val % 4, hd_lt' t⟩ s d) := by
  blk_ext [iblk, idx_2]

theorem iblk_3 (t : Fin cfg0.N) (s : Fin 16) (d : Fin 256) : (iblk m c 3 t : Vec Ideal S1x1x16x256 .f32) (ix4 0 0 s d) = V (F := Ideal) m c main_arg4 (ix4 ⟨t.val / 4, hd_lt t⟩ ⟨t.val % 4, hd_lt' t⟩ s d) := by
  blk_ext [iblk, idx_3]

include A in
theorem gIn (t : Fin cfg0.N) : GIn I (iblk m c 4 t) (iblk m c 5 t) (iblk m c 6 t) (iblk m c 7 t) where
  h4 b h k := by rw [iblk_4, V_main_arg3]; exact A.h3 b h k
  h5 b h k := by rw [iblk_5, V_main_arg5]; exact A.h5 b h k
  h6 b h k := by rw [iblk_6, V_main_arg6]; exact A.h6 b h k
  h7 b h k := by rw [iblk_7, V_main_arg7]; exact A.h7 b h k

include A in
theorem rowsV_eq : rowsV m c = rowsG I := by
  unfold rowsV
  exact gRows_eq _ _ _ _ _ _ _ _ _ _ _ _ _ _ _ _ _ _ _ _ _ _ _ _ _ _ _ _ _ _ _ _ _ _ _ _ _ (gIn A t0)

include A in
theorem mV_at (b : Fin 2) (h : Fin 4) : mV m c (ix2 b h) = (((I (zz b h)).ms 1024 : ℝ) : EReal) := by
  unfold mV
  refine mOut_at _ _ _ _ _ _ _ _ _ _ _ _ _ _ _ _ _ _ _ _ _ _ _ _ _ _ _ _ _ _ _ _ _ _ (fun z => (I z).ms 1024) (fun z l => ?_) b h
  unfold mfinV
  exact gMfin_at _ _ _ _ _ _ _ _ _ _ _ _ _ _ _ _ _ _ _ _ _ _ _ _ _ _ _ _ _ _ _ _ _ _ _ _ _ (gIn A t0) z l

include A in
theorem rIn (t : Fin cfg0.N) : RIn (I (hd t)) (hd t) (iblk m c 0 t) (iblk m c 1 t) (iblk m c 2 t) (iblk m c 3 t) (rowsV m c) where
  q s d := by
    rw [iblk_0, V_v0]
    exact (A.h0 _ _ s d).trans (by rw [zz_hd t _ _ rfl rfl])
  k s d := by
    rw [iblk_1, V_v1]
    exact (A.h1 _ _ s d).trans (by rw [zz_hd t _ _ rfl rfl])
  v s d := by
    rw [iblk_2, V_v2]
    exact (A.h2 _ _ s d).trans (by rw [zz_hd t _ _ rfl rfl])
  ks s d := by
    rw [iblk_3, V_main_arg4]
    exact (A.h4 _ _ s d).trans (by rw [zz_hd t _ _ rfl rfl])
  r0 s := by rw [rowsV_eq A]; rfl
  r1 s := by rw [rowsV_eq A]; rfl
  r2 s := by rw [rowsV_eq A]; rfl
  r3 s := by rw [rowsV_eq A]; rfl
  r4 s := by rw [rowsV_eq A]; rfl
  r5 s := by rw [rowsV_eq A]; rfl

include A in
theorem hV_at (hq : ∀ z j, 0 ≤ (I z).qs j) (t : Fin cfg0.N) (s : Fin 1024) (e : Fin 512) :
    hV m c t (ix4 0 0 s e) = (((I (hd t)).h s e : ℝ) : EReal) := by
  unfold hV
  exact hOut_at _ _ _ _ _ _ _ _ _ _ _ _ _ _ _ _ _ _ _ _ _ _ _ _ _ _ _ _ _ _ _ _ _ _ _ _ _ (hd t) (coords0 t) (rIn A t) (hq _) s e

include A in
theorem cV_at (t : Fin cfg0.N) (d : Fin 256) (e : Fin 512) : cV m c t (ix4 0 0 d e) = (((I (hd t)).Cs 1024 d e : ℝ) : EReal) := by
  unfold cV
  exact cOut_at _ _ _ _ _ _ _ _ _ _ _ _ _ _ _ _ _ _ _ _ _ _ _ _ _ _ _ _ _ _ _ _ _ _ _ _ _ (hd t) (coords0 t) (rIn A t) d e

include A in
theorem nV_at (t : Fin cfg0.N) (d : Fin 256) : nV m c t (ix3 0 0 d) = (((I (hd t)).Ns 1024 d : ℝ) : EReal) := by
  unfold nV
  exact nPay_at _ _ _ _ _ _ _ _ _ _ _ _ _ _ _ _ _ _ _ _ _ _ _ _ _ _ _ _ _ _ _ _ _ _ _ _ _ (hd t) (coords0 t) (rIn A t) d

/-- The last point. -/
abbrev tl : Fin cfg0.N := t0_7

theorem leaves_8 (u : Fin cfg0.N) (X) (h : (rdat m c).Leaves 8 u X) : X = hV m c u := by
  obtain ⟨Y, _, h⟩ := h
  have e : (rdat m c).after 8 = (dats m 0 c).toR.after 8 := (dats m 0 c).toRRel_after_of_eq_false rfl
  rw [e] at h
  have h2 : (dats m 0 c).Leaves 8 u X := h
  have h3 := (Pipeline.Dat.Leaves.live_iff (dats m 0 c) (Or.inl rfl)).1 h2
  have h4 : X = (dats m 0 c).after 8 u := h3
  exact h4.trans (after_8 m c u)

theorem leaves_9 (u : Fin cfg0.N) (X) (h : (rdat m c).Leaves 9 u X) : X = cV m c u := by
  obtain ⟨Y, _, h⟩ := h
  have e : (rdat m c).after 9 = (dats m 0 c).toR.after 9 := (dats m 0 c).toRRel_after_of_eq_false rfl
  rw [e] at h
  have h2 : (dats m 0 c).Leaves 9 u X := h
  have h3 := (Pipeline.Dat.Leaves.live_iff (dats m 0 c) (Or.inl rfl)).1 h2
  have h4 : X = (dats m 0 c).after 9 u := h3
  exact h4.trans (after_9 m c u)

include A in
theorem arr8 (hq : ∀ z j, 0 ≤ (I z).qs j) (after : (w' : Fin cfg0.W) → Fin cfg0.N → (cfg0.win w').block.Idx → Elt Ideal (cfg0.win w').elt)
    (ha : ∀ u, after 8 u = hV m c u) : ((rdat m c).withAfter after).arrAt 8 cfg0.N = hFun I := by
  refine ((rdat m c).withAfter after).arrAt_eq_of_covers 8 _ (by decide +kernel) fun t hf y => ?_
  blk_simp
  rw [Pipeline.RDat.withAfter_after, ha t]
  have y0 : (y 0).val = 0 := Nat.lt_one_iff.mp (y 0).isLt
  have y1 : (y 1).val = 0 := Nat.lt_one_iff.mp (y 1).isLt
  have ey : y = ix4 0 0 (y 2) (y 3) := by
    funext a
    fin_cases a
    · exact Fin.ext y0
    · exact Fin.ext y1
    · rfl
    · rfl
  have e0 : ((win0_8.blk t).view.emb y 0).val = t.val / 4 := by
    blk_simp [idx_8]
  have e1 : ((win0_8.blk t).view.emb y 1).val = t.val % 4 := by
    blk_simp [idx_8]
  have e2 : ((win0_8.blk t).view.emb y 2).val = (y 2).val := by
    blk_simp [idx_8]
  have e3 : (win0_8.blk t).view.emb y 3 = y 3 := Fin.ext (by
    blk_simp [idx_8])
  refine (congrArg (hV m c t) ey).trans ((hV_at A hq t (y 2) (y 3)).trans ?_)
  unfold hFun
  rw [zz_hd t _ _ e0 e1, e2, e3]

include A in
theorem arr9 (after : (w' : Fin cfg0.W) → Fin cfg0.N → (cfg0.win w').block.Idx → Elt Ideal (cfg0.win w').elt)
    (ha : ∀ u, after 9 u = cV m c u) : ((rdat m c).withAfter after).arrAt 9 cfg0.N = cFun I := by
  refine ((rdat m c).withAfter after).arrAt_eq_of_covers 9 _ (by decide +kernel) fun t hf y => ?_
  blk_simp
  rw [Pipeline.RDat.withAfter_after, ha t]
  have y0 : (y 0).val = 0 := Nat.lt_one_iff.mp (y 0).isLt
  have y1 : (y 1).val = 0 := Nat.lt_one_iff.mp (y 1).isLt
  have ey : y = ix4 0 0 (y 2) (y 3) := by
    funext a
    fin_cases a
    · exact Fin.ext y0
    · exact Fin.ext y1
    · rfl
    · rfl
  have e0 : ((win0_9.blk t).view.emb y 0).val = t.val / 4 := by
    blk_simp [idx_9]
  have e1 : ((win0_9.blk t).view.emb y 1).val = t.val % 4 := by
    blk_simp [idx_9]
  have e2 : (win0_9.blk t).view.emb y 2 = y 2 := Fin.ext (by
    blk_simp [idx_9])
  have e3 : (win0_9.blk t).view.emb y 3 = y 3 := Fin.ext (by
    blk_simp [idx_9])
  refine (congrArg (cV m c t) ey).trans ((cV_at A t (y 2) (y 3)).trans ?_)
  unfold cFun
  rw [zz_hd t _ _ e0 e1, e2, e3]

include A in
theorem nOk_at (X : Vec Ideal S2x4x256 .f32) (h : nOk m c tl X) (b : Fin 2) (k : Fin 4) (d : Fin 256) : X (ix3 b k d) = (((I (zz b k)).Ns 1024 d : ℝ) : EReal) := by
  have hb : b.val * 4 + k.val < cfg0.N := by rw [show cfg0.N = 8 from N_0]; omega
  have h1 := h ⟨b.val * 4 + k.val, hb⟩ (by show b.val * 4 + k.val ≤ 7; omega) (ix3 0 0 d)
  rw [nV_at A] at h1
  refine Eq.trans (congrArg X ?_) h1
  funext a
  refine Fin.ext ?_
  rw [Rect.emb_apply]
  show _ = k0_off23 (grid0.coords ⟨b.val * 4 + k.val, hb⟩) a + 1 * _
  rw [off23]
  fin_cases a
  · show b.val = (b.val * 4 + k.val) / 4 + 1 * 0
    omega
  · show k.val = (b.val * 4 + k.val) % 4 + 1 * 0
    omega
  · show d.val = 0 + 1 * d.val
    omega

include A in
theorem arr10 (after : (w' : Fin cfg0.W) → Fin cfg0.N → (cfg0.win w').block.Idx → Elt Ideal (cfg0.win w').elt)
    (ha : nOk m c tl (after 10 tl)) : ((rdat m c).withAfter after).arrAt 10 cfg0.N = nFun I := by
  refine ((rdat m c).withAfter after).arrAt_eq_of_after_last 10 tl (by decide +kernel) _ fun j => ?_
  rw [cast_eq, Pipeline.RDat.withAfter_after]
  refine Eq.trans (congrArg _ ?_) (nOk_at A _ ha (j 0) (j 1) (j 2))
  funext a
  fin_cases a <;> rfl

include A in
theorem arr11 (after : (w' : Fin cfg0.W) → Fin cfg0.N → (cfg0.win w').block.Idx → Elt Ideal (cfg0.win w').elt)
    (ha : after 11 tl = mV m c) : ((rdat m c).withAfter after).arrAt 11 cfg0.N = mFun I := by
  refine ((rdat m c).withAfter after).arrAt_eq_of_after_last 11 tl (by decide +kernel) _ fun j => ?_
  rw [cast_eq, Pipeline.RDat.withAfter_after, ha]
  refine Eq.trans (congrArg _ ?_) (mV_at A (j 0) (j 1))
  funext a
  fin_cases a <;> rfl

/-- The kernel runs and leaves the four results of the reals `I`, the arguments as they were. -/
theorem kernel_run (ρ : Dev nD → PrngReg) {I : Dev nD → Fin 8 → Inp} (A : ∀ c, Ok m c (I c)) (hq : ∀ c z j, 0 ≤ (I c z).qs j) :
    θ_run (defs (F := Ideal)) (onTc (τ := τ) (main (F := Ideal))) ⟨m, fun _ => 0, ρ⟩ (fun r => ∀ c : Dev nD,
      r.2.mem (c.tc.loc main_v3_0) = hFun (I c) ∧ r.2.mem (c.tc.loc main_v3_1) = cFun (I c)
      ∧ r.2.mem (c.tc.loc main_v3_2) = nFun (I c) ∧ r.2.mem (c.tc.loc main_v3_3) = mFun (I c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7)) :=
  (θ_run defs _ _).mono (fun r h c => by
    obtain ⟨after, hL, hA⟩ := h.1.1.exists_exact c
    refine ⟨(hA 8).trans (arr8 (A c) (hq c) after fun u => leaves_8 u _ (hL 8 u ?_)), (hA 9).trans (arr9 (A c) after fun u => leaves_9 u _ (hL 9 u ?_)),
      (hA 10).trans (arr10 (A c) after ?_), (hA 11).trans (arr11 (A c) after ?_), h.2.1 c⟩
    · exact (by decide +kernel : ∀ u : Fin grid0.N, (cfg0.win 8).flush u = true) u
    · exact (by decide +kernel : ∀ u : Fin grid0.N, (cfg0.win 9).flush u = true) u
    · exact Pipeline.Dat.toRRel_leaves (dats m 0 c) (fgt := fgt) (Rl := Rl m c) (w := 10) rfl (hL 10 tl (by decide +kernel))
    · exact Pipeline.Dat.toRRel_leaves (dats m 0 c) (fgt := fgt) (Rl := Rl m c) (w := 11) rfl (hL 11 tl (by decide +kernel))) (θ_run_and (run_main m ρ) (frame m ρ))

end Cert.KernelIdeal.Val
-- ==== Proof.RI.Trip.lean ====
module

public import proofs.«01_k».proof.Proof.Gen.ReferenceIdeal.Skeleton
public import Idealize.ShloMosaic.Lib.Pointwise
public import proofs.«01_k».proof.Proof.M.Cast

@[expose] public section

set_option maxRecDepth 16384

/-! # One trip of the reference's loop, as reals -/

noncomputable section

namespace Cert.ReferenceIdeal.Val

open Idealize.ShloMosaic Idealize.SL.Sem Cert.ReferenceIdeal Cert.ReferenceIdeal.Gen Cert.M

/-- What one trip of the loop reads of chunk `c`, as reals: codes, scales and the gate arrays made before the loop. -/
structure ChunkOk (I : Fin 8 → Inp) (c : ℕ) (v12 : Vec Ideal S8x1x64x512 .fp8e4m3) (v16 v20 : Vec Ideal S8x1x64x256 .fp8e4m3) (v24 : Vec Ideal S8x1x1x1 .f32)
    (v29 : Vec Ideal S8x1x1x256 .f32) (v32 : Vec Ideal S8x1x1x1 .f32) (v35 : Vec Ideal S8x1x64x1 .f32) (v38 v41 : Vec Ideal S8x1x1x1 .f32)
    (v44 : Vec Ideal S8x1x64x1 .f32) (v47 : Vec Ideal S8x1x64x64 .f32) (v68 : Vec Ideal S8x1x256x1 .f32) : Prop where
  hv : ∀ (z : Fin 8) (s : Fin 64) (e : Fin 512), v12 (ix4 z 0 s e) = ((I z).v (64 * c + s) e : EReal)
  hk : ∀ (z : Fin 8) (s : Fin 64) (d : Fin 256), v16 (ix4 z 0 s d) = ((I z).k (64 * c + s) d : EReal)
  hq : ∀ (z : Fin 8) (s : Fin 64) (d : Fin 256), v20 (ix4 z 0 s d) = ((I z).q (64 * c + s) d : EReal)
  hqs : ∀ (z : Fin 8), v24 (ix4 z 0 0 0) = ((I z).qs c : EReal)
  hks : ∀ (z : Fin 8) (d : Fin 256), v29 (ix4 z 0 0 d) = ((I z).ks c d : EReal)
  hvs : ∀ (z : Fin 8), v32 (ix4 z 0 0 0) = ((I z).vs c : EReal)
  hb : ∀ (z : Fin 8) (s : Fin 64), v35 (ix4 z 0 s 0) = (((I z).Fp (64 * c + s + 1) - (I z).Fp (64 * c) : ℝ) : EReal)
  hbL : ∀ (z : Fin 8), v38 (ix4 z 0 0 0) = (((I z).Fp (64 * c + 64) - (I z).Fp (64 * c) : ℝ) : EReal)
  ha : ∀ (z : Fin 8), v41 (ix4 z 0 0 0) = (((I z).Fp (64 * c + 64) + wmax (fun i => (I z).G (64 * c + i)) 63 : ℝ) : EReal)
  hw : ∀ (z : Fin 8) (s : Fin 64), v44 (ix4 z 0 s 0) = ((Real.exp ((I z).G (64 * c + s) - wmax (fun i => (I z).G (64 * c + i)) 63) : ℝ) : EReal)
  hD : ∀ (z : Fin 8) (t s : Fin 64), v47 (ix4 z 0 t s) = if (s : ℕ) ≤ t then (((I z).Fp (64 * c + t + 1) + (I z).G (64 * c + s) : ℝ) : EReal) else ⊥
  hkst : ∀ (z : Fin 8) (d : Fin 256), v68 (ix4 z 0 d 0) = ((I z).ks c d : EReal)

variable {I : Fin 8 → Inp} {c : ℕ} {v12 : Vec Ideal S8x1x64x512 .fp8e4m3} {v16 v20 : Vec Ideal S8x1x64x256 .fp8e4m3} {v24 : Vec Ideal S8x1x1x1 .f32}
    {v29 : Vec Ideal S8x1x1x256 .f32} {v32 : Vec Ideal S8x1x1x1 .f32} {v35 : Vec Ideal S8x1x64x1 .f32} {v38 v41 : Vec Ideal S8x1x1x1 .f32}
    {v44 : Vec Ideal S8x1x64x1 .f32} {v47 : Vec Ideal S8x1x64x64 .f32} {v68 : Vec Ideal S8x1x256x1 .f32}
    (H : ChunkOk I c v12 v16 v20 v24 v29 v32 v35 v38 v41 v44 v47 v68)
    {C : FVec Ideal S8x256x512 .f32} {n : FVec Ideal S8x1x256 .f32} {m : FVec Ideal S8x1x1 .f32}
    (hC : ∀ (z : Fin 8) (d : Fin 256) (e : Fin 512), C (ix3 z d e) = ((I z).Cs (64 * c) d e : EReal))
    (hn : ∀ (z : Fin 8) (d : Fin 256), n (ix3 z 0 d) = ((I z).Ns (64 * c) d : EReal))
    (hm : ∀ (z : Fin 8), m (ix3 z 0 0) = ((I z).ms (64 * c) : EReal))

theorem at_div (c : ℕ) (s : Fin 64) : (64 * c + (s : ℕ)) / 64 = c := by omega

include H hm in
/-- The trip's new stabiliser. -/
theorem m_new (z : Fin 8) : k0_pay25 m (k0_pay15 v38) (k0_pay16 v41) (ix3 z 0 0) = ((I z).ms (64 * c + 64) : EReal) := by
  pointwise [k0_pay25, k0_pay15, k0_pay16, H.hbL, H.ha, hm]
  simp only [← EReal.coe_add, ← coe_max']
  congr 1
  rw [Inp.ms, Inp.ms, show 64 * c + 64 = 64 * c + 63 + 1 from rfl, (I z).mu_add, ← max_add_add_left]
  congr 1
  ring

include H hm in
/-- The factor the state decays by. -/
theorem f_dec (z : Fin 8) : k0_pay26 m (k0_pay15 v38) (k0_pay16 v41) (ix3 z 0 0) = ((Real.exp ((I z).mu (64 * c) - (I z).mu (64 * c + 64)) : ℝ) : EReal) := by
  have h := m_new H hm z
  pointwise [k0_pay26, k0_pay15, k0_pay16, H.hbL, H.ha, hm] at h ⊢
  rw [h]
  simp only [← EReal.coe_add, ← EReal.coe_sub, Ideal.exp_coe]
  congr 2
  rw [Inp.ms, Inp.ms]
  ring

include H hm in
/-- The factor the chunk's own part enters with. -/
theorem f_in (z : Fin 8) : k0_pay27 m (k0_pay15 v38) (k0_pay16 v41) (ix3 z 0 0)
    = ((Real.exp (wmax (fun i => (I z).G (64 * c + i)) 63 - (I z).mu (64 * c + 64)) : ℝ) : EReal) := by
  have h := m_new H hm z
  pointwise [k0_pay27, k0_pay15, k0_pay16, H.hbL, H.ha, hm] at h ⊢
  rw [h]
  simp only [← EReal.coe_add, ← EReal.coe_sub, Ideal.exp_coe]
  congr 2
  rw [Inp.ms]
  ring

include H in
/-- The chunk's own part of the state. -/
theorem dC_eq (z : Fin 8) (d : Fin 256) (e : Fin 512) : k0_pay20 (k0_pay8 v12) (k0_pay9 v16) (k0_pay13 v32) v44 v68 (ix3 z d e)
    = ((∑ j : Fin 64, Real.exp ((I z).G (64 * c + j) - wmax (fun i => (I z).G (64 * c + i)) 63) * (I z).kk (64 * c + j) d * (I z).vv (64 * c + j) e : ℝ) : EReal) := by
  pointwise [k0_pay20, k0_pay17, k0_pay8, k0_pay9, k0_pay13, H.hv, H.hk, H.hvs, H.hw, H.hkst]
  simp only [← EReal.coe_mul, ← coe_sum]
  congr 1
  rw [Finset.sum_mul, Finset.sum_mul]
  refine Finset.sum_congr rfl fun j _ => ?_
  rw [Inp.kk, Inp.vv, at_div]
  ring

include H in
/-- The chunk's own part of the normaliser. -/
theorem dn_eq (z : Fin 8) (d : Fin 256) : k0_pay21 (k0_pay9 v16) (k0_pay12 v29) v44 (ix3 z 0 d)
    = ((∑ j : Fin 64, Real.exp ((I z).G (64 * c + j) - wmax (fun i => (I z).G (64 * c + i)) 63) * (I z).kk (64 * c + j) d : ℝ) : EReal) := by
  pointwise [k0_pay21, k0_pay17, k0_pay9, k0_pay12, H.hk, H.hw, H.hks]
  simp only [← EReal.coe_mul, ← coe_sum]
  congr 1
  rw [Finset.sum_mul]
  refine Finset.sum_congr rfl fun j _ => ?_
  rw [Inp.kk, at_div]
  ring

/-- A weight relative to the chunk's own maximum, brought to the new stabiliser. -/
theorem W_of (J : Inp) (x : ℝ) (b s : ℕ) : Real.exp (x - J.mu b) * Real.exp (J.G s - x) = J.W b s := by
  rw [Inp.W, ← Real.exp_add]
  congr 1
  ring

include H hm hC in
theorem C_new (z : Fin 8) (d : Fin 256) (e : Fin 512) :
    k0_pay28 C m (k0_pay15 v38) (k0_pay16 v41) (k0_pay20 (k0_pay8 v12) (k0_pay9 v16) (k0_pay13 v32) v44 v68) (ix3 z d e) = ((I z).Cs (64 * c + 64) d e : EReal) := by
  have h1 := f_dec H hm z
  have h2 := f_in H hm z
  have h3 := dC_eq H z d e
  generalize k0_pay20 (k0_pay8 v12) (k0_pay9 v16) (k0_pay13 v32) v44 v68 = X at h3 ⊢
  generalize k0_pay15 v38 = Y at h1 h2 ⊢
  generalize k0_pay16 v41 = Z at h1 h2 ⊢
  pointwise [k0_pay28, h1, h2, h3, hC]
  simp only [← EReal.coe_mul, ← EReal.coe_add]
  congr 1
  rw [Inp.Cs_add, Finset.mul_sum]
  congr 1
  refine Finset.sum_congr rfl fun j _ => ?_
  rw [← W_of (I z) (wmax (fun i => (I z).G (64 * c + i)) 63)]
  ring

include H hm hn in
theorem n_new (z : Fin 8) (d : Fin 256) :
    k0_pay4 n (k0_pay21 (k0_pay9 v16) (k0_pay12 v29) v44) (k0_pay27 m (k0_pay15 v38) (k0_pay16 v41)) (k0_pay29 m (k0_pay15 v38) (k0_pay16 v41)) (ix3 z 0 d) = ((I z).Ns (64 * c + 64) d : EReal) := by
  have h1 := f_dec H hm z
  have h2 := f_in H hm z
  have h3 := dn_eq H z d
  generalize k0_pay21 (k0_pay9 v16) (k0_pay12 v29) v44 = X at h3 ⊢
  generalize k0_pay15 v38 = Y at h1 h2 ⊢
  generalize k0_pay16 v41 = Z at h1 h2 ⊢
  pointwise [k0_pay4, k0_pay29, h1, h2, h3, hn]
  simp only [← EReal.coe_mul, ← EReal.coe_add]
  congr 1
  rw [Inp.Ns_add, Finset.mul_sum]
  congr 1
  refine Finset.sum_congr rfl fun j _ => ?_
  rw [← W_of (I z) (wmax (fun i => (I z).G (64 * c + i)) 63)]
  ring

include H in
/-- The largest log weight of a time against the chunk. -/
theorem max_D (z : Fin 8) (t : Fin 64) : k0_pay23 v47 (ix3 z t 0)
    = (((I z).Fp (64 * c + t + 1) + wmax (fun i => (I z).G (64 * c + i)) t : ℝ) : EReal) := by
  pointwise [k0_pay23, k0_pay18, H.hD]
  rw [ofBits_bot, fold_max_ite (fun s => (I z).Fp (64 * c + t + 1) + (I z).G (64 * c + s)) t (by omega), wmax_add]

include H in
/-- The products of a query with the keys of its chunk. -/
theorem qk_eq (z : Fin 8) (t s : Fin 64) : k0_pay19 (k0_pay11 v24) (k0_pay12 v29) v16 v20 (ix3 z t s)
    = (((I z).qk (64 * c + t) (64 * c + s) * (I z).qsc (64 * c + t) : ℝ) : EReal) := by
  pointwise [k0_pay19, k0_pay11, k0_pay12, H.hq, H.hk, H.hqs, H.hks]
  rw [ofBits_sixteenth]
  simp only [← EReal.coe_mul, ← coe_sum]
  congr 1
  rw [Inp.qk, Inp.qsc, at_div]
  congr 1
  refine Finset.sum_congr rfl fun d _ => ?_
  rw [Inp.kk, at_div]

include H hm in
/-- The stabiliser of a time: the larger of the state's and the chunk's own. -/
theorem g_eq (z : Fin 8) (t : Fin 64) : k0_pay22 m (k0_pay14 v35) (ix3 z t 0) = (((I z).Fp (64 * c + t + 1) + (I z).mu (64 * c) : ℝ) : EReal) := by
  pointwise [k0_pay22, k0_pay14, H.hb, hm]
  rw [← EReal.coe_add, Inp.ms]
  congr 1
  ring

include H hC hn hm in
/-- The trip's block of the output. -/
theorem h_eq (b : Fin 2) (h : Fin 4) (t : Fin 64) (e : Fin 512) (z : Fin 8) (hz : z = ⟨b * 4 + h, by omega⟩) :
    k0_pay24 C n (k0_pay8 v12) (k0_pay10 v20) (k0_pay11 v24) (k0_pay13 v32) (k0_pay18 v47) (k0_pay19 (k0_pay11 v24) (k0_pay12 v29) v16 v20)
      (k0_pay22 m (k0_pay14 v35)) (k0_pay23 v47) (ix4 b h t e) = ((I z).h (64 * c + t) e : EReal) := by
  have h1 := max_D H z t
  have h2 := qk_eq H z t
  have h3 := g_eq H hm z t
  have h4 : ∀ x, k0_pay8 v12 (ix3 z x e) = ((I z).v (64 * c + x) e : EReal) := fun x => by pointwise [k0_pay8, H.hv]
  have h5 : ∀ x, k0_pay10 v20 (ix3 z t x) = ((I z).q (64 * c + t) x : EReal) := fun x => by pointwise [k0_pay10, H.hq]
  have h6 : k0_pay11 v24 (ix3 z 0 0) = (((I z).qsc (64 * c + t) : ℝ) : EReal) := by
    pointwise [k0_pay11, H.hqs]
    rw [ofBits_sixteenth, ← EReal.coe_mul, Inp.qsc, at_div]
  have h7 : k0_pay13 v32 (ix3 z 0 0) = ((I z).vs c : EReal) := by pointwise [k0_pay13, H.hvs]
  have h8 : ∀ x : Fin 64, k0_pay18 v47 (ix3 z t x) = if (x : ℕ) ≤ t then (((I z).Fp (64 * c + t + 1) + (I z).G (64 * c + x) : ℝ) : EReal) else ⊥ := fun x => by
    pointwise [k0_pay18, H.hD]
  generalize k0_pay19 (k0_pay11 v24) (k0_pay12 v29) v16 v20 = X2 at h2 ⊢
  generalize k0_pay23 v47 = X1 at h1 ⊢
  generalize k0_pay22 m (k0_pay14 v35) = X3 at h3 ⊢
  generalize k0_pay8 v12 = X4 at h4 ⊢
  generalize k0_pay10 v20 = X5 at h5 ⊢
  generalize k0_pay11 v24 = X6 at h6 ⊢
  generalize k0_pay13 v32 = X7 at h7 ⊢
  generalize k0_pay18 v47 = X8 at h8 ⊢
  pointwise [k0_pay24]
  simp only [← hz]
  have hmt : max (X3 (ix3 z t 0)) (X1 (ix3 z t 0)) = (((I z).ms (64 * c + t + 1) : ℝ) : EReal) := by
    rw [h1, h3, ← coe_max', Inp.ms, Inp.mu_add, max_add_add_left]
  simp only [hmt]
  simp only [h2, h3, h4, h5, h6, h7, h8, hC, hn, exp_mask]
  rw [show (0 : EReal) = ((0 : ℝ) : EReal) from rfl]
  simp only [← EReal.coe_mul, ← EReal.coe_sub, ← EReal.coe_add, ← coe_sum, Ideal.exp_coe, absf_coe, ← coe_max']
  rw [div_coe' _ _ (ne_of_gt (lt_max_of_lt_right (Real.exp_pos _)))]
  congr 1
  have e1 : ∀ x : ℝ, (I z).Fp (64 * c + t + 1) + x - (I z).ms (64 * c + t + 1) = x - (I z).mu (64 * c + t + 1) := fun x => by rw [Inp.ms]; ring
  simp only [e1]
  rw [Inp.h, Inp.hnum_add _ _ 64 t t.isLt, Inp.hden_add _ _ 64 t t.isLt, zero_sub]
  congr 1
  · rw [add_mul, Finset.sum_mul, Finset.sum_mul]
    congr 1
    · ring
    · refine Finset.sum_congr rfl fun j _ => ?_
      rw [Inp.vv, at_div]
      split
      · rw [Inp.W]; ring
      · ring
  · congr 2
    rw [add_mul, Finset.sum_mul]
    congr 1
    · ring
    · refine Finset.sum_congr rfl fun j _ => ?_
      split
      · rw [Inp.W]; ring
      · ring

end Cert.ReferenceIdeal.Val
-- ==== Proof.RI.Loop.lean ====
module

public import proofs.«01_k».proof.Proof.Gen.ReferenceIdeal.Frame
public import Idealize.ShloMosaic.Lib.Pointwise
public import proofs.«01_k».proof.Proof.M.Args
public import proofs.«01_k».proof.Proof.RI.Trip

@[expose] public section

set_option maxRecDepth 16384

/-! # The reference's loop over the sixteen chunks -/

noncomputable section

namespace Cert.ReferenceIdeal.Val

open Idealize.ShloMosaic Idealize.SL.Sem Cert.ReferenceIdeal Cert.ReferenceIdeal.Gen Cert.M

/-- A load of one chunk's row of a chunked array. -/
theorem ld4 {n2 n3 : ℕ} {τ : EltTy} (X : Vec Ideal ⟨4, ![8, 16, n2, n3]⟩ τ) {off : Fin 4 → ℕ} {inb} (k : Fin 16) (hoff : off = ![0, (k : ℕ), 0, 0])
    (z : Fin 8) (a : Fin n2) (b : Fin n3) :
    (View.ld X (Rect.unit off ![8, 1, n2, n3] inb) : Vec Ideal ⟨4, ![8, 1, n2, n3]⟩ τ) (ix4 z 0 a b) = X (ix4 z k a b) := by
  subst hoff
  rw [View.ld_unit]
  unfold extractStridedSlice
  refine congrArg X (funext fun i => Fin.ext ?_)
  fin_cases i <;> simp [ix4]

/-- What the kernel's twelve input blocks hold, as reals. -/
structure XOk (I : Fin 8 → Inp) (x0 : Vec Ideal S8x16x64x256 .fp8e4m3) (x1 : Vec Ideal S8x16x64x256 .fp8e4m3) (x2 : Vec Ideal S8x16x64x512 .fp8e4m3) (x3 : Vec Ideal S8x16x1x1 .f32) (x4 : Vec Ideal S8x16x1x256 .f32) (x5 : Vec Ideal S8x16x256x1 .f32) (x6 : Vec Ideal S8x16x1x1 .f32) (x7 : Vec Ideal S8x16x64x1 .f32) (x8 : Vec Ideal S8x16x1x1 .f32) (x9 : Vec Ideal S8x16x1x1 .f32) (x10 : Vec Ideal S8x16x64x1 .f32) (x11 : Vec Ideal S8x16x64x64 .f32) : Prop where
  h0 : ∀ (z : Fin 8) (c : Fin 16) (s : Fin 64) (d : Fin 256), x0 (ix4 z c s d) = ((I z).q (64 * c + s) d : EReal)
  h1 : ∀ (z : Fin 8) (c : Fin 16) (s : Fin 64) (d : Fin 256), x1 (ix4 z c s d) = ((I z).k (64 * c + s) d : EReal)
  h2 : ∀ (z : Fin 8) (c : Fin 16) (s : Fin 64) (e : Fin 512), x2 (ix4 z c s e) = ((I z).v (64 * c + s) e : EReal)
  h3 : ∀ (z : Fin 8) (c : Fin 16), x3 (ix4 z c 0 0) = ((I z).qs c : EReal)
  h4 : ∀ (z : Fin 8) (c : Fin 16) (d : Fin 256), x4 (ix4 z c 0 d) = ((I z).ks c d : EReal)
  h5 : ∀ (z : Fin 8) (c : Fin 16) (d : Fin 256), x5 (ix4 z c d 0) = ((I z).ks c d : EReal)
  h6 : ∀ (z : Fin 8) (c : Fin 16), x6 (ix4 z c 0 0) = ((I z).vs c : EReal)
  h7 : ∀ (z : Fin 8) (c : Fin 16) (s : Fin 64), x7 (ix4 z c s 0) = (((I z).Fp (64 * c + s + 1) - (I z).Fp (64 * c) : ℝ) : EReal)
  h8 : ∀ (z : Fin 8) (c : Fin 16), x8 (ix4 z c 0 0) = (((I z).Fp (64 * c + 64) - (I z).Fp (64 * c) : ℝ) : EReal)
  h9 : ∀ (z : Fin 8) (c : Fin 16), x9 (ix4 z c 0 0) = (((I z).Fp (64 * c + 64) + wmax (fun i => (I z).G (64 * c + i)) 63 : ℝ) : EReal)
  h10 : ∀ (z : Fin 8) (c : Fin 16) (s : Fin 64), x10 (ix4 z c s 0) = ((Real.exp ((I z).G (64 * c + s) - wmax (fun i => (I z).G (64 * c + i)) 63) : ℝ) : EReal)
  h11 : ∀ (z : Fin 8) (c : Fin 16) (t s : Fin 64), x11 (ix4 z c t s) = if (s : ℕ) ≤ t then (((I z).Fp (64 * c + t + 1) + (I z).G (64 * c + s) : ℝ) : EReal) else ⊥

theorem XOk.chunk {I : Fin 8 → Inp} {x0 : Vec Ideal S8x16x64x256 .fp8e4m3} {x1 : Vec Ideal S8x16x64x256 .fp8e4m3} {x2 : Vec Ideal S8x16x64x512 .fp8e4m3} {x3 : Vec Ideal S8x16x1x1 .f32} {x4 : Vec Ideal S8x16x1x256 .f32} {x5 : Vec Ideal S8x16x256x1 .f32} {x6 : Vec Ideal S8x16x1x1 .f32} {x7 : Vec Ideal S8x16x64x1 .f32} {x8 : Vec Ideal S8x16x1x1 .f32} {x9 : Vec Ideal S8x16x1x1 .f32} {x10 : Vec Ideal S8x16x64x1 .f32} {x11 : Vec Ideal S8x16x64x64 .f32} (X : XOk I x0 x1 x2 x3 x4 x5 x6 x7 x8 x9 x10 x11) (k : Fin k0_t1_loop.trips)
    :
    ChunkOk I k (View.ld x2 (Rect.unit (k0_off1 k) ![8, 1, 64, 512] (k0_off1_inb k))) (View.ld x1 (Rect.unit (k0_off2 k) ![8, 1, 64, 256] (k0_off2_inb k))) (View.ld x0 (Rect.unit (k0_off2 k) ![8, 1, 64, 256] (k0_off2_inb k)))
      (View.ld x3 (Rect.unit (k0_off3 k) ![8, 1, 1, 1] (k0_off3_inb k))) (View.ld x4 (Rect.unit (k0_off4 k) ![8, 1, 1, 256] (k0_off4_inb k))) (View.ld x6 (Rect.unit (k0_off3 k) ![8, 1, 1, 1] (k0_off3_inb k)))
      (View.ld x7 (Rect.unit (k0_off5 k) ![8, 1, 64, 1] (k0_off5_inb k))) (View.ld x8 (Rect.unit (k0_off3 k) ![8, 1, 1, 1] (k0_off3_inb k))) (View.ld x9 (Rect.unit (k0_off3 k) ![8, 1, 1, 1] (k0_off3_inb k)))
      (View.ld x10 (Rect.unit (k0_off5 k) ![8, 1, 64, 1] (k0_off5_inb k))) (View.ld x11 (Rect.unit (k0_off6 k) ![8, 1, 64, 64] (k0_off6_inb k))) (View.ld x5 (Rect.unit (k0_off7 k) ![8, 1, 256, 1] (k0_off7_inb k))) where
  hv z s e := (ld4 x2 k (k0_off1_eq k) z s e).trans (X.h2 z k s e)
  hk z s e := (ld4 x1 k (k0_off2_eq k) z s e).trans (X.h1 z k s e)
  hq z s e := (ld4 x0 k (k0_off2_eq k) z s e).trans (X.h0 z k s e)
  hqs z := (ld4 x3 k (k0_off3_eq k) z 0 0).trans (X.h3 z k)
  hks z d := (ld4 x4 k (k0_off4_eq k) z 0 d).trans (X.h4 z k d)
  hvs z := (ld4 x6 k (k0_off3_eq k) z 0 0).trans (X.h6 z k)
  hb z s := (ld4 x7 k (k0_off5_eq k) z s 0).trans (X.h7 z k s)
  hbL z := (ld4 x8 k (k0_off3_eq k) z 0 0).trans (X.h8 z k)
  ha z := (ld4 x9 k (k0_off3_eq k) z 0 0).trans (X.h9 z k)
  hw z s := (ld4 x10 k (k0_off5_eq k) z s 0).trans (X.h10 z k s)
  hD z t s := (ld4 x11 k (k0_off6_eq k) z t s).trans (X.h11 z k t s)
  hkst z d := (ld4 x5 k (k0_off7_eq k) z d 0).trans (X.h5 z k d)

/-- The carried state is the closed form's at token `n`. -/
structure AccOk (I : Fin 8 → Inp) (n : ℕ) (acc : FVec Ideal S8x256x512 .f32 × FVec Ideal S8x1x256 .f32 × FVec Ideal S8x1x1 .f32) : Prop where
  hC : ∀ (z : Fin 8) (d : Fin 256) (e : Fin 512), acc.1 (ix3 z d e) = ((I z).Cs n d e : EReal)
  hn : ∀ (z : Fin 8) (d : Fin 256), acc.2.1 (ix3 z 0 d) = ((I z).Ns n d : EReal)
  hm : ∀ (z : Fin 8), acc.2.2 (ix3 z 0 0) = ((I z).ms n : EReal)

section Loop

variable (arg0 : Memref sig .tc .vmem S8x16x64x256 .fp8e4m3) (harg0 : arg0.IsWhole) (arg1 : Memref sig .tc .vmem S8x16x64x256 .fp8e4m3) (harg1 : arg1.IsWhole) (arg2 : Memref sig .tc .vmem S8x16x64x512 .fp8e4m3) (harg2 : arg2.IsWhole) (arg3 : Memref sig .tc .vmem S8x16x1x1 .f32) (harg3 : arg3.IsWhole) (arg4 : Memref sig .tc .vmem S8x16x1x256 .f32) (harg4 : arg4.IsWhole) (arg5 : Memref sig .tc .vmem S8x16x256x1 .f32) (harg5 : arg5.IsWhole) (arg6 : Memref sig .tc .vmem S8x16x1x1 .f32) (harg6 : arg6.IsWhole) (arg7 : Memref sig .tc .vmem S8x16x64x1 .f32) (harg7 : arg7.IsWhole) (arg8 : Memref sig .tc .vmem S8x16x1x1 .f32) (harg8 : arg8.IsWhole) (arg9 : Memref sig .tc .vmem S8x16x1x1 .f32) (harg9 : arg9.IsWhole) (arg10 : Memref sig .tc .vmem S8x16x64x1 .f32) (harg10 : arg10.IsWhole) (arg11 : Memref sig .tc .vmem S8x16x64x64 .f32) (harg11 : arg11.IsWhole) (arg12 : Memref sig .tc .vmem S2x4x1024x512 .bf16) (harg12 : arg12.IsWhole) (arg13 : Memref sig .tc .vmem S2x4x256x512 .f32) (harg13 : arg13.IsWhole) (arg14 : Memref sig .tc .vmem S2x4x256 .f32) (harg14 : arg14.IsWhole) (arg15 : Memref sig .tc .vmem S2x4 .f32) (harg15 : arg15.IsWhole) (c : Dev nD) {I : Fin 8 → Inp} (x0 : Vec Ideal S8x16x64x256 .fp8e4m3) (x1 : Vec Ideal S8x16x64x256 .fp8e4m3) (x2 : Vec Ideal S8x16x64x512 .fp8e4m3) (x3 : Vec Ideal S8x16x1x1 .f32) (x4 : Vec Ideal S8x16x1x256 .f32) (x5 : Vec Ideal S8x16x256x1 .f32) (x6 : Vec Ideal S8x16x1x1 .f32) (x7 : Vec Ideal S8x16x64x1 .f32) (x8 : Vec Ideal S8x16x1x1 .f32) (x9 : Vec Ideal S8x16x1x1 .f32) (x10 : Vec Ideal S8x16x64x1 .f32) (x11 : Vec Ideal S8x16x64x64 .f32) (X : XOk I x0 x1 x2 x3 x4 x5 x6 x7 x8 x9 x10 x11)
    (k : Fin k0_t1_loop.trips) (acc : FVec Ideal S8x256x512 .f32 × FVec Ideal S8x1x256 .f32 × FVec Ideal S8x1x1 .f32)

include X in
theorem trip_acc (hacc : AccOk I (64 * k) acc) :
    AccOk I (64 * (k + 1)) (tripR_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (harg0.unread x0) (harg1.unread x1) (harg2.unread x2) (harg3.unread x3) (harg4.unread x4) (harg5.unread x5) (harg6.unread x6) (harg7.unread x7) (harg8.unread x8) (harg9.unread x9) (harg10.unread x10) (harg11.unread x11) k acc) := by
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, View.readAt_eq_ld, Memref.IsWhole.read_unread]
  exact ⟨fun z d e => C_new (X.chunk k) hacc.hC hacc.hm z d e, fun z d => n_new (X.chunk k) hacc.hn hacc.hm z d, fun z => m_new (X.chunk k) hacc.hm z⟩

/-- The piece of the result one trip stores. -/
def hPiece (k : Fin k0_t1_loop.trips) (g : S2x4x64x512.Idx → EReal) : View.Piece (Elt Ideal) S2x4x1024x512 .bf16 := ⟨Rect.unit (k0_off8 k) ![2, 4, 64, 512] (k0_off8_inb k), g⟩

include X in
theorem trip_piece (hacc : AccOk I (64 * k) acc) :
    ∃ g, (∀ (b : Fin 2) (h : Fin 4) (t : Fin 64) (e : Fin 512), g (ix4 b h t e) = ((I (zz b h)).h (64 * k + t) e : EReal)) ∧
      tripL_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (harg0.unread x0) (harg1.unread x1) (harg2.unread x2) (harg3.unread x3) (harg4.unread x4) (harg5.unread x5) (harg6.unread x6) (harg7.unread x7) (harg8.unread x8) (harg9.unread x9) (harg10.unread x10) (harg11.unread x11) k acc = [hPiece k g] := by
  unfold tripL_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, View.readAt_eq_ld, Memref.IsWhole.read_unread]
  exact ⟨_, fun b h t e => h_eq (X.chunk k) hacc.hC hacc.hn hacc.hm b h t e (zz b h) rfl, rfl⟩

end Loop

end Cert.ReferenceIdeal.Val
-- ==== Proof.RI.Out.lean ====
module

public import proofs.«01_k».proof.Proof.RI.Loop

@[expose] public section

set_option maxRecDepth 16384

/-! # The reference's results as reals -/

noncomputable section

namespace Cert.ReferenceIdeal.Val

open Idealize.ShloMosaic Idealize.SL.Sem Cert.ReferenceIdeal Cert.ReferenceIdeal.Gen Cert.M

section Out

variable (arg0 : Memref sig .tc .vmem S8x16x64x256 .fp8e4m3) (harg0 : arg0.IsWhole) (arg1 : Memref sig .tc .vmem S8x16x64x256 .fp8e4m3) (harg1 : arg1.IsWhole) (arg2 : Memref sig .tc .vmem S8x16x64x512 .fp8e4m3) (harg2 : arg2.IsWhole) (arg3 : Memref sig .tc .vmem S8x16x1x1 .f32) (harg3 : arg3.IsWhole) (arg4 : Memref sig .tc .vmem S8x16x1x256 .f32) (harg4 : arg4.IsWhole) (arg5 : Memref sig .tc .vmem S8x16x256x1 .f32) (harg5 : arg5.IsWhole) (arg6 : Memref sig .tc .vmem S8x16x1x1 .f32) (harg6 : arg6.IsWhole) (arg7 : Memref sig .tc .vmem S8x16x64x1 .f32) (harg7 : arg7.IsWhole) (arg8 : Memref sig .tc .vmem S8x16x1x1 .f32) (harg8 : arg8.IsWhole) (arg9 : Memref sig .tc .vmem S8x16x1x1 .f32) (harg9 : arg9.IsWhole) (arg10 : Memref sig .tc .vmem S8x16x64x1 .f32) (harg10 : arg10.IsWhole) (arg11 : Memref sig .tc .vmem S8x16x64x64 .f32) (harg11 : arg11.IsWhole) (arg12 : Memref sig .tc .vmem S2x4x1024x512 .bf16) (harg12 : arg12.IsWhole) (arg13 : Memref sig .tc .vmem S2x4x256x512 .f32) (harg13 : arg13.IsWhole) (arg14 : Memref sig .tc .vmem S2x4x256 .f32) (harg14 : arg14.IsWhole) (arg15 : Memref sig .tc .vmem S2x4 .f32) (harg15 : arg15.IsWhole) (c : Dev nD) {I : Fin 8 → Inp} (x0 : Vec Ideal S8x16x64x256 .fp8e4m3) (x1 : Vec Ideal S8x16x64x256 .fp8e4m3) (x2 : Vec Ideal S8x16x64x512 .fp8e4m3) (x3 : Vec Ideal S8x16x1x1 .f32) (x4 : Vec Ideal S8x16x1x256 .f32) (x5 : Vec Ideal S8x16x256x1 .f32) (x6 : Vec Ideal S8x16x1x1 .f32) (x7 : Vec Ideal S8x16x64x1 .f32) (x8 : Vec Ideal S8x16x1x1 .f32) (x9 : Vec Ideal S8x16x1x1 .f32) (x10 : Vec Ideal S8x16x64x1 .f32) (x11 : Vec Ideal S8x16x64x64 .f32) (X : XOk I x0 x1 x2 x3 x4 x5 x6 x7 x8 x9 x10 x11)

theorem init_ok : AccOk I 0 ((k0_pay1 : FVec Ideal S8x256x512 .f32), (k0_pay2 : FVec Ideal S8x1x256 .f32), (k0_pay3 : FVec Ideal S8x1x1 .f32)) where
  hC z d e := by
    pointwise [k0_pay1]
    simp [Inp.Cs]
  hn z d := by
    pointwise [k0_pay2]
    simp [Inp.Ns]
  hm z := by
    pointwise [k0_pay3]
    simp [Inp.ms, Inp.Fp, Inp.mu, wmax]

include X in
theorem st_ok (n : ℕ) (hn : n ≤ 16) :
    AccOk I (64 * n) (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (harg0.unread x0) (harg1.unread x1) (harg2.unread x2) (harg3.unread x3) (harg4.unread x4) (harg5.unread x5) (harg6.unread x6) (harg7.unread x7) (harg8.unread x8) (harg9.unread x9) (harg10.unread x10) (harg11.unread x11) (k0_pay1, k0_pay2, k0_pay3) n).1 ∧
    ∀ p ∈ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (harg0.unread x0) (harg1.unread x1) (harg2.unread x2) (harg3.unread x3) (harg4.unread x4) (harg5.unread x5) (harg6.unread x6) (harg7.unread x7) (harg8.unread x8) (harg9.unread x9) (harg10.unread x10) (harg11.unread x11) (k0_pay1, k0_pay2, k0_pay3) n).2, ∃ (k : Fin k0_t1_loop.trips) (g : S2x4x64x512.Idx → EReal),
      (∀ (b : Fin 2) (h : Fin 4) (t : Fin 64) (e : Fin 512), g (ix4 b h t e) = ((I (zz b h)).h (64 * k + t) e : EReal)) ∧ p = hPiece k g := by
  induction n with
  | zero =>
    rw [st_k0_t1_zero]
    exact ⟨init_ok, fun p hp => absurd hp List.not_mem_nil⟩
  | succ n ih =>
    obtain ⟨h1, h2⟩ := ih (by omega)
    have hlt : n < k0_t1_loop.trips := by rw [show k0_t1_loop.trips = 16 from rfl]; omega
    have e := st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (harg0.unread x0) (harg1.unread x1) (harg2.unread x2) (harg3.unread x3) (harg4.unread x4) (harg5.unread x5) (harg6.unread x6) (harg7.unread x7) (harg8.unread x8) (harg9.unread x9) (harg10.unread x10) (harg11.unread x11) (k0_pay1, k0_pay2, k0_pay3) ⟨n, hlt⟩
    dsimp only at e
    rw [e]
    refine ⟨trip_acc arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 c x0 x1 x2 x3 x4 x5 x6 x7 x8 x9 x10 x11 X ⟨n, hlt⟩ _ h1, fun p hp => ?_⟩
    obtain ⟨g, hg, hL⟩ := trip_piece arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 c x0 x1 x2 x3 x4 x5 x6 x7 x8 x9 x10 x11 X ⟨n, hlt⟩ _ h1
    dsimp only at hp
    rw [hL] at hp
    rcases List.mem_append.1 hp with hp | hp
    · exact ⟨_, g, hg, List.mem_singleton.1 hp⟩
    · exact h2 p hp

theorem trips_eq : Scf.trips (0#32) (Scalar.addi 0#32 16#32) 1#32 = 16 := rfl

include X in
theorem out13 (b : Fin 2) (h : Fin 4) (d : Fin 256) (e : Fin 512) : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix4 b h d e) = ((I (zz b h)).Cs 1024 d e : EReal) := by
  unfold out0_A_13 kernelRun0_A
  dsimp only
  rw [View.read_writes_cons_hit_of_coords _ _ _ _ _ (ix4 b h d e) _ (by intro a; fin_cases a <;> simp [Rect.unit, ix4])]
  have H := (st_ok arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 c x0 x1 x2 x3 x4 x5 x6 x7 x8 x9 x10 x11 X 16 le_rfl).1
  rw [trips_eq]
  pointwise [k0_pay5]
  exact H.hC (zz b h) d e

include X in
theorem out14 (b : Fin 2) (h : Fin 4) (d : Fin 256) : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix3 b h d) = ((I (zz b h)).Ns 1024 d : EReal) := by
  unfold out0_A_14 kernelRun0_A
  dsimp only
  rw [View.read_writes_cons_hit_of_coords _ _ _ _ _ (ix3 b h d) _ (by intro a; fin_cases a <;> simp [Rect.unit, ix3])]
  have H := (st_ok arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 c x0 x1 x2 x3 x4 x5 x6 x7 x8 x9 x10 x11 X 16 le_rfl).1
  rw [trips_eq]
  pointwise [k0_pay6]
  exact H.hn (zz b h) d

include X in
theorem out15 (b : Fin 2) (h : Fin 4) : out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix2 b h) = ((I (zz b h)).ms 1024 : EReal) := by
  unfold out0_A_15 kernelRun0_A
  dsimp only
  rw [View.read_writes_cons_hit_of_coords _ _ _ _ _ (ix2 b h) _ (by intro a; fin_cases a <;> simp [Rect.unit, ix2])]
  have H := (st_ok arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 c x0 x1 x2 x3 x4 x5 x6 x7 x8 x9 x10 x11 X 16 le_rfl).1
  rw [trips_eq]
  pointwise [k0_pay7]
  exact H.hm (zz b h)

include X in
theorem out12 : out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = hFun I := by
  funext y
  have hc := cover0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 y
  unfold out0_A_12
  refine View.read_writes_apply_of_pieces _ _ _ _ ?_ y hc
  unfold kernelRun0_A
  dsimp only
  rw [trips_eq]
  intro p hp x
  obtain ⟨k, g, hg, rfl⟩ := (st_ok arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 c x0 x1 x2 x3 x4 x5 x6 x7 x8 x9 x10 x11 X 16 le_rfl).2 p hp
  obtain ⟨b, h, t, e, rfl⟩ : ∃ (b : Fin 2) (h : Fin 4) (t : Fin 64) (e : Fin 512), x = ix4 b h t e :=
    ⟨x 0, x 1, x 2, x 3, by funext a; fin_cases a <;> rfl⟩
  have he : (hPiece k g).1.emb (ix4 b h t e) = (ix4 b h ⟨64 * k + t, by have : (k : ℕ) < 16 := k.isLt; omega⟩ e : S2x4x1024x512.Idx) := by
    refine Rect.emb_eq_of_coords _ _ _ fun a => ?_
    unfold hPiece Rect.unit
    dsimp only
    rw [k0_off8_eq]
    fin_cases a <;> simp [ix4]
  rw [he]
  exact hg b h t e

end Out
end Cert.ReferenceIdeal.Val
-- ==== Proof.RI.HostDef.lean ====
module

public import proofs.«01_k».proof.Proof.Gen.ReferenceIdeal.Frame
public import Idealize.ShloMosaic.Lib.Pointwise
public import Idealize.ShloMosaic.Lib.StableHlo.RunRead
public import proofs.«01_k».proof.Proof.M.Args
public import proofs.«01_k».proof.Proof.RI.Trip

@[expose] public section

set_option maxRecDepth 16384

/-! # The reference's host arrays before its kernel, as functions of the arguments -/

noncomputable section

namespace Cert.ReferenceIdeal.Val

open Idealize.ShloMosaic Idealize.SL.Sem Cert.ReferenceIdeal Cert.ReferenceIdeal.Gen Cert.M

/-- The log gates: minus softplus of minus the gate. -/
def spV (g : FVec Ideal S2x4x1024 .f32) : FVec Ideal S2x4x1024 .f32 :=
  select (cmpf .une (subf g (broadcastInDim S2x4x1024 ![] bcast_S_S2x4x1024 (constant S_ .f32 0x00000000#32))) (subf g (broadcastInDim S2x4x1024 ![] bcast_S_S2x4x1024 (constant S_ .f32 0x00000000#32))))
    (addf g (broadcastInDim S2x4x1024 ![] bcast_S_S2x4x1024 (constant S_ .f32 0x00000000#32)))
    (addf (maximumf g (broadcastInDim S2x4x1024 ![] bcast_S_S2x4x1024 (constant S_ .f32 0x00000000#32)))
      (Host.log1p (Host.exp (Host.negf (Host.absf (subf g (broadcastInDim S2x4x1024 ![] bcast_S_S2x4x1024 (constant S_ .f32 0x00000000#32))))))))
def lsV (f : FVec Ideal S2x4x1024 .f32) : FVec Ideal S8x16x64 .f32 := shapeCast S8x16x64 (Host.negf (spV (Host.negf f))) shapeCasts_S2x4x1024_S8x16x64
def igV (i : FVec Ideal S2x4x1024 .f32) : FVec Ideal S8x16x64 .f32 := shapeCast S8x16x64 i shapeCasts_S2x4x1024_S8x16x64
def bV (ls : FVec Ideal S8x16x64 .f32) : FVec Ideal S8x16x64 .f32 :=
  Host.reduceWindowAdd ![1, 1, 64] ![1, 1, 1] ![0, 0, 63] ![0, 0, 0] ls (broadcastInDim S_ ![] bcast_S_S_ (constant S_ .f32 0x00000000#32)) reduceWindows_S8x16x64_S8x16x64_w1s1p0_0_w1s1p0_0_w64s1p63_0 h_S_
def bLV (b : FVec Ideal S8x16x64 .f32) : FVec Ideal S8x16x1 .f32 := extractStridedSlice S8x16x1 ![0, 0, 63] b slices_S8x16x64_S8x16x1_0_0_63
def aV (b i : FVec Ideal S8x16x64 .f32) : FVec Ideal S8x16x64 .f32 := addf (subf (broadcastInDim S8x16x64 ![0, 1, 2] bcast_S8x16x1_S8x16x64_0_1_2 (bLV b)) b) i
def amV (a : FVec Ideal S8x16x64 .f32) : FVec Ideal S8x16x1 .f32 :=
  broadcastInDim S8x16x1 ![0, 1] bcast_S8x16_S8x16x1_0_1 (Host.reduce FloatOps.maximumf a (constant S_ .f32 0xFF800000#32) reducesTo_S8x16x64_S8x16_d2 h_S_)
def wV (a : FVec Ideal S8x16x64 .f32) : FVec Ideal S8x16x64 .f32 := Host.exp (subf a (broadcastInDim S8x16x64 ![0, 1, 2] bcast_S8x16x1_S8x16x64_0_1_2 (amV a)))
def maskV : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
def DV (b i : FVec Ideal S8x16x64 .f32) : FVec Ideal S8x16x64x64 .f32 :=
  select (broadcastInDim S8x16x64x64 ![2, 3] bcast_S64x64_S8x16x64x64_2_3 maskV)
    (addf (subf (broadcastInDim S8x16x64x64 ![0, 1, 2, 3] bcast_S8x16x64x1_S8x16x64x64_0_1_2_3 (broadcastInDim S8x16x64x1 ![0, 1, 2] bcast_S8x16x64_S8x16x64x1_0_1_2 b))
        (broadcastInDim S8x16x64x64 ![0, 1, 2, 3] bcast_S8x16x1x64_S8x16x64x64_0_1_2_3 (broadcastInDim S8x16x1x64 ![0, 1, 3] bcast_S8x16x64_S8x16x1x64_0_1_3 b)))
      (broadcastInDim S8x16x64x64 ![0, 1, 2, 3] bcast_S8x16x1x64_S8x16x64x64_0_1_2_3 (broadcastInDim S8x16x1x64 ![0, 1, 3] bcast_S8x16x64_S8x16x1x64_0_1_3 i)))
    (broadcastInDim S8x16x64x64 ![] bcast_S_S8x16x64x64 (constant S_ .f32 0xFF800000#32))
-- ==== Proof.RI.Host.lean ====
module

public import proofs.«01_k».proof.Proof.Gen.ReferenceIdeal.Frame
public import Idealize.ShloMosaic.Lib.Pointwise
public import Idealize.ShloMosaic.Lib.StableHlo.RunRead
public import proofs.«01_k».proof.Proof.M.Args
public import proofs.«01_k».proof.Proof.RI.HostDef

@[expose] public section

set_option maxRecDepth 16384

/-! # The reference's host arrays before its kernel -/

noncomputable section

namespace Cert.ReferenceIdeal.Val

open Idealize.ShloMosaic Idealize.SL.Sem Cert.ReferenceIdeal Cert.ReferenceIdeal.Gen Cert.M

section Entry

variable (m : (ℓ : Loc nD τ sig) → Buf (Elt Ideal) ℓ) (c : Dev nD)

theorem V_v27 : (V (F := Ideal) m c main_v27 : FVec Ideal S8x16x64x256 .fp8e4m3) = (shapeCast S8x16x64x256 (Host.convertf (s := S2x4x1024x256) (φ := .f32) .fp8e4m3 (m (c.tc.loc main_arg0) )) shapeCasts_S2x4x1024x256_S8x16x64x256 : FVec Ideal S8x16x64x256 .fp8e4m3) := by
  unfold_abbrev_sides
  after_reads_simp
  rfl

theorem V_v28 : (V (F := Ideal) m c main_v28 : FVec Ideal S8x16x64x256 .fp8e4m3) = (shapeCast S8x16x64x256 (Host.convertf (s := S2x4x1024x256) (φ := .f32) .fp8e4m3 (m (c.tc.loc main_arg1) )) shapeCasts_S2x4x1024x256_S8x16x64x256 : FVec Ideal S8x16x64x256 .fp8e4m3) := by
  unfold_abbrev_sides
  after_reads_simp
  rfl

theorem V_v29 : (V (F := Ideal) m c main_v29 : FVec Ideal S8x16x64x512 .fp8e4m3) = (shapeCast S8x16x64x512 (Host.convertf (s := S2x4x1024x512) (φ := .f32) .fp8e4m3 (m (c.tc.loc main_arg2) )) shapeCasts_S2x4x1024x512_S8x16x64x512 : FVec Ideal S8x16x64x512 .fp8e4m3) := by
  unfold_abbrev_sides
  after_reads_simp
  rfl

theorem V_v30 : (V (F := Ideal) m c main_v30 : FVec Ideal S8x16x1x1 .f32) = (shapeCast S8x16x1x1 (s := S2x4x16) (m (c.tc.loc main_arg3)) shapeCasts_S2x4x16_S8x16x1x1 : FVec Ideal S8x16x1x1 .f32) := by
  unfold_abbrev_sides
  after_reads_simp
  rfl

theorem V_v31 : (V (F := Ideal) m c main_v31 : FVec Ideal S8x16x1x256 .f32) = (shapeCast S8x16x1x256 (s := S2x4x16x256) (m (c.tc.loc main_arg4)) shapeCasts_S2x4x16x256_S8x16x1x256 : FVec Ideal S8x16x1x256 .f32) := by
  unfold_abbrev_sides
  after_reads_simp
  rfl

theorem V_v32 : (V (F := Ideal) m c main_v32 : FVec Ideal S8x16x256x1 .f32) = (shapeCast S8x16x256x1 (s := S2x4x16x256) (m (c.tc.loc main_arg4)) shapeCasts_S2x4x16x256_S8x16x256x1 : FVec Ideal S8x16x256x1 .f32) := by
  unfold_abbrev_sides
  after_reads_simp
  rfl

theorem V_v33 : (V (F := Ideal) m c main_v33 : FVec Ideal S8x16x1x1 .f32) = (shapeCast S8x16x1x1 (s := S2x4x16) (m (c.tc.loc main_arg5)) shapeCasts_S2x4x16_S8x16x1x1 : FVec Ideal S8x16x1x1 .f32) := by
  unfold_abbrev_sides
  after_reads_simp
  rfl

theorem V_v34 : (V (F := Ideal) m c main_v34 : FVec Ideal S8x16x64x1 .f32) = (broadcastInDim S8x16x64x1 ![0, 1, 2] bcast_S8x16x64_S8x16x64x1_0_1_2 (bV (lsV (m (c.tc.loc main_arg7)))) : FVec Ideal S8x16x64x1 .f32) := by
  unfold_abbrev_sides
  after_results
  rfl

theorem V_v35 : (V (F := Ideal) m c main_v35 : FVec Ideal S8x16x1x1 .f32) = (broadcastInDim S8x16x1x1 ![0, 1, 2] bcast_S8x16x1_S8x16x1x1_0_1_2 (bLV (bV (lsV (m (c.tc.loc main_arg7))))) : FVec Ideal S8x16x1x1 .f32) := by
  unfold_abbrev_sides
  after_results
  rfl

theorem V_v36 : (V (F := Ideal) m c main_v36 : FVec Ideal S8x16x1x1 .f32) = (broadcastInDim S8x16x1x1 ![0, 1, 2] bcast_S8x16x1_S8x16x1x1_0_1_2 (amV (aV (bV (lsV (m (c.tc.loc main_arg7)))) (igV (m (c.tc.loc main_arg6))))) : FVec Ideal S8x16x1x1 .f32) := by
  unfold_abbrev_sides
  after_results
  rfl

theorem V_v37 : (V (F := Ideal) m c main_v37 : FVec Ideal S8x16x64x1 .f32) = (broadcastInDim S8x16x64x1 ![0, 1, 2] bcast_S8x16x64_S8x16x64x1_0_1_2 (wV (aV (bV (lsV (m (c.tc.loc main_arg7)))) (igV (m (c.tc.loc main_arg6))))) : FVec Ideal S8x16x64x1 .f32) := by
  unfold_abbrev_sides
  after_results
  rfl

theorem V_v26 : (V (F := Ideal) m c main_v26 : FVec Ideal S8x16x64x64 .f32) = (DV (bV (lsV (m (c.tc.loc main_arg7)))) (igV (m (c.tc.loc main_arg6))) : FVec Ideal S8x16x64x64 .f32) := by
  unfold_abbrev_sides
  after_reads_simp
  rfl

end Entry
-- ==== Proof.RI.HostVal.lean ====
module

public import proofs.«01_k».proof.Proof.RI.HostDef

@[expose] public section

set_option maxRecDepth 16384

/-! # The reference's host arrays as reals -/

noncomputable section

namespace Cert.ReferenceIdeal.Val

open Idealize.ShloMosaic Idealize.SL.Sem Cert.ReferenceIdeal Cert.ReferenceIdeal.Gen Cert.M

/-! ## The pure parts at an index -/

variable {I : Fin 8 → Inp} {a0 a1 : FVec Ideal S2x4x1024x256 .f32} {a2 : FVec Ideal S2x4x1024x512 .f32} {a3 : FVec Ideal S2x4x16 .f32} {a4 : FVec Ideal S2x4x16x256 .f32}
  {a5 : FVec Ideal S2x4x16 .f32} {a6 a7 : FVec Ideal S2x4x1024 .f32} (A : ArgsOk I a0 a1 a2 a3 a4 a5 a6 a7)

include A in
theorem ls_at (z : Fin 8) (c : Fin 16) (s : Fin 64) : lsV a7 (ix3 z c s) = ((I z).lf (64 * c + s) : EReal) := by
  pointwise [lsV, spV, A.g7]
  simp only [← EReal.coe_neg, absf_coe, Ideal.exp_coe, abs_neg]
  rw [if_neg (by simp), log1p_coe _ (Real.exp_pos _), ← EReal.coe_zero, ← coe_max', ← EReal.coe_add, ← EReal.coe_neg]
  congr 1
  rw [Inp.lf, show 64 * (c : ℕ) + s = c * 64 + s by ring, min_def, max_def]
  split <;> split <;> first | linarith | (exfalso; linarith)

include A in
theorem ig_at (z : Fin 8) (c : Fin 16) (s : Fin 64) : igV a6 (ix3 z c s) = ((I z).ig (64 * c + s) : EReal) := by
  pointwise [igV, A.g6]
  rw [show 64 * (c : ℕ) + s = c * 64 + s by ring]

include A in
theorem b_at (z : Fin 8) (c : Fin 16) (s : Fin 64) : bV (lsV a7) (ix3 z c s) = (((I z).Fp (64 * c + s + 1) - (I z).Fp (64 * c) : ℝ) : EReal) := by
  rw [bV, cumsum_at _ _ _ _ (by pointwise) z c (fun s => (I z).lf (64 * c + s)) (fun s => ls_at A z c s)]
  rw [show 64 * (c : ℕ) + s + 1 = 64 * c + (s + 1) from rfl, Inp.Fp_add, add_sub_cancel_left, Finset.sum_range]

include A in
theorem bL_at (z : Fin 8) (c : Fin 16) : bLV (bV (lsV a7)) (ix3 z c 0) = (((I z).Fp (64 * c + 64) - (I z).Fp (64 * c) : ℝ) : EReal) := by
  have h := b_at A z c 63
  generalize bV (lsV a7) = b at h ⊢
  pointwise [bLV]
  exact h

include A in
theorem a_at (z : Fin 8) (c : Fin 16) (s : Fin 64) : aV (bV (lsV a7)) (igV a6) (ix3 z c s) = (((I z).Fp (64 * c + 64) + (I z).G (64 * c + s) : ℝ) : EReal) := by
  have hL := bL_at A z c
  have hb := b_at A z c s
  have hi := ig_at A z c s
  generalize bV (lsV a7) = b at hL hb ⊢
  generalize igV a6 = i at hi ⊢
  generalize hB : bLV b = B at hL
  pointwise [aV, hB, hL, hb, hi]
  simp only [← EReal.coe_add, ← EReal.coe_sub]
  congr 1
  rw [Inp.G]
  ring

include A in
theorem am_at (z : Fin 8) (c : Fin 16) : amV (aV (bV (lsV a7)) (igV a6)) (ix3 z c 0) = (((I z).Fp (64 * c + 64) + wmax (fun i => (I z).G (64 * c + i)) 63 : ℝ) : EReal) := by
  have h := a_at A z c
  generalize aV (bV (lsV a7)) (igV a6) = a at h ⊢
  pointwise [amV, h]
  rw [ofBits_bot, fold_max (N := 63) (fun x => (I z).Fp (64 * ↑c + 64) + (I z).G (64 * ↑c + x)), wmax_add]

include A in
theorem w_at (z : Fin 8) (c : Fin 16) (s : Fin 64) : wV (aV (bV (lsV a7)) (igV a6)) (ix3 z c s) = ((Real.exp ((I z).G (64 * c + s) - wmax (fun i => (I z).G (64 * c + i)) 63) : ℝ) : EReal) := by
  have h := a_at A z c s
  have h' := am_at A z c
  generalize aV (bV (lsV a7)) (igV a6) = a at h h' ⊢
  generalize hB : amV a = B at h'
  pointwise [wV, hB, h, h']
  simp only [← EReal.coe_sub, Ideal.exp_coe]
  congr 2
  ring

theorem mask_at (t s : Fin 64) : maskV (ix2 t s) = BitVec.ofBool (decide ((s : ℕ) ≤ t)) := by
  pointwise [maskV, hlo_ix]
  rw [show IntOp.addi (BitVec.ofNat 32 t) 0#32 = BitVec.ofNat 32 t from BitVec.add_zero _]
  word_cmp
  split <;> rename_i hh <;> first | (rw [decide_eq_true (by omega)]; rfl) | (rw [decide_eq_false (by omega)]; rfl)

include A in
theorem D_at (z : Fin 8) (c : Fin 16) (t s : Fin 64) : DV (bV (lsV a7)) (igV a6) (ix4 z c t s) = if (s : ℕ) ≤ t then (((I z).Fp (64 * c + t + 1) + (I z).G (64 * c + s) : ℝ) : EReal) else ⊥ := by
  have hb := b_at A z c
  have hi := ig_at A z c s
  have hm := mask_at t s
  generalize bV (lsV a7) = b at hb ⊢
  generalize igV a6 = i at hi ⊢
  generalize hB : maskV = B at hm
  pointwise [DV, hB, hm, hb, hi]
  rw [ofBits_bot]
  simp only [← EReal.coe_add, ← EReal.coe_sub]
  split
  · congr 1
    rw [Inp.G]
    ring
  · rfl
-- ==== Proof.RI.Final.lean ====
module

public import Idealize.ShloMosaic.Lib.Pipeline.ValueKit
public import proofs.«01_k».proof.Proof.RI.Out
public import proofs.«01_k».proof.Proof.RI.Host
public import proofs.«01_k».proof.Proof.RI.HostVal

@[expose] public section

set_option maxRecDepth 16384

/-! # The reference's result arrays -/

noncomputable section

namespace Cert.ReferenceIdeal.Val

open Idealize.ShloMosaic Idealize.SL.Sem Cert.ReferenceIdeal Cert.ReferenceIdeal.Gen Cert.M

variable (m : (ℓ : Loc nD τ sig) → Buf (Elt Ideal) ℓ) (c : Dev nD)

/-- The reference's entry contents are the reals `I`. -/
abbrev Ok (I : Fin 8 → Inp) : Prop :=
  ArgsOk I (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

variable {m c} {I : Fin 8 → Inp} (A : Ok m c I)

theorem iblk_0 (t : Fin cfg0.N) : (iblk m c 0 t : Vec Ideal S8x16x64x256 .fp8e4m3) = V (F := Ideal) m c main_v27 := by
  funext j
  blk_simp [iblk]
  refine congrArg _ (funext fun a => Fin.ext ?_)
  rw [show (win0_0.blk t).view.emb j a = _ from rfl]
  fin_cases a <;> blk_simp <;> first | exact (congrArg (· + _) (Nat.zero_mul _)).trans (Nat.zero_add _) | exact rfl | (show (_ : ℕ) = 0; decide +revert +kernel)

theorem iblk_1 (t : Fin cfg0.N) : (iblk m c 1 t : Vec Ideal S8x16x64x256 .fp8e4m3) = V (F := Ideal) m c main_v28 := by
  funext j
  blk_simp [iblk]
  refine congrArg _ (funext fun a => Fin.ext ?_)
  rw [show (win0_1.blk t).view.emb j a = _ from rfl]
  fin_cases a <;> blk_simp <;> first | exact (congrArg (· + _) (Nat.zero_mul _)).trans (Nat.zero_add _) | exact rfl | (show (_ : ℕ) = 0; decide +revert +kernel)

theorem iblk_2 (t : Fin cfg0.N) : (iblk m c 2 t : Vec Ideal S8x16x64x512 .fp8e4m3) = V (F := Ideal) m c main_v29 := by
  funext j
  blk_simp [iblk]
  refine congrArg _ (funext fun a => Fin.ext ?_)
  rw [show (win0_2.blk t).view.emb j a = _ from rfl]
  fin_cases a <;> blk_simp <;> first | exact (congrArg (· + _) (Nat.zero_mul _)).trans (Nat.zero_add _) | exact rfl | (show (_ : ℕ) = 0; decide +revert +kernel)

theorem iblk_3 (t : Fin cfg0.N) : (iblk m c 3 t : Vec Ideal S8x16x1x1 .f32) = V (F := Ideal) m c main_v30 := by
  funext j
  blk_simp [iblk]
  refine congrArg _ (funext fun a => Fin.ext ?_)
  rw [show (win0_3.blk t).view.emb j a = _ from rfl]
  fin_cases a <;> blk_simp <;> first | exact (congrArg (· + _) (Nat.zero_mul _)).trans (Nat.zero_add _) | exact rfl | (show (_ : ℕ) = 0; decide +revert +kernel)

theorem iblk_4 (t : Fin cfg0.N) : (iblk m c 4 t : Vec Ideal S8x16x1x256 .f32) = V (F := Ideal) m c main_v31 := by
  funext j
  blk_simp [iblk]
  refine congrArg _ (funext fun a => Fin.ext ?_)
  rw [show (win0_4.blk t).view.emb j a = _ from rfl]
  fin_cases a <;> blk_simp <;> first | exact (congrArg (· + _) (Nat.zero_mul _)).trans (Nat.zero_add _) | exact rfl | (show (_ : ℕ) = 0; decide +revert +kernel)

theorem iblk_5 (t : Fin cfg0.N) : (iblk m c 5 t : Vec Ideal S8x16x256x1 .f32) = V (F := Ideal) m c main_v32 := by
  funext j
  blk_simp [iblk]
  refine congrArg _ (funext fun a => Fin.ext ?_)
  rw [show (win0_5.blk t).view.emb j a = _ from rfl]
  fin_cases a <;> blk_simp <;> first | exact (congrArg (· + _) (Nat.zero_mul _)).trans (Nat.zero_add _) | exact rfl | (show (_ : ℕ) = 0; decide +revert +kernel)

theorem iblk_6 (t : Fin cfg0.N) : (iblk m c 6 t : Vec Ideal S8x16x1x1 .f32) = V (F := Ideal) m c main_v33 := by
  funext j
  blk_simp [iblk]
  refine congrArg _ (funext fun a => Fin.ext ?_)
  rw [show (win0_6.blk t).view.emb j a = _ from rfl]
  fin_cases a <;> blk_simp <;> first | exact (congrArg (· + _) (Nat.zero_mul _)).trans (Nat.zero_add _) | exact rfl | (show (_ : ℕ) = 0; decide +revert +kernel)

theorem iblk_7 (t : Fin cfg0.N) : (iblk m c 7 t : Vec Ideal S8x16x64x1 .f32) = V (F := Ideal) m c main_v34 := by
  funext j
  blk_simp [iblk]
  refine congrArg _ (funext fun a => Fin.ext ?_)
  rw [show (win0_7.blk t).view.emb j a = _ from rfl]
  fin_cases a <;> blk_simp <;> first | exact (congrArg (· + _) (Nat.zero_mul _)).trans (Nat.zero_add _) | exact rfl | (show (_ : ℕ) = 0; decide +revert +kernel)

theorem iblk_8 (t : Fin cfg0.N) : (iblk m c 8 t : Vec Ideal S8x16x1x1 .f32) = V (F := Ideal) m c main_v35 := by
  funext j
  blk_simp [iblk]
  refine congrArg _ (funext fun a => Fin.ext ?_)
  rw [show (win0_8.blk t).view.emb j a = _ from rfl]
  fin_cases a <;> blk_simp <;> first | exact (congrArg (· + _) (Nat.zero_mul _)).trans (Nat.zero_add _) | exact rfl | (show (_ : ℕ) = 0; decide +revert +kernel)

theorem iblk_9 (t : Fin cfg0.N) : (iblk m c 9 t : Vec Ideal S8x16x1x1 .f32) = V (F := Ideal) m c main_v36 := by
  funext j
  blk_simp [iblk]
  refine congrArg _ (funext fun a => Fin.ext ?_)
  rw [show (win0_9.blk t).view.emb j a = _ from rfl]
  fin_cases a <;> blk_simp <;> first | exact (congrArg (· + _) (Nat.zero_mul _)).trans (Nat.zero_add _) | exact rfl | (show (_ : ℕ) = 0; decide +revert +kernel)

theorem iblk_10 (t : Fin cfg0.N) : (iblk m c 10 t : Vec Ideal S8x16x64x1 .f32) = V (F := Ideal) m c main_v37 := by
  funext j
  blk_simp [iblk]
  refine congrArg _ (funext fun a => Fin.ext ?_)
  rw [show (win0_10.blk t).view.emb j a = _ from rfl]
  fin_cases a <;> blk_simp <;> first | exact (congrArg (· + _) (Nat.zero_mul _)).trans (Nat.zero_add _) | exact rfl | (show (_ : ℕ) = 0; decide +revert +kernel)

theorem iblk_11 (t : Fin cfg0.N) : (iblk m c 11 t : Vec Ideal S8x16x64x64 .f32) = V (F := Ideal) m c main_v26 := by
  funext j
  blk_simp [iblk]
  refine congrArg _ (funext fun a => Fin.ext ?_)
  rw [show (win0_11.blk t).view.emb j a = _ from rfl]
  fin_cases a <;> blk_simp <;> first | exact (congrArg (· + _) (Nat.zero_mul _)).trans (Nat.zero_add _) | exact rfl | (show (_ : ℕ) = 0; decide +revert +kernel)

include A in
theorem xOk (t : Fin cfg0.N) : XOk I (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) where
  h0 z c' s d := by
    rw [iblk_0, V_v27]
    pointwise [A.g0]
    rw [Nat.mul_comm 64 (c' : ℕ)]
  h1 z c' s d := by
    rw [iblk_1, V_v28]
    pointwise [A.g1]
    rw [Nat.mul_comm 64 (c' : ℕ)]
  h2 z c' s d := by
    rw [iblk_2, V_v29]
    pointwise [A.g2]
    rw [Nat.mul_comm 64 (c' : ℕ)]
  h3 z c' := by
    rw [iblk_3, V_v30]
    pointwise [A.g3]
  h4 z c' d := by
    rw [iblk_4, V_v31]
    pointwise [A.g4]
  h5 z c' d := by
    rw [iblk_5, V_v32]
    pointwise [A.g4]
  h6 z c' := by
    rw [iblk_6, V_v33]
    pointwise [A.g5]
  h7 z c' s := by
    have h := b_at A z c' s
    rw [iblk_7, V_v34]
    generalize bV (lsV (m (c.tc.loc main_arg7))) = b at h ⊢
    pointwise [h]
  h8 z c' := by
    have h := bL_at A z c'
    rw [iblk_8, V_v35]
    generalize bLV (bV (lsV (m (c.tc.loc main_arg7)))) = b at h ⊢
    pointwise [h]
  h9 z c' := by
    have h := am_at A z c'
    rw [iblk_9, V_v36]
    generalize amV (aV (bV (lsV (m (c.tc.loc main_arg7)))) (igV (m (c.tc.loc main_arg6)))) = b at h ⊢
    pointwise [h]
  h10 z c' s := by
    have h := w_at A z c' s
    rw [iblk_10, V_v37]
    generalize wV (aV (bV (lsV (m (c.tc.loc main_arg7)))) (igV (m (c.tc.loc main_arg6)))) = b at h ⊢
    pointwise [h]
  h11 z c' t' s := by
    rw [iblk_11, V_v26]
    exact D_at A z c' t' s

include A in
theorem arr12 : (dats m 0 c).arrAt 12 cfg0.N = hFun I := by
  refine (dats m 0 c).arrAt_eq_of_after_last 12 t0_0 (by decide +kernel) _ fun j => ?_
  rw [after0_12]
  have hx := xOk A t0_0
  unfold outsAt0
  dsimp only
  rw [cast_eq]
  rw [out12 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) c _ _ _ _ _ _ _ _ _ _ _ _ hx]
  rfl

include A in
theorem arr13 : (dats m 0 c).arrAt 13 cfg0.N = cFun I := by
  refine (dats m 0 c).arrAt_eq_of_after_last 13 t0_0 (by decide +kernel) _ fun j => ?_
  rw [after0_13]
  have hx := xOk A t0_0
  unfold outsAt0
  dsimp only
  rw [cast_eq]
  have h := fun b h d e => out13 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) c _ _ _ _ _ _ _ _ _ _ _ _ hx b h d e
  refine Eq.trans (congrArg _ ?_) (h (j 0) (j 1) (j 2) (j 3))
  funext a
  fin_cases a <;> rfl

include A in
theorem arr14 : (dats m 0 c).arrAt 14 cfg0.N = nFun I := by
  refine (dats m 0 c).arrAt_eq_of_after_last 14 t0_0 (by decide +kernel) _ fun j => ?_
  rw [after0_14]
  have hx := xOk A t0_0
  unfold outsAt0
  dsimp only
  rw [cast_eq]
  have h := fun b h d => out14 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) c _ _ _ _ _ _ _ _ _ _ _ _ hx b h d
  refine Eq.trans (congrArg _ ?_) (h (j 0) (j 1) (j 2))
  funext a
  fin_cases a <;> rfl

include A in
theorem arr15 : (dats m 0 c).arrAt 15 cfg0.N = mFun I := by
  refine (dats m 0 c).arrAt_eq_of_after_last 15 t0_0 (by decide +kernel) _ fun j => ?_
  rw [after0_15]
  have hx := xOk A t0_0
  unfold outsAt0
  dsimp only
  rw [cast_eq]
  have h := fun b h => out15 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) c _ _ _ _ _ _ _ _ _ _ _ _ hx b h
  refine Eq.trans (congrArg _ ?_) (h (j 0) (j 1))
  funext a
  fin_cases a <;> rfl

/-- The reference runs and leaves the four results of the reals `I`, the arguments as they were. -/
theorem ref_run (ρ : Dev nD → PrngReg) {I : Dev nD → Fin 8 → Inp} (A : ∀ c, Ok m c (I c)) :
    θ_run (defs (F := Ideal)) (onTc (τ := τ) (main (F := Ideal))) ⟨m, fun _ => 0, ρ⟩ (fun r => ∀ c : Dev nD,
      r.2.mem (c.tc.loc main_v38_0) = hFun (I c) ∧ r.2.mem (c.tc.loc main_v38_1) = cFun (I c)
      ∧ r.2.mem (c.tc.loc main_v38_2) = nFun (I c) ∧ r.2.mem (c.tc.loc main_v38_3) = mFun (I c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7)) :=
  (θ_run defs _ _).mono (fun r h c => ⟨((h.1 c).1 12).trans (arr12 (A c)), ((h.1 c).1 13).trans (arr13 (A c)), ((h.1 c).1 14).trans (arr14 (A c)),
    ((h.1 c).1 15).trans (arr15 (A c)), h.2 c⟩) (θ_run_and (run_main m ρ) (unchanged m ρ))

end Cert.ReferenceIdeal.Val
-- ==== Proof.Alg.Pre.lean ====
module

public import Idealize.ShloMosaic.Lib.ReduceAll
public import Idealize.ShloMosaic.Lib.Pointwise
public import Idealize.ShloMosaic.Lib.Affine
public import proofs.«01_k».proof.Pre_tame
public import proofs.«01_k».proof.Proof.M.Args

@[expose] public section

/-! # What the precondition says: the eight arguments are reals, and the query scales are not negative -/

noncomputable section

namespace Cert.Pre_tame

/-- The shape relations that the precondition's operations take. -/
instance facts : Facts where
  bcast_S_S2x4x1024x256 := by decide
  reducesTo_S2x4x1024x256_S_d0_1_2_3 := by decide
  h_S_ := by decide
  bcast_S_S2x4x1024x512 := by decide
  reducesTo_S2x4x1024x512_S_d0_1_2_3 := by decide
  bcast_S_S2x4x16 := by decide
  reducesTo_S2x4x16_S_d0_1_2 := by decide
  bcast_S_S2x4x16x256 := by decide
  reducesTo_S2x4x16x256_S_d0_1_2_3 := by decide
  bcast_S_S2x4x1024 := by decide
  reducesTo_S2x4x1024_S_d0_1_2 := by decide

end Cert.Pre_tame

namespace Cert.M

open Idealize.ShloMosaic

/-- A number whose absolute value is below infinity is a real. -/
theorem real_of_abs_lt (x : EReal) (h : Ideal.cmp .olt (max x (-x)) (Ideal.ofBits .f32 0x7F800000#32) = 1#1) : x = (x.toReal : EReal) := by
  have e : Ideal.ofBits .f32 0x7F800000#32 = ⊤ := by simp [Ideal.ofBits, Ideal.ieee]
  rw [e] at h
  have h1 : max x (-x) < ⊤ := by
    by_contra hc
    simp [Ideal.cmp, hc] at h
  refine (EReal.coe_toReal ?_ ?_).symm
  · rintro rfl; simp at h1
  · rintro rfl; simp at h1

/-- A number at or above zero has a real part at or above zero. -/
theorem nonneg_of_ge (x : EReal) (h : Ideal.cmp .oge x (Ideal.ofBits .f32 0x00000000#32) = 1#1) : 0 ≤ x.toReal := by
  have e : Ideal.ofBits .f32 0x00000000#32 = 0 := by simp [Ideal.ofBits, Ideal.ieee]
  rw [e] at h
  have h1 : (0 : EReal) ≤ x := by
    by_contra hc
    simp [Ideal.cmp, hc] at h
  exact EReal.toReal_nonneg h1

instance : Subsingleton Cert.Pre_tame.S_.Idx := ⟨fun a b => funext fun i => i.elim0⟩

/-- The element at a row given as a natural number; zero past the end. -/
def at4 {n w : ℕ} (a : Vec Ideal ⟨4, ![2, 4, n, w]⟩ .f32) (z : Fin 8) (t : ℕ) (d : Fin w) : ℝ :=
  if h : t < n then (a (ix4 (⟨(z : ℕ) / 4, by omega⟩ : Fin 2) (⟨(z : ℕ) % 4, by omega⟩ : Fin 4) (⟨t, h⟩ : Fin n) d) : EReal).toReal else 0
def at3 {n : ℕ} (a : Vec Ideal ⟨3, ![2, 4, n]⟩ .f32) (z : Fin 8) (t : ℕ) : ℝ :=
  if h : t < n then (a (ix3 (⟨(z : ℕ) / 4, by omega⟩ : Fin 2) (⟨(z : ℕ) % 4, by omega⟩ : Fin 4) (⟨t, h⟩ : Fin n)) : EReal).toReal else 0

theorem zz_b (b : Fin 2) (h : Fin 4) (p) : (⟨(zz b h : ℕ) / 4, p⟩ : Fin 2) = b := Fin.ext (by simp [zz]; omega)
theorem zz_h (b : Fin 2) (h : Fin 4) (p) : (⟨(zz b h : ℕ) % 4, p⟩ : Fin 4) = h := Fin.ext (by simp [zz])

theorem at4_zz {n w : ℕ} (a : Vec Ideal ⟨4, ![2, 4, n, w]⟩ .f32) (b : Fin 2) (h : Fin 4) (t : Fin n) (d : Fin w) :
    at4 a (zz b h) t d = (a (ix4 b h t d) : EReal).toReal := by
  rw [at4, dif_pos t.isLt, zz_b, zz_h]
theorem at3_zz {n : ℕ} (a : Vec Ideal ⟨3, ![2, 4, n]⟩ .f32) (b : Fin 2) (h : Fin 4) (t : Fin n) :
    at3 a (zz b h) t = (a (ix3 b h t) : EReal).toReal := by
  rw [at3, dif_pos t.isLt, zz_b, zz_h]

/-- The arguments' real parts, by batch and head. -/
def inpOf (a0 a1 : Vec Ideal ⟨4, ![2, 4, 1024, 256]⟩ .f32) (a2 : Vec Ideal ⟨4, ![2, 4, 1024, 512]⟩ .f32)
    (a3 : Vec Ideal ⟨3, ![2, 4, 16]⟩ .f32) (a4 : Vec Ideal ⟨4, ![2, 4, 16, 256]⟩ .f32) (a5 : Vec Ideal ⟨3, ![2, 4, 16]⟩ .f32)
    (a6 a7 : Vec Ideal ⟨3, ![2, 4, 1024]⟩ .f32) (z : Fin 8) : Inp where
  q := at4 a0 z
  k := at4 a1 z
  v := at4 a2 z
  qs := at3 a3 z
  ks := at4 a4 z
  vs := at3 a5 z
  ig := at3 a6 z
  fp := at3 a7 z

/-- Under the precondition every argument is its real part, and no query scale is negative. -/
theorem ok_of_pre (a0 a1 : Vec Ideal ⟨4, ![2, 4, 1024, 256]⟩ .f32) (a2 : Vec Ideal ⟨4, ![2, 4, 1024, 512]⟩ .f32)
    (a3 : Vec Ideal ⟨3, ![2, 4, 16]⟩ .f32) (a4 : Vec Ideal ⟨4, ![2, 4, 16, 256]⟩ .f32) (a5 : Vec Ideal ⟨3, ![2, 4, 16]⟩ .f32)
    (a6 a7 : Vec Ideal ⟨3, ![2, 4, 1024]⟩ .f32)
    (hp : Cert.Pre_tame.fn (F := Ideal) a0 a1 a2 a3 a4 a5 a6 a7 = fun _ => 1#1) :
    ArgsOk (inpOf a0 a1 a2 a3 a4 a5 a6 a7) a0 a1 a2 a3 a4 a5 a6 a7 ∧ ∀ z j, 0 ≤ (inpOf a0 a1 a2 a3 a4 a5 a6 a7 z).qs j := by
  have h := congrFun hp ix0
  simp only [Cert.Pre_tame.fn, Cert.Pre_tame.fn_part1, Cert.Pre_tame.fn_part2, andi_apply] at h
  simp only [IntOp.andi_eq_one] at h
  obtain ⟨⟨⟨⟨⟨⟨⟨⟨h0, h1⟩, h2⟩, h3⟩, h4⟩, h5⟩, h6⟩, h7⟩, h8⟩ := h
  have k0 := fun i => real_of_abs_lt (a0 i) (Host.reduce_andi_all _ _ _ _ _ h0 i)
  have k1 := fun i => real_of_abs_lt (a1 i) (Host.reduce_andi_all _ _ _ _ _ h1 i)
  have k2 := fun i => real_of_abs_lt (a2 i) (Host.reduce_andi_all _ _ _ _ _ h2 i)
  have k3 := fun i => real_of_abs_lt (a3 i) (Host.reduce_andi_all _ _ _ _ _ h3 i)
  have k4 := fun i => real_of_abs_lt (a4 i) (Host.reduce_andi_all _ _ _ _ _ h4 i)
  have k5 := fun i => real_of_abs_lt (a5 i) (Host.reduce_andi_all _ _ _ _ _ h5 i)
  have k6 := fun i => real_of_abs_lt (a6 i) (Host.reduce_andi_all _ _ _ _ _ h6 i)
  have k7 := fun i => real_of_abs_lt (a7 i) (Host.reduce_andi_all _ _ _ _ _ h7 i)
  have k8 := fun i => nonneg_of_ge (a3 i) (Host.reduce_andi_all _ _ _ _ _ h8 i)
  refine ⟨⟨fun b h t d => ?_, fun b h t d => ?_, fun b h t d => ?_, fun b h t => ?_, fun b h t d => ?_, fun b h t => ?_, fun b h t => ?_,
    fun b h t => ?_⟩, fun z j => ?_⟩
  · exact (k0 _).trans (congrArg _ (at4_zz a0 b h t d).symm)
  · exact (k1 _).trans (congrArg _ (at4_zz a1 b h t d).symm)
  · exact (k2 _).trans (congrArg _ (at4_zz a2 b h t d).symm)
  · exact (k3 _).trans (congrArg _ (at3_zz a3 b h t).symm)
  · exact (k4 _).trans (congrArg _ (at4_zz a4 b h t d).symm)
  · exact (k5 _).trans (congrArg _ (at3_zz a5 b h t).symm)
  · exact (k6 _).trans (congrArg _ (at3_zz a6 b h t).symm)
  · exact (k7 _).trans (congrArg _ (at3_zz a7 b h t).symm)
  · show 0 ≤ at3 a3 z j
    unfold at3
    split
    · exact k8 _
    · exact le_rfl

end Cert.M
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import proofs.«01_k».proof.Proof.KI.Pipe
public import proofs.«01_k».proof.Proof.K.Pipe
public import proofs.«01_k».proof.Proof.KI.Vals2
public import proofs.«01_k».proof.Proof.RI.Final
public import proofs.«01_k».proof.Proof.Alg.Pre
public import Idealize.ShloMosaic.Init

@[expose] public section

noncomputable section

namespace Cert.Proof

open Idealize.ShloMosaic Idealize.SL.Sem Cert.Kernel

/-- The two named constants have the values that their names stand for. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- The arguments of a device as reals. -/
abbrev inp (m : (ℓ : Loc Cert.KernelIdeal.nD Cert.KernelIdeal.τ Cert.KernelIdeal.sig) → Buf (Elt Ideal) ℓ) (c : Dev Cert.KernelIdeal.nD) :
    Fin 8 → Cert.M.Inp :=
  Cert.M.inpOf (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5))
    (m (c.tc.loc Cert.KernelIdeal.main_arg6)) (m (c.tc.loc Cert.KernelIdeal.main_arg7))

/-- From equal finite arguments, query scales at or above zero, the idealised kernel and the reference end with equal results:
    both compute the stabilised recurrence of `Cert.M` on the arguments' reals. -/
theorem algebraic : Cert.algebraic_KernelIdeal_ReferenceIdeal_pre_tame := by
  intro m g m' g' hp hm
  have A := fun c => Cert.M.ok_of_pre _ _ _ _ _ _ _ _ (hp c)
  refine ⟨fun c => Cert.M.hFun (inp m c), fun c => Cert.M.cFun (inp m c), fun c => Cert.M.nFun (inp m c), fun c => Cert.M.mFun (inp m c),
    Cert.KernelIdeal.Val.kernel_run g (fun c => (A c).1) (fun c => (A c).2), Cert.ReferenceIdeal.Val.ref_run g' fun c => ?_⟩
  obtain ⟨e0, e1, e2, e3, e4, e5, e6, e7⟩ := hm c
  unfold Cert.ReferenceIdeal.Val.Ok
  rw [e0, e1, e2, e3, e4, e5, e6, e7]
  exact (A c).1

/-- The five claims, with the shape facts that the programs and the precondition state. -/
theorem claim : Cert.Claim :=
  ⟨Cert.Kernel.Gen.facts, Cert.KernelIdeal.Gen.facts, Cert.ReferenceIdeal.Gen.facts, Cert.Pre_tame.facts,
    fun m ρ _ => Cert.Kernel.Run.frame m ρ, fun m ρ _ => Cert.KernelIdeal.Run.frame m ρ, fun m ρ _ => Cert.KernelIdeal.Run.frame m ρ,
    fun m ρ _ => Cert.ReferenceIdeal.Gen.frame m ρ, fun m ρ _ => Cert.ReferenceIdeal.Gen.frame m ρ, preserves, algebraic⟩

end Cert.Proof

end
